-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_prompt [hPre_finite_prompt : Cert.Pre_finite_prompt.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_prompt.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_prompt [hPre_finite_prompt : Cert.Pre_finite_prompt.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_prompt.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_sample [hPre_finite_sample : Cert.Pre_finite_sample.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_sample [hPre_finite_sample : Cert.Pre_finite_sample.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_cached [hPre_finite_cached : Cert.Pre_finite_cached.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_cached.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite_cached.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite_cached.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 = (fun _ => 1#1)
    ∧ (Cert.Pre_finite_cached.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_cached [hPre_finite_cached : Cert.Pre_finite_cached.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_cached.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite_cached.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite_cached.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.1 = (fun _ => 1#1)
    ∧ (Cert.Pre_finite_cached.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_prompt [hKernel4Ideal : Cert.Kernel4Ideal.Facts] [hPre_finite_prompt : Cert.Pre_finite_prompt.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_prompt m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_prompt [hReference4Ideal : Cert.Reference4Ideal.Facts] [hPre_finite_prompt : Cert.Pre_finite_prompt.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_prompt m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_sample [hKernel5Ideal : Cert.Kernel5Ideal.Facts] [hPre_finite_sample : Cert.Pre_finite_sample.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_sample m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_sample [hReference5Ideal : Cert.Reference5Ideal.Facts] [hPre_finite_sample : Cert.Pre_finite_sample.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_sample m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_cached [hKernel6Ideal : Cert.Kernel6Ideal.Facts] [hPre_finite_cached : Cert.Pre_finite_cached.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_cached m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_cached [hReference6Ideal : Cert.Reference6Ideal.Facts] [hPre_finite_cached : Cert.Pre_finite_cached.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_cached m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)) →
    ∃ (v0 : (c : Dev Cert.Kernel2Ideal.nD) → Buf (Elt Ideal) ((c.tc : Thread Cert.Kernel2Ideal.nD Cert.Kernel2Ideal.τ).loc Cert.Kernel2Ideal.main_v26)) (v1 : (c : Dev Cert.Kernel2Ideal.nD) → Buf (Elt Ideal) ((c.tc : Thread Cert.Kernel2Ideal.nD Cert.Kernel2Ideal.τ).loc Cert.Kernel2Ideal.main_v27)) (v2 : (c : Dev Cert.Kernel2Ideal.nD) → Buf (Elt Ideal) ((c.tc : Thread Cert.Kernel2Ideal.nD Cert.Kernel2Ideal.τ).loc Cert.Kernel2Ideal.main_v28)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_v27) = v1 c
          ∧ r.2.mem ((c.tc : Thread Cert.Kernel2Ideal.nD Cert.Kernel2Ideal.τ).loc Cert.Kernel2Ideal.main_v28) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v80)) (v1 : (c : Dev Cert.Kernel3Ideal.nD) → Buf (Elt Ideal) ((c.tc : Thread Cert.Kernel3Ideal.nD Cert.Kernel3Ideal.τ).loc Cert.Kernel3Ideal.main_v81)) (v2 : (c : Dev Cert.Kernel3Ideal.nD) → Buf (Elt Ideal) ((c.tc : Thread Cert.Kernel3Ideal.nD Cert.Kernel3Ideal.τ).loc Cert.Kernel3Ideal.main_v82)) (v3 : (c : Dev Cert.Kernel3Ideal.nD) → Buf (Elt Ideal) ((c.tc : Thread Cert.Kernel3Ideal.nD Cert.Kernel3Ideal.τ).loc Cert.Kernel3Ideal.main_v83)) (v4 : (c : Dev Cert.Kernel3Ideal.nD) → Buf (Elt Ideal) ((c.tc : Thread Cert.Kernel3Ideal.nD Cert.Kernel3Ideal.τ).loc Cert.Kernel3Ideal.main_v84)) (v5 : (c : Dev Cert.Kernel3Ideal.nD) → Buf (Elt Ideal) ((c.tc : Thread Cert.Kernel3Ideal.nD Cert.Kernel3Ideal.τ).loc Cert.Kernel3Ideal.main_v85)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v80) = v0 c
          ∧ r.2.mem ((c.tc : Thread Cert.Kernel3Ideal.nD Cert.Kernel3Ideal.τ).loc Cert.Kernel3Ideal.main_v81) = v1 c
          ∧ r.2.mem ((c.tc : Thread Cert.Kernel3Ideal.nD Cert.Kernel3Ideal.τ).loc Cert.Kernel3Ideal.main_v82) = v2 c
          ∧ r.2.mem ((c.tc : Thread Cert.Kernel3Ideal.nD Cert.Kernel3Ideal.τ).loc Cert.Kernel3Ideal.main_v83) = v3 c
          ∧ r.2.mem ((c.tc : Thread Cert.Kernel3Ideal.nD Cert.Kernel3Ideal.τ).loc Cert.Kernel3Ideal.main_v84) = v4 c
          ∧ r.2.mem ((c.tc : Thread Cert.Kernel3Ideal.nD Cert.Kernel3Ideal.τ).loc Cert.Kernel3Ideal.main_v85) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v75) = v1 c
          ∧ r.2.mem ((c.tc : Thread Cert.Reference3Ideal.nD Cert.Reference3Ideal.τ).loc Cert.Reference3Ideal.main_v35) = v2 c
          ∧ r.2.mem ((c.tc : Thread Cert.Reference3Ideal.nD Cert.Reference3Ideal.τ).loc Cert.Reference3Ideal.main_v93) = v3 c
          ∧ r.2.mem ((c.tc : Thread Cert.Reference3Ideal.nD Cert.Reference3Ideal.τ).loc Cert.Reference3Ideal.main_v108) = v4 c
          ∧ r.2.mem ((c.tc : Thread Cert.Reference3Ideal.nD Cert.Reference3Ideal.τ).loc Cert.Reference3Ideal.main_v22) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite_prompt [hKernel4Ideal : Cert.Kernel4Ideal.Facts] [hReference4Ideal : Cert.Reference4Ideal.Facts] [hPre_finite_prompt : Cert.Pre_finite_prompt.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_prompt m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v18)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_sample [hKernel5Ideal : Cert.Kernel5Ideal.Facts] [hReference5Ideal : Cert.Reference5Ideal.Facts] [hPre_finite_sample : Cert.Pre_finite_sample.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_sample m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v19)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_cached [hKernel6Ideal : Cert.Kernel6Ideal.Facts] [hReference6Ideal : Cert.Reference6Ideal.Facts] [hPre_finite_cached : Cert.Pre_finite_cached.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_cached m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v32)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v32) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_finite_prompt : Cert.Pre_finite_prompt.Facts) (hPre_finite_sample : Cert.Pre_finite_sample.Facts) (hPre_finite_cached : Cert.Pre_finite_cached.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_prompt (hKernel4Ideal := hKernel4Ideal) (hPre_finite_prompt := hPre_finite_prompt)
    ∧ quiescent_Reference4Ideal (hReference4Ideal := hReference4Ideal)
    ∧ quiescent_Reference4Ideal_pre_finite_prompt (hReference4Ideal := hReference4Ideal) (hPre_finite_prompt := hPre_finite_prompt)
    ∧ quiescent_Kernel5 (hKernel5 := hKernel5)
    ∧ quiescent_Kernel5Ideal (hKernel5Ideal := hKernel5Ideal)
    ∧ quiescent_Kernel5Ideal_pre_finite_sample (hKernel5Ideal := hKernel5Ideal) (hPre_finite_sample := hPre_finite_sample)
    ∧ quiescent_Reference5Ideal (hReference5Ideal := hReference5Ideal)
    ∧ quiescent_Reference5Ideal_pre_finite_sample (hReference5Ideal := hReference5Ideal) (hPre_finite_sample := hPre_finite_sample)
    ∧ quiescent_Kernel6 (hKernel6 := hKernel6)
    ∧ quiescent_Kernel6Ideal (hKernel6Ideal := hKernel6Ideal)
    ∧ quiescent_Kernel6Ideal_pre_finite_cached (hKernel6Ideal := hKernel6Ideal) (hPre_finite_cached := hPre_finite_cached)
    ∧ quiescent_Reference6Ideal (hReference6Ideal := hReference6Ideal)
    ∧ quiescent_Reference6Ideal_pre_finite_cached (hReference6Ideal := hReference6Ideal) (hPre_finite_cached := hPre_finite_cached)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_prompt (hKernel4Ideal := hKernel4Ideal) (hReference4Ideal := hReference4Ideal) (hPre_finite_prompt := hPre_finite_prompt)
    ∧ preserves_Kernel5_Kernel5Ideal
    ∧ algebraic_Kernel5Ideal_Reference5Ideal_pre_finite_sample (hKernel5Ideal := hKernel5Ideal) (hReference5Ideal := hReference5Ideal) (hPre_finite_sample := hPre_finite_sample)
    ∧ preserves_Kernel6_Kernel6Ideal
    ∧ algebraic_Kernel6Ideal_Reference6Ideal_pre_finite_cached (hKernel6Ideal := hKernel6Ideal) (hReference6Ideal := hReference6Ideal) (hPre_finite_cached := hPre_finite_cached)
-- ==== Pre_finite_cached.lean ====
abbrev S8x32x8x64 : Shape := ⟨4, ![8, 32, 8, 64]⟩
abbrev S8x512x8x64 : Shape := ⟨4, ![8, 512, 8, 64]⟩
abbrev S8x257 : Shape := ⟨2, ![8, 257]⟩
abbrev S_ : Shape := ⟨0, ![]⟩

class Facts : Prop where
  bcast_S_S8x32x8x64 : S_.BroadcastsInDim S8x32x8x64 (![] : Fin 0 → Fin S8x32x8x64.rank)
  bcast_S_S8x512x8x64 : S_.BroadcastsInDim S8x512x8x64 (![] : Fin 0 → Fin S8x512x8x64.rank)
  bcast_S_S8x257 : S_.BroadcastsInDim S8x257 (![] : Fin 0 → Fin S8x257.rank)

variable [Facts]

def fn {F : FTy → Type} [FloatOps F] (main_arg0 : FVec F S8x32x8x64 .f32) (main_arg1 : FVec F S8x32x8x64 .f32) (main_arg2 : FVec F S8x32x8x64 .f32) (main_arg3 : FVec F S8x512x8x64 .f32) (main_arg4 : FVec F S8x512x8x64 .f32) (main_arg5 : FVec F S8x257 .f32) : IVec S8x32x8x64 1 × IVec S8x32x8x64 1 × IVec S8x512x8x64 1 × IVec S8x257 1 :=
  let main_v0 : FVec F S8x32x8x64 .f32 := Host.absf main_arg0
  let main_cst : FVec F S_ .f32 := constant S_ .f32 0x7F800000#32
  let main_v1 : FVec F S8x32x8x64 .f32 := broadcastInDim S8x32x8x64 ![] bcast_S_S8x32x8x64 main_cst
  let main_v2 : IVec S8x32x8x64 1 := cmpf .olt main_v0 main_v1
  let main_v3 : FVec F S8x32x8x64 .f32 := Host.absf main_arg1
  let main_cst_0 : FVec F S_ .f32 := constant S_ .f32 0x7F800000#32
  let main_v4 : FVec F S8x32x8x64 .f32 := broadcastInDim S8x32x8x64 ![] bcast_S_S8x32x8x64 main_cst_0
  let main_v5 : IVec S8x32x8x64 1 := cmpf .olt main_v3 main_v4
  let main_v6 : FVec F S8x512x8x64 .f32 := Host.absf main_arg3
  let main_cst_1 : FVec F S_ .f32 := constant S_ .f32 0x7F800000#32
  let main_v7 : FVec F S8x512x8x64 .f32 := broadcastInDim S8x512x8x64 ![] bcast_S_S8x512x8x64 main_cst_1
  let main_v8 : IVec S8x512x8x64 1 := cmpf .olt main_v6 main_v7
  let main_v9 : FVec F S8x257 .f32 := Host.absf main_arg5
  let main_cst_2 : FVec F S_ .f32 := constant S_ .f32 0x7F800000#32
  let main_v10 : FVec F S8x257 .f32 := broadcastInDim S8x257 ![] bcast_S_S8x257 main_cst_2
  let main_v11 : IVec S8x257 1 := cmpf .olt main_v9 main_v10
  (main_v2, main_v5, main_v8, main_v11)
-- ==== Pre_finite_prompt.lean ====
abbrev S2x8192x256 : Shape := ⟨3, ![2, 8192, 256]⟩
abbrev S4x64x64 : Shape := ⟨3, ![4, 64, 64]⟩
abbrev S256 : Shape := ⟨1, ![256]⟩
abbrev S_ : Shape := ⟨0, ![]⟩

class Facts : Prop where
  bcast_S_S2x8192x256 : S_.BroadcastsInDim S2x8192x256 (![] : Fin 0 → Fin S2x8192x256.rank)

variable [Facts]

def fn {F : FTy → Type} [FloatOps F] (main_arg0 : FVec F S2x8192x256 .f32) (main_arg1 : FVec F S4x64x64 .f32) (main_arg2 : FVec F S256 .f32) : IVec S2x8192x256 1 :=
  let main_v0 : FVec F S2x8192x256 .f32 := Host.absf main_arg0
  let main_cst : FVec F S_ .f32 := constant S_ .f32 0x7F800000#32
  let main_v1 : FVec F S2x8192x256 .f32 := broadcastInDim S2x8192x256 ![] bcast_S_S2x8192x256 main_cst
  let main_v2 : IVec S2x8192x256 1 := cmpf .olt main_v0 main_v1
  main_v2
-- ==== Pre_finite_sample.lean ====
abbrev S8x32x256 : Shape := ⟨3, ![8, 32, 256]⟩
abbrev S8x15x256 : Shape := ⟨3, ![8, 15, 256]⟩
abbrev S4x64x64 : Shape := ⟨3, ![4, 64, 64]⟩
abbrev S256 : Shape := ⟨1, ![256]⟩
abbrev S_ : Shape := ⟨0, ![]⟩

class Facts : Prop where
  bcast_S_S8x32x256 : S_.BroadcastsInDim S8x32x256 (![] : Fin 0 → Fin S8x32x256.rank)
  bcast_S_S8x15x256 : S_.BroadcastsInDim S8x15x256 (![] : Fin 0 → Fin S8x15x256.rank)

variable [Facts]

def fn {F : FTy → Type} [FloatOps F] (main_arg0 : FVec F S8x32x256 .f32) (main_arg1 : FVec F S8x15x256 .f32) (main_arg2 : FVec F S4x64x64 .f32) (main_arg3 : FVec F S256 .f32) : IVec S8x32x256 1 × IVec S8x15x256 1 :=
  let main_v0 : FVec F S8x32x256 .f32 := Host.absf main_arg0
  let main_cst : FVec F S_ .f32 := constant S_ .f32 0x7F800000#32
  let main_v1 : FVec F S8x32x256 .f32 := broadcastInDim S8x32x256 ![] bcast_S_S8x32x256 main_cst
  let main_v2 : IVec S8x32x256 1 := cmpf .olt main_v0 main_v1
  let main_v3 : FVec F S8x15x256 .f32 := Host.absf main_arg1
  let main_cst_0 : FVec F S_ .f32 := constant S_ .f32 0x7F800000#32
  let main_v4 : FVec F S8x15x256 .f32 := broadcastInDim S8x15x256 ![] bcast_S_S8x15x256 main_cst_0
  let main_v5 : IVec S8x15x256 1 := cmpf .olt main_v3 main_v4
  (main_v2, main_v5)
-- ==== Pre_finite_scores.lean ====
abbrev S2x8192x8x64 : Shape := ⟨4, ![2, 8192, 8, 64]⟩
abbrev S8x257 : Shape := ⟨2, ![8, 257]⟩
abbrev S_ : Shape := ⟨0, ![]⟩

class Facts : Prop where
  bcast_S_S2x8192x8x64 : S_.BroadcastsInDim S2x8192x8x64 (![] : Fin 0 → Fin S2x8192x8x64.rank)
  bcast_S_S8x257 : S_.BroadcastsInDim S8x257 (![] : Fin 0 → Fin S8x257.rank)

variable [Facts]

def fn {F : FTy → Type} [FloatOps F] (main_arg0 : FVec F S2x8192x8x64 .f32) (main_arg1 : FVec F S2x8192x8x64 .f32) (main_arg2 : FVec F S2x8192x8x64 .f32) (main_arg3 : FVec F S8x257 .f32) : IVec S2x8192x8x64 1 × IVec S2x8192x8x64 1 × IVec S8x257 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_v3 : FVec F S2x8192x8x64 .f32 := Host.absf main_arg1
  let main_cst_0 : FVec F S_ .f32 := constant S_ .f32 0x7F800000#32
  let main_v4 : FVec F S2x8192x8x64 .f32 := broadcastInDim S2x8192x8x64 ![] bcast_S_S2x8192x8x64 main_cst_0
  let main_v5 : IVec S2x8192x8x64 1 := cmpf .olt main_v3 main_v4
  let main_v6 : FVec F S8x257 .f32 := Host.absf main_arg3
  let main_cst_1 : FVec F S_ .f32 := constant S_ .f32 0x7F800000#32
  let main_v7 : FVec F S8x257 .f32 := broadcastInDim S8x257 ![] bcast_S_S8x257 main_cst_1
  let main_v8 : IVec S8x257 1 := cmpf .olt main_v6 main_v7
  (main_v2, main_v5, main_v8)
-- ==== Kernel.lean ====
abbrev S2x8192x8x64 : Shape := ⟨4, ![2, 8192, 8, 64]⟩
abbrev S8x257 : Shape := ⟨2, ![8, 257]⟩
abbrev S1024 : Shape := ⟨1, ![1024]⟩
abbrev S_ : Shape := ⟨0, ![]⟩
abbrev S1024x1 : Shape := ⟨2, ![1024, 1]⟩
abbrev S8x1024 : Shape := ⟨2, ![8, 1024]⟩
abbrev S8x256x768 : Shape := ⟨3, ![8, 256, 768]⟩
abbrev S256x768 : Shape := ⟨2, ![256, 768]⟩
abbrev S1x1024 : Shape := ⟨2, ![1, 1024]⟩
abbrev S256x1024 : Shape := ⟨2, ![256, 1024]⟩
abbrev S1x256x768 : Shape := ⟨3, ![1, 256, 768]⟩
abbrev S16384x512 : Shape := ⟨2, ![16384, 512]⟩
abbrev S512x512 : Shape := ⟨2, ![512, 512]⟩
abbrev S16896x512 : Shape := ⟨2, ![16896, 512]⟩
abbrev S256x512 : Shape := ⟨2, ![256, 512]⟩
abbrev S768x512 : Shape := ⟨2, ![768, 512]⟩
abbrev S1x768 : Shape := ⟨2, ![1, 768]⟩
abbrev S128x128 : Shape := ⟨2, ![128, 128]⟩
abbrev S640x128 : Shape := ⟨2, ![640, 128]⟩
abbrev S128x640 : Shape := ⟨2, ![128, 640]⟩
abbrev S1x128x640 : Shape := ⟨3, ![1, 128, 640]⟩
abbrev S1x640 : Shape := ⟨2, ![1, 640]⟩
abbrev S128 : Shape := ⟨1, ![128]⟩
abbrev S128x1 : Shape := ⟨2, ![128, 1]⟩

abbrev nBuf : Space → Nat
  | .hbm => 47
  | .vmem => 20
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S8x257, .f32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S8x1024, .f32⟩
  | .hbm, ⟨28, _⟩ => ⟨S8x256x768, .f32⟩
  | .hbm, ⟨29, _⟩ => ⟨S8x256x768, .f32⟩
  | .hbm, ⟨30, _⟩ => ⟨S16384x512, .f32⟩
  | .hbm, ⟨31, _⟩ => ⟨S_, .f32⟩
  | .hbm, ⟨32, _⟩ => ⟨S512x512, .f32⟩
  | .hbm, ⟨33, _⟩ => ⟨S16896x512, .f32⟩
  | .hbm, ⟨34, _⟩ => ⟨S_, .f32⟩
  | .hbm, ⟨35, _⟩ => ⟨S16896x512, .f32⟩
  | .hbm, ⟨36, _⟩ => ⟨S16896x512, .f32⟩
  | .hbm, ⟨37, _⟩ => ⟨S16896x512, .bf16⟩
  | .hbm, ⟨38, _⟩ => ⟨S16384x512, .f32⟩
  | .hbm, ⟨39, _⟩ => ⟨S_, .f32⟩
  | .hbm, ⟨40, _⟩ => ⟨S512x512, .f32⟩
  | .hbm, ⟨41, _⟩ => ⟨S16896x512, .f32⟩
  | .hbm, ⟨42, _⟩ => ⟨S16384x512, .f32⟩
  | .hbm, ⟨43, _⟩ => ⟨S_, .f32⟩
  | .hbm, ⟨44, _⟩ => ⟨S512x512, .f32⟩
  | .hbm, ⟨45, _⟩ => ⟨S16896x512, .f32⟩
  | .hbm, ⟨46, _⟩ => ⟨S16384x512, .bf16⟩
  | .local _ .vmem, ⟨0, _⟩ => ⟨S8x1024, .f32⟩
  | .local _ .vmem, ⟨1, _⟩ => ⟨S8x256x768, .f32⟩
  | .local _ .vmem, ⟨2, _⟩ => ⟨S8x256x768, .f32⟩
  | .local _ .vmem, ⟨3, _⟩ => ⟨S256x512, .bf16⟩
  | .local _ .vmem, ⟨4, _⟩ => ⟨S256x512, .bf16⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S8x256x768, .f32⟩
  | .local _ .vmem, ⟨18, _⟩ => ⟨S256x512, .bf16⟩
  | .local _ .vmem, ⟨19, _⟩ => ⟨S256x512, .bf16⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_v7 : Ref sig .tc := ⟨.hbm, 21, rfl⟩
abbrev main_c_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc1_transform_2 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc1_transform_3 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc1_transform_5 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc1_transform_6 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S8x256x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S256x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S2x8192x8x64 : Shape := ⟨4, ![2, 8192, 8, 64]⟩
abbrev S8x257 : Shape := ⟨2, ![8, 257]⟩
abbrev S_ : Shape := ⟨0, ![]⟩
abbrev S2x512x8x64 : Shape := ⟨4, ![2, 512, 8, 64]⟩
abbrev S2x8704x8x64 : Shape := ⟨4, ![2, 8704, 8, 64]⟩
abbrev S2x136x64x8x64 : Shape := ⟨5, ![2, 136, 64, 8, 64]⟩
abbrev S2x128x64x8x64 : Shape := ⟨5, ![2, 128, 64, 8, 64]⟩
abbrev S2x128x1x64x8x64 : Shape := ⟨6, ![2, 128, 1, 64, 8, 64]⟩
abbrev S2x128x9x64x8x64 : Shape := ⟨6, ![2, 128, 9, 64, 8, 64]⟩
abbrev S2x128x576x8x64 : Shape := ⟨5, ![2, 128, 576, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S128 : Shape := ⟨1, ![128]⟩
abbrev S128x1 : Shape := ⟨2, ![128, 1]⟩
abbrev S128x576 : Shape := ⟨2, ![128, 576]⟩
abbrev S1x128x1x1x576 : Shape := ⟨5, ![1, 128, 1, 1, 576]⟩
abbrev S2x128x8x64x576 : Shape := ⟨5, ![2, 128, 8, 64, 576]⟩
abbrev S1x1x8x64x576 : Shape := ⟨5, ![1, 1, 8, 64, 576]⟩
abbrev S2x128x8x64 : Shape := ⟨4, ![2, 128, 8, 64]⟩
abbrev S2x128x8x64x1 : Shape := ⟨5, ![2, 128, 8, 64, 1]⟩
abbrev S2x128x8x64x64 : Shape := ⟨5, ![2, 128, 8, 64, 64]⟩
abbrev S16384x512 : Shape := ⟨2, ![16384, 512]⟩

abbrev nBuf : Space → Nat
  | .hbm => 143
  | .vmem => 0
  | .smem => 0
  | _ => 0

abbrev hbmTy0_0 (i : Nat) : BufTy := match i % 128 with
  | 0 => ⟨S2x8192x8x64, .f32⟩
  | 1 => ⟨S2x8192x8x64, .f32⟩
  | 2 => ⟨S2x8192x8x64, .f32⟩
  | 3 => ⟨S8x257, .f32⟩
  | 4 => ⟨S_, .f32⟩
  | 5 => ⟨S2x512x8x64, .f32⟩
  | 6 => ⟨S2x8704x8x64, .f32⟩
  | 7 => ⟨S2x136x64x8x64, .f32⟩
  | 8 => ⟨S2x8704x8x64, .f32⟩
  | 9 => ⟨S2x136x64x8x64, .f32⟩
  | 10 => ⟨S2x128x64x8x64, .f32⟩
  | 11 => ⟨S2x128x64x8x64, .f32⟩
  | 12 => ⟨S2x128x64x8x64, .f32⟩
  | 13 => ⟨S2x128x64x8x64, .f32⟩
  | 14 => ⟨S2x128x64x8x64, .f32⟩
  | 15 => ⟨S2x128x64x8x64, .f32⟩
  | 16 => ⟨S2x128x64x8x64, .f32⟩
  | 17 => ⟨S2x128x64x8x64, .f32⟩
  | 18 => ⟨S2x128x64x8x64, .f32⟩
  | 19 => ⟨S2x128x1x64x8x64, .f32⟩
  | 20 => ⟨S2x128x1x64x8x64, .f32⟩
  | 21 => ⟨S2x128x1x64x8x64, .f32⟩
  | 22 => ⟨S2x128x1x64x8x64, .f32⟩
  | 23 => ⟨S2x128x1x64x8x64, .f32⟩
  | 24 => ⟨S2x128x1x64x8x64, .f32⟩
  | 25 => ⟨S2x128x1x64x8x64, .f32⟩
  | 26 => ⟨S2x128x1x64x8x64, .f32⟩
  | 27 => ⟨S2x128x1x64x8x64, .f32⟩
  | 28 => ⟨S2x128x9x64x8x64, .f32⟩
  | 29 => ⟨S2x128x576x8x64, .f32⟩
  | 30 => ⟨S2x128x64x8x64, .f32⟩
  | 31 => ⟨S2x128x64x8x64, .f32⟩
  | 32 => ⟨S2x128x64x8x64, .f32⟩
  | 33 => ⟨S2x128x64x8x64, .f32⟩
  | 34 => ⟨S2x128x64x8x64, .f32⟩
  | 35 => ⟨S2x128x64x8x64, .f32⟩
  | 36 => ⟨S2x128x64x8x64, .f32⟩
  | 37 => ⟨S2x128x64x8x64, .f32⟩
  | 38 => ⟨S2x128x64x8x64, .f32⟩
  | 39 => ⟨S2x128x1x64x8x64, .f32⟩
  | 40 => ⟨S2x128x1x64x8x64, .f32⟩
  | 41 => ⟨S2x128x1x64x8x64, .f32⟩
  | 42 => ⟨S2x128x1x64x8x64, .f32⟩
  | 43 => ⟨S2x128x1x64x8x64, .f32⟩
  | 44 => ⟨S2x128x1x64x8x64, .f32⟩
  | 45 => ⟨S2x128x1x64x8x64, .f32⟩
  | 46 => ⟨S2x128x1x64x8x64, .f32⟩
  | 47 => ⟨S2x128x1x64x8x64, .f32⟩
  | 48 => ⟨S2x128x9x64x8x64, .f32⟩
  | 49 => ⟨S2x128x576x8x64, .f32⟩
  | 50 => ⟨S2x128x64x8x64, .f32⟩
  | 51 => ⟨S64, .i32⟩
  | 52 => ⟨S64x1, .i32⟩
  | 53 => ⟨S_, .i32⟩
  | 54 => ⟨S64x1, .i32⟩
  | 55 => ⟨S64x1, .i32⟩
  | 56 => ⟨S576, .i32⟩
  | 57 => ⟨S1x576, .i32⟩
  | 58 => ⟨S64x576, .i32⟩
  | 59 => ⟨S64x576, .i32⟩
  | 60 => ⟨S64x576, .i32⟩
  | 61 => ⟨S_, .i32⟩
  | 62 => ⟨S_, .i32⟩
  | 63 => ⟨S_, .i32⟩
  | 64 => ⟨S64x576, .i32⟩
  | 65 => ⟨S64x576, .i32⟩
  | 66 => ⟨S_, .i32⟩
  | 67 => ⟨S64x576, .i32⟩
  | 68 => ⟨S64x576, .i32⟩
  | 69 => ⟨S_, .i32⟩
  | 70 => ⟨S64x576, .i32⟩
  | 71 => ⟨S64x576, .i32⟩
  | 72 => ⟨S_, .i32⟩
  | 73 => ⟨S64x576, .i32⟩
  | 74 => ⟨S64x576, .i1⟩
  | 75 => ⟨S_, .i32⟩
  | 76 => ⟨S64x576, .i32⟩
  | 77 => ⟨S64x576, .i32⟩
  | 78 => ⟨S64x576, .i32⟩
  | 79 => ⟨S64x576x1, .i32⟩
  | 80 => ⟨S8x64x576, .f32⟩
  | 81 => ⟨S128, .i32⟩
  | 82 => ⟨S128x1, .i32⟩
  | 83 => ⟨S_, .i32⟩
  | 84 => ⟨S128x1, .i32⟩
  | 85 => ⟨S128x1, .i32⟩
  | 86 => ⟨S576, .i32⟩
  | 87 => ⟨S1x576, .i32⟩
  | 88 => ⟨S_, .i32⟩
  | 89 => ⟨S_, .i32⟩
  | 90 => ⟨S1x576, .i32⟩
  | 91 => ⟨S1x576, .i32⟩
  | 92 => ⟨S1x576, .i32⟩
  | 93 => ⟨S_, .i32⟩
  | 94 => ⟨S1x576, .i32⟩
  | 95 => ⟨S1x576, .i1⟩
  | 96 => ⟨S1x576, .i32⟩
  | 97 => ⟨S1x576, .i32⟩
  | 98 => ⟨S_, .i32⟩
  | 99 => ⟨S1x576, .i32⟩
  | 100 => ⟨S1x576, .i1⟩
  | 101 => ⟨S1x576, .i1⟩
  | 102 => ⟨S_, .i32⟩
  | 103 => ⟨S1x576, .i32⟩
  | 104 => ⟨S1x576, .i32⟩
  | 105 => ⟨S1x576, .i32⟩
  | 106 => ⟨S128x576, .i32⟩
  | 107 => ⟨S128x576, .i32⟩
  | 108 => ⟨S128x576, .i32⟩
  | 109 => ⟨S_, .i32⟩
  | 110 => ⟨S128x576, .i32⟩
  | 111 => ⟨S128x576, .i1⟩
  | 112 => ⟨S1x128x1x1x576, .i1⟩
  | 113 => ⟨S2x128x8x64x576, .f32⟩
  | 114 => ⟨S_, .f32⟩
  | 115 => ⟨S2x128x8x64x576, .f32⟩
  | 116 => ⟨S2x128x8x64x576, .f32⟩
  | 117 => ⟨S1x1x8x64x576, .f32⟩
  | 118 => ⟨S2x128x8x64x576, .f32⟩
  | 119 => ⟨S2x128x8x64x576, .f32⟩
  | 120 => ⟨S_, .f32⟩
  | 121 => ⟨S_, .f32⟩
  | 122 => ⟨S2x128x8x64x576, .i1⟩
  | 123 => ⟨S2x128x8x64x576, .f32⟩
  | 124 => ⟨S2x128x8x64x576, .f32⟩
  | 125 => ⟨S_, .f32⟩
  | 126 => ⟨S2x128x8x64, .f32⟩
  | 127 => ⟨S_, .f32⟩
  | _ => ⟨S2x8192x8x64, .f32⟩

abbrev hbmTy0_1 (i : Nat) : BufTy := match i % 128 with
  | 0 => ⟨S2x128x8x64, .f32⟩
  | 1 => ⟨S2x128x8x64, .f32⟩
  | 2 => ⟨S2x128x8x64x1, .f32⟩
  | 3 => ⟨S2x128x8x64x576, .f32⟩
  | 4 => ⟨S2x128x8x64x576, .f32⟩
  | 5 => ⟨S2x128x8x64x576, .f32⟩
  | 6 => ⟨S_, .f32⟩
  | 7 => ⟨S2x128x8x64, .f32⟩
  | 8 => ⟨S2x128x8x64x1, .f32⟩
  | 9 => ⟨S2x128x8x64x576, .f32⟩
  | 10 => ⟨S2x128x8x64x576, .f32⟩
  | 11 => ⟨S2x128x8x64x64, .f32⟩
  | 12 => ⟨S2x128x64x8x64, .f32⟩
  | 13 => ⟨S16384x512, .f32⟩
  | 14 => ⟨S16384x512, .bf16⟩
  | _ => ⟨S2x8192x8x64, .f32⟩

abbrev hbmTy (i : Nat) : BufTy := match i / 128 with
  | 0 => hbmTy0_0 i
  | 1 => hbmTy0_1 i
  | _ => ⟨S2x8192x8x64, .f32⟩

abbrev bufTy : (tb : Table) → Fin (tcTables nBuf tb) → BufTy
  | .hbm, ⟨i, _⟩ => hbmTy i
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_c : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_c_0 : Ref sig .tc := ⟨.hbm, 61, rfl⟩
abbrev main_c_1 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v55 : Ref sig .tc := ⟨.hbm, 68, rfl⟩
abbrev main_c_2 : Ref sig .tc := ⟨.hbm, 69, rfl⟩
abbrev main_v56 : Ref sig .tc := ⟨.hbm, 70, rfl⟩
abbrev main_v57 : Ref sig .tc := ⟨.hbm, 71, rfl⟩
abbrev main_c_3 : Ref sig .tc := ⟨.hbm, 72, rfl⟩
abbrev main_v58 : Ref sig .tc := ⟨.hbm, 73, rfl⟩
abbrev main_v59 : Ref sig .tc := ⟨.hbm, 74, rfl⟩
abbrev main_c_4 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_c_5 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_c_6 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_c : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_c_0 : Ref sig .tc := ⟨.hbm, 102, rfl⟩
abbrev main_call1_v12 : Ref sig .tc := ⟨.hbm, 103, rfl⟩
abbrev main_call1_v13 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_7 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_8 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_9 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v84 : Ref sig .tc := ⟨.hbm, 124, rfl⟩
abbrev main_cst_10 : Ref sig .tc := ⟨.hbm, 125, rfl⟩
abbrev main_v85 : Ref sig .tc := ⟨.hbm, 126, rfl⟩
abbrev main_cst_11 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_12 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩

abbrev nD : Nat := 1
abbrev τ : Topo := Topo.v7x

variable {F : FTy → Type} [FloatOps F]
-- ==== Kernel2.lean ====
abbrev S2x8192x1024 : Shape := ⟨3, ![2, 8192, 1024]⟩
abbrev S8x32x1024 : Shape := ⟨3, ![8, 32, 1024]⟩
abbrev S2x8192x256 : Shape := ⟨3, ![2, 8192, 256]⟩
abbrev S8x32x256 : Shape := ⟨3, ![8, 32, 256]⟩
abbrev S2x8192x512 : Shape := ⟨3, ![2, 8192, 512]⟩
abbrev S8x32x512 : Shape := ⟨3, ![8, 32, 512]⟩
abbrev S1024 : Shape := ⟨1, ![1024]⟩
abbrev S1024x3072 : Shape := ⟨2, ![1024, 3072]⟩
abbrev S3072 : Shape := ⟨1, ![3072]⟩
abbrev S256x1024 : Shape := ⟨2, ![256, 1024]⟩
abbrev S512x1024 : Shape := ⟨2, ![512, 1024]⟩
abbrev S1024x1024 : Shape := ⟨2, ![1024, 1024]⟩
abbrev S1024x2048 : Shape := ⟨2, ![1024, 2048]⟩
abbrev S2x128x128 : Shape := ⟨3, ![2, 128, 128]⟩
abbrev S16384x256 : Shape := ⟨2, ![16384, 256]⟩
abbrev S256x256 : Shape := ⟨2, ![256, 256]⟩
abbrev S_ : Shape := ⟨0, ![]⟩
abbrev S16896x256 : Shape := ⟨2, ![16896, 256]⟩
abbrev S16384x1024 : Shape := ⟨2, ![16384, 1024]⟩
abbrev S16384x512 : Shape := ⟨2, ![16384, 512]⟩
abbrev S256x512 : Shape := ⟨2, ![256, 512]⟩
abbrev S1x1024 : Shape := ⟨2, ![1, 1024]⟩
abbrev S1x3072 : Shape := ⟨2, ![1, 3072]⟩
abbrev S16896x1024 : Shape := ⟨2, ![16896, 1024]⟩
abbrev S16x128x16896 : Shape := ⟨3, ![16, 128, 16896]⟩
abbrev S16x128x256 : Shape := ⟨3, ![16, 128, 256]⟩
abbrev S256 : Shape := ⟨1, ![256]⟩
abbrev S256x1 : Shape := ⟨2, ![256, 1]⟩
abbrev S256x2048 : Shape := ⟨2, ![256, 2048]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩
abbrev S16640x1024 : Shape := ⟨2, ![16640, 1024]⟩
abbrev S16x128x16640 : Shape := ⟨3, ![16, 128, 16640]⟩

abbrev nBuf : Space → Nat
  | .hbm => 50
  | .vmem => 30
  | .smem => 0
  | _ => 0

abbrev bufTy : (tb : Table) → Fin (tcTables nBuf tb) → BufTy
  | .hbm, ⟨0, _⟩ => ⟨S2x8192x1024, .f32⟩
  | .hbm, ⟨1, _⟩ => ⟨S8x32x1024, .f32⟩
  | .hbm, ⟨2, _⟩ => ⟨S2x8192x256, .f32⟩
  | .hbm, ⟨3, _⟩ => ⟨S8x32x256, .f32⟩
  | .hbm, ⟨4, _⟩ => ⟨S2x8192x256, .f32⟩
  | .hbm, ⟨5, _⟩ => ⟨S8x32x256, .f32⟩
  | .hbm, ⟨6, _⟩ => ⟨S2x8192x512, .f32⟩
  | .hbm, ⟨7, _⟩ => ⟨S8x32x512, .f32⟩
  | .hbm, ⟨8, _⟩ => ⟨S1024, .f32⟩
  | .hbm, ⟨9, _⟩ => ⟨S1024x3072, .f32⟩
  | .hbm, ⟨10, _⟩ => ⟨S3072, .f32⟩
  | .hbm, ⟨11, _⟩ => ⟨S256x1024, .f32⟩
  | .hbm, ⟨12, _⟩ => ⟨S256x1024, .f32⟩
  | .hbm, ⟨13, _⟩ => ⟨S512x1024, .f32⟩
  | .hbm, ⟨14, _⟩ => ⟨S1024x1024, .f32⟩
  | .hbm, ⟨15, _⟩ => ⟨S1024, .f32⟩
  | .hbm, ⟨16, _⟩ => ⟨S1024x2048, .f32⟩
  | .hbm, ⟨17, _⟩ => ⟨S2x128x128, .f32⟩
  | .hbm, ⟨18, _⟩ => ⟨S16384x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S16896x256, .f32⟩
  | .hbm, ⟨23, _⟩ => ⟨S16384x1024, .f32⟩
  | .hbm, ⟨24, _⟩ => ⟨S256x1024, .f32⟩
  | .hbm, ⟨25, _⟩ => ⟨S16384x256, .f32⟩
  | .hbm, ⟨26, _⟩ => ⟨S16384x256, .bf16⟩
  | .hbm, ⟨27, _⟩ => ⟨S256x256, .f32⟩
  | .hbm, ⟨28, _⟩ => ⟨S256x256, .bf16⟩
  | .hbm, ⟨29, _⟩ => ⟨S16896x256, .bf16⟩
  | .hbm, ⟨30, _⟩ => ⟨S16384x512, .f32⟩
  | .hbm, ⟨31, _⟩ => ⟨S16384x512, .bf16⟩
  | .hbm, ⟨32, _⟩ => ⟨S256x512, .f32⟩
  | .hbm, ⟨33, _⟩ => ⟨S256x512, .bf16⟩
  | .hbm, ⟨34, _⟩ => ⟨S1x1024, .f32⟩
  | .hbm, ⟨35, _⟩ => ⟨S1024x3072, .bf16⟩
  | .hbm, ⟨36, _⟩ => ⟨S1x3072, .f32⟩
  | .hbm, ⟨37, _⟩ => ⟨S256x1024, .bf16⟩
  | .hbm, ⟨38, _⟩ => ⟨S256x1024, .bf16⟩
  | .hbm, ⟨39, _⟩ => ⟨S512x1024, .bf16⟩
  | .hbm, ⟨40, _⟩ => ⟨S1024x1024, .bf16⟩
  | .hbm, ⟨41, _⟩ => ⟨S1x1024, .f32⟩
  | .hbm, ⟨42, _⟩ => ⟨S1024x2048, .bf16⟩
  | .hbm, ⟨43, _⟩ => ⟨S2x128x128, .bf16⟩
  | .hbm, ⟨44, _⟩ => ⟨S16896x1024, .f32⟩
  | .hbm, ⟨45, _⟩ => ⟨S16896x1024, .bf16⟩
  | .hbm, ⟨46, _⟩ => ⟨S16x128x16896, .f32⟩
  | .hbm, ⟨47, _⟩ => ⟨S16640x1024, .f32⟩
  | .hbm, ⟨48, _⟩ => ⟨S16640x1024, .bf16⟩
  | .hbm, ⟨49, _⟩ => ⟨S16x128x16640, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1x1024, .f32⟩
  | .local _ .vmem, ⟨15, _⟩ => ⟨S1024x3072, .bf16⟩
  | .local _ .vmem, ⟨16, _⟩ => ⟨S1x3072, .f32⟩
  | .local _ .vmem, ⟨17, _⟩ => ⟨S256x1024, .bf16⟩
  | .local _ .vmem, ⟨18, _⟩ => ⟨S256x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x2048, .bf16⟩
  | .local _ .vmem, ⟨23, _⟩ => ⟨S2x128x128, .bf16⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S16x128x256, .f32⟩
  | .local _ .vmem, ⟨29, _⟩ => ⟨S16x128x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25_0 : Ref sig .tc := ⟨.hbm, 44, rfl⟩
abbrev main_v25_1 : Ref sig .tc := ⟨.hbm, 45, rfl⟩
abbrev main_v25_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c64_i32 : BitVec 32 := 64#32
  let v1 : BitVec 32 := Scalar.subi v0 c64_i32
  let c0_i32_0 : BitVec 32 := 0#32
  let c0_i32_1 : BitVec 32 := 0#32
  let v2 : BitVec 32 := Scalar.maxsi c0_i32_0 v1
  let v3 : BitVec 32 := Scalar.minsi c0_i32_1 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x128x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S2x8192x1024 : Shape := ⟨3, ![2, 8192, 1024]⟩
abbrev S8x32x1024 : Shape := ⟨3, ![8, 32, 1024]⟩
abbrev S2x8192x256 : Shape := ⟨3, ![2, 8192, 256]⟩
abbrev S8x32x256 : Shape := ⟨3, ![8, 32, 256]⟩
abbrev S2x8192x512 : Shape := ⟨3, ![2, 8192, 512]⟩
abbrev S8x32x512 : Shape := ⟨3, ![8, 32, 512]⟩
abbrev S1024 : Shape := ⟨1, ![1024]⟩
abbrev S1024x3072 : Shape := ⟨2, ![1024, 3072]⟩
abbrev S3072 : Shape := ⟨1, ![3072]⟩
abbrev S256x1024 : Shape := ⟨2, ![256, 1024]⟩
abbrev S512x1024 : Shape := ⟨2, ![512, 1024]⟩
abbrev S1024x1024 : Shape := ⟨2, ![1024, 1024]⟩
abbrev S1024x2048 : Shape := ⟨2, ![1024, 2048]⟩
abbrev S2x128x128 : Shape := ⟨3, ![2, 128, 128]⟩
abbrev S16384x1024 : Shape := ⟨2, ![16384, 1024]⟩
abbrev S16640x1024 : Shape := ⟨2, ![16640, 1024]⟩
abbrev S16384x256 : Shape := ⟨2, ![16384, 256]⟩
abbrev S256x256 : Shape := ⟨2, ![256, 256]⟩
abbrev S16640x256 : Shape := ⟨2, ![16640, 256]⟩
abbrev S16384x512 : Shape := ⟨2, ![16384, 512]⟩
abbrev S256x512 : Shape := ⟨2, ![256, 512]⟩
abbrev S16640x512 : Shape := ⟨2, ![16640, 512]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x3072 : Shape := ⟨2, ![16640, 3072]⟩
abbrev S1x3072 : Shape := ⟨2, ![1, 3072]⟩
abbrev S16640x3x1024 : Shape := ⟨3, ![16640, 3, 1024]⟩
abbrev S16640x1x1024 : Shape := ⟨3, ![16640, 1, 1024]⟩
abbrev S16640x2048 : Shape := ⟨2, ![16640, 2048]⟩
abbrev S16640x8x2x128 : Shape := ⟨4, ![16640, 8, 2, 128]⟩
abbrev S2x128x16640x8 : Shape := ⟨4, ![2, 128, 16640, 8]⟩
abbrev S8x2x128x16640 : Shape := ⟨4, ![8, 2, 128, 16640]⟩
abbrev S16x128x16640 : Shape := ⟨3, ![16, 128, 16640]⟩

abbrev nBuf : Space → Nat
  | .hbm => 98
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8x32x1024, .f32⟩
  | .hbm, ⟨2, _⟩ => ⟨S2x8192x256, .f32⟩
  | .hbm, ⟨3, _⟩ => ⟨S8x32x256, .f32⟩
  | .hbm, ⟨4, _⟩ => ⟨S2x8192x256, .f32⟩
  | .hbm, ⟨5, _⟩ => ⟨S8x32x256, .f32⟩
  | .hbm, ⟨6, _⟩ => ⟨S2x8192x512, .f32⟩
  | .hbm, ⟨7, _⟩ => ⟨S8x32x512, .f32⟩
  | .hbm, ⟨8, _⟩ => ⟨S1024, .f32⟩
  | .hbm, ⟨9, _⟩ => ⟨S1024x3072, .f32⟩
  | .hbm, ⟨10, _⟩ => ⟨S3072, .f32⟩
  | .hbm, ⟨11, _⟩ => ⟨S256x1024, .f32⟩
  | .hbm, ⟨12, _⟩ => ⟨S256x1024, .f32⟩
  | .hbm, ⟨13, _⟩ => ⟨S512x1024, .f32⟩
  | .hbm, ⟨14, _⟩ => ⟨S1024x1024, .f32⟩
  | .hbm, ⟨15, _⟩ => ⟨S1024, .f32⟩
  | .hbm, ⟨16, _⟩ => ⟨S1024x2048, .f32⟩
  | .hbm, ⟨17, _⟩ => ⟨S2x128x128, .f32⟩
  | .hbm, ⟨18, _⟩ => ⟨S16384x1024, .f32⟩
  | .hbm, ⟨19, _⟩ => ⟨S256x1024, .f32⟩
  | .hbm, ⟨20, _⟩ => ⟨S16640x1024, .f32⟩
  | .hbm, ⟨21, _⟩ => ⟨S16384x256, .f32⟩
  | .hbm, ⟨22, _⟩ => ⟨S256x256, .f32⟩
  | .hbm, ⟨23, _⟩ => ⟨S16640x256, .f32⟩
  | .hbm, ⟨24, _⟩ => ⟨S16384x256, .f32⟩
  | .hbm, ⟨25, _⟩ => ⟨S256x256, .f32⟩
  | .hbm, ⟨26, _⟩ => ⟨S16640x256, .f32⟩
  | .hbm, ⟨27, _⟩ => ⟨S16384x512, .f32⟩
  | .hbm, ⟨28, _⟩ => ⟨S256x512, .f32⟩
  | .hbm, ⟨29, _⟩ => ⟨S16640x512, .f32⟩
  | .hbm, ⟨30, _⟩ => ⟨S16640x1024, .f32⟩
  | .hbm, ⟨31, _⟩ => ⟨S_, .f32⟩
  | .hbm, ⟨32, _⟩ => ⟨S16640, .f32⟩
  | .hbm, ⟨33, _⟩ => ⟨S16640x1, .f32⟩
  | .hbm, ⟨34, _⟩ => ⟨S_, .f32⟩
  | .hbm, ⟨35, _⟩ => ⟨S16640x1, .f32⟩
  | .hbm, ⟨36, _⟩ => ⟨S16640x1, .f32⟩
  | .hbm, ⟨37, _⟩ => ⟨S_, .f32⟩
  | .hbm, ⟨38, _⟩ => ⟨S16640x1, .f32⟩
  | .hbm, ⟨39, _⟩ => ⟨S16640x1, .f32⟩
  | .hbm, ⟨40, _⟩ => ⟨S16640x1, .f32⟩
  | .hbm, ⟨41, _⟩ => ⟨S16640x1024, .f32⟩
  | .hbm, ⟨42, _⟩ => ⟨S16640x1024, .f32⟩
  | .hbm, ⟨43, _⟩ => ⟨S1x1024, .f32⟩
  | .hbm, ⟨44, _⟩ => ⟨S16640x1024, .f32⟩
  | .hbm, ⟨45, _⟩ => ⟨S16640x1024, .f32⟩
  | .hbm, ⟨46, _⟩ => ⟨S16640x3072, .f32⟩
  | .hbm, ⟨47, _⟩ => ⟨S1x3072, .f32⟩
  | .hbm, ⟨48, _⟩ => ⟨S16640x3072, .f32⟩
  | .hbm, ⟨49, _⟩ => ⟨S16640x3072, .f32⟩
  | .hbm, ⟨50, _⟩ => ⟨S16640x3072, .f32⟩
  | .hbm, ⟨51, _⟩ => ⟨S16640x3072, .f32⟩
  | .hbm, ⟨52, _⟩ => ⟨S_, .f32⟩
  | .hbm, ⟨53, _⟩ => ⟨S16640x3072, .f32⟩
  | .hbm, ⟨54, _⟩ => ⟨S16640x3072, .f32⟩
  | .hbm, ⟨55, _⟩ => ⟨S_, .f32⟩
  | .hbm, ⟨56, _⟩ => ⟨S16640x3072, .f32⟩
  | .hbm, ⟨57, _⟩ => ⟨S16640x3072, .f32⟩
  | .hbm, ⟨58, _⟩ => ⟨S16640x3x1024, .f32⟩
  | .hbm, ⟨59, _⟩ => ⟨S16640x1x1024, .f32⟩
  | .hbm, ⟨60, _⟩ => ⟨S16640x1024, .f32⟩
  | .hbm, ⟨61, _⟩ => ⟨S16640x1024, .f32⟩
  | .hbm, ⟨62, _⟩ => ⟨S16640x1024, .f32⟩
  | .hbm, ⟨63, _⟩ => ⟨S16640x1x1024, .f32⟩
  | .hbm, ⟨64, _⟩ => ⟨S16640x1024, .f32⟩
  | .hbm, ⟨65, _⟩ => ⟨S16640x1024, .f32⟩
  | .hbm, ⟨66, _⟩ => ⟨S16640x1024, .f32⟩
  | .hbm, ⟨67, _⟩ => ⟨S16640x1024, .f32⟩
  | .hbm, ⟨68, _⟩ => ⟨S16640x1x1024, .f32⟩
  | .hbm, ⟨69, _⟩ => ⟨S16640x1024, .f32⟩
  | .hbm, ⟨70, _⟩ => ⟨S16640x1024, .f32⟩
  | .hbm, ⟨71, _⟩ => ⟨S16640x1024, .f32⟩
  | .hbm, ⟨72, _⟩ => ⟨S16640x1024, .f32⟩
  | .hbm, ⟨73, _⟩ => ⟨S16640x1024, .f32⟩
  | .hbm, ⟨74, _⟩ => ⟨S16640x1024, .f32⟩
  | .hbm, ⟨75, _⟩ => ⟨S16640x1024, .f32⟩
  | .hbm, ⟨76, _⟩ => ⟨S_, .f32⟩
  | .hbm, ⟨77, _⟩ => ⟨S16640, .f32⟩
  | .hbm, ⟨78, _⟩ => ⟨S16640x1, .f32⟩
  | .hbm, ⟨79, _⟩ => ⟨S_, .f32⟩
  | .hbm, ⟨80, _⟩ => ⟨S16640x1, .f32⟩
  | .hbm, ⟨81, _⟩ => ⟨S16640x1, .f32⟩
  | .hbm, ⟨82, _⟩ => ⟨S_, .f32⟩
  | .hbm, ⟨83, _⟩ => ⟨S16640x1, .f32⟩
  | .hbm, ⟨84, _⟩ => ⟨S16640x1, .f32⟩
  | .hbm, ⟨85, _⟩ => ⟨S16640x1, .f32⟩
  | .hbm, ⟨86, _⟩ => ⟨S16640x1024, .f32⟩
  | .hbm, ⟨87, _⟩ => ⟨S16640x1024, .f32⟩
  | .hbm, ⟨88, _⟩ => ⟨S1x1024, .f32⟩
  | .hbm, ⟨89, _⟩ => ⟨S16640x1024, .f32⟩
  | .hbm, ⟨90, _⟩ => ⟨S16640x1024, .f32⟩
  | .hbm, ⟨91, _⟩ => ⟨S16640x2048, .f32⟩
  | .hbm, ⟨92, _⟩ => ⟨S16640x8x2x128, .f32⟩
  | .hbm, ⟨93, _⟩ => ⟨S2x128x16640x8, .f32⟩
  | .hbm, ⟨94, _⟩ => ⟨S16640x8x2x128, .f32⟩
  | .hbm, ⟨95, _⟩ => ⟨S16640x1024, .bf16⟩
  | .hbm, ⟨96, _⟩ => ⟨S8x2x128x16640, .f32⟩
  | .hbm, ⟨97, _⟩ => ⟨S16x128x16640, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_4 : Ref sig .tc := ⟨.hbm, 76, rfl⟩
abbrev main_v53 : Ref sig .tc := ⟨.hbm, 77, rfl⟩
abbrev main_v54 : Ref sig .tc := ⟨.hbm, 78, rfl⟩
abbrev main_cst_5 : Ref sig .tc := ⟨.hbm, 79, rfl⟩
abbrev main_v55 : Ref sig .tc := ⟨.hbm, 80, rfl⟩
abbrev main_v56 : Ref sig .tc := ⟨.hbm, 81, rfl⟩
abbrev main_cst_6 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Kernel3.lean ====
abbrev S2x8192x1024 : Shape := ⟨3, ![2, 8192, 1024]⟩
abbrev S8x32x1024 : Shape := ⟨3, ![8, 32, 1024]⟩
abbrev S1024 : Shape := ⟨1, ![1024]⟩
abbrev S1024x2304 : Shape := ⟨2, ![1024, 2304]⟩
abbrev S256 : Shape := ⟨1, ![256]⟩
abbrev S4x128x128 : Shape := ⟨3, ![4, 128, 128]⟩
abbrev S4x128 : Shape := ⟨2, ![4, 128]⟩
abbrev S64 : Shape := ⟨1, ![64]⟩
abbrev S_ : Shape := ⟨0, ![]⟩
abbrev S8x64x64 : Shape := ⟨3, ![8, 64, 64]⟩
abbrev S8x8 : Shape := ⟨2, ![8, 8]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S128x128 : Shape := ⟨2, ![128, 128]⟩
abbrev S1x128x128 : Shape := ⟨3, ![1, 128, 128]⟩
abbrev S1x1 : Shape := ⟨2, ![1, 1]⟩
abbrev S1x1x1x1x1 : Shape := ⟨5, ![1, 1, 1, 1, 1]⟩
abbrev S4x1x128x1x128 : Shape := ⟨5, ![4, 1, 128, 1, 128]⟩
abbrev S1x4x1x128 : Shape := ⟨4, ![1, 4, 1, 128]⟩
abbrev S128x4 : Shape := ⟨2, ![128, 4]⟩
abbrev S128x4x64 : Shape := ⟨3, ![128, 4, 64]⟩
abbrev S128x256 : Shape := ⟨2, ![128, 256]⟩
abbrev S32x32 : Shape := ⟨2, ![32, 32]⟩
abbrev S1x32x32 : Shape := ⟨3, ![1, 32, 32]⟩
abbrev S4x32x32 : Shape := ⟨3, ![4, 32, 32]⟩
abbrev S4x4 : Shape := ⟨2, ![4, 4]⟩
abbrev S1x4x1x4x1 : Shape := ⟨5, ![1, 4, 1, 4, 1]⟩
abbrev S4x1x32x1x32 : Shape := ⟨5, ![4, 1, 32, 1, 32]⟩
abbrev S4x4x32x4x32 : Shape := ⟨5, ![4, 4, 32, 4, 32]⟩
abbrev S4x32 : Shape := ⟨2, ![4, 32]⟩
abbrev S1x4x1x32 : Shape := ⟨4, ![1, 4, 1, 32]⟩
abbrev S1x4x4x32 : Shape := ⟨4, ![1, 4, 4, 32]⟩
abbrev S1x4x128x128 : Shape := ⟨4, ![1, 4, 128, 128]⟩
abbrev S2x4x128x128 : Shape := ⟨4, ![2, 4, 128, 128]⟩
abbrev S1x128x256 : Shape := ⟨3, ![1, 128, 256]⟩
abbrev S2x128x256 : Shape := ⟨3, ![2, 128, 256]⟩
abbrev S16384x1024 : Shape := ⟨2, ![16384, 1024]⟩
abbrev S256x1024 : Shape := ⟨2, ![256, 1024]⟩
abbrev S1x1024 : Shape := ⟨2, ![1, 1024]⟩
abbrev S1x256 : Shape := ⟨2, ![1, 256]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S16896x256 : Shape := ⟨2, ![16896, 256]⟩
abbrev S16896x512 : Shape := ⟨2, ![16896, 512]⟩
abbrev S256x256 : Shape := ⟨2, ![256, 256]⟩
abbrev S256x512 : Shape := ⟨2, ![256, 512]⟩
abbrev S256x1 : Shape := ⟨2, ![256, 1]⟩
abbrev S1024x512 : Shape := ⟨2, ![1024, 512]⟩
abbrev S1024x1024 : Shape := ⟨2, ![1024, 1024]⟩
abbrev S1024x256 : Shape := ⟨2, ![1024, 256]⟩
abbrev S1x1x128x128 : Shape := ⟨4, ![1, 1, 128, 128]⟩
abbrev S16640x256 : Shape := ⟨2, ![16640, 256]⟩
abbrev S16640x512 : Shape := ⟨2, ![16640, 512]⟩

abbrev nBuf : Space → Nat
  | .hbm => 130
  | .vmem => 26
  | .smem => 0
  | _ => 0

abbrev hbmTy0_0 (i : Nat) : BufTy := match i % 128 with
  | 0 => ⟨S2x8192x1024, .f32⟩
  | 1 => ⟨S8x32x1024, .f32⟩
  | 2 => ⟨S1024, .f32⟩
  | 3 => ⟨S1024x2304, .f32⟩
  | 4 => ⟨S256, .f32⟩
  | 5 => ⟨S4x128x128, .f32⟩
  | 6 => ⟨S4x128, .f32⟩
  | 7 => ⟨S64, .f32⟩
  | 8 => ⟨S64, .f32⟩
  | 9 => ⟨S_, .f32⟩
  | 10 => ⟨S8x64x64, .f32⟩
  | 11 => ⟨S8x8, .i32⟩
  | 12 => ⟨S8x8, .i32⟩
  | 13 => ⟨S_, .i32⟩
  | 14 => ⟨S8x8, .i32⟩
  | 15 => ⟨S8x8, .i32⟩
  | 16 => ⟨S8x8, .i1⟩
  | 17 => ⟨S8x8, .f32⟩
  | 18 => ⟨S8x1x8x1, .f32⟩
  | 19 => ⟨S8x64x1x64, .f32⟩
  | 20 => ⟨S8x64x8x64, .f32⟩
  | 21 => ⟨S8x64x8x64, .f32⟩
  | 22 => ⟨S8x64x8x64, .f32⟩
  | 23 => ⟨S512x512, .f32⟩
  | 24 => ⟨S512x512, .bf16⟩
  | 25 => ⟨S_, .i1⟩
  | 26 => ⟨S128x128, .i1⟩
  | 27 => ⟨S128x128, .i32⟩
  | 28 => ⟨S_, .i32⟩
  | 29 => ⟨S128x128, .i32⟩
  | 30 => ⟨S128x128, .i32⟩
  | 31 => ⟨S128x128, .i32⟩
  | 32 => ⟨S128x128, .i1⟩
  | 33 => ⟨S_, .i1⟩
  | 34 => ⟨S128x128, .i1⟩
  | 35 => ⟨S128x128, .i1⟩
  | 36 => ⟨S1x128x128, .i1⟩
  | 37 => ⟨S_, .f32⟩
  | 38 => ⟨S_, .f32⟩
  | 39 => ⟨S4x128x128, .i1⟩
  | 40 => ⟨S4x128x128, .f32⟩
  | 41 => ⟨S4x128x128, .f32⟩
  | 42 => ⟨S1x1, .i32⟩
  | 43 => ⟨S1x1, .i32⟩
  | 44 => ⟨S_, .i32⟩
  | 45 => ⟨S1x1, .i32⟩
  | 46 => ⟨S1x1, .i32⟩
  | 47 => ⟨S1x1, .i1⟩
  | 48 => ⟨S1x1, .f32⟩
  | 49 => ⟨S1x1x1x1x1, .f32⟩
  | 50 => ⟨S4x1x128x1x128, .f32⟩
  | 51 => ⟨S4x1x128x1x128, .f32⟩
  | 52 => ⟨S4x1x128x1x128, .f32⟩
  | 53 => ⟨S4x128x128, .f32⟩
  | 54 => ⟨S1x4x1x128, .f32⟩
  | 55 => ⟨S1x4x1x128, .f32⟩
  | 56 => ⟨S4x128, .f32⟩
  | 57 => ⟨S128x4, .f32⟩
  | 58 => ⟨S128x4x64, .f32⟩
  | 59 => ⟨S128x256, .f32⟩
  | 60 => ⟨S_, .i1⟩
  | 61 => ⟨S32x32, .i1⟩
  | 62 => ⟨S32x32, .i32⟩
  | 63 => ⟨S_, .i32⟩
  | 64 => ⟨S32x32, .i32⟩
  | 65 => ⟨S32x32, .i32⟩
  | 66 => ⟨S32x32, .i32⟩
  | 67 => ⟨S32x32, .i1⟩
  | 68 => ⟨S_, .i1⟩
  | 69 => ⟨S32x32, .i1⟩
  | 70 => ⟨S32x32, .i1⟩
  | 71 => ⟨S1x32x32, .i1⟩
  | 72 => ⟨S4x32x32, .f32⟩
  | 73 => ⟨S_, .f32⟩
  | 74 => ⟨S_, .f32⟩
  | 75 => ⟨S4x32x32, .i1⟩
  | 76 => ⟨S4x32x32, .f32⟩
  | 77 => ⟨S4x32x32, .f32⟩
  | 78 => ⟨S4x4, .i32⟩
  | 79 => ⟨S4x4, .i32⟩
  | 80 => ⟨S_, .i32⟩
  | 81 => ⟨S4x4, .i32⟩
  | 82 => ⟨S4x4, .i32⟩
  | 83 => ⟨S4x4, .i1⟩
  | 84 => ⟨S4x4, .f32⟩
  | 85 => ⟨S1x4x1x4x1, .f32⟩
  | 86 => ⟨S4x1x32x1x32, .f32⟩
  | 87 => ⟨S4x4x32x4x32, .f32⟩
  | 88 => ⟨S4x4x32x4x32, .f32⟩
  | 89 => ⟨S4x4x32x4x32, .f32⟩
  | 90 => ⟨S4x128x128, .f32⟩
  | 91 => ⟨S4x32, .f32⟩
  | 92 => ⟨S1x4x1x32, .f32⟩
  | 93 => ⟨S1x4x4x32, .f32⟩
  | 94 => ⟨S4x128, .f32⟩
  | 95 => ⟨S128x4, .f32⟩
  | 96 => ⟨S128x4x64, .f32⟩
  | 97 => ⟨S128x256, .f32⟩
  | 98 => ⟨S1x4x128x128, .f32⟩
  | 99 => ⟨S1x4x128x128, .f32⟩
  | 100 => ⟨S2x4x128x128, .f32⟩
  | 101 => ⟨S2x4x128x128, .bf16⟩
  | 102 => ⟨S1x128x256, .f32⟩
  | 103 => ⟨S1x128x256, .f32⟩
  | 104 => ⟨S2x128x256, .f32⟩
  | 105 => ⟨S16384x1024, .f32⟩
  | 106 => ⟨S256x1024, .f32⟩
  | 107 => ⟨S1x1024, .f32⟩
  | 108 => ⟨S1024x2304, .bf16⟩
  | 109 => ⟨S1x256, .f32⟩
  | 110 => ⟨S1x64, .f32⟩
  | 111 => ⟨S8x64, .f32⟩
  | 112 => ⟨S512, .f32⟩
  | 113 => ⟨S1x512, .f32⟩
  | 114 => ⟨S1x64, .f32⟩
  | 115 => ⟨S8x64, .f32⟩
  | 116 => ⟨S512, .f32⟩
  | 117 => ⟨S1x512, .f32⟩
  | 118 => ⟨S16896x256, .f32⟩
  | 119 => ⟨S16896x256, .bf16⟩
  | 120 => ⟨S16896x256, .f32⟩
  | 121 => ⟨S16896x512, .bf16⟩
  | 122 => ⟨S16896x512, .f32⟩
  | 123 => ⟨S16896x512, .f32⟩
  | 124 => ⟨S16640x256, .f32⟩
  | 125 => ⟨S16640x256, .bf16⟩
  | 126 => ⟨S16640x256, .f32⟩
  | 127 => ⟨S16640x512, .bf16⟩
  | _ => ⟨S2x8192x1024, .f32⟩

abbrev hbmTy0_1 (i : Nat) : BufTy := match i % 128 with
  | 0 => ⟨S16640x512, .f32⟩
  | 1 => ⟨S16640x512, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x2304, .bf16⟩
  | .local _ .vmem, ⟨6, _⟩ => ⟨S1x256, .f32⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S1x4x128x128, .bf16⟩
  | .local _ .vmem, ⟨11, _⟩ => ⟨S1x4x128x128, .bf16⟩
  | .local _ .vmem, ⟨12, _⟩ => ⟨S1x128x256, .f32⟩
  | .local _ .vmem, ⟨13, _⟩ => ⟨S1x128x256, .f32⟩
  | .local _ .vmem, ⟨14, _⟩ => ⟨S256x256, .f32⟩
  | .local _ .vmem, ⟨15, _⟩ => ⟨S256x256, .f32⟩
  | .local _ .vmem, ⟨16, _⟩ => ⟨S256x256, .bf16⟩
  | .local _ .vmem, ⟨17, _⟩ => ⟨S256x256, .bf16⟩
  | .local _ .vmem, ⟨18, _⟩ => ⟨S256x256, .f32⟩
  | .local _ .vmem, ⟨19, _⟩ => ⟨S256x256, .f32⟩
  | .local _ .vmem, ⟨20, _⟩ => ⟨S256x512, .bf16⟩
  | .local _ .vmem, ⟨21, _⟩ => ⟨S256x512, .bf16⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_3 : Ref sig .tc := ⟨.hbm, 60, rfl⟩
abbrev main_v35 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_0 : Ref sig .tc := ⟨.hbm, 68, rfl⟩
abbrev main_call2_v5 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_4 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_5 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79_0 : Ref sig .tc := ⟨.hbm, 118, rfl⟩
abbrev main_v79_1 : Ref sig .tc := ⟨.hbm, 119, rfl⟩
abbrev main_v79_2 : Ref sig .tc := ⟨.hbm, 120, rfl⟩
abbrev main_v79_3 : Ref sig .tc := ⟨.hbm, 121, rfl⟩
abbrev main_v79_4 : Ref sig .tc := ⟨.hbm, 122, rfl⟩
abbrev main_v79_5 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c64_i32 : BitVec 32 := 64#32
  let v1 : BitVec 32 := Scalar.subi v0 c64_i32
  let c0_i32_0 : BitVec 32 := 0#32
  let c0_i32_1 : BitVec 32 := 0#32
  let v2 : BitVec 32 := Scalar.maxsi c0_i32_0 v1
  let v3 : BitVec 32 := Scalar.minsi c0_i32_1 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c64_i32 : BitVec 32 := 64#32
  let v0 : BitVec 1 := Scalar.cmpi .sge arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_9 (i : grid0.Coords) : Fin 3 → Nat :=
  let arg0 : BitVec 32 := BitVec.ofNat 32 (i 0).val
  let c64_i32 : BitVec 32 := 64#32
  let v0 : BitVec 1 := Scalar.cmpi .sge arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S2x8192x1024 : Shape := ⟨3, ![2, 8192, 1024]⟩
abbrev S8x32x1024 : Shape := ⟨3, ![8, 32, 1024]⟩
abbrev S1024 : Shape := ⟨1, ![1024]⟩
abbrev S1024x2304 : Shape := ⟨2, ![1024, 2304]⟩
abbrev S256 : Shape := ⟨1, ![256]⟩
abbrev S4x128x128 : Shape := ⟨3, ![4, 128, 128]⟩
abbrev S4x128 : Shape := ⟨2, ![4, 128]⟩
abbrev S64 : Shape := ⟨1, ![64]⟩
abbrev S16384x1024 : Shape := ⟨2, ![16384, 1024]⟩
abbrev S256x1024 : Shape := ⟨2, ![256, 1024]⟩
abbrev S16640x1024 : Shape := ⟨2, ![16640, 1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x2304 : Shape := ⟨2, ![16640, 2304]⟩
abbrev S16640x256 : Shape := ⟨2, ![16640, 256]⟩
abbrev S16640x512 : Shape := ⟨2, ![16640, 512]⟩
abbrev S1x256 : Shape := ⟨2, ![1, 256]⟩
abbrev S16384x256 : Shape := ⟨2, ![16384, 256]⟩
abbrev S2x8192x256 : Shape := ⟨3, ![2, 8192, 256]⟩
abbrev S2x64x128x4x64 : Shape := ⟨5, ![2, 64, 128, 4, 64]⟩
abbrev S128x128 : Shape := ⟨2, ![128, 128]⟩
abbrev S1x128x128 : Shape := ⟨3, ![1, 128, 128]⟩
abbrev S4x2x64x64x128 : Shape := ⟨5, ![4, 2, 64, 64, 128]⟩
abbrev S128x4 : Shape := ⟨2, ![128, 4]⟩
abbrev S1x1x128x4x1 : Shape := ⟨5, ![1, 1, 128, 4, 1]⟩
abbrev S256x256 : Shape := ⟨2, ![256, 256]⟩
abbrev S8x32x256 : Shape := ⟨3, ![8, 32, 256]⟩
abbrev S8x1x32x4x64 : Shape := ⟨5, ![8, 1, 32, 4, 64]⟩
abbrev S32x32 : Shape := ⟨2, ![32, 32]⟩
abbrev S1x32x32 : Shape := ⟨3, ![1, 32, 32]⟩
abbrev S4x32x32 : Shape := ⟨3, ![4, 32, 32]⟩
abbrev S4x8x1x64x32 : Shape := ⟨5, ![4, 8, 1, 64, 32]⟩
abbrev S4x32 : Shape := ⟨2, ![4, 32]⟩
abbrev S32x4 : Shape := ⟨2, ![32, 4]⟩
abbrev S1x1x32x4x1 : Shape := ⟨5, ![1, 1, 32, 4, 1]⟩
abbrev S16640x8x64 : Shape := ⟨3, ![16640, 8, 64]⟩
abbrev S16640x8 : Shape := ⟨2, ![16640, 8]⟩
abbrev S16640x8x1 : Shape := ⟨3, ![16640, 8, 1]⟩
abbrev S1x1x64 : Shape := ⟨3, ![1, 1, 64]⟩

abbrev nBuf : Space → Nat
  | .hbm => 155
  | .vmem => 0
  | .smem => 0
  | _ => 0

abbrev hbmTy0_0 (i : Nat) : BufTy := match i % 128 with
  | 0 => ⟨S2x8192x1024, .f32⟩
  | 1 => ⟨S8x32x1024, .f32⟩
  | 2 => ⟨S1024, .f32⟩
  | 3 => ⟨S1024x2304, .f32⟩
  | 4 => ⟨S256, .f32⟩
  | 5 => ⟨S4x128x128, .f32⟩
  | 6 => ⟨S4x128, .f32⟩
  | 7 => ⟨S64, .f32⟩
  | 8 => ⟨S64, .f32⟩
  | 9 => ⟨S16384x1024, .f32⟩
  | 10 => ⟨S256x1024, .f32⟩
  | 11 => ⟨S16640x1024, .f32⟩
  | 12 => ⟨S16640x1024, .f32⟩
  | 13 => ⟨S_, .f32⟩
  | 14 => ⟨S16640, .f32⟩
  | 15 => ⟨S16640x1, .f32⟩
  | 16 => ⟨S_, .f32⟩
  | 17 => ⟨S16640x1, .f32⟩
  | 18 => ⟨S16640x1, .f32⟩
  | 19 => ⟨S_, .f32⟩
  | 20 => ⟨S16640x1, .f32⟩
  | 21 => ⟨S16640x1, .f32⟩
  | 22 => ⟨S16640x1, .f32⟩
  | 23 => ⟨S16640x1024, .f32⟩
  | 24 => ⟨S16640x1024, .f32⟩
  | 25 => ⟨S1x1024, .f32⟩
  | 26 => ⟨S16640x1024, .f32⟩
  | 27 => ⟨S16640x1024, .f32⟩
  | 28 => ⟨S16640x2304, .f32⟩
  | 29 => ⟨S16640x256, .f32⟩
  | 30 => ⟨S16640x256, .f32⟩
  | 31 => ⟨S16640x256, .f32⟩
  | 32 => ⟨S16640x512, .f32⟩
  | 33 => ⟨S16640x512, .f32⟩
  | 34 => ⟨S16640x512, .f32⟩
  | 35 => ⟨S16640x256, .f32⟩
  | 36 => ⟨S_, .f32⟩
  | 37 => ⟨S16640, .f32⟩
  | 38 => ⟨S16640x1, .f32⟩
  | 39 => ⟨S_, .f32⟩
  | 40 => ⟨S16640x1, .f32⟩
  | 41 => ⟨S16640x1, .f32⟩
  | 42 => ⟨S_, .f32⟩
  | 43 => ⟨S16640x1, .f32⟩
  | 44 => ⟨S16640x1, .f32⟩
  | 45 => ⟨S16640x1, .f32⟩
  | 46 => ⟨S16640x256, .f32⟩
  | 47 => ⟨S16640x256, .f32⟩
  | 48 => ⟨S1x256, .f32⟩
  | 49 => ⟨S16640x256, .f32⟩
  | 50 => ⟨S16640x256, .f32⟩
  | 51 => ⟨S16384x256, .f32⟩
  | 52 => ⟨S2x8192x256, .f32⟩
  | 53 => ⟨S16384x256, .f32⟩
  | 54 => ⟨S2x8192x256, .f32⟩
  | 55 => ⟨S2x64x128x4x64, .f32⟩
  | 56 => ⟨S_, .i1⟩
  | 57 => ⟨S128x128, .i1⟩
  | 58 => ⟨S128x128, .i32⟩
  | 59 => ⟨S_, .i32⟩
  | 60 => ⟨S128x128, .i32⟩
  | 61 => ⟨S128x128, .i32⟩
  | 62 => ⟨S128x128, .i32⟩
  | 63 => ⟨S128x128, .i1⟩
  | 64 => ⟨S_, .i1⟩
  | 65 => ⟨S128x128, .i1⟩
  | 66 => ⟨S128x128, .i1⟩
  | 67 => ⟨S1x128x128, .i1⟩
  | 68 => ⟨S_, .f32⟩
  | 69 => ⟨S4x128x128, .i1⟩
  | 70 => ⟨S4x128x128, .f32⟩
  | 71 => ⟨S4x128x128, .f32⟩
  | 72 => ⟨S4x2x64x64x128, .f32⟩
  | 73 => ⟨S2x64x128x4x64, .f32⟩
  | 74 => ⟨S128x4, .f32⟩
  | 75 => ⟨S1x1x128x4x1, .f32⟩
  | 76 => ⟨S2x64x128x4x64, .f32⟩
  | 77 => ⟨S2x64x128x4x64, .f32⟩
  | 78 => ⟨S2x8192x256, .f32⟩
  | 79 => ⟨S2x8192x256, .f32⟩
  | 80 => ⟨S16384x256, .f32⟩
  | 81 => ⟨S256x256, .f32⟩
  | 82 => ⟨S8x32x256, .f32⟩
  | 83 => ⟨S256x256, .f32⟩
  | 84 => ⟨S8x32x256, .f32⟩
  | 85 => ⟨S8x1x32x4x64, .f32⟩
  | 86 => ⟨S_, .i1⟩
  | 87 => ⟨S32x32, .i1⟩
  | 88 => ⟨S32x32, .i32⟩
  | 89 => ⟨S_, .i32⟩
  | 90 => ⟨S32x32, .i32⟩
  | 91 => ⟨S32x32, .i32⟩
  | 92 => ⟨S32x32, .i32⟩
  | 93 => ⟨S32x32, .i1⟩
  | 94 => ⟨S_, .i1⟩
  | 95 => ⟨S32x32, .i1⟩
  | 96 => ⟨S32x32, .i1⟩
  | 97 => ⟨S1x32x32, .i1⟩
  | 98 => ⟨S4x32x32, .f32⟩
  | 99 => ⟨S_, .f32⟩
  | 100 => ⟨S4x32x32, .i1⟩
  | 101 => ⟨S4x32x32, .f32⟩
  | 102 => ⟨S4x32x32, .f32⟩
  | 103 => ⟨S4x8x1x64x32, .f32⟩
  | 104 => ⟨S8x1x32x4x64, .f32⟩
  | 105 => ⟨S4x32, .f32⟩
  | 106 => ⟨S32x4, .f32⟩
  | 107 => ⟨S1x1x32x4x1, .f32⟩
  | 108 => ⟨S8x1x32x4x64, .f32⟩
  | 109 => ⟨S8x1x32x4x64, .f32⟩
  | 110 => ⟨S8x32x256, .f32⟩
  | 111 => ⟨S8x32x256, .f32⟩
  | 112 => ⟨S256x256, .f32⟩
  | 113 => ⟨S16640x256, .f32⟩
  | 114 => ⟨S16640x256, .bf16⟩
  | 115 => ⟨S16640x8x64, .f32⟩
  | 116 => ⟨S16640x8x64, .f32⟩
  | 117 => ⟨S_, .f32⟩
  | 118 => ⟨S16640x8, .f32⟩
  | 119 => ⟨S16640x8x1, .f32⟩
  | 120 => ⟨S_, .f32⟩
  | 121 => ⟨S16640x8x1, .f32⟩
  | 122 => ⟨S16640x8x1, .f32⟩
  | 123 => ⟨S_, .f32⟩
  | 124 => ⟨S16640x8x1, .f32⟩
  | 125 => ⟨S16640x8x1, .f32⟩
  | 126 => ⟨S16640x8x1, .f32⟩
  | 127 => ⟨S16640x8x64, .f32⟩
  | _ => ⟨S2x8192x1024, .f32⟩

abbrev hbmTy0_1 (i : Nat) : BufTy := match i % 128 with
  | 0 => ⟨S16640x8x64, .f32⟩
  | 1 => ⟨S1x1x64, .f32⟩
  | 2 => ⟨S16640x8x64, .f32⟩
  | 3 => ⟨S16640x8x64, .f32⟩
  | 4 => ⟨S16640x512, .f32⟩
  | 5 => ⟨S_, .f32⟩
  | 6 => ⟨S16640x512, .f32⟩
  | 7 => ⟨S16640x512, .f32⟩
  | 8 => ⟨S16640x512, .bf16⟩
  | 9 => ⟨S16640x8x64, .f32⟩
  | 10 => ⟨S16640x8x64, .f32⟩
  | 11 => ⟨S_, .f32⟩
  | 12 => ⟨S16640x8, .f32⟩
  | 13 => ⟨S16640x8x1, .f32⟩
  | 14 => ⟨S_, .f32⟩
  | 15 => ⟨S16640x8x1, .f32⟩
  | 16 => ⟨S16640x8x1, .f32⟩
  | 17 => ⟨S_, .f32⟩
  | 18 => ⟨S16640x8x1, .f32⟩
  | 19 => ⟨S16640x8x1, .f32⟩
  | 20 => ⟨S16640x8x1, .f32⟩
  | 21 => ⟨S16640x8x64, .f32⟩
  | 22 => ⟨S16640x8x64, .f32⟩
  | 23 => ⟨S1x1x64, .f32⟩
  | 24 => ⟨S16640x8x64, .f32⟩
  | 25 => ⟨S16640x8x64, .f32⟩
  | 26 => ⟨S16640x512, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_v41 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_c_0 : Ref sig .tc := ⟨.hbm, 64, rfl⟩
abbrev main_call0_v5 : Ref sig .tc := ⟨.hbm, 65, rfl⟩
abbrev main_v42 : Ref sig .tc := ⟨.hbm, 66, rfl⟩
abbrev main_v43 : Ref sig .tc := ⟨.hbm, 67, rfl⟩
abbrev main_cst_5 : Ref sig .tc := ⟨.hbm, 68, rfl⟩
abbrev main_call1_v0 : Ref sig .tc := ⟨.hbm, 69, rfl⟩
abbrev main_call1_v1 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_6 : Ref sig .tc := ⟨.hbm, 86, rfl⟩
abbrev main_v59 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_c_0 : Ref sig .tc := ⟨.hbm, 94, rfl⟩
abbrev main_call2_v5 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_7 : Ref sig .tc := ⟨.hbm, 99, rfl⟩
abbrev main_call3_v0 : Ref sig .tc := ⟨.hbm, 100, rfl⟩
abbrev main_call3_v1 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_8 : Ref sig .tc := ⟨.hbm, 117, rfl⟩
abbrev main_v78 : Ref sig .tc := ⟨.hbm, 118, rfl⟩
abbrev main_v79 : Ref sig .tc := ⟨.hbm, 119, rfl⟩
abbrev main_cst_9 : Ref sig .tc := ⟨.hbm, 120, rfl⟩
abbrev main_v80 : Ref sig .tc := ⟨.hbm, 121, rfl⟩
abbrev main_v81 : Ref sig .tc := ⟨.hbm, 122, rfl⟩
abbrev main_cst_10 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_11 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_12 : Ref sig .tc := ⟨.hbm, 139, rfl⟩
abbrev main_v96 : Ref sig .tc := ⟨.hbm, 140, rfl⟩
abbrev main_v97 : Ref sig .tc := ⟨.hbm, 141, rfl⟩
abbrev main_cst_13 : Ref sig .tc := ⟨.hbm, 142, rfl⟩
abbrev main_v98 : Ref sig .tc := ⟨.hbm, 143, rfl⟩
abbrev main_v99 : Ref sig .tc := ⟨.hbm, 144, rfl⟩
abbrev main_cst_14 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩

abbrev nD : Nat := 1
abbrev τ : Topo := Topo.v7x

variable {F : FTy → Type} [FloatOps F]
-- ==== Kernel4.lean ====
abbrev S2x8192x256 : Shape := ⟨3, ![2, 8192, 256]⟩
abbrev S4x64x64 : Shape := ⟨3, ![4, 64, 64]⟩
abbrev S256 : Shape := ⟨1, ![256]⟩
abbrev S16384x256 : Shape := ⟨2, ![16384, 256]⟩
abbrev S_ : Shape := ⟨0, ![]⟩
abbrev S512x256 : Shape := ⟨2, ![512, 256]⟩
abbrev S16896x256 : Shape := ⟨2, ![16896, 256]⟩
abbrev S2x16x256 : Shape := ⟨3, ![2, 16, 256]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x256 : Shape := ⟨2, ![1, 256]⟩
abbrev S1024x256 : Shape := ⟨2, ![1024, 256]⟩
abbrev S16x256 : Shape := ⟨2, ![16, 256]⟩
abbrev S1x16x256 : Shape := ⟨3, ![1, 16, 256]⟩
abbrev S1040x256 : Shape := ⟨2, ![1040, 256]⟩
abbrev S1039x256 : Shape := ⟨2, ![1039, 256]⟩
abbrev S1037x256 : Shape := ⟨2, ![1037, 256]⟩
abbrev S1033x256 : Shape := ⟨2, ![1033, 256]⟩
abbrev S1025x256 : Shape := ⟨2, ![1025, 256]⟩

abbrev nBuf : Space → Nat
  | .hbm => 25
  | .vmem => 10
  | .smem => 0
  | _ => 0

abbrev bufTy : (tb : Table) → Fin (tcTables nBuf tb) → BufTy
  | .hbm, ⟨0, _⟩ => ⟨S2x8192x256, .f32⟩
  | .hbm, ⟨1, _⟩ => ⟨S4x64x64, .f32⟩
  | .hbm, ⟨2, _⟩ => ⟨S256, .f32⟩
  | .hbm, ⟨3, _⟩ => ⟨S16384x256, .f32⟩
  | .hbm, ⟨4, _⟩ => ⟨S_, .f32⟩
  | .hbm, ⟨5, _⟩ => ⟨S512x256, .f32⟩
  | .hbm, ⟨6, _⟩ => ⟨S16896x256, .f32⟩
  | .hbm, ⟨7, _⟩ => ⟨S_, .f32⟩
  | .hbm, ⟨8, _⟩ => ⟨S2x16x256, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S4x1x4x1, .f32⟩
  | .hbm, ⟨17, _⟩ => ⟨S4x64x1x64, .f32⟩
  | .hbm, ⟨18, _⟩ => ⟨S4x64x4x64, .f32⟩
  | .hbm, ⟨19, _⟩ => ⟨S4x64x4x64, .f32⟩
  | .hbm, ⟨20, _⟩ => ⟨S4x64x4x64, .f32⟩
  | .hbm, ⟨21, _⟩ => ⟨S256x256, .f32⟩
  | .hbm, ⟨22, _⟩ => ⟨S256x256, .bf16⟩
  | .hbm, ⟨23, _⟩ => ⟨S1x256, .f32⟩
  | .hbm, ⟨24, _⟩ => ⟨S16384x256, .bf16⟩
  | .local _ .vmem, ⟨0, _⟩ => ⟨S1024x256, .f32⟩
  | .local _ .vmem, ⟨1, _⟩ => ⟨S1024x256, .f32⟩
  | .local _ .vmem, ⟨2, _⟩ => ⟨S16x256, .f32⟩
  | .local _ .vmem, ⟨3, _⟩ => ⟨S16x256, .f32⟩
  | .local _ .vmem, ⟨4, _⟩ => ⟨S1x16x256, .f32⟩
  | .local _ .vmem, ⟨5, _⟩ => ⟨S1x16x256, .f32⟩
  | .local _ .vmem, ⟨6, _⟩ => ⟨S256x256, .bf16⟩
  | .local _ .vmem, ⟨7, _⟩ => ⟨S1x256, .f32⟩
  | .local _ .vmem, ⟨8, _⟩ => ⟨S1024x256, .bf16⟩
  | .local _ .vmem, ⟨9, _⟩ => ⟨S1024x256, .bf16⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c64_i32 : BitVec 32 := 64#32
  let v3 : BitVec 32 := Scalar.muli v2 c64_i32
  let c1_i32 : BitVec 32 := 1#32
  let v4 : BitVec 32 := Scalar.subi v3 c1_i32
  let c0_i32_0 : BitVec 32 := 0#32
  let v5 : BitVec 32 := Scalar.maxsi v4 c0_i32_0
  let c0_i32_1 : BitVec 32 := 0#32
  let c0_i32_2 : BitVec 32 := 0#32
  ![v5.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2x8192x256 : Shape := ⟨3, ![2, 8192, 256]⟩
abbrev S4x64x64 : Shape := ⟨3, ![4, 64, 64]⟩
abbrev S256 : Shape := ⟨1, ![256]⟩
abbrev S_ : Shape := ⟨0, ![]⟩
abbrev S2x15x256 : Shape := ⟨3, ![2, 15, 256]⟩
abbrev S2x8207x256 : Shape := ⟨3, ![2, 8207, 256]⟩
abbrev S2x1x256 : Shape := ⟨3, ![2, 1, 256]⟩
abbrev S2x8208x256 : Shape := ⟨3, ![2, 8208, 256]⟩
abbrev S2x8192x64 : Shape := ⟨3, ![2, 8192, 64]⟩
abbrev S2x8192x4x64 : Shape := ⟨4, ![2, 8192, 4, 64]⟩
abbrev S4x64x2x8192 : Shape := ⟨4, ![4, 64, 2, 8192]⟩
abbrev S16384x256 : Shape := ⟨2, ![16384, 256]⟩
abbrev S1x256 : Shape := ⟨2, ![1, 256]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x256, .f32⟩
  | .hbm, ⟨1, _⟩ => ⟨S4x64x64, .f32⟩
  | .hbm, ⟨2, _⟩ => ⟨S256, .f32⟩
  | .hbm, ⟨3, _⟩ => ⟨S_, .f32⟩
  | .hbm, ⟨4, _⟩ => ⟨S2x15x256, .f32⟩
  | .hbm, ⟨5, _⟩ => ⟨S2x8207x256, .f32⟩
  | .hbm, ⟨6, _⟩ => ⟨S_, .f32⟩
  | .hbm, ⟨7, _⟩ => ⟨S_, .f32⟩
  | .hbm, ⟨8, _⟩ => ⟨S2x8207x256, .f32⟩
  | .hbm, ⟨9, _⟩ => ⟨S_, .f32⟩
  | .hbm, ⟨10, _⟩ => ⟨S2x1x256, .f32⟩
  | .hbm, ⟨11, _⟩ => ⟨S2x8208x256, .f32⟩
  | .hbm, ⟨12, _⟩ => ⟨S2x8192x256, .f32⟩
  | .hbm, ⟨13, _⟩ => ⟨S2x8192x256, .f32⟩
  | .hbm, ⟨14, _⟩ => ⟨S2x8192x64, .f32⟩
  | .hbm, ⟨15, _⟩ => ⟨S2x8192x64, .f32⟩
  | .hbm, ⟨16, _⟩ => ⟨S2x8192x64, .f32⟩
  | .hbm, ⟨17, _⟩ => ⟨S_, .f32⟩
  | .hbm, ⟨18, _⟩ => ⟨S2x8192x64, .f32⟩
  | .hbm, ⟨19, _⟩ => ⟨S2x8192x64, .f32⟩
  | .hbm, ⟨20, _⟩ => ⟨S2x8192x256, .f32⟩
  | .hbm, ⟨21, _⟩ => ⟨S2x8192x64, .f32⟩
  | .hbm, ⟨22, _⟩ => ⟨S2x8192x64, .f32⟩
  | .hbm, ⟨23, _⟩ => ⟨S2x8192x64, .f32⟩
  | .hbm, ⟨24, _⟩ => ⟨S_, .f32⟩
  | .hbm, ⟨25, _⟩ => ⟨S2x8192x64, .f32⟩
  | .hbm, ⟨26, _⟩ => ⟨S2x8192x64, .f32⟩
  | .hbm, ⟨27, _⟩ => ⟨S2x8192x256, .f32⟩
  | .hbm, ⟨28, _⟩ => ⟨S2x8192x64, .f32⟩
  | .hbm, ⟨29, _⟩ => ⟨S2x8192x64, .f32⟩
  | .hbm, ⟨30, _⟩ => ⟨S2x8192x64, .f32⟩
  | .hbm, ⟨31, _⟩ => ⟨S_, .f32⟩
  | .hbm, ⟨32, _⟩ => ⟨S2x8192x64, .f32⟩
  | .hbm, ⟨33, _⟩ => ⟨S2x8192x64, .f32⟩
  | .hbm, ⟨34, _⟩ => ⟨S2x8192x256, .f32⟩
  | .hbm, ⟨35, _⟩ => ⟨S2x8192x64, .f32⟩
  | .hbm, ⟨36, _⟩ => ⟨S2x8192x64, .f32⟩
  | .hbm, ⟨37, _⟩ => ⟨S2x8192x64, .f32⟩
  | .hbm, ⟨38, _⟩ => ⟨S_, .f32⟩
  | .hbm, ⟨39, _⟩ => ⟨S2x8192x64, .f32⟩
  | .hbm, ⟨40, _⟩ => ⟨S2x8192x64, .f32⟩
  | .hbm, ⟨41, _⟩ => ⟨S2x8192x256, .f32⟩
  | .hbm, ⟨42, _⟩ => ⟨S2x8192x256, .f32⟩
  | .hbm, ⟨43, _⟩ => ⟨S2x8192x4x64, .f32⟩
  | .hbm, ⟨44, _⟩ => ⟨S4x64x2x8192, .f32⟩
  | .hbm, ⟨45, _⟩ => ⟨S2x8192x4x64, .f32⟩
  | .hbm, ⟨46, _⟩ => ⟨S16384x256, .f32⟩
  | .hbm, ⟨47, _⟩ => ⟨S1x256, .f32⟩
  | .hbm, ⟨48, _⟩ => ⟨S16384x256, .f32⟩
  | .hbm, ⟨49, _⟩ => ⟨S16384x256, .f32⟩
  | .hbm, ⟨50, _⟩ => ⟨S16384x256, .bf16⟩
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel5.lean ====
abbrev S8x32x256 : Shape := ⟨3, ![8, 32, 256]⟩
abbrev S8x15x256 : Shape := ⟨3, ![8, 15, 256]⟩
abbrev S4x64x64 : Shape := ⟨3, ![4, 64, 64]⟩
abbrev S256 : Shape := ⟨1, ![256]⟩
abbrev S_ : Shape := ⟨0, ![]⟩
abbrev S16384x256 : Shape := ⟨2, ![16384, 256]⟩
abbrev S256x256 : Shape := ⟨2, ![256, 256]⟩
abbrev S16896x256 : Shape := ⟨2, ![16896, 256]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S8x16x256 : Shape := ⟨3, ![8, 16, 256]⟩
abbrev S1x256 : Shape := ⟨2, ![1, 256]⟩
abbrev S32x256 : Shape := ⟨2, ![32, 256]⟩
abbrev S16x256 : Shape := ⟨2, ![16, 256]⟩
abbrev S1x16x256 : Shape := ⟨3, ![1, 16, 256]⟩
abbrev S48x256 : Shape := ⟨2, ![48, 256]⟩
abbrev S47x256 : Shape := ⟨2, ![47, 256]⟩
abbrev S45x256 : Shape := ⟨2, ![45, 256]⟩
abbrev S41x256 : Shape := ⟨2, ![41, 256]⟩
abbrev S33x256 : Shape := ⟨2, ![33, 256]⟩

abbrev nBuf : Space → Nat
  | .hbm => 29
  | .vmem => 10
  | .smem => 0
  | _ => 0

abbrev bufTy : (tb : Table) → Fin (tcTables nBuf tb) → BufTy
  | .hbm, ⟨0, _⟩ => ⟨S8x32x256, .f32⟩
  | .hbm, ⟨1, _⟩ => ⟨S8x15x256, .f32⟩
  | .hbm, ⟨2, _⟩ => ⟨S4x64x64, .f32⟩
  | .hbm, ⟨3, _⟩ => ⟨S256, .f32⟩
  | .hbm, ⟨4, _⟩ => ⟨S_, .f32⟩
  | .hbm, ⟨5, _⟩ => ⟨S16384x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S16896x256, .f32⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .f32⟩
  | .hbm, ⟨17, _⟩ => ⟨S4x1x4x1, .f32⟩
  | .hbm, ⟨18, _⟩ => ⟨S4x64x1x64, .f32⟩
  | .hbm, ⟨19, _⟩ => ⟨S4x64x4x64, .f32⟩
  | .hbm, ⟨20, _⟩ => ⟨S4x64x4x64, .f32⟩
  | .hbm, ⟨21, _⟩ => ⟨S4x64x4x64, .f32⟩
  | .hbm, ⟨22, _⟩ => ⟨S256x256, .f32⟩
  | .hbm, ⟨23, _⟩ => ⟨S256x256, .bf16⟩
  | .hbm, ⟨24, _⟩ => ⟨S_, .i32⟩
  | .hbm, ⟨25, _⟩ => ⟨S_, .f32⟩
  | .hbm, ⟨26, _⟩ => ⟨S8x16x256, .f32⟩
  | .hbm, ⟨27, _⟩ => ⟨S1x256, .f32⟩
  | .hbm, ⟨28, _⟩ => ⟨S256x256, .bf16⟩
  | .local _ .vmem, ⟨0, _⟩ => ⟨S32x256, .f32⟩
  | .local _ .vmem, ⟨1, _⟩ => ⟨S32x256, .f32⟩
  | .local _ .vmem, ⟨2, _⟩ => ⟨S16x256, .f32⟩
  | .local _ .vmem, ⟨3, _⟩ => ⟨S16x256, .f32⟩
  | .local _ .vmem, ⟨4, _⟩ => ⟨S1x16x256, .f32⟩
  | .local _ .vmem, ⟨5, _⟩ => ⟨S1x16x256, .f32⟩
  | .local _ .vmem, ⟨6, _⟩ => ⟨S256x256, .bf16⟩
  | .local _ .vmem, ⟨7, _⟩ => ⟨S1x256, .f32⟩
  | .local _ .vmem, ⟨8, _⟩ => ⟨S32x256, .bf16⟩
  | .local _ .vmem, ⟨9, _⟩ => ⟨S32x256, .bf16⟩
  | _, _ => ⟨S8x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c2_i32 : BitVec 32 := 2#32
  let v3 : BitVec 32 := Scalar.muli v2 c2_i32
  let c1_i32_0 : BitVec 32 := 1#32
  let v4 : BitVec 32 := Scalar.subi v3 c1_i32_0
  let c0_i32 : BitVec 32 := 0#32
  let v5 : BitVec 32 := Scalar.maxsi v4 c0_i32
  let c0_i32_1 : BitVec 32 := 0#32
  let c0_i32_2 : BitVec 32 := 0#32
  ![v5.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8x32x256 : Shape := ⟨3, ![8, 32, 256]⟩
abbrev S8x15x256 : Shape := ⟨3, ![8, 15, 256]⟩
abbrev S4x64x64 : Shape := ⟨3, ![4, 64, 64]⟩
abbrev S256 : Shape := ⟨1, ![256]⟩
abbrev S8x47x256 : Shape := ⟨3, ![8, 47, 256]⟩
abbrev S_ : Shape := ⟨0, ![]⟩
abbrev S8x1x256 : Shape := ⟨3, ![8, 1, 256]⟩
abbrev S8x48x256 : Shape := ⟨3, ![8, 48, 256]⟩
abbrev S8x32x64 : Shape := ⟨3, ![8, 32, 64]⟩
abbrev S8x32x4x64 : Shape := ⟨4, ![8, 32, 4, 64]⟩
abbrev S4x64x8x32 : Shape := ⟨4, ![4, 64, 8, 32]⟩
abbrev S256x256 : Shape := ⟨2, ![256, 256]⟩
abbrev S1x256 : Shape := ⟨2, ![1, 256]⟩

abbrev nBuf : Space → Nat
  | .hbm => 50
  | .vmem => 0
  | .smem => 0
  | _ => 0

abbrev bufTy : (tb : Table) → Fin (tcTables nBuf tb) → BufTy
  | .hbm, ⟨0, _⟩ => ⟨S8x32x256, .f32⟩
  | .hbm, ⟨1, _⟩ => ⟨S8x15x256, .f32⟩
  | .hbm, ⟨2, _⟩ => ⟨S4x64x64, .f32⟩
  | .hbm, ⟨3, _⟩ => ⟨S256, .f32⟩
  | .hbm, ⟨4, _⟩ => ⟨S8x47x256, .f32⟩
  | .hbm, ⟨5, _⟩ => ⟨S_, .f32⟩
  | .hbm, ⟨6, _⟩ => ⟨S_, .f32⟩
  | .hbm, ⟨7, _⟩ => ⟨S8x47x256, .f32⟩
  | .hbm, ⟨8, _⟩ => ⟨S_, .f32⟩
  | .hbm, ⟨9, _⟩ => ⟨S8x1x256, .f32⟩
  | .hbm, ⟨10, _⟩ => ⟨S8x48x256, .f32⟩
  | .hbm, ⟨11, _⟩ => ⟨S8x32x256, .f32⟩
  | .hbm, ⟨12, _⟩ => ⟨S8x32x256, .f32⟩
  | .hbm, ⟨13, _⟩ => ⟨S8x32x64, .f32⟩
  | .hbm, ⟨14, _⟩ => ⟨S8x32x64, .f32⟩
  | .hbm, ⟨15, _⟩ => ⟨S8x32x64, .f32⟩
  | .hbm, ⟨16, _⟩ => ⟨S_, .f32⟩
  | .hbm, ⟨17, _⟩ => ⟨S8x32x64, .f32⟩
  | .hbm, ⟨18, _⟩ => ⟨S8x32x64, .f32⟩
  | .hbm, ⟨19, _⟩ => ⟨S8x32x256, .f32⟩
  | .hbm, ⟨20, _⟩ => ⟨S8x32x64, .f32⟩
  | .hbm, ⟨21, _⟩ => ⟨S8x32x64, .f32⟩
  | .hbm, ⟨22, _⟩ => ⟨S8x32x64, .f32⟩
  | .hbm, ⟨23, _⟩ => ⟨S_, .f32⟩
  | .hbm, ⟨24, _⟩ => ⟨S8x32x64, .f32⟩
  | .hbm, ⟨25, _⟩ => ⟨S8x32x64, .f32⟩
  | .hbm, ⟨26, _⟩ => ⟨S8x32x256, .f32⟩
  | .hbm, ⟨27, _⟩ => ⟨S8x32x64, .f32⟩
  | .hbm, ⟨28, _⟩ => ⟨S8x32x64, .f32⟩
  | .hbm, ⟨29, _⟩ => ⟨S8x32x64, .f32⟩
  | .hbm, ⟨30, _⟩ => ⟨S_, .f32⟩
  | .hbm, ⟨31, _⟩ => ⟨S8x32x64, .f32⟩
  | .hbm, ⟨32, _⟩ => ⟨S8x32x64, .f32⟩
  | .hbm, ⟨33, _⟩ => ⟨S8x32x256, .f32⟩
  | .hbm, ⟨34, _⟩ => ⟨S8x32x64, .f32⟩
  | .hbm, ⟨35, _⟩ => ⟨S8x32x64, .f32⟩
  | .hbm, ⟨36, _⟩ => ⟨S8x32x64, .f32⟩
  | .hbm, ⟨37, _⟩ => ⟨S_, .f32⟩
  | .hbm, ⟨38, _⟩ => ⟨S8x32x64, .f32⟩
  | .hbm, ⟨39, _⟩ => ⟨S8x32x64, .f32⟩
  | .hbm, ⟨40, _⟩ => ⟨S8x32x256, .f32⟩
  | .hbm, ⟨41, _⟩ => ⟨S8x32x256, .f32⟩
  | .hbm, ⟨42, _⟩ => ⟨S8x32x4x64, .f32⟩
  | .hbm, ⟨43, _⟩ => ⟨S4x64x8x32, .f32⟩
  | .hbm, ⟨44, _⟩ => ⟨S8x32x4x64, .f32⟩
  | .hbm, ⟨45, _⟩ => ⟨S256x256, .f32⟩
  | .hbm, ⟨46, _⟩ => ⟨S1x256, .f32⟩
  | .hbm, ⟨47, _⟩ => ⟨S256x256, .f32⟩
  | .hbm, ⟨48, _⟩ => ⟨S256x256, .f32⟩
  | .hbm, ⟨49, _⟩ => ⟨S256x256, .bf16⟩
  | _, _ => ⟨S8x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel6.lean ====
abbrev S8x32x8x64 : Shape := ⟨4, ![8, 32, 8, 64]⟩
abbrev S8x512x8x64 : Shape := ⟨4, ![8, 512, 8, 64]⟩
abbrev S8x257 : Shape := ⟨2, ![8, 257]⟩
abbrev S1024 : Shape := ⟨1, ![1024]⟩
abbrev S_ : Shape := ⟨0, ![]⟩
abbrev S1024x1 : Shape := ⟨2, ![1024, 1]⟩
abbrev S8x1024 : Shape := ⟨2, ![8, 1024]⟩
abbrev S8x256x768 : Shape := ⟨3, ![8, 256, 768]⟩
abbrev S256x768 : Shape := ⟨2, ![256, 768]⟩
abbrev S1x1024 : Shape := ⟨2, ![1, 1024]⟩
abbrev S256x1024 : Shape := ⟨2, ![256, 1024]⟩
abbrev S1x256x768 : Shape := ⟨3, ![1, 256, 768]⟩
abbrev S16384x512 : Shape := ⟨2, ![16384, 512]⟩
abbrev S256x512 : Shape := ⟨2, ![256, 512]⟩
abbrev S16896x512 : Shape := ⟨2, ![16896, 512]⟩
abbrev S8x512x512 : Shape := ⟨3, ![8, 512, 512]⟩
abbrev S8x32x544 : Shape := ⟨3, ![8, 32, 544]⟩
abbrev S32x512 : Shape := ⟨2, ![32, 512]⟩
abbrev S1x512x512 : Shape := ⟨3, ![1, 512, 512]⟩
abbrev S512x512 : Shape := ⟨2, ![512, 512]⟩
abbrev S544x512 : Shape := ⟨2, ![544, 512]⟩
abbrev S32x128 : Shape := ⟨2, ![32, 128]⟩
abbrev S544x128 : Shape := ⟨2, ![544, 128]⟩
abbrev S32x544 : Shape := ⟨2, ![32, 544]⟩
abbrev S1x32x544 : Shape := ⟨3, ![1, 32, 544]⟩
abbrev S32 : Shape := ⟨1, ![32]⟩
abbrev S32x1 : Shape := ⟨2, ![32, 1]⟩

abbrev nBuf : Space → Nat
  | .hbm => 58
  | .vmem => 16
  | .smem => 0
  | _ => 0

abbrev bufTy : (tb : Table) → Fin (tcTables nBuf tb) → BufTy
  | .hbm, ⟨0, _⟩ => ⟨S8x32x8x64, .f32⟩
  | .hbm, ⟨1, _⟩ => ⟨S8x32x8x64, .f32⟩
  | .hbm, ⟨2, _⟩ => ⟨S8x32x8x64, .f32⟩
  | .hbm, ⟨3, _⟩ => ⟨S8x512x8x64, .f32⟩
  | .hbm, ⟨4, _⟩ => ⟨S8x512x8x64, .f32⟩
  | .hbm, ⟨5, _⟩ => ⟨S8x257, .f32⟩
  | .hbm, ⟨6, _⟩ => ⟨S1024, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S8x1024, .f32⟩
  | .hbm, ⟨30, _⟩ => ⟨S8x256x768, .f32⟩
  | .hbm, ⟨31, _⟩ => ⟨S8x256x768, .f32⟩
  | .hbm, ⟨32, _⟩ => ⟨S_, .f32⟩
  | .hbm, ⟨33, _⟩ => ⟨S16384x512, .f32⟩
  | .hbm, ⟨34, _⟩ => ⟨S256x512, .f32⟩
  | .hbm, ⟨35, _⟩ => ⟨S_, .f32⟩
  | .hbm, ⟨36, _⟩ => ⟨S256x512, .f32⟩
  | .hbm, ⟨37, _⟩ => ⟨S16896x512, .f32⟩
  | .hbm, ⟨38, _⟩ => ⟨S_, .f32⟩
  | .hbm, ⟨39, _⟩ => ⟨S16896x512, .f32⟩
  | .hbm, ⟨40, _⟩ => ⟨S16896x512, .f32⟩
  | .hbm, ⟨41, _⟩ => ⟨S16896x512, .bf16⟩
  | .hbm, ⟨42, _⟩ => ⟨S_, .f32⟩
  | .hbm, ⟨43, _⟩ => ⟨S16384x512, .f32⟩
  | .hbm, ⟨44, _⟩ => ⟨S256x512, .f32⟩
  | .hbm, ⟨45, _⟩ => ⟨S_, .f32⟩
  | .hbm, ⟨46, _⟩ => ⟨S256x512, .f32⟩
  | .hbm, ⟨47, _⟩ => ⟨S16896x512, .f32⟩
  | .hbm, ⟨48, _⟩ => ⟨S_, .f32⟩
  | .hbm, ⟨49, _⟩ => ⟨S16384x512, .f32⟩
  | .hbm, ⟨50, _⟩ => ⟨S256x512, .f32⟩
  | .hbm, ⟨51, _⟩ => ⟨S_, .f32⟩
  | .hbm, ⟨52, _⟩ => ⟨S256x512, .f32⟩
  | .hbm, ⟨53, _⟩ => ⟨S16896x512, .f32⟩
  | .hbm, ⟨54, _⟩ => ⟨S8x512x512, .f32⟩
  | .hbm, ⟨55, _⟩ => ⟨S8x512x512, .f32⟩
  | .hbm, ⟨56, _⟩ => ⟨S8x32x544, .f32⟩
  | .hbm, ⟨57, _⟩ => ⟨S256x512, .bf16⟩
  | .local _ .vmem, ⟨0, _⟩ => ⟨S8x1024, .f32⟩
  | .local _ .vmem, ⟨1, _⟩ => ⟨S8x256x768, .f32⟩
  | .local _ .vmem, ⟨2, _⟩ => ⟨S8x256x768, .f32⟩
  | .local _ .vmem, ⟨3, _⟩ => ⟨S32x512, .bf16⟩
  | .local _ .vmem, ⟨4, _⟩ => ⟨S32x512, .bf16⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S8x32x544, .f32⟩
  | .local _ .vmem, ⟨14, _⟩ => ⟨S32x512, .bf16⟩
  | .local _ .vmem, ⟨15, _⟩ => ⟨S32x512, .bf16⟩
  | _, _ => ⟨S8x32x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v3 : Ref sig .tc := ⟨.hbm, 17, rfl⟩
abbrev main_c_2 : Ref sig .tc := ⟨.hbm, 18, rfl⟩
abbrev main_v4 : Ref sig .tc := ⟨.hbm, 19, rfl⟩
abbrev main_v5 : Ref sig .tc := ⟨.hbm, 20, rfl⟩
abbrev main_c_3 : Ref sig .tc := ⟨.hbm, 21, rfl⟩
abbrev main_v6 : Ref sig .tc := ⟨.hbm, 22, rfl⟩
abbrev main_v7 : Ref sig .tc := ⟨.hbm, 23, rfl⟩
abbrev main_c_4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_cst_5 : Ref sig .tc := ⟨.hbm, 35, rfl⟩
abbrev main_v16 : Ref sig .tc := ⟨.hbm, 36, rfl⟩
abbrev main_v17 : Ref sig .tc := ⟨.hbm, 37, rfl⟩
abbrev main_cst_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_7 : Ref sig .tc := ⟨.hbm, 42, rfl⟩
abbrev main_v21 : Ref sig .tc := ⟨.hbm, 43, rfl⟩
abbrev main_v22 : Ref sig .tc := ⟨.hbm, 44, rfl⟩
abbrev main_cst_8 : Ref sig .tc := ⟨.hbm, 45, rfl⟩
abbrev main_v23 : Ref sig .tc := ⟨.hbm, 46, rfl⟩
abbrev main_v24 : Ref sig .tc := ⟨.hbm, 47, rfl⟩
abbrev main_cst_9 : Ref sig .tc := ⟨.hbm, 48, rfl⟩
abbrev main_v25 : Ref sig .tc := ⟨.hbm, 49, rfl⟩
abbrev main_v26 : Ref sig .tc := ⟨.hbm, 50, rfl⟩
abbrev main_cst_10 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8x32x544 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S32x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== Reference6Ideal.lean ====
abbrev S8x32x8x64 : Shape := ⟨4, ![8, 32, 8, 64]⟩
abbrev S8x512x8x64 : Shape := ⟨4, ![8, 512, 8, 64]⟩
abbrev S8x257 : Shape := ⟨2, ![8, 257]⟩
abbrev S8x544x8x64 : Shape := ⟨4, ![8, 544, 8, 64]⟩
abbrev S32 : Shape := ⟨1, ![32]⟩
abbrev S32x1 : Shape := ⟨2, ![32, 1]⟩
abbrev S_ : Shape := ⟨0, ![]⟩
abbrev S544 : Shape := ⟨1, ![544]⟩
abbrev S1x544 : Shape := ⟨2, ![1, 544]⟩
abbrev S32x544 : Shape := ⟨2, ![32, 544]⟩
abbrev S32x544x1 : Shape := ⟨3, ![32, 544, 1]⟩
abbrev S8x32x544 : Shape := ⟨3, ![8, 32, 544]⟩
abbrev S8x8x32x544 : Shape := ⟨4, ![8, 8, 32, 544]⟩
abbrev S1x8x32x544 : Shape := ⟨4, ![1, 8, 32, 544]⟩
abbrev S8x8x32 : Shape := ⟨3, ![8, 8, 32]⟩
abbrev S8x8x32x1 : Shape := ⟨4, ![8, 8, 32, 1]⟩
abbrev S8x8x64x32 : Shape := ⟨4, ![8, 8, 64, 32]⟩
abbrev S256x512 : Shape := ⟨2, ![256, 512]⟩

abbrev nBuf : Space → Nat
  | .hbm => 63
  | .vmem => 0
  | .smem => 0
  | _ => 0

abbrev bufTy : (tb : Table) → Fin (tcTables nBuf tb) → BufTy
  | .hbm, ⟨0, _⟩ => ⟨S8x32x8x64, .f32⟩
  | .hbm, ⟨1, _⟩ => ⟨S8x32x8x64, .f32⟩
  | .hbm, ⟨2, _⟩ => ⟨S8x32x8x64, .f32⟩
  | .hbm, ⟨3, _⟩ => ⟨S8x512x8x64, .f32⟩
  | .hbm, ⟨4, _⟩ => ⟨S8x512x8x64, .f32⟩
  | .hbm, ⟨5, _⟩ => ⟨S8x257, .f32⟩
  | .hbm, ⟨6, _⟩ => ⟨S8x544x8x64, .f32⟩
  | .hbm, ⟨7, _⟩ => ⟨S8x544x8x64, .f32⟩
  | .hbm, ⟨8, _⟩ => ⟨S32, .i32⟩
  | .hbm, ⟨9, _⟩ => ⟨S32x1, .i32⟩
  | .hbm, ⟨10, _⟩ => ⟨S_, .i32⟩
  | .hbm, ⟨11, _⟩ => ⟨S32x1, .i32⟩
  | .hbm, ⟨12, _⟩ => ⟨S32x1, .i32⟩
  | .hbm, ⟨13, _⟩ => ⟨S544, .i32⟩
  | .hbm, ⟨14, _⟩ => ⟨S1x544, .i32⟩
  | .hbm, ⟨15, _⟩ => ⟨S32x544, .i32⟩
  | .hbm, ⟨16, _⟩ => ⟨S32x544, .i32⟩
  | .hbm, ⟨17, _⟩ => ⟨S32x544, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S32x544, .i32⟩
  | .hbm, ⟨22, _⟩ => ⟨S32x544, .i32⟩
  | .hbm, ⟨23, _⟩ => ⟨S_, .i32⟩
  | .hbm, ⟨24, _⟩ => ⟨S32x544, .i32⟩
  | .hbm, ⟨25, _⟩ => ⟨S32x544, .i32⟩
  | .hbm, ⟨26, _⟩ => ⟨S_, .i32⟩
  | .hbm, ⟨27, _⟩ => ⟨S32x544, .i32⟩
  | .hbm, ⟨28, _⟩ => ⟨S32x544, .i32⟩
  | .hbm, ⟨29, _⟩ => ⟨S_, .i32⟩
  | .hbm, ⟨30, _⟩ => ⟨S32x544, .i32⟩
  | .hbm, ⟨31, _⟩ => ⟨S32x544, .i1⟩
  | .hbm, ⟨32, _⟩ => ⟨S_, .i32⟩
  | .hbm, ⟨33, _⟩ => ⟨S32x544, .i32⟩
  | .hbm, ⟨34, _⟩ => ⟨S32x544, .i32⟩
  | .hbm, ⟨35, _⟩ => ⟨S32x544, .i32⟩
  | .hbm, ⟨36, _⟩ => ⟨S32x544x1, .i32⟩
  | .hbm, ⟨37, _⟩ => ⟨S8x32x544, .f32⟩
  | .hbm, ⟨38, _⟩ => ⟨S8x8x32x544, .f32⟩
  | .hbm, ⟨39, _⟩ => ⟨S_, .f32⟩
  | .hbm, ⟨40, _⟩ => ⟨S8x8x32x544, .f32⟩
  | .hbm, ⟨41, _⟩ => ⟨S8x8x32x544, .f32⟩
  | .hbm, ⟨42, _⟩ => ⟨S1x8x32x544, .f32⟩
  | .hbm, ⟨43, _⟩ => ⟨S8x8x32x544, .f32⟩
  | .hbm, ⟨44, _⟩ => ⟨S8x8x32x544, .f32⟩
  | .hbm, ⟨45, _⟩ => ⟨S_, .f32⟩
  | .hbm, ⟨46, _⟩ => ⟨S8x8x32, .f32⟩
  | .hbm, ⟨47, _⟩ => ⟨S_, .f32⟩
  | .hbm, ⟨48, _⟩ => ⟨S8x8x32, .f32⟩
  | .hbm, ⟨49, _⟩ => ⟨S8x8x32, .f32⟩
  | .hbm, ⟨50, _⟩ => ⟨S8x8x32x1, .f32⟩
  | .hbm, ⟨51, _⟩ => ⟨S8x8x32x544, .f32⟩
  | .hbm, ⟨52, _⟩ => ⟨S8x8x32x544, .f32⟩
  | .hbm, ⟨53, _⟩ => ⟨S8x8x32x544, .f32⟩
  | .hbm, ⟨54, _⟩ => ⟨S_, .f32⟩
  | .hbm, ⟨55, _⟩ => ⟨S8x8x32, .f32⟩
  | .hbm, ⟨56, _⟩ => ⟨S8x8x32x1, .f32⟩
  | .hbm, ⟨57, _⟩ => ⟨S8x8x32x544, .f32⟩
  | .hbm, ⟨58, _⟩ => ⟨S8x8x32x544, .f32⟩
  | .hbm, ⟨59, _⟩ => ⟨S8x8x64x32, .f32⟩
  | .hbm, ⟨60, _⟩ => ⟨S8x32x8x64, .f32⟩
  | .hbm, ⟨61, _⟩ => ⟨S256x512, .f32⟩
  | .hbm, ⟨62, _⟩ => ⟨S256x512, .bf16⟩
  | _, _ => ⟨S8x32x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Proof.Attn.Run.lean ====
/- The kernel's run, with its result array named: the frame's launch, read at one buffer more. -/
module

public import proofs.«01_k».proof.Proof.Gen.KernelIdeal.Frame

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option backward.isDefEq.respectTransparency.types false in
/-- Every execution ends with the result array at the last boundary's contents, the arguments as launched and every
    counter at zero. -/
theorem run : θ_run defs (onTc (τ := τ) (main (F := F))) ⟨m, fun _ => 0, ρ⟩ (fun r => (∀ c : Dev nD,
      r.2.mem ((c.tc : Thread nD τ).loc main_v26) = W6 m ρ c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v26 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩), funext fun g => hz g (.inr (no_unscoped g.2))⟩)

end Cert.Attn

end
-- ==== Proof.Attn.Soft.lean ====
/- A softmax average over extended reals, and two ways of writing it: dividing the weighted sum once at the
   end, over a longer list of keys most of which are masked, or dividing every weight first. -/
module

public import Idealize.ShloMosaic.PureOps.Ideal

@[expose] public section

noncomputable section

open Idealize.ShloMosaic

namespace Cert.Attn

/-- The largest score. -/
def top {n : Nat} (s : Fin n → EReal) : EReal := Finset.univ.fold max ⊥ s

/-- The weighted sum divided once, by the sum of the weights. -/
def softLast {n : Nat} (s w : Fin n → EReal) : EReal :=
  Ideal.div (∑ j, Ideal.exp (s j - top s) * w j) (∑ j, Ideal.exp (s j - top s))

/-- Every weight divided by the sum of the weights, then the weighted sum. -/
def softFirst {n : Nat} (t u : Fin n → EReal) : EReal :=
  ∑ j, u j * Ideal.div (Ideal.exp (t j - top t)) (∑ j', Ideal.exp (t j' - top t))

theorem top_sup {n : Nat} (s : Fin n → EReal) : top s = Finset.univ.sup s := rfl

/-- A real factor that is not negative goes through a finite sum, whatever the terms. -/
theorem coe_mul_sum {ι : Type*} (S : Finset ι) (f : ι → EReal) (c : ℝ) (hc : 0 ≤ c) :
    (c : EReal) * ∑ i ∈ S, f i = ∑ i ∈ S, (c : EReal) * f i := by
  classical
  induction S using Finset.induction_on with
  | empty => simp
  | insert a S ha ih =>
    rw [Finset.sum_insert ha, Finset.sum_insert ha, ← ih,
      EReal.left_distrib_of_nonneg_of_ne_top (by exact_mod_cast hc) (EReal.coe_ne_top c)]

/-- A sum of reals is a real. -/
theorem coe_sum {ι : Type*} (S : Finset ι) (f : ι → ℝ) :
    ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- Masked keys weigh nothing: the longer list, whose keys outside the image of `e` are masked, averages to what
    the shorter one does, when every score of the shorter list is a real or masked and some score is real. -/
theorem softLast_image {m n : Nat} (e : Fin m → Fin n) (he : Function.Injective e)
    (s w : Fin n → EReal) (t u : Fin m → EReal)
    (hs : ∀ j, s (e j) = t j) (hw : ∀ j, w (e j) = u j)
    (hoff : ∀ i, (∀ j, e j ≠ i) → s i = ⊥)
    (ht : ∀ j, t j ≠ ⊤) (hr : ∃ j, t j ≠ ⊥) : softLast s w = softFirst t u := by
  have hM : top s = top t := by
    rw [top_sup, top_sup]
    apply le_antisymm
    · refine Finset.sup_le fun i _ => ?_
      by_cases h : ∃ j, e j = i
      · obtain ⟨j, rfl⟩ := h
        rw [hs]; exact Finset.le_sup (f := t) (Finset.mem_univ j)
      · rw [hoff i (fun j hj => h ⟨j, hj⟩)]; exact bot_le
    · refine Finset.sup_le fun j _ => ?_
      rw [← hs]; exact Finset.le_sup (f := s) (Finset.mem_univ (e j))
  obtain ⟨j0, hj0⟩ := hr
  have hmax : ∃ j, top t = t j := by
    rw [top_sup]
    obtain ⟨j, _, h⟩ := Finset.exists_mem_eq_sup (Finset.univ : Finset (Fin m)) ⟨j0, Finset.mem_univ _⟩ t
    exact ⟨j, h⟩
  obtain ⟨j1, hj1⟩ := hmax
  have hMtop : top t ≠ ⊤ := hj1 ▸ ht j1
  have hMbot : top t ≠ ⊥ := by
    intro h
    have : t j0 ≤ top t := by rw [top_sup]; exact Finset.le_sup (f := t) (Finset.mem_univ j0)
    rw [h] at this
    exact hj0 (le_bot_iff.mp this)
  obtain ⟨M, hMr⟩ : ∃ M : ℝ, top t = (M : EReal) := ⟨(top t).toReal, (EReal.coe_toReal hMtop hMbot).symm⟩
  have hbot : Ideal.exp ((⊥ : EReal) - (M : EReal)) = 0 := by rw [EReal.bot_sub]; rfl
  have hp : ∀ j, ∃ p : ℝ, 0 ≤ p ∧ Ideal.exp (t j - (M : EReal)) = (p : EReal) := by
    intro j
    by_cases hb : t j = ⊥
    · exact ⟨0, le_refl 0, by rw [hb, hbot]; rfl⟩
    · refine ⟨Real.exp ((t j).toReal - M), (Real.exp_pos _).le, ?_⟩
      rw [← EReal.coe_toReal (ht j) hb, ← EReal.coe_sub]; rfl
  choose p hp0 hpe using hp
  have hp1 : p j1 = 1 := by
    have h := hpe j1
    rw [← hj1, hMr, ← EReal.coe_sub, sub_self] at h
    have h2 : Ideal.exp ((0 : ℝ) : EReal) = ((Real.exp 0 : ℝ) : EReal) := rfl
    rw [h2, Real.exp_zero] at h
    exact_mod_cast h.symm
  have hL : 0 < ∑ j, p j := by
    have : p j1 ≤ ∑ j, p j := Finset.single_le_sum (fun j _ => hp0 j) (Finset.mem_univ j1)
    linarith
  have hsumT : ∑ j, Ideal.exp (t j - (M : EReal)) = ((∑ j, p j : ℝ) : EReal) := by
    rw [← coe_sum]; exact Finset.sum_congr rfl fun j _ => hpe j
  have hsumS : ∑ i, Ideal.exp (s i - (M : EReal)) = ((∑ j, p j : ℝ) : EReal) := by
    rw [← hsumT]
    refine (Fintype.sum_of_injective e he _ _ ?_ ?_).symm
    · intro i hi
      rw [hoff i (fun j hj => hi ⟨j, hj⟩), hbot]
    · intro j; rw [hs]
  have hnum : ∑ i, Ideal.exp (s i - (M : EReal)) * w i = ∑ j, (p j : EReal) * u j := by
    refine (Fintype.sum_of_injective e he _ _ ?_ ?_).symm
    · intro i hi
      rw [hoff i (fun j hj => hi ⟨j, hj⟩), hbot, zero_mul]
    · intro j; rw [hs, hw, hpe]
  unfold softLast softFirst
  rw [hM, hMr, hsumS, hsumT, hnum, Ideal.div_coe hL.ne', mul_comm,
    coe_mul_sum _ _ _ (by positivity)]
  refine Finset.sum_congr rfl fun j _ => ?_
  rw [hpe, Ideal.div_coe hL.ne']
  ac_rfl

/-- A masked key weighs nothing, so its value does not matter. -/
theorem softLast_congr {n : Nat} (s w w' : Fin n → EReal) (h : ∀ i, s i ≠ ⊥ → w i = w' i) :
    softLast s w = softLast s w' := by
  unfold softLast
  refine congrArg (fun z => Ideal.div z _) (Finset.sum_congr rfl fun i _ => ?_)
  by_cases hb : s i = ⊥
  · have hz : Ideal.exp (s i - top s) = 0 := by rw [hb, EReal.bot_sub]; rfl
    rw [hz, zero_mul, zero_mul]
  · rw [h i hb]

/-- The same, with the values of the two lists equal where the score is not masked. -/
theorem softLast_eq {m n : Nat} (e : Fin m → Fin n) (he : Function.Injective e)
    (s w : Fin n → EReal) (t u : Fin m → EReal)
    (hs : ∀ j, s (e j) = t j) (hw : ∀ j, t j ≠ ⊥ → w (e j) = u j)
    (hoff : ∀ i, (∀ j, e j ≠ i) → s i = ⊥)
    (ht : ∀ j, t j ≠ ⊤) (hr : ∃ j, t j ≠ ⊥) : softLast s w = softFirst t u := by
  refine (softLast_congr s w (Function.extend e u w) fun i hi => ?_).trans
    (softLast_image e he s _ t u hs (fun j => he.extend_apply u w j) hoff ht hr)
  by_cases h : ∃ j, e j = i
  · obtain ⟨j, rfl⟩ := h
    rw [he.extend_apply, hw j (by rw [← hs]; exact hi)]
  · exact absurd (hoff i fun j hj => h ⟨j, hj⟩) hi

end Cert.Attn

end
-- ==== Proof.Attn.Pair.lean ====
/- One pair of heads over one window of 128 query rows and 640 key rows, as the kernel writes it, and what it
   computes at an index. -/
module

public import proofs.«01_k».proof.Proof.Gen.KernelIdeal.Frame
public import proofs.«01_k».proof.Proof.Attn.Soft
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Gen

open Cert.KernelIdeal Cert.KernelIdeal.Facts₀

variable {F : FTy → Type} [FloatOps F] [Named F]

/-- The scores of head `e` of a pair: the other head's lanes of the queries are cleared first. -/
def scoreV (e : BitVec 1) (q2 : FVec F S128x128 .bf16) (k2 : FVec F S640x128 .bf16)
    (b : Vec F S1x128x640 .f32) (cb : FVec F S1x640 .f32) : FVec F S128x640 .f32 :=
  addf (addf (matmul dot_S128x128_S640x128_S128x640_1_1_0_0_n_n none
      (select (xori (xori k1_pay6 (broadcastTo S128x128 (broadcast S128x128 e) broadcasts_S128x128_S128x128))
        (constantI S128x128 1 1#1)) q2 (broadcast S128x128 (Scalar.ofBits .bf16 0x0000#16)))
      k2 (constant S128x640 .f32 0x00000000#32))
    (shapeCast S128x640 b shapeCasts_S1x128x640_S128x640))
    (broadcastTo S128x640 cb broadcasts_S1x640_S128x640)

/-- The exponentials of the scores less their row's largest. -/
def expV (s : FVec F S128x640 .f32) : FVec F S128x640 .f32 :=
  exp (subf s (broadcastTo S128x640 (shapeCast S128x1
    (multiReduction .maximumf [1] S128 s 0xFF800000#32 reduces_S128x640_S128 (.inl rfl) rfl)
    shapeCasts_S128_S128x1) broadcasts_S128x1_S128x640))

/-- The weighted sum of the values divided by the sum of the weights. -/
def avgV (p : FVec F S128x640 .f32) (v2 : FVec F S640x128 .bf16) : FVec F S128x128 .f32 :=
  divf (matmul dot_S128x640_S640x128_S128x128_1_0_0_1_n_n none (truncf .bf16 p bitsLt_bf16_f32) v2
      (constant S128x128 .f32 0x00000000#32))
    (broadcastTo S128x128 (shapeCast S128x1
      (multiReduction .add [1] S128 p 0x00000000#32 reduces_S128x640_S128 (.inl rfl) rfl)
      shapeCasts_S128_S128x1) broadcasts_S128x1_S128x128)

/-- Both heads of the pair, each in its half of the lanes. -/
def pairV (q2 : FVec F S128x128 .bf16) (k2 v2 : FVec F S640x128 .bf16)
    (b0 b1 : Vec F S1x128x640 .f32) (cb : FVec F S1x640 .f32) : FVec F S128x128 .bf16 :=
  truncf .bf16 (select k1_pay6 (avgV (expV (scoreV 1#1 q2 k2 b1 cb)) v2)
    (avgV (expV (scoreV 0#1 q2 k2 b0 cb)) v2)) bitsLt_bf16_f32

end Cert.KernelIdeal.Gen

namespace Cert.Attn

open Cert.KernelIdeal Cert.KernelIdeal.Gen Cert.KernelIdeal.Facts₀

/-- The exponentials at an index. -/
theorem expV_at (s : FVec Ideal S128x640 .f32) (r : Fin 128) (j : Fin 640) :
    expV s (ix2 r j) = Ideal.exp (s (ix2 r j) - top fun j' : Fin 640 => s (ix2 r j')) := by
  pointwise [expV]
  rw [show Ideal.ofBits FTy.f32 4286578688#32 = (⊥ : EReal) by simp [Ideal.ofBits, Ideal.ieee]]
  rfl

/-- The average at an index. -/
theorem avgV_at (p : FVec Ideal S128x640 .f32) (v2 : FVec Ideal S640x128 .bf16) (r l : Fin 128) :
    avgV p v2 (ix2 r l)
      = Ideal.div (∑ j : Fin 640, p (ix2 r j) * v2 (ix2 j l)) (∑ j : Fin 640, p (ix2 r j)) := by
  pointwise [avgV]

/-- Which lanes the kernel's two exclusive-ors keep. -/
theorem lane_word : ∀ (e : BitVec 1) (x : Fin 128),
    IntOp.xori (IntOp.xori (IntOp.cmpi CmpIPredicate.sge (BitVec.ofNat 32 x.val) 64#32) e) 1#1
      = if 64 ≤ x.val then e else IntOp.xori e 1#1 := by decide +kernel

/-- Lane `d` of half `e` of a pair's 128. -/
def lane (e : Fin 2) (d : Fin 64) : Fin 128 := ⟨64 * e.val + d.val, by omega⟩

/-- The scores at an index: the dot product over the head's own 64 lanes, the band's bias, the key's mask. -/
theorem scoreV_at (e : Fin 2) (q2 : FVec Ideal S128x128 .bf16) (k2 : FVec Ideal S640x128 .bf16)
    (b : Vec Ideal S1x128x640 .f32) (cb : FVec Ideal S1x640 .f32) (r : Fin 128) (j : Fin 640) :
    scoreV (BitVec.ofNat 1 e.val) q2 k2 b cb (ix2 r j)
      = (∑ d : Fin 64, q2 (ix2 r (lane e d)) * k2 (ix2 j (lane e d))) + b (ix3 0 r j) + cb (ix2 0 j) := by
  pointwise [scoreV, k1_pay6]
  simp only [lane_word]
  congr 2
  rw [Fin.sum_univ_two_halves 64 64 rfl]
  obtain rfl | rfl : e = 0 ∨ e = 1 := by omega
  · have h1 : ∀ k : Fin 64, (64 ≤ k.val) = False := fun k => eq_false (by omega)
    have h2 : ∀ k : Fin 64, (64 ≤ 64 + k.val) = True := fun k => eq_true (by omega)
    simp [Scalar.select, IntOp.xori, lane, h1, h2]
  · have h1 : ∀ k : Fin 64, (64 ≤ k.val) = False := fun k => eq_false (by omega)
    have h2 : ∀ k : Fin 64, (64 ≤ 64 + k.val) = True := fun k => eq_true (by omega)
    simp [Scalar.select, IntOp.xori, lane, h1, h2]

/-- The pair's block at an index: the average of the lane's own head. -/
theorem pairV_at (q2 : FVec Ideal S128x128 .bf16) (k2 v2 : FVec Ideal S640x128 .bf16)
    (b : Fin 2 → Vec Ideal S1x128x640 .f32) (cb : FVec Ideal S1x640 .f32) (r : Fin 128) (e : Fin 2) (d : Fin 64) :
    pairV q2 k2 v2 (b 0) (b 1) cb (ix2 r (lane e d))
      = softLast (fun j : Fin 640 => (∑ d' : Fin 64, q2 (ix2 r (lane e d')) * k2 (ix2 j (lane e d')))
          + b e (ix3 0 r j) + cb (ix2 0 j)) (fun j => v2 (ix2 j (lane e d))) := by
  have hl : ∀ (e : Fin 2) (d : Fin 64), IntOp.cmpi CmpIPredicate.sge (BitVec.ofNat 32 (lane e d).val) 64#32 = BitVec.ofNat 1 e.val := by
    decide +kernel
  generalize hx : lane e d = x
  have := hl e d
  rw [hx] at this
  pointwise [pairV, k1_pay6]
  rw [this]
  obtain rfl | rfl : e = 0 ∨ e = 1 := by omega
  · have h := scoreV_at 0 q2 k2 (b 0) cb r
    simp only [Scalar.select, avgV_at, expV_at]
    simp only [show (0#1 : BitVec 1) = BitVec.ofNat 1 (0 : Fin 2).val from rfl, h]
    rfl
  · have h := scoreV_at 1 q2 k2 (b 1) cb r
    simp only [Scalar.select, avgV_at, expV_at]
    simp only [show (1#1 : BitVec 1) = BitVec.ofNat 1 (1 : Fin 2).val from rfl, h]
    rfl

end Cert.Attn

end
-- ==== Proof.Attn.Bias.lean ====
/- The band of relative biases: what the first kernel region's stores leave, at an index. -/
module

public import proofs.«01_k».proof.Proof.Attn.Pair

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen Cert.KernelIdeal.Facts₀

/-- The query row's chunk. -/
theorem qchunk_at (r : Fin 256) (c : Fin 768) : k0_pay6 (ix2 r c) = BitVec.ofNat 32 (r.val / 64) := by
  pointwise [k0_pay6]
  clear c
  revert r
  decide +kernel

/-- The key column's chunk, as the region's floor division selects it. -/
theorem kchunk_at (r : Fin 256) (c : Fin 768) :
    Scalar.select (k0_pay8 (ix2 r c)) (IntOp.subi (k0_pay7 (ix2 r c)) 1#32) (k0_pay7 (ix2 r c))
      = BitVec.ofNat 32 (c.val / 64) := by
  pointwise [k0_pay7, k0_pay8]
  clear r
  revert c
  decide +kernel

/-- The band's word, of two chunk numbers. -/
theorem band_word : ∀ (a : Fin 4) (b : Fin 12),
    IntOp.cmpi .sle (IntOp.absi (IntOp.subi (IntOp.muli 2#32 (IntOp.subi (BitVec.ofNat 32 b.val) (BitVec.ofNat 32 a.val))) 8#32)) 8#32
      = if a.val ≤ b.val ∧ b.val ≤ a.val + 8 then 1#1 else 0#1 := by decide +kernel

/-- The band's mask at an index. -/
theorem band_at (r : Fin 256) (c : Fin 768) :
    k0_pay9 k0_pay6 k0_pay7 k0_pay8 (ix2 r c)
      = if r.val / 64 ≤ c.val / 64 ∧ c.val / 64 ≤ r.val / 64 + 8 then 1#1 else 0#1 := by
  have h := band_word ⟨r.val / 64, by omega⟩ ⟨c.val / 64, by omega⟩
  have h1 := qchunk_at r c
  have h2 := kchunk_at r c
  generalize k0_pay6 = A at *
  generalize k0_pay7 = B at *
  generalize k0_pay8 = C at *
  pointwise [k0_pay9]
  rw [h2, h1]; exact h

/-- The rotated line at an index. -/
theorem line_at (row : Vec Ideal S1x1024 .f32) (r : Fin 256) (c : Fin 768) :
    k0_pay3 row (ix2 r c) = row (ix2 0 ⟨(c.val + 255 - r.val), by omega⟩) := by
  pointwise [k0_pay3]
  congr 2
  apply Fin.ext
  show (c.val + 1024 - (769 + r.val) % 1024) % 1024 = c.val + 255 - r.val
  omega

/-- The rotated line, banded, at an index. -/
def banded (x0 : Vec Ideal S8x1024 .f32) (h : Fin 8) (r : Fin 256) (c : Fin 768) : EReal :=
  if r.val / 64 ≤ c.val / 64 ∧ c.val / 64 ≤ r.val / 64 + 8 then x0 (ix2 h ⟨c.val + 255 - r.val, by omega⟩) else ⊥

theorem pay5_at (row : Vec Ideal S1x1024 .f32) (r : Fin 256) (c : Fin 768) :
    k0_pay5 (k0_pay9 k0_pay6 k0_pay7 k0_pay8) row (ix3 0 r c)
      = if r.val / 64 ≤ c.val / 64 ∧ c.val / 64 ≤ r.val / 64 + 8
        then row (ix2 0 ⟨c.val + 255 - r.val, by omega⟩) else (⊥ : EReal) := by
  have h1 := band_at r c
  have h2 := line_at row r c
  generalize k0_pay9 k0_pay6 k0_pay7 k0_pay8 = A at *
  pointwise [k0_pay5]
  rw [h1, h2]
  have hk : (Named.named (F := Ideal) (φ := .f32) κ "mask" 4048155338#32 : EReal) = ⊥ := rfl
  rw [hk]
  by_cases hb : r.val / 64 ≤ c.val / 64 ∧ c.val / 64 ≤ r.val / 64 + 8
  · rw [if_pos hb, if_pos hb]; rfl
  · rw [if_neg hb, if_neg hb]; rfl

/-- One head's store, read where it lands. -/
theorem piece_at (x0 : Vec Ideal S8x1024 .f32) (L : Vec Ideal S1x1024 .f32) (k : Fin 8)
    (hL : ∀ j : Fin 1024, L (ix2 0 j) = x0 (ix2 k j)) (x : S1x256x768.Idx) (y : S8x256x768.Idx)
    (h0 : (y 0).val = k.val + (x 0).val) (h1 : (y 1).val = (x 1).val) (h2 : (y 2).val = (x 2).val) :
    k0_pay5 (k0_pay9 k0_pay6 k0_pay7 k0_pay8) L x = banded x0 (y 0) (y 1) (y 2) := by
  have hx : x = ix3 (0 : Fin 1) (x 1 : Fin 256) (x 2 : Fin 768) := by
    funext a; fin_cases a
    · exact Fin.ext (by have := (x 0).isLt; show (x 0).val = 0; have h : S1x256x768.size 0 = 1 := rfl; omega)
    · rfl
    · rfl
  have e0 : y 0 = k := Fin.ext (by have := (x 0).isLt; have h : S1x256x768.size 0 = 1 := rfl; omega)
  have e1 : y 1 = x 1 := Fin.ext h1
  have e2 : y 2 = x 2 := Fin.ext h2
  rw [e0, e1, e2, hx]
  refine (pay5_at L (x 1) (x 2)).trans ?_
  rw [hL]
  rfl

/-- The region's block, every head's store in its place. -/
theorem out0_at (x0 : Vec Ideal S8x1024 .f32) (y : S8x256x768.Idx) :
    out0_2 x0 y = banded x0 (y 0) (y 1) (y 2) := by
  unfold out0_2
  canon_tiles x h
  case piece0 => exact piece_at x0 _ 7 (fun j => by pointwise) x y h0 h1 h2
  case piece1 => exact piece_at x0 _ 6 (fun j => by pointwise) x y h0 h1 h2
  case piece2 => exact piece_at x0 _ 5 (fun j => by pointwise) x y h0 h1 h2
  case piece3 => exact piece_at x0 _ 4 (fun j => by pointwise) x y h0 h1 h2
  case piece4 => exact piece_at x0 _ 3 (fun j => by pointwise) x y h0 h1 h2
  case piece5 => exact piece_at x0 _ 2 (fun j => by pointwise) x y h0 h1 h2
  case piece6 => exact piece_at x0 _ 1 (fun j => by pointwise) x y h0 h1 h2
  case piece7 => exact piece_at x0 _ 0 (fun j => by pointwise) x y (by simpa using h0) h1 h2

end Cert.Attn

end
-- ==== Proof.Attn.Pays.lean ====
/- The payload of each of the attention region's eight stores is one pair of heads over one window. -/
module

public import proofs.«01_k».proof.Proof.Attn.Pair

@[expose] public section

set_option maxRecDepth 16384

noncomputable section

open Idealize.ShloMosaic Idealize.ShloMosaic.TcCoe Idealize.SL.Sem

namespace Cert.KernelIdeal.Gen

open Cert.KernelIdeal Cert.KernelIdeal.Facts₀

variable {F : FTy → Type} [FloatOps F] [Named F]

theorem pay_7 (q : FVec F S256x512 .bf16) (K V : FVec F S768x512 .bf16) (cb : FVec F S1x768 .f32)
    (b0 b1 : Vec F S1x128x640 .f32) :
    k1_pay1 k1_pay31 (k1_pay54 V) (k1_pay55 V cb k1_pay31 (extractStridedSlice S128x128 ![128, 384] q Facts₀.slices_S256x512_o128_384_S128x128) (extractStridedSlice S640x128 ![128, 384] K Facts₀.slices_S768x512_o128_384_S640x128) k1_pay53 b0) (k1_pay56 cb k1_pay31 (extractStridedSlice S128x128 ![128, 384] q Facts₀.slices_S256x512_o128_384_S128x128) (extractStridedSlice S640x128 ![128, 384] K Facts₀.slices_S768x512_o128_384_S640x128) b1)
      = pairV (extractStridedSlice S128x128 ![128, 384] q Facts₀.slices_S256x512_o128_384_S128x128)
          (extractStridedSlice S640x128 ![128, 384] K Facts₀.slices_S768x512_o128_384_S640x128)
          (extractStridedSlice S640x128 ![128, 384] V Facts₀.slices_S768x512_o128_384_S640x128) b0 b1
          (extractStridedSlice S1x640 ![0, 128] cb Facts₀.slices_S1x768_o0_128_S1x640) := by
  rfl

theorem pay_6 (q : FVec F S256x512 .bf16) (K V : FVec F S768x512 .bf16) (cb : FVec F S1x768 .f32)
    (b0 b1 : Vec F S1x128x640 .f32) :
    k1_pay50 V cb k1_pay31 (k1_pay46 q) (k1_pay47 K) (k1_pay48 K q k1_pay31 b0) (k1_pay49 cb) b1
      = pairV (extractStridedSlice S128x128 ![128, 256] q Facts₀.slices_S256x512_o128_256_S128x128)
          (extractStridedSlice S640x128 ![128, 256] K Facts₀.slices_S768x512_o128_256_S640x128)
          (extractStridedSlice S640x128 ![128, 256] V Facts₀.slices_S768x512_o128_256_S640x128) b0 b1
          (extractStridedSlice S1x640 ![0, 128] cb Facts₀.slices_S1x768_o0_128_S1x640) := by
  rfl

theorem pay_5 (q : FVec F S256x512 .bf16) (K V : FVec F S768x512 .bf16) (cb : FVec F S1x768 .f32)
    (b0 b1 : Vec F S1x128x640 .f32) :
    k1_pay45 V cb k1_pay31 (k1_pay42 K cb q k1_pay31 b0) (k1_pay43 K q k1_pay31) (k1_pay44 b1)
      = pairV (extractStridedSlice S128x128 ![128, 128] q Facts₀.slices_S256x512_o128_128_S128x128)
          (extractStridedSlice S640x128 ![128, 128] K Facts₀.slices_S768x512_o128_128_S640x128)
          (extractStridedSlice S640x128 ![128, 128] V Facts₀.slices_S768x512_o128_128_S640x128) b0 b1
          (extractStridedSlice S1x640 ![0, 128] cb Facts₀.slices_S1x768_o0_128_S1x640) := by
  rfl

theorem pay_4 (q : FVec F S256x512 .bf16) (K V : FVec F S768x512 .bf16) (cb : FVec F S1x768 .f32)
    (b0 b1 : Vec F S1x128x640 .f32) :
    k1_pay39 k1_pay31 (k1_pay34 K cb q b1) (k1_pay35 V) (k1_pay37 K cb q b0) (k1_pay38 K V cb q b0)
      = pairV (extractStridedSlice S128x128 ![128, 0] q Facts₀.slices_S256x512_o128_0_S128x128)
          (extractStridedSlice S640x128 ![128, 0] K Facts₀.slices_S768x512_o128_0_S640x128)
          (extractStridedSlice S640x128 ![128, 0] V Facts₀.slices_S768x512_o128_0_S640x128) b0 b1
          (extractStridedSlice S1x640 ![0, 128] cb Facts₀.slices_S1x768_o0_128_S1x640) := by
  rfl

theorem pay_3 (q : FVec F S256x512 .bf16) (K V : FVec F S768x512 .bf16) (cb : FVec F S1x768 .f32)
    (b0 b1 : Vec F S1x128x640 .f32) :
    k1_pay30 V cb k1_pay6 (k1_pay27 q) (k1_pay28 K) (k1_pay29 K q k1_pay6) b0 b1
      = pairV (extractStridedSlice S128x128 ![0, 384] q Facts₀.slices_S256x512_o0_384_S128x128)
          (extractStridedSlice S640x128 ![0, 384] K Facts₀.slices_S768x512_o0_384_S640x128)
          (extractStridedSlice S640x128 ![0, 384] V Facts₀.slices_S768x512_o0_384_S640x128) b0 b1
          (extractStridedSlice S1x640 ![0, 0] cb Facts₀.slices_S1x768_o0_0_S1x640) := by
  rfl

theorem pay_2 (q : FVec F S256x512 .bf16) (K V : FVec F S768x512 .bf16) (cb : FVec F S1x768 .f32)
    (b0 b1 : Vec F S1x128x640 .f32) :
    k1_pay26 V cb k1_pay6 (k1_pay24 K cb q k1_pay6 b0) (k1_pay25 K q k1_pay6) b1
      = pairV (extractStridedSlice S128x128 ![0, 256] q Facts₀.slices_S256x512_o0_256_S128x128)
          (extractStridedSlice S640x128 ![0, 256] K Facts₀.slices_S768x512_o0_256_S640x128)
          (extractStridedSlice S640x128 ![0, 256] V Facts₀.slices_S768x512_o0_256_S640x128) b0 b1
          (extractStridedSlice S1x640 ![0, 0] cb Facts₀.slices_S1x768_o0_0_S1x640) := by
  rfl

theorem pay_1 (q : FVec F S256x512 .bf16) (K V : FVec F S768x512 .bf16) (cb : FVec F S1x768 .f32)
    (b0 b1 : Vec F S1x128x640 .f32) :
    k1_pay21 k1_pay6 (k1_pay18 K cb q k1_pay6 b1) (k1_pay19 V) (k1_pay20 K cb q k1_pay6 b0)
      = pairV (extractStridedSlice S128x128 ![0, 128] q Facts₀.slices_S256x512_o0_128_S128x128)
          (extractStridedSlice S640x128 ![0, 128] K Facts₀.slices_S768x512_o0_128_S640x128)
          (extractStridedSlice S640x128 ![0, 128] V Facts₀.slices_S768x512_o0_128_S640x128) b0 b1
          (extractStridedSlice S1x640 ![0, 0] cb Facts₀.slices_S1x768_o0_0_S1x640) := by
  rfl

theorem pay_0 (q : FVec F S256x512 .bf16) (K V : FVec F S768x512 .bf16) (cb : FVec F S1x768 .f32)
    (b0 b1 : Vec F S1x128x640 .f32) :
    k1_pay15 k1_pay6 (k1_pay10 V) (k1_pay11 V cb (extractStridedSlice S128x128 ![0, 0] q Facts₀.slices_S256x512_o0_0_S128x128) (extractStridedSlice S640x128 ![0, 0] K Facts₀.slices_S768x512_o0_0_S640x128) k1_pay9 (constantI S128x128 1 1#1) b0) (k1_pay13 cb k1_pay6 (extractStridedSlice S128x128 ![0, 0] q Facts₀.slices_S256x512_o0_0_S128x128) (extractStridedSlice S640x128 ![0, 0] K Facts₀.slices_S768x512_o0_0_S640x128) b1) (k1_pay14 cb k1_pay6 (extractStridedSlice S128x128 ![0, 0] q Facts₀.slices_S256x512_o0_0_S128x128) (extractStridedSlice S640x128 ![0, 0] K Facts₀.slices_S768x512_o0_0_S640x128) b1)
      = pairV (extractStridedSlice S128x128 ![0, 0] q Facts₀.slices_S256x512_o0_0_S128x128)
          (extractStridedSlice S640x128 ![0, 0] K Facts₀.slices_S768x512_o0_0_S640x128)
          (extractStridedSlice S640x128 ![0, 0] V Facts₀.slices_S768x512_o0_0_S640x128) b0 b1
          (extractStridedSlice S1x640 ![0, 0] cb Facts₀.slices_S1x768_o0_0_S1x640) := by
  rfl

end Cert.KernelIdeal.Gen

end
-- ==== Proof.Attn.Block.lean ====
/- The attention region's block at an index: each of its eight stores is one pair of heads over one window. -/
module

public import proofs.«01_k».proof.Proof.Attn.Pays

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen Cert.KernelIdeal.Facts₀

/-- Column `j` of the window that query row `R` of the block lies in, among the block's 768 key rows. -/
def col (R : Fin 256) (j : Fin 640) : Fin 768 := ⟨128 * (R.val / 128) + j.val, by omega⟩

/-- Lane `d` of the head that lane `L` belongs to. -/
def hlane (L : Fin 512) (d : Fin 64) : Fin 512 := ⟨64 * (L.val / 64) + d.val, by omega⟩

/-- The head of a lane. -/
def head (L : Fin 512) : Fin 8 := ⟨L.val / 64, by omega⟩

/-- The block's value at query row `R` and lane `L`, of its queries, stacked keys and values, key mask and band. -/
def attBlk (q : FVec Ideal S256x512 .bf16) (K V : FVec Ideal S768x512 .bf16) (cb : FVec Ideal S1x768 .f32)
    (B : Vec Ideal S8x256x768 .f32) (R : Fin 256) (L : Fin 512) : EReal :=
  softLast (fun j : Fin 640 => (∑ d : Fin 64, q (ix2 R (hlane L d)) * K (ix2 (col R j) (hlane L d)))
      + B (ix3 (head L) R (col R j)) + cb (ix2 0 (col R j))) (fun j => V (ix2 (col R j) L))

/-- One store, read where it lands. -/
theorem store_at (q : FVec Ideal S256x512 .bf16) (K V : FVec Ideal S768x512 .bf16) (cb : FVec Ideal S1x768 .f32)
    (B : Vec Ideal S8x256x768 .f32) (w : Fin 2) (p : Fin 4)
    (q2 : FVec Ideal S128x128 .bf16) (k2 v2 : FVec Ideal S640x128 .bf16) (b0 b1 : Vec Ideal S1x128x640 .f32)
    (c2 : FVec Ideal S1x640 .f32)
    (hq : ∀ (r l : Fin 128), q2 (ix2 r l) = q (ix2 ⟨128 * w.val + r.val, by omega⟩ ⟨128 * p.val + l.val, by omega⟩))
    (hk : ∀ (j : Fin 640) (l : Fin 128), k2 (ix2 j l) = K (ix2 ⟨128 * w.val + j.val, by omega⟩ ⟨128 * p.val + l.val, by omega⟩))
    (hv : ∀ (j : Fin 640) (l : Fin 128), v2 (ix2 j l) = V (ix2 ⟨128 * w.val + j.val, by omega⟩ ⟨128 * p.val + l.val, by omega⟩))
    (h0 : ∀ (r : Fin 128) (j : Fin 640), b0 (ix3 0 r j)
      = B (ix3 ⟨2 * p.val, by omega⟩ ⟨128 * w.val + r.val, by omega⟩ ⟨128 * w.val + j.val, by omega⟩))
    (h1 : ∀ (r : Fin 128) (j : Fin 640), b1 (ix3 0 r j)
      = B (ix3 ⟨2 * p.val + 1, by omega⟩ ⟨128 * w.val + r.val, by omega⟩ ⟨128 * w.val + j.val, by omega⟩))
    (hc : ∀ j : Fin 640, c2 (ix2 0 j) = cb (ix2 0 ⟨128 * w.val + j.val, by omega⟩))
    (x : S128x128.Idx) (y : S256x512.Idx) (e0 : (y 0).val = 128 * w.val + (x 0).val)
    (e1 : (y 1).val = 128 * p.val + (x 1).val) :
    pairV q2 k2 v2 b0 b1 c2 x = attBlk q K V cb B (y 0) (y 1) := by
  have hb : ∀ (e : Fin 2) (r : Fin 128) (j : Fin 640), (![b0, b1] e : Vec Ideal S1x128x640 .f32) (ix3 0 r j)
      = B (ix3 ⟨2 * p.val + e.val, by omega⟩ ⟨128 * w.val + r.val, by omega⟩ ⟨128 * w.val + j.val, by omega⟩) := by
    intro e r j
    obtain rfl | rfl : e = 0 ∨ e = 1 := by omega
    · exact h0 r j
    · exact h1 r j
  obtain ⟨r, hr⟩ : ∃ r : Fin 128, x 0 = r := ⟨_, rfl⟩
  obtain ⟨l, hl⟩ : ∃ l : Fin 128, x 1 = l := ⟨_, rfl⟩
  obtain ⟨R, hR⟩ : ∃ R : Fin 256, y 0 = R := ⟨_, rfl⟩
  obtain ⟨L, hL⟩ : ∃ L : Fin 512, y 1 = L := ⟨_, rfl⟩
  have hx : x = ix2 r l := by
    funext a; fin_cases a
    · exact hr
    · exact hl
  rw [hR, hr] at e0
  rw [hL, hl] at e1
  rw [hR, hL, hx]
  have hl' : l.val < 128 := l.isLt
  have hr' : r.val < 128 := r.isLt
  have hRl : R.val < 256 := R.isLt
  have hLl : L.val < 512 := L.isLt
  have hlane' : l = lane ⟨l.val / 64, by omega⟩ ⟨l.val % 64, by omega⟩ := Fin.ext (by simp only [lane]; omega)
  obtain ⟨e, he⟩ : ∃ e : Fin 2, e = ⟨l.val / 64, by omega⟩ := ⟨_, rfl⟩
  obtain ⟨d, hd⟩ : ∃ d : Fin 64, d = ⟨l.val % 64, by omega⟩ := ⟨_, rfl⟩
  rw [← he, ← hd] at hlane'
  have hev : e.val = l.val / 64 := by rw [he]
  have hcol : ∀ j : Fin 640, (⟨128 * w.val + j.val, by omega⟩ : Fin 768) = col R j := fun j =>
    Fin.ext (by simp only [col]; omega)
  have hrow : (⟨128 * w.val + r.val, by omega⟩ : Fin 256) = R := Fin.ext (by simp only; omega)
  have hln : ∀ d' : Fin 64, (⟨128 * p.val + (lane e d').val, by omega⟩ : Fin 512) = hlane L d' := fun d' =>
    Fin.ext (by simp only [hlane, lane]; omega)
  have hL' : (⟨128 * p.val + l.val, by omega⟩ : Fin 512) = L := Fin.ext (by simp only; omega)
  have hh : (⟨2 * p.val + e.val, by omega⟩ : Fin 8) = head L := Fin.ext (by simp only [head]; omega)
  have main := pairV_at q2 k2 v2 ![b0, b1] c2 r e d
  rw [← hlane'] at main
  refine main.trans ?_
  unfold attBlk
  congr 1
  · funext j
    rw [hb, hc, hcol, hrow, hh]
    congr 2
    refine Finset.sum_congr rfl fun d' _ => ?_
    rw [hq, hk, hcol, hrow, hln]
  · funext j
    rw [hv, hcol, hL']

theorem out1_at (i : grid1.Coords) (x0 : Vec Ideal S256x512 .bf16) (x1 x2 x3 x4 x5 x6 : Vec Ideal S256x512 .f32)
    (x7 : Vec Ideal S8x256x768 .f32) (y : S256x512.Idx) :
    out1_8 i x0 x1 x2 x3 x4 x5 x6 x7 y
      = attBlk (k1_pay60 i x0 x1 x2 x3 x4 x5 x6 x7) (k1_pay57 i x0 x1 x2 x3 x4 x5 x6 x7)
          (k1_pay58 i x0 x1 x2 x3 x4 x5 x6 x7) (k1_pay59 i x0 x1 x2 x3 x4 x5 x6 x7) x7 (y 0) (y 1) := by
  unfold out1_8
  canon_tiles x h
  case piece0 =>
    refine (congrFun (pay_7 (k1_pay60 i x0 x1 x2 x3 x4 x5 x6 x7) (k1_pay57 i x0 x1 x2 x3 x4 x5 x6 x7) (k1_pay58 i x0 x1 x2 x3 x4 x5 x6 x7) (k1_pay59 i x0 x1 x2 x3 x4 x5 x6 x7)
      (View.ld x7 r1_22) (View.ld x7 r1_23)) x).trans ?_
    generalize k1_pay60 i x0 x1 x2 x3 x4 x5 x6 x7 = q, k1_pay57 i x0 x1 x2 x3 x4 x5 x6 x7 = K, k1_pay58 i x0 x1 x2 x3 x4 x5 x6 x7 = V, k1_pay59 i x0 x1 x2 x3 x4 x5 x6 x7 = cb
    exact store_at q K V cb x7 1 3 _ _ _ _ _ _
      (fun r l => by pointwise) (fun r l => by pointwise) (fun r l => by pointwise) (fun r l => by pointwise)
      (fun r l => by pointwise) (fun r => by pointwise) x y h0 h1
  case piece1 =>
    refine (congrFun (pay_6 (k1_pay60 i x0 x1 x2 x3 x4 x5 x6 x7) (k1_pay57 i x0 x1 x2 x3 x4 x5 x6 x7) (k1_pay58 i x0 x1 x2 x3 x4 x5 x6 x7) (k1_pay59 i x0 x1 x2 x3 x4 x5 x6 x7)
      (View.ld x7 r1_19) (View.ld x7 r1_20)) x).trans ?_
    generalize k1_pay60 i x0 x1 x2 x3 x4 x5 x6 x7 = q, k1_pay57 i x0 x1 x2 x3 x4 x5 x6 x7 = K, k1_pay58 i x0 x1 x2 x3 x4 x5 x6 x7 = V, k1_pay59 i x0 x1 x2 x3 x4 x5 x6 x7 = cb
    exact store_at q K V cb x7 1 2 _ _ _ _ _ _
      (fun r l => by pointwise) (fun r l => by pointwise) (fun r l => by pointwise) (fun r l => by pointwise)
      (fun r l => by pointwise) (fun r => by pointwise) x y h0 h1
  case piece2 =>
    refine (congrFun (pay_5 (k1_pay60 i x0 x1 x2 x3 x4 x5 x6 x7) (k1_pay57 i x0 x1 x2 x3 x4 x5 x6 x7) (k1_pay58 i x0 x1 x2 x3 x4 x5 x6 x7) (k1_pay59 i x0 x1 x2 x3 x4 x5 x6 x7)
      (View.ld x7 r1_16) (View.ld x7 r1_17)) x).trans ?_
    generalize k1_pay60 i x0 x1 x2 x3 x4 x5 x6 x7 = q, k1_pay57 i x0 x1 x2 x3 x4 x5 x6 x7 = K, k1_pay58 i x0 x1 x2 x3 x4 x5 x6 x7 = V, k1_pay59 i x0 x1 x2 x3 x4 x5 x6 x7 = cb
    exact store_at q K V cb x7 1 1 _ _ _ _ _ _
      (fun r l => by pointwise) (fun r l => by pointwise) (fun r l => by pointwise) (fun r l => by pointwise)
      (fun r l => by pointwise) (fun r => by pointwise) x y h0 h1
  case piece3 =>
    refine (congrFun (pay_4 (k1_pay60 i x0 x1 x2 x3 x4 x5 x6 x7) (k1_pay57 i x0 x1 x2 x3 x4 x5 x6 x7) (k1_pay58 i x0 x1 x2 x3 x4 x5 x6 x7) (k1_pay59 i x0 x1 x2 x3 x4 x5 x6 x7)
      (View.ld x7 r1_13) (View.ld x7 r1_14)) x).trans ?_
    generalize k1_pay60 i x0 x1 x2 x3 x4 x5 x6 x7 = q, k1_pay57 i x0 x1 x2 x3 x4 x5 x6 x7 = K, k1_pay58 i x0 x1 x2 x3 x4 x5 x6 x7 = V, k1_pay59 i x0 x1 x2 x3 x4 x5 x6 x7 = cb
    exact store_at q K V cb x7 1 0 _ _ _ _ _ _
      (fun r l => by pointwise) (fun r l => by pointwise) (fun r l => by pointwise) (fun r l => by pointwise)
      (fun r l => by pointwise) (fun r => by pointwise) x y h0 (by simpa using h1)
  case piece4 =>
    refine (congrFun (pay_3 (k1_pay60 i x0 x1 x2 x3 x4 x5 x6 x7) (k1_pay57 i x0 x1 x2 x3 x4 x5 x6 x7) (k1_pay58 i x0 x1 x2 x3 x4 x5 x6 x7) (k1_pay59 i x0 x1 x2 x3 x4 x5 x6 x7)
      (View.ld x7 r1_10) (View.ld x7 r1_11)) x).trans ?_
    generalize k1_pay60 i x0 x1 x2 x3 x4 x5 x6 x7 = q, k1_pay57 i x0 x1 x2 x3 x4 x5 x6 x7 = K, k1_pay58 i x0 x1 x2 x3 x4 x5 x6 x7 = V, k1_pay59 i x0 x1 x2 x3 x4 x5 x6 x7 = cb
    exact store_at q K V cb x7 0 3 _ _ _ _ _ _
      (fun r l => by pointwise) (fun r l => by pointwise) (fun r l => by pointwise) (fun r l => by pointwise)
      (fun r l => by pointwise) (fun r => by pointwise) x y (by simpa using h0) h1
  case piece5 =>
    refine (congrFun (pay_2 (k1_pay60 i x0 x1 x2 x3 x4 x5 x6 x7) (k1_pay57 i x0 x1 x2 x3 x4 x5 x6 x7) (k1_pay58 i x0 x1 x2 x3 x4 x5 x6 x7) (k1_pay59 i x0 x1 x2 x3 x4 x5 x6 x7)
      (View.ld x7 r1_7) (View.ld x7 r1_8)) x).trans ?_
    generalize k1_pay60 i x0 x1 x2 x3 x4 x5 x6 x7 = q, k1_pay57 i x0 x1 x2 x3 x4 x5 x6 x7 = K, k1_pay58 i x0 x1 x2 x3 x4 x5 x6 x7 = V, k1_pay59 i x0 x1 x2 x3 x4 x5 x6 x7 = cb
    exact store_at q K V cb x7 0 2 _ _ _ _ _ _
      (fun r l => by pointwise) (fun r l => by pointwise) (fun r l => by pointwise) (fun r l => by pointwise)
      (fun r l => by pointwise) (fun r => by pointwise) x y (by simpa using h0) h1
  case piece6 =>
    refine (congrFun (pay_1 (k1_pay60 i x0 x1 x2 x3 x4 x5 x6 x7) (k1_pay57 i x0 x1 x2 x3 x4 x5 x6 x7) (k1_pay58 i x0 x1 x2 x3 x4 x5 x6 x7) (k1_pay59 i x0 x1 x2 x3 x4 x5 x6 x7)
      (View.ld x7 r1_4) (View.ld x7 r1_5)) x).trans ?_
    generalize k1_pay60 i x0 x1 x2 x3 x4 x5 x6 x7 = q, k1_pay57 i x0 x1 x2 x3 x4 x5 x6 x7 = K, k1_pay58 i x0 x1 x2 x3 x4 x5 x6 x7 = V, k1_pay59 i x0 x1 x2 x3 x4 x5 x6 x7 = cb
    exact store_at q K V cb x7 0 1 _ _ _ _ _ _
      (fun r l => by pointwise) (fun r l => by pointwise) (fun r l => by pointwise) (fun r l => by pointwise)
      (fun r l => by pointwise) (fun r => by pointwise) x y (by simpa using h0) h1
  case piece7 =>
    refine (congrFun (pay_0 (k1_pay60 i x0 x1 x2 x3 x4 x5 x6 x7) (k1_pay57 i x0 x1 x2 x3 x4 x5 x6 x7) (k1_pay58 i x0 x1 x2 x3 x4 x5 x6 x7) (k1_pay59 i x0 x1 x2 x3 x4 x5 x6 x7)
      (View.ld x7 r1_1) (View.ld x7 r1_2)) x).trans ?_
    generalize k1_pay60 i x0 x1 x2 x3 x4 x5 x6 x7 = q, k1_pay57 i x0 x1 x2 x3 x4 x5 x6 x7 = K, k1_pay58 i x0 x1 x2 x3 x4 x5 x6 x7 = V, k1_pay59 i x0 x1 x2 x3 x4 x5 x6 x7 = cb
    exact store_at q K V cb x7 0 0 _ _ _ _ _ _
      (fun r l => by pointwise) (fun r l => by pointwise) (fun r l => by pointwise) (fun r l => by pointwise)
      (fun r l => by pointwise) (fun r => by pointwise) x y (by simpa using h0) (by simpa using h1)

end Cert.Attn

end
-- ==== Proof.Attn.Arrays.lean ====
/- The two kernel regions' result arrays, element by element, of the arrays the regions find. -/
module

public import proofs.«01_k».proof.Proof.Attn.Bias
public import proofs.«01_k».proof.Proof.Attn.Block
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Attn

open Cert.KernelIdeal Cert.KernelIdeal.Gen Cert.KernelIdeal.Facts₀

/-- The bias region has one grid point, whose blocks start at the origin. -/
theorem idx0 : ∀ t : Fin cfg0.N, win0_0.index t = ![0, 0] ∧ win0_2.index t = ![0, 0, 0] :=
  (by decide +kernel : ∀ t : Fin grid0.N, _)

/-- The attention region's block indices: the query block, the three clamped key blocks, the whole band. -/
theorem idx1 : ∀ t : Fin cfg1.N, win1_0.index t = ![t.val, 0]
    ∧ win1_1.index t = ![t.val / 32 * 32 + (t.val % 32 - 2), 0]
    ∧ win1_2.index t = ![t.val / 32 * 32 + (t.val % 32 + 1 - 2), 0]
    ∧ win1_3.index t = ![t.val, 0]
    ∧ win1_4.index t = ![t.val / 32 * 32 + (t.val % 32 - 2), 0]
    ∧ win1_5.index t = ![t.val / 32 * 32 + (t.val % 32 + 1 - 2), 0]
    ∧ win1_6.index t = ![t.val, 0]
    ∧ win1_7.index t = ![0, 0, 0]
    ∧ win1_8.index t = ![t.val, 0] :=
  (by decide +kernel : ∀ t : Fin grid1.N, _)

/-- The grid point's second coordinate. -/
theorem coord1 : ∀ t : Fin cfg1.N, (grid1.coords t 1).val = t.val % 32 :=
  (by decide +kernel : ∀ t : Fin grid1.N, _)

variable (V : (c : Dev nD) → (b : Ref sig .tc) → Buf (Elt Ideal) ((c : Thread nD τ).loc b))

/-- The band array after the first region. -/
theorem band_arr (c : Dev nD) (line : Vec Ideal S8x1024 .f32) (hl : V c (Pipeline.arrRef spec0 0) = line) :
    (dat0 V c).arrAt 2 cfg0.N = (fun y => banded line (y 0) (y 1) (y 2) : FVec Ideal S8x256x768 .f32) := by
  refine (dat0 V c).arrAt_eq_of_covers 2 _ (by decide +kernel) fun t _ y => ?_
  blk_simp
  rw [after0_2]
  have e : iblk0 V c 0 t = line := by
    rw [← hl]
    blk_ext! [iblk0, idx0 t]
  rw [e]
  refine (out0_at line y).trans ?_
  refine congrArg (fun z : S8x256x768.Idx => banded line (z 0) (z 1) (z 2)) (?_ : (y : S8x256x768.Idx) = (win0_2.blk t).view.emb y)
  blk_ext [idx0 t]

/-- The row of the key array that the stacked key row `c` of tile `T` is: two blocks back, clamped at the stream's start. -/
def keyRow (T : Fin 64) (c : Fin 768) : Fin 16896 :=
  ⟨(T.val / 32 * 32 + (T.val % 32 + c.val / 256 - 2)) * 256 + c.val % 256, by omega⟩

/-- The tile's queries, stacked keys or values, and key mask, of the arrays. -/
def qBlk (q : FVec Ideal S16896x512 .bf16) (T : Fin 64) : FVec Ideal S256x512 .bf16 :=
  fun i => q (ix2 ⟨T.val * 256 + (i 0 : Fin 256).val, by have h : (i 0).val < 256 := (i 0).isLt; show T.val * 256 + (i 0).val < 16896; omega⟩ (i 1))
def kBlk (K : FVec Ideal S16896x512 .f32) (T : Fin 64) : FVec Ideal S768x512 .bf16 :=
  fun i => K (ix2 (keyRow T (i 0)) (i 1))
def mBlk (T : Fin 64) : FVec Ideal S1x768 .f32 :=
  fun i => if 512 ≤ T.val % 32 * 256 + (i 1 : Fin 768).val then 0 else ⊥

/-- The attention result at an element, of the query, key, value and band arrays. -/
def attArr (q : FVec Ideal S16896x512 .bf16) (K W : FVec Ideal S16896x512 .f32) (B : FVec Ideal S8x256x768 .f32)
    (r : Fin 16384) (l : Fin 512) : EReal :=
  attBlk (qBlk q ⟨r.val / 256, by omega⟩) (kBlk K ⟨r.val / 256, by omega⟩) (kBlk W ⟨r.val / 256, by omega⟩)
    (mBlk ⟨r.val / 256, by omega⟩) B ⟨r.val % 256, by omega⟩ l

/-- The key mask's word. -/
theorem mask_word : ∀ (a : Fin 32) (b : Fin 768),
    IntOp.cmpi CmpIPredicate.sge (IntOp.addi (Scalar.muli (Scalar.subi (BitVec.ofNat 32 a.val) 2#32) 256#32)
      (BitVec.ofNat 32 b.val)) 0#32 = if 512 ≤ a.val * 256 + b.val then 1#1 else 0#1 := by
  decide +kernel

theorem pay4_eq (i : grid1.Coords) (T : Fin 64) (h : (i 1).val = T.val % 32) :
    (k1_pay4 i : FVec Ideal S1x768 .f32) = mBlk T := by
  funext y
  pointwise [k1_pay4, mBlk]
  rw [h, mask_word ⟨T.val % 32, by omega⟩ (y 1)]
  by_cases hc : 512 ≤ T.val % 32 * 256 + (y 1 : Fin 768).val
  · rw [if_pos hc, if_pos hc]; rfl
  · rw [if_neg hc, if_neg hc]; rfl

theorem pay2_eq (K : FVec Ideal S16896x512 .f32) (T : Fin 64) (x1 x2 x3 : Vec Ideal S256x512 .f32)
    (h1 : ∀ (r : Fin 256) (l : Fin 512), x1 (ix2 r l) = K (ix2 (keyRow T ⟨r.val, by omega⟩) l))
    (h2 : ∀ (r : Fin 256) (l : Fin 512), x2 (ix2 r l) = K (ix2 (keyRow T ⟨256 + r.val, by omega⟩) l))
    (h3 : ∀ (r : Fin 256) (l : Fin 512), x3 (ix2 r l) = K (ix2 (keyRow T ⟨512 + r.val, by omega⟩) l)) :
    k1_pay2 (View.ld x1 r1_0) (View.ld x2 r1_0) (View.ld x3 r1_0) = kBlk K T := by
  funext y
  obtain ⟨c, hc⟩ : ∃ c : Fin 768, y 0 = c := ⟨_, rfl⟩
  obtain ⟨l, hl⟩ : ∃ l : Fin 512, y 1 = l := ⟨_, rfl⟩
  have hy : y = ix2 c l := by
    funext a; fin_cases a
    · exact hc
    · exact hl
  rw [hy]
  have hc' : c.val < 768 := c.isLt
  pointwise [k1_pay2]
  show _ = K (ix2 (keyRow T c) l)
  split
  · exact (h1 _ l).trans rfl
  · split
    · refine (h2 _ l).trans (congrArg (fun z => K (ix2 (keyRow T z) l)) (Fin.ext ?_))
      simp only; omega
    · refine (h3 ⟨c.val - 256 - 256, by omega⟩ l).trans (congrArg (fun z => K (ix2 (keyRow T z) l)) (Fin.ext ?_))
      simp only; omega

theorem pay3_eq (K : FVec Ideal S16896x512 .f32) (T : Fin 64) (x1 x2 x3 : Vec Ideal S256x512 .f32)
    (h1 : ∀ (r : Fin 256) (l : Fin 512), x1 (ix2 r l) = K (ix2 (keyRow T ⟨r.val, by omega⟩) l))
    (h2 : ∀ (r : Fin 256) (l : Fin 512), x2 (ix2 r l) = K (ix2 (keyRow T ⟨256 + r.val, by omega⟩) l))
    (h3 : ∀ (r : Fin 256) (l : Fin 512), x3 (ix2 r l) = K (ix2 (keyRow T ⟨512 + r.val, by omega⟩) l)) :
    k1_pay3 (View.ld x1 r1_0) (View.ld x2 r1_0) (View.ld x3 r1_0) = kBlk K T :=
  (rfl : _ = k1_pay2 (View.ld x1 r1_0) (View.ld x2 r1_0) (View.ld x3 r1_0)).trans (pay2_eq K T x1 x2 x3 h1 h2 h3)

theorem N1 : ∀ t : Fin cfg1.N, t.val < 64 := (by decide +kernel : ∀ t : Fin grid1.N, t.val < 64)

theorem rd1 (c : Dev nD) (t : Fin cfg1.N) (r : Fin 256) (l : Fin 512) :
    (iblk1 V c 1 t : Vec Ideal S256x512 .f32) (ix2 r l) = (V c main_v22 : FVec Ideal S16896x512 .f32)
      (ix2 (keyRow ⟨t.val, N1 t⟩ ⟨r.val, by omega⟩) l) := by
  blk_ext [iblk1, (idx1 t).2.1, keyRow]

theorem rd2 (c : Dev nD) (t : Fin cfg1.N) (r : Fin 256) (l : Fin 512) :
    (iblk1 V c 2 t : Vec Ideal S256x512 .f32) (ix2 r l) = (V c main_v22 : FVec Ideal S16896x512 .f32)
      (ix2 (keyRow ⟨t.val, N1 t⟩ ⟨256 + r.val, by omega⟩) l) := by
  blk_ext [iblk1, (idx1 t).2.2.1, keyRow]

theorem rd3 (c : Dev nD) (t : Fin cfg1.N) (r : Fin 256) (l : Fin 512) :
    (iblk1 V c 3 t : Vec Ideal S256x512 .f32) (ix2 r l) = (V c main_v22 : FVec Ideal S16896x512 .f32)
      (ix2 (keyRow ⟨t.val, N1 t⟩ ⟨512 + r.val, by omega⟩) l) := by
  blk_ext [iblk1, (idx1 t).2.2.2.1, keyRow]

theorem rd4 (c : Dev nD) (t : Fin cfg1.N) (r : Fin 256) (l : Fin 512) :
    (iblk1 V c 4 t : Vec Ideal S256x512 .f32) (ix2 r l) = (V c main_v25 : FVec Ideal S16896x512 .f32)
      (ix2 (keyRow ⟨t.val, N1 t⟩ ⟨r.val, by omega⟩) l) := by
  blk_ext [iblk1, (idx1 t).2.2.2.2.1, keyRow]

theorem rd5 (c : Dev nD) (t : Fin cfg1.N) (r : Fin 256) (l : Fin 512) :
    (iblk1 V c 5 t : Vec Ideal S256x512 .f32) (ix2 r l) = (V c main_v25 : FVec Ideal S16896x512 .f32)
      (ix2 (keyRow ⟨t.val, N1 t⟩ ⟨256 + r.val, by omega⟩) l) := by
  blk_ext [iblk1, (idx1 t).2.2.2.2.2.1, keyRow]

theorem rd6 (c : Dev nD) (t : Fin cfg1.N) (r : Fin 256) (l : Fin 512) :
    (iblk1 V c 6 t : Vec Ideal S256x512 .f32) (ix2 r l) = (V c main_v25 : FVec Ideal S16896x512 .f32)
      (ix2 (keyRow ⟨t.val, N1 t⟩ ⟨512 + r.val, by omega⟩) l) := by
  blk_ext [iblk1, (idx1 t).2.2.2.2.2.2.1, keyRow]

theorem rd0 (c : Dev nD) (t : Fin cfg1.N) :
    (iblk1 V c 0 t : Vec Ideal S256x512 .bf16) = qBlk (V c main_v19 : FVec Ideal S16896x512 .bf16) ⟨t.val, N1 t⟩ := by
  funext i
  unfold qBlk
  blk_ext [iblk1, (idx1 t).1]

theorem rd7 (c : Dev nD) (t : Fin cfg1.N) :
    (iblk1 V c 7 t : Vec Ideal S8x256x768 .f32) = (V c main_v13_1 : Vec Ideal S8x256x768 .f32) := by
  blk_ext! [iblk1, (idx1 t).2.2.2.2.2.2.2.1]

theorem out_row (t : Fin cfg1.N) (y : S256x512.Idx) :
    ((win1_8.blk t).view.emb y 0).val = t.val * 256 + (y 0).val := by
  blk_simp [(idx1 t).2.2.2.2.2.2.2.2]

theorem out_col (t : Fin cfg1.N) (y : S256x512.Idx) :
    ((win1_8.blk t).view.emb y 1).val = (y 1).val := by
  blk_simp [(idx1 t).2.2.2.2.2.2.2.2]

/-- One tile's block, of what its input blocks are in the arrays. -/
theorem blk_eq (q : FVec Ideal S16896x512 .bf16) (K W : FVec Ideal S16896x512 .f32) (B : FVec Ideal S8x256x768 .f32)
    (i : grid1.Coords) (x0 : Vec Ideal S256x512 .bf16) (x1 x2 x3 x4 x5 x6 : Vec Ideal S256x512 .f32)
    (x7 : Vec Ideal S8x256x768 .f32) (T : Fin 64) (p0 : x0 = qBlk q T)
    (p1 : ∀ (r : Fin 256) (l : Fin 512), x1 (ix2 r l) = K (ix2 (keyRow T ⟨r.val, by omega⟩) l))
    (p2 : ∀ (r : Fin 256) (l : Fin 512), x2 (ix2 r l) = K (ix2 (keyRow T ⟨256 + r.val, by omega⟩) l))
    (p3 : ∀ (r : Fin 256) (l : Fin 512), x3 (ix2 r l) = K (ix2 (keyRow T ⟨512 + r.val, by omega⟩) l))
    (p4 : ∀ (r : Fin 256) (l : Fin 512), x4 (ix2 r l) = W (ix2 (keyRow T ⟨r.val, by omega⟩) l))
    (p5 : ∀ (r : Fin 256) (l : Fin 512), x5 (ix2 r l) = W (ix2 (keyRow T ⟨256 + r.val, by omega⟩) l))
    (p6 : ∀ (r : Fin 256) (l : Fin 512), x6 (ix2 r l) = W (ix2 (keyRow T ⟨512 + r.val, by omega⟩) l))
    (p7 : x7 = B) (hc : (i 1).val = T.val % 32) (y : S256x512.Idx) (z : S16384x512.Idx)
    (h0 : (z 0).val = T.val * 256 + (y 0).val) (h1 : (z 1).val = (y 1).val) :
    attBlk (k1_pay60 i x0 x1 x2 x3 x4 x5 x6 x7) (k1_pay57 i x0 x1 x2 x3 x4 x5 x6 x7)
        (k1_pay58 i x0 x1 x2 x3 x4 x5 x6 x7) (k1_pay59 i x0 x1 x2 x3 x4 x5 x6 x7) x7 (y 0) (y 1)
      = attArr q K W B (z 0) (z 1) := by
  have e60 : k1_pay60 i x0 x1 x2 x3 x4 x5 x6 x7 = qBlk q T := by
    rw [← p0]
    funext j
    pointwise [k1_pay60, k1_pay5]
  have e57 : k1_pay57 i x0 x1 x2 x3 x4 x5 x6 x7 = kBlk K T := pay2_eq K T x1 x2 x3 p1 p2 p3
  have e58 : k1_pay58 i x0 x1 x2 x3 x4 x5 x6 x7 = kBlk W T := pay3_eq W T x4 x5 x6 p4 p5 p6
  have e59 : k1_pay59 i x0 x1 x2 x3 x4 x5 x6 x7 = mBlk T := pay4_eq i T hc
  rw [e60, e57, e58, e59, p7]
  obtain ⟨R, hR⟩ : ∃ R : Fin 256, y 0 = R := ⟨_, rfl⟩
  obtain ⟨L, hL⟩ : ∃ L : Fin 512, y 1 = L := ⟨_, rfl⟩
  obtain ⟨r, hr⟩ : ∃ r : Fin 16384, z 0 = r := ⟨_, rfl⟩
  obtain ⟨l, hl⟩ : ∃ l : Fin 512, z 1 = l := ⟨_, rfl⟩
  rw [hR, hr] at h0
  rw [hL, hl] at h1
  rw [hR, hL, hr, hl]
  have hR' : R.val < 256 := R.isLt
  have eT : (⟨r.val / 256, by omega⟩ : Fin 64) = T := Fin.ext (by simp only; omega)
  have eR : (⟨r.val % 256, by omega⟩ : Fin 256) = R := Fin.ext (by simp only; omega)
  have eL : l = L := Fin.ext h1
  unfold attArr
  rw [eT, eR, eL]

/-- The result array after the second region. -/
theorem att_arr (c : Dev nD) (q : FVec Ideal S16896x512 .bf16) (K W : FVec Ideal S16896x512 .f32)
    (B : FVec Ideal S8x256x768 .f32)
    (hq : V c main_v19 = q) (hk : V c main_v22 = K) (hw : V c main_v25 = W) (hb : V c main_v13_1 = B) :
    (dat1 V c).arrAt 8 cfg1.N = (fun y => attArr q K W B (y 0) (y 1) : FVec Ideal S16384x512 .bf16) := by
  refine (dat1 V c).arrAt_eq_of_covers 8 _ (by decide +kernel) fun t _ y => ?_
  blk_simp
  rw [after1_8]
  refine (out1_at (grid1.coords t) (iblk1 V c 0 t) (iblk1 V c 1 t) (iblk1 V c 2 t) (iblk1 V c 3 t) (iblk1 V c 4 t)
    (iblk1 V c 5 t) (iblk1 V c 6 t) (iblk1 V c 7 t) y).trans ?_
  have p0 := rd0 V c t
  have p1 := rd1 V c t
  have p2 := rd2 V c t
  have p3 := rd3 V c t
  have p4 := rd4 V c t
  have p5 := rd5 V c t
  have p6 := rd6 V c t
  have p7 := rd7 V c t
  rw [hq] at p0
  rw [hk] at p1 p2 p3
  rw [hw] at p4 p5 p6
  rw [hb] at p7
  have h0 := out_row t y
  have h1 := out_col t y
  have hc := coord1 t
  revert p0 p1 p2 p3 p4 p5 p6 p7 h0 h1 hc
  generalize (win1_8.blk t).view.emb y = z
  generalize iblk1 V c 0 t = x0, iblk1 V c 1 t = x1, iblk1 V c 2 t = x2, iblk1 V c 3 t = x3, iblk1 V c 4 t = x4,
    iblk1 V c 5 t = x5, iblk1 V c 6 t = x6, iblk1 V c 7 t = x7, grid1.coords t = i
  intro p0 p1 p2 p3 p4 p5 p6 p7 h0 h1 hc
  exact blk_eq q K W B i x0 x1 x2 x3 x4 x5 x6 x7 ⟨t.val, N1 t⟩ p0 p1 p2 p3 p4 p5 p6 p7 hc y z h0 h1

end Cert.Attn

end
-- ==== Proof.Attn.Host.lean ====
/- What the host code before each kernel region leaves in the regions' operand arrays. -/
module

public import proofs.«01_k».proof.Proof.Attn.Arrays

@[expose] public section

set_option maxRecDepth 16384

noncomputable section

open Idealize.ShloMosaic Idealize.ShloMosaic.TcCoe Idealize.SL.Sem Idealize.ShloMosaic.StableHlo
open Idealize.ShloMosaic.Pipeline (Dat)

namespace Cert.Attn

open Cert.KernelIdeal Cert.KernelIdeal.Gen Cert.KernelIdeal.Facts₀

/-- Keys or values as the second region finds them: tokens by lanes, zero rows after the last token. -/
def padRows (x : FVec Ideal S2x8192x8x64 .f32) : FVec Ideal S16896x512 .f32 :=
  concatenate S16896x512 0 [⟨S16384x512, shapeCast S16384x512 x Facts₀.shapeCasts_S2x8192x8x64_S16384x512⟩,
    ⟨S512x512, broadcastInDim S512x512 ![] Facts₀.bcast_S_S512x512 (constant S_ .f32 0x00000000#32)⟩]
    Facts₀.concatenates_S16384x512_S512x512_S16896x512_d0

/-- The queries, scaled. -/
def scaledRows (x : FVec Ideal S2x8192x8x64 .f32) : FVec Ideal S16896x512 .bf16 :=
  truncf .bf16 (mulf (padRows x) (broadcastInDim S16896x512 ![] Facts₀.bcast_S_S16896x512 (constant S_ .f32 0x3E000000#32)))
    Facts₀.bitsLt_bf16_f32

/-- The columns of the table that one line of the band reads. -/
def lineIdx : IVec S1024x1 32 :=
  let d : IVec S1024 32 := addi (minsi (broadcastInDim S1024 ![] Facts₀.bcast_S_S1024 (constantI S_ 32 128#32))
    (maxsi (broadcastInDim S1024 ![] Facts₀.bcast_S_S1024 (constantI S_ 32 4294967168#32))
      (subi (broadcastInDim S1024 ![] Facts₀.bcast_S_S1024 (constantI S_ 32 767#32)) (iotaInDim S1024 32 0))))
    (broadcastInDim S1024 ![] Facts₀.bcast_S_S1024 (constantI S_ 32 128#32))
  broadcastInDim S1024x1 ![0] Facts₀.bcast_S1024_S1024x1_0
    (select (cmpi .slt d (broadcastInDim S1024 ![] Facts₀.bcast_S_S1024 (constantI S_ 32 0#32)))
      (addi d (broadcastInDim S1024 ![] Facts₀.bcast_S_S1024 (constantI S_ 32 257#32))) d)

/-- One line of the band: the table at the clipped distances. -/
def lineOf (tbl : FVec Ideal S8x257 .f32) : FVec Ideal S8x1024 .f32 :=
  Host.gather gather_S8x257_S1024x1_S8x1024_0_1_n_n_1_1_81 tbl lineIdx

variable (m : (ℓ : Loc nD τ sig) → Buf (Elt Ideal) ℓ) (ρ : Dev nD → PrngReg)

theorem after1_q (σ : Valuation τ sig (Elt Ideal)) :
    after hostOps1 σ main_v19 = scaledRows (σ main_arg0) := by
  simp only [hostOps1, TRef.binary, TRef.nullary, TRef.ternary, TRef.unary, TRef.toBuf, TRef.ofBuf, cast_eq]
  after_results_simp
  rfl

theorem after1_k (σ : Valuation τ sig (Elt Ideal)) :
    after hostOps1 σ main_v22 = padRows (σ main_arg1) := by
  simp only [hostOps1, TRef.binary, TRef.nullary, TRef.ternary, TRef.unary, TRef.toBuf, TRef.ofBuf, cast_eq]
  after_results_simp
  rfl

theorem after1_v (σ : Valuation τ sig (Elt Ideal)) :
    after hostOps1 σ main_v25 = padRows (σ main_arg2) := by
  simp only [hostOps1, TRef.binary, TRef.nullary, TRef.ternary, TRef.unary, TRef.toBuf, TRef.ofBuf, cast_eq]
  after_results_simp
  rfl

theorem after0_line (σ : Valuation τ sig (Elt Ideal)) :
    after hostOps0_2 (after hostOps0_1 (after hostOps0 σ)) main_v12 = lineOf (σ main_arg3) := by
  simp only [hostOps0, hostOps0_1, hostOps0_2, TRef.binary, TRef.nullary, TRef.ternary, TRef.unary, TRef.toBuf, TRef.ofBuf, cast_eq]
  after_results_simp
  rfl

theorem W5_q (c : Dev nD) : W5 m ρ c main_v19 = scaledRows (m ((c : Thread nD τ).loc main_arg0)) := by
  have h := W4_args m ρ c main_arg0 (by decide)
  rw [← h]; exact after1_q (W4 m ρ c)

theorem W5_k (c : Dev nD) : W5 m ρ c main_v22 = padRows (m ((c : Thread nD τ).loc main_arg1)) := by
  have h := W4_args m ρ c main_arg1 (by decide)
  rw [← h]; exact after1_k (W4 m ρ c)

theorem W5_v (c : Dev nD) : W5 m ρ c main_v25 = padRows (m ((c : Thread nD τ).loc main_arg2)) := by
  have h := W4_args m ρ c main_arg2 (by decide)
  rw [← h]; exact after1_v (W4 m ρ c)

theorem W3_line (c : Dev nD) : W3 m ρ c main_v12 = lineOf (m ((c : Thread nD τ).loc main_arg3)) :=
  after0_line (W0 m ρ c)

/-- The band as the second region finds it. -/
theorem W5_band (c : Dev nD) : W5 m ρ c main_v13_1
    = (fun y => banded (lineOf (m ((c : Thread nD τ).loc main_arg3))) (y 0) (y 1) (y 2) : FVec Ideal S8x256x768 .f32) :=
  (W5_of m ρ c main_v13_1 (by decide)).trans ((W4_arr m ρ c 2).trans (band_arr (V3 m ρ) c _ (W3_line m ρ c)))

/-- The result array. -/
theorem W6_res (c : Dev nD) : W6 m ρ c main_v26
    = (fun y => attArr (scaledRows (m ((c : Thread nD τ).loc main_arg0))) (padRows (m ((c : Thread nD τ).loc main_arg1)))
        (padRows (m ((c : Thread nD τ).loc main_arg2)))
        (fun y => banded (lineOf (m ((c : Thread nD τ).loc main_arg3))) (y 0) (y 1) (y 2)) (y 0) (y 1)
      : FVec Ideal S16384x512 .bf16) :=
  (W6_arr m ρ c 8).trans (att_arr (V5 m ρ) c _ _ _ _ (W5_q m ρ c) (W5_k m ρ c) (W5_v m ρ c) (W5_band m ρ c))

/-- A padded row below the padding is its token's. -/
theorem padRows_at (x : FVec Ideal S2x8192x8x64 .f32) (r : Fin 16896) (l : Fin 512) (h : r.val < 16384) :
    padRows x (ix2 r l) = x (ix4 ⟨r.val / 8192, by omega⟩ ⟨r.val % 8192, by omega⟩ ⟨l.val / 64, by omega⟩ ⟨l.val % 64, by omega⟩) := by
  pointwise [padRows]
  rw [dif_pos h]

theorem scaledRows_at (x : FVec Ideal S2x8192x8x64 .f32) (r : Fin 16896) (l : Fin 512) :
    scaledRows x (ix2 r l) = padRows x (ix2 r l) * Ideal.ofBits FTy.f32 1040187392#32 := by
  pointwise [scaledRows]

theorem eighth : Ideal.ofBits FTy.f32 1040187392#32 = ((0.125 : ℝ) : EReal) := by
  simp [Ideal.ofBits, Ideal.ieee]
  rw [← EReal.coe_mul]
  norm_num

theorem lineIdx_at (x : Fin 1024) : (lineIdx (ix2 x 0)).toInt.toNat = min 256 (895 - x.val) := by
  pointwise [lineIdx]
  revert x
  decide +kernel

theorem gatherLine_at (t : FVec Ideal S8x257 .f32) (idx : IVec S1024x1 32) (h : Fin 8) (x : Fin 1024) :
    Host.gather gather_S8x257_S1024x1_S8x1024_0_1_n_n_1_1_81 t idx (ix2 h x)
      = t (ix2 h ⟨min (idx (ix2 x 0)).toInt.toNat 256, by omega⟩) := by
  unfold Host.gather
  congr 1
  funext a
  refine Fin.ext ?_
  generalize hd : gather_S8x257_S1024x1_S8x1024_0_1_n_n_1_1_81 = d
  show d.start (ix2 h x) idx a + d.batchCoord (ix2 h x) a + d.offCoord (ix2 h x) a = _
  subst hd
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (by decide)]
    simp only [Nat.zero_add]
    rfl
  · rw [GatherDims.batchCoord_eq_zero _ _ _ List.not_mem_nil,
      GatherDims.offCoord_eq_zero _ _ _ (by decide)]
    unfold GatherDims.start
    rw [dif_pos (by decide)]
    simp only [Nat.add_zero]
    have hsi : gather_S8x257_S1024x1_S8x1024_0_1_n_n_1_1_81.siIdx (ix2 h x) ⟨0, by decide⟩ = ix2 x 0 := by
      funext b; refine Fin.ext ?_
      match b with
      | ⟨0, _⟩ => rfl
      | ⟨1, _⟩ => rfl
    refine (congrArg (fun z => min (idx z).toInt.toNat 256) hsi)

theorem lineOf_at (t : FVec Ideal S8x257 .f32) (h : Fin 8) (x : Fin 1024) :
    lineOf t (ix2 h x) = t (ix2 h ⟨min 256 (895 - x.val), by omega⟩) := by
  unfold lineOf
  refine (gatherLine_at t lineIdx h x).trans (congrArg (fun z => t (ix2 h z)) (Fin.ext ?_))
  simp only [lineIdx_at]
  omega

end Cert.Attn

end
-- ==== Proof.Attn.RefDef.lean ====
/- The reference's result, stage by stage. -/
module

public import proofs.«01_k».proof.Proof.Gen.ReferenceIdeal.Run
public import proofs.«01_k».proof.Proof.Attn.Soft
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Attn

open Cert.ReferenceIdeal Cert.ReferenceIdeal.Gen Cert.ReferenceIdeal.Facts₀

variable {F : FTy → Type} [FloatOps F] [Named F]

/-- Keys or values in chunks, eight chunks of zeros first. -/
def padR (x : FVec F S2x8192x8x64 .f32) : FVec F S2x136x64x8x64 .f32 :=
  shapeCast S2x136x64x8x64 (concatenate S2x8704x8x64 1 [⟨S2x512x8x64, (broadcastInDim S2x512x8x64 ![] Facts₀.bcast_S_S2x512x8x64 (constant S_ .f32 0x00000000#32))⟩, ⟨S2x8192x8x64, x⟩] Facts₀.concatenates_S2x512x8x64_S2x8192x8x64_S2x8704x8x64_d1) Facts₀.shapeCasts_S2x8704x8x64_S2x136x64x8x64

/-- One chunk of the windows: the chunks from the `k`-th on. -/
def chunkR (p : FVec F S2x136x64x8x64 .f32) (k : Nat) (hs : S2x136x64x8x64.Slices ![0, k, 0, 0, 0] S2x128x64x8x64) :
    FVec F S2x128x1x64x8x64 .f32 :=
  broadcastInDim S2x128x1x64x8x64 ![0, 1, 3, 4, 5] Facts₀.bcast_S2x128x64x8x64_S2x128x1x64x8x64_0_1_3_4_5
    (extractStridedSlice S2x128x64x8x64 ![0, k, 0, 0, 0] p hs)

/-- Each chunk's window of nine chunks. -/
def winR (x : FVec F S2x8192x8x64 .f32) : FVec F S2x128x576x8x64 .f32 :=
  shapeCast S2x128x576x8x64 ((concatenate S2x128x9x64x8x64 2 [⟨S2x128x1x64x8x64, chunkR (padR x) 0 Facts₀.slices_S2x136x64x8x64_S2x128x64x8x64_0_0_0_0_0⟩, ⟨S2x128x1x64x8x64, chunkR (padR x) 1 Facts₀.slices_S2x136x64x8x64_S2x128x64x8x64_0_1_0_0_0⟩, ⟨S2x128x1x64x8x64, chunkR (padR x) 2 Facts₀.slices_S2x136x64x8x64_S2x128x64x8x64_0_2_0_0_0⟩, ⟨S2x128x1x64x8x64, chunkR (padR x) 3 Facts₀.slices_S2x136x64x8x64_S2x128x64x8x64_0_3_0_0_0⟩, ⟨S2x128x1x64x8x64, chunkR (padR x) 4 Facts₀.slices_S2x136x64x8x64_S2x128x64x8x64_0_4_0_0_0⟩, ⟨S2x128x1x64x8x64, chunkR (padR x) 5 Facts₀.slices_S2x136x64x8x64_S2x128x64x8x64_0_5_0_0_0⟩, ⟨S2x128x1x64x8x64, chunkR (padR x) 6 Facts₀.slices_S2x136x64x8x64_S2x128x64x8x64_0_6_0_0_0⟩, ⟨S2x128x1x64x8x64, chunkR (padR x) 7 Facts₀.slices_S2x136x64x8x64_S2x128x64x8x64_0_7_0_0_0⟩, ⟨S2x128x1x64x8x64, chunkR (padR x) 8 Facts₀.slices_S2x136x64x8x64_S2x128x64x8x64_0_8_0_0_0⟩] Facts₀.concatenates_S2x128x1x64x8x64_S2x128x1x64x8x64_S2x128x1x64x8x64_S2x128x1x64x8x64_S2x128x1x64x8x64_S2x128x1x64x8x64_S2x128x1x64x8x64_S2x128x1x64x8x64_S2x128x1x64x8x64_S2x128x9x64x8x64_d2 : (⟨S2x128x9x64x8x64, .f32⟩ : BufTy).Contents (Elt F))) Facts₀.shapeCasts_S2x128x9x64x8x64_S2x128x576x8x64

/-- Which window positions hold a token. -/
def maskR : IVec S2x128x8x64x576 1 :=
  broadcastInDim S2x128x8x64x576 ![0, 1, 2, 3, 4] Facts₀.bcast_S1x128x1x1x576_S2x128x8x64x576_0_1_2_3_4 (broadcastInDim S1x128x1x1x576 ![1, 4] Facts₀.bcast_S128x576_S1x128x1x1x576_1_4 (cmpi .sge (addi (broadcastInDim S128x576 ![0, 1] Facts₀.bcast_S128x1_S128x576_0_1 (subi (broadcastInDim S128x1 ![0] Facts₀.bcast_S128_S128x1_0 (iotaInDim S128 32 0)) (broadcastInDim S128x1 ![] Facts₀.bcast_S_S128x1 (constantI S_ 32 8#32)))) (broadcastInDim S128x576 ![0, 1] Facts₀.bcast_S1x576_S128x576_0_1 (select (andi (cmpi .ne (signi (broadcastInDim S1x576 ![1] Facts₀.bcast_S576_S1x576_1 (iotaInDim S576 32 0))) (broadcastInDim S1x576 ![] Facts₀.bcast_S_S1x576 (signi (id (constantI S_ 32 64#32))))) (cmpi .ne (Host.remsi (broadcastInDim S1x576 ![1] Facts₀.bcast_S576_S1x576_1 (iotaInDim S576 32 0)) (broadcastInDim S1x576 ![] Facts₀.bcast_S_S1x576 (id (constantI S_ 32 64#32)))) (broadcastInDim S1x576 ![] Facts₀.bcast_S_S1x576 (constantI S_ 32 0#32)))) (subi (Host.divsi (broadcastInDim S1x576 ![1] Facts₀.bcast_S576_S1x576_1 (iotaInDim S576 32 0)) (broadcastInDim S1x576 ![] Facts₀.bcast_S_S1x576 (id (constantI S_ 32 64#32)))) (broadcastInDim S1x576 ![] Facts₀.bcast_S_S1x576 (constantI S_ 32 1#32))) (Host.divsi (broadcastInDim S1x576 ![1] Facts₀.bcast_S576_S1x576_1 (iotaInDim S576 32 0)) (broadcastInDim S1x576 ![] Facts₀.bcast_S_S1x576 (id (constantI S_ 32 64#32))))))) (broadcastInDim S128x576 ![] Facts₀.bcast_S_S128x576 (constantI S_ 32 0#32))))

/-- The clipped distance of a window position from a query, as a column of the table. -/
def distR : IVec S64x576 32 :=
  addi (minsi (broadcastInDim S64x576 ![] Facts₀.bcast_S_S64x576 (id (constantI S_ 32 128#32))) (maxsi (broadcastInDim S64x576 ![] Facts₀.bcast_S_S64x576 (id (constantI S_ 32 4294967168#32))) (subi (broadcastInDim S64x576 ![0, 1] Facts₀.bcast_S64x1_S64x576_0_1 (addi (broadcastInDim S64x1 ![] Facts₀.bcast_S_S64x1 (constantI S_ 32 512#32)) (broadcastInDim S64x1 ![0] Facts₀.bcast_S64_S64x1_0 (iotaInDim S64 32 0)))) (broadcastInDim S64x576 ![0, 1] Facts₀.bcast_S1x576_S64x576_0_1 (broadcastInDim S1x576 ![1] Facts₀.bcast_S576_S1x576_1 (iotaInDim S576 32 0)))))) (broadcastInDim S64x576 ![] Facts₀.bcast_S_S64x576 (constantI S_ 32 128#32))

def biasIdxR : IVec S64x576x1 32 :=
  broadcastInDim S64x576x1 ![0, 1] Facts₀.bcast_S64x576_S64x576x1_0_1 (select (cmpi .slt distR (broadcastInDim S64x576 ![] Facts₀.bcast_S_S64x576 (constantI S_ 32 0#32))) (addi distR (broadcastInDim S64x576 ![] Facts₀.bcast_S_S64x576 (constantI S_ 32 257#32))) distR)

/-- The relative biases. -/
def biasR (t : FVec F S8x257 .f32) : FVec F S8x64x576 .f32 :=
  Host.gather gather_S8x257_S64x576x1_S8x64x576_0_1_n_n_1_2_81 t biasIdxR

/-- The masked scores. -/
def scoreR (q k : FVec F S2x8192x8x64 .f32) (t : FVec F S8x257 .f32) : FVec F S2x128x8x64x576 .f32 :=
  select maskR (addf (mulf (Host.dotGeneral dot_S2x128x64x8x64_S2x128x576x8x64_S2x128x8x64x576_4_4_2_2_013_013 none (shapeCast S2x128x64x8x64 q Facts₀.shapeCasts_S2x8192x8x64_S2x128x64x8x64) (winR k)) (broadcastInDim S2x128x8x64x576 ![] Facts₀.bcast_S_S2x128x8x64x576 (constant S_ .f32 0x3E000000#32))) (broadcastInDim S2x128x8x64x576 ![0, 1, 2, 3, 4] Facts₀.bcast_S1x1x8x64x576_S2x128x8x64x576_0_1_2_3_4 (broadcastInDim S1x1x8x64x576 ![2, 3, 4] Facts₀.bcast_S8x64x576_S1x1x8x64x576_2_3_4 (biasR t)))) (broadcastInDim S2x128x8x64x576 ![] Facts₀.bcast_S_S2x128x8x64x576 (id (constant S_ .f32 0xFF800000#32)))

/-- A value of each query, repeated along its window. -/
def colR (M : FVec F S2x128x8x64 .f32) : FVec F S2x128x8x64x576 .f32 :=
  broadcastInDim S2x128x8x64x576 ![0, 1, 2, 3, 4] Facts₀.bcast_S2x128x8x64x1_S2x128x8x64x576_0_1_2_3_4
    (broadcastInDim S2x128x8x64x1 ![0, 1, 2, 3] Facts₀.bcast_S2x128x8x64_S2x128x8x64x1_0_1_2_3 M)

/-- The greatest score of each query. -/
def maxR (s : FVec F S2x128x8x64x576 .f32) : FVec F S2x128x8x64 .f32 :=
  maximumf (broadcastInDim S2x128x8x64 ![] Facts₀.bcast_S_S2x128x8x64 (constant S_ .f32 0xFF800000#32))
    (Host.reduce FloatOps.maximumf s (constant S_ .f32 0xFF800000#32) Facts₀.reducesTo_S2x128x8x64x576_S2x128x8x64_d4 Facts₀.h_S_)

/-- The exponentials of the scores less their maximum. -/
def expR (s : FVec F S2x128x8x64x576 .f32) : FVec F S2x128x8x64x576 .f32 :=
  Host.exp (subf s (colR (maxR s)))

/-- The exponentials' sums. -/
def sumR (E : FVec F S2x128x8x64x576 .f32) : FVec F S2x128x8x64 .f32 :=
  Host.reduceAdd E (constant S_ .f32 0x00000000#32) Facts₀.reducesTo_S2x128x8x64x576_S2x128x8x64_d4 Facts₀.h_S_

/-- The weights. -/
def wgtR (E : FVec F S2x128x8x64x576 .f32) : FVec F S2x128x8x64x576 .f32 :=
  Host.divf E (colR (sumR E))

/-- The weighted values, back in token order. -/
def outR (V : FVec F S2x128x576x8x64 .f32) (E : FVec F S2x128x8x64x576 .f32) : FVec F S16384x512 .bf16 :=
  truncf .bf16 (shapeCast S16384x512 (transpose S2x128x64x8x64 [0, 1, 4, 2, 3]
    (Host.dotGeneral dot_S2x128x576x8x64_S2x128x8x64x576_S2x128x8x64x64_2_4_4_3_013_012 none V (wgtR E))
    Facts₀.transposes_S2x128x8x64x64_S2x128x64x8x64_0_1_4_2_3) Facts₀.shapeCasts_S2x128x64x8x64_S16384x512)
    Facts₀.bitsLt_bf16_f32

theorem res_eq (m : (ℓ : Loc nD τ sig) → Buf (Elt F) ℓ) (c : Dev nD) :
    Cert.ReferenceIdeal.Value.res_main_v99 m c
      = outR (winR (m ((c.tc : Thread nD τ).loc main_arg2)))
          (expR (scoreR (m ((c.tc : Thread nD τ).loc main_arg0)) (m ((c.tc : Thread nD τ).loc main_arg1))
            (m ((c.tc : Thread nD τ).loc main_arg3)))) := by
  unfold Cert.ReferenceIdeal.Value.res_main_v99
  rfl

theorem colR_at (M : FVec Ideal S2x128x8x64 .f32) (b : Fin 2) (C : Fin 128) (h : Fin 8) (i : Fin 64) (j : Fin 576) :
    colR M (ix5 b C h i j) = M (ix4 b C h i) := by
  refine (broadcastInDim_apply _ _ _ _ (ix5 b C h i 0) ?_).trans (broadcastInDim_apply _ _ _ _ (ix4 b C h i) ?_)
  · intro a
    match a with
    | ⟨0, _⟩ => exact (if_neg (show ¬ (2 = 1) by decide)).symm
    | ⟨1, _⟩ => exact (if_neg (show ¬ (128 = 1) by decide)).symm
    | ⟨2, _⟩ => exact (if_neg (show ¬ (8 = 1) by decide)).symm
    | ⟨3, _⟩ => exact (if_neg (show ¬ (64 = 1) by decide)).symm
    | ⟨4, _⟩ => exact (if_pos (show (1 = 1) by decide)).symm
  · intro a
    match a with
    | ⟨0, _⟩ => exact (if_neg (show ¬ (2 = 1) by decide)).symm
    | ⟨1, _⟩ => exact (if_neg (show ¬ (128 = 1) by decide)).symm
    | ⟨2, _⟩ => exact (if_neg (show ¬ (8 = 1) by decide)).symm
    | ⟨3, _⟩ => exact (if_neg (show ¬ (64 = 1) by decide)).symm

theorem chunkR_at (p : FVec Ideal S2x136x64x8x64 .f32) (k : Nat) (hk : k < 9)
    (hs : S2x136x64x8x64.Slices ![0, k, 0, 0, 0] S2x128x64x8x64)
    (b : Fin 2) (C : Fin 128) (i : Fin 64) (h : Fin 8) (d : Fin 64) :
    chunkR p k hs (ix6 b C 0 i h d) = p (ix5 b ⟨C.val + k, by omega⟩ i h d) := by
  unfold chunkR
  refine (broadcastInDim_apply _ _ _ _ (ix5 b C i h d) ?_).trans ?_
  · intro a
    match a with
    | ⟨0, _⟩ => exact (if_neg (show ¬ (2 = 1) by decide)).symm
    | ⟨1, _⟩ => exact (if_neg (show ¬ (128 = 1) by decide)).symm
    | ⟨2, _⟩ => exact (if_neg (show ¬ (64 = 1) by decide)).symm
    | ⟨3, _⟩ => exact (if_neg (show ¬ (8 = 1) by decide)).symm
    | ⟨4, _⟩ => exact (if_neg (show ¬ (64 = 1) by decide)).symm
  · refine congrArg p (funext fun a => Fin.ext ?_)
    match a with
    | ⟨0, _⟩ => exact (Nat.zero_add _)
    | ⟨1, _⟩ => exact (Nat.add_comm _ _)
    | ⟨2, _⟩ => exact (Nat.zero_add _)
    | ⟨3, _⟩ => exact (Nat.zero_add _)
    | ⟨4, _⟩ => exact (Nat.zero_add _)

end Cert.Attn

end
-- ==== Proof.Attn.Ref.lean ====
/- Each stage of the reference read at an index. -/
module

public import proofs.«01_k».proof.Proof.Attn.RefDef

@[expose] public section

set_option maxRecDepth 16384

noncomputable section

open Idealize.ShloMosaic Idealize.ShloMosaic.TcCoe Idealize.SL.Sem Idealize.ShloMosaic.StableHlo

namespace Cert.Attn

open Cert.ReferenceIdeal Cert.ReferenceIdeal.Gen Cert.ReferenceIdeal.Facts₀

/-- A padded chunk: nothing before the stream's start, then the stream. -/
theorem padR_at (x : FVec Ideal S2x8192x8x64 .f32) (b : Fin 2) (C : Fin 136) (i : Fin 64) (h : Fin 8) (d : Fin 64) :
    padR x (ix5 b C i h d) = if g : C.val < 8 then 0
      else x (ix4 b ⟨(C.val - 8) * 64 + i.val, by omega⟩ h d) := by
  pointwise [padR]
  by_cases g : C.val < 8
  · rw [dif_pos g, dif_pos (by omega)]
  · rw [dif_neg g, dif_neg (by omega)]
    exact congrArg (fun z => x (ix4 b z h d)) (Fin.ext (by simp only; omega))

theorem chunkR_at' (p : FVec Ideal S2x136x64x8x64 .f32) (k : Nat) (hk : k < 9)
    (hs : S2x136x64x8x64.Slices ![0, k, 0, 0, 0] S2x128x64x8x64)
    (b : Fin 2) (C : Fin 128) (e : Fin 1) (i : Fin 64) (h : Fin 8) (d : Fin 64) :
    chunkR p k hs (ix6 b C e i h d) = p (ix5 b ⟨C.val + k, by omega⟩ i h d) := by
  obtain rfl : e = 0 := Subsingleton.elim _ _
  exact chunkR_at p k hk hs b C i h d

theorem winR_at (x : FVec Ideal S2x8192x8x64 .f32) (b : Fin 2) (C : Fin 128) (j : Fin 576) (h : Fin 8) (d : Fin 64) :
    winR x (ix5 b C j h d) = padR x (ix5 b ⟨C.val + j.val / 64, by omega⟩ ⟨j.val % 64, by omega⟩ h d) := by
  unfold winR
  generalize padR x = p
  pointwise
  repeat' split
  all_goals
    refine (chunkR_at' p _ (by decide) _ b C _ _ h d).trans (congrArg (fun z => p (ix5 b z _ h d)) (Fin.ext ?_))
    simp only
    omega

theorem redR_at (s : FVec Ideal S2x128x8x64x576 .f32) (b : Fin 2) (C : Fin 128) (h : Fin 8) (i : Fin 64) :
    (Host.reduce FloatOps.maximumf s (constant S_ .f32 0xFF800000#32) Facts₀.reducesTo_S2x128x8x64x576_S2x128x8x64_d4 Facts₀.h_S_ : FVec Ideal S2x128x8x64 .f32) (ix4 b C h i)
      = Finset.univ.fold max (Ideal.ofBits FTy.f32 4286578688#32) fun j : Fin 576 => s (ix5 b C h i j) := by
  pointwise

theorem lowest : Ideal.ofBits FTy.f32 4286578688#32 = ⊥ := by
  simp [Ideal.ofBits, Ideal.ieee]

/-- The maximum of a query's scores, the start value being the least there is. -/
theorem maxR_at (s : FVec Ideal S2x128x8x64x576 .f32) (b : Fin 2) (C : Fin 128) (h : Fin 8) (i : Fin 64) :
    maxR s (ix4 b C h i) = top fun j : Fin 576 => s (ix5 b C h i j) := by
  unfold maxR
  rw [maximumf_apply, redR_at, lowest]
  have e : (broadcastInDim S2x128x8x64 ![] Facts₀.bcast_S_S2x128x8x64 (constant S_ .f32 0xFF800000#32) : FVec Ideal S2x128x8x64 .f32) (ix4 b C h i) = ⊥ := lowest
  rw [e]
  exact max_eq_right bot_le

theorem expR_at (s : FVec Ideal S2x128x8x64x576 .f32) (b : Fin 2) (C : Fin 128) (h : Fin 8) (i : Fin 64) (j : Fin 576) :
    expR s (ix5 b C h i j) = Ideal.exp (s (ix5 b C h i j) - top fun j' : Fin 576 => s (ix5 b C h i j')) := by
  have e : ∀ y, expR s y = Ideal.exp (s y - colR (maxR s) y) := by
    unfold expR
    generalize colR (maxR s) = M
    intro y
    rfl
  rw [e, colR_at, maxR_at]
/-- A window position's chunk, as the floor division selects it. -/
theorem chunk_word : ∀ j : Fin 576,
    Scalar.select
          (IntOp.andi
            (IntOp.cmpi CmpIPredicate.ne
              (if BitVec.ofNat 32 j.val = 0 then (0 : BitVec 32) else if (BitVec.ofNat 32 j.val).msb = true then -1 else 1)
              (if (64#32 : BitVec 32) = 0 then (0 : BitVec 32) else if (64#32 : BitVec 32).msb = true then -1 else 1))
            (IntOp.cmpi CmpIPredicate.ne
              (IntOp.remsi ArithUnit.host (BitVec.ofNat 32 j.val) 64#32) 0#32))
          (IntOp.subi (IntOp.divsi ArithUnit.host (BitVec.ofNat 32 j.val) 64#32) 1#32)
          (IntOp.divsi ArithUnit.host (BitVec.ofNat 32 j.val) 64#32) = BitVec.ofNat 32 (j.val / 64) := by
  decide +kernel

theorem mask_cmp : ∀ (C : Fin 128) (a : Fin 9),
    IntOp.cmpi CmpIPredicate.sge (IntOp.addi (IntOp.subi (BitVec.ofNat 32 C.val) 8#32) (BitVec.ofNat 32 a.val)) 0#32
      = if 8 ≤ C.val + a.val then 1#1 else 0#1 := by
  decide +kernel

theorem maskR_at (b : Fin 2) (C : Fin 128) (h : Fin 8) (i : Fin 64) (j : Fin 576) :
    maskR (ix5 b C h i j) = if 8 ≤ C.val + j.val / 64 then 1#1 else 0#1 := by
  pointwise [maskR]
  have e : id (constantI S_ 32 64#32) ix0 = (64#32 : BitVec 32) := rfl
  simp only [e]
  refine (congrArg (fun z => IntOp.cmpi CmpIPredicate.sge (IntOp.addi (IntOp.subi (BitVec.ofNat 32 C.val) 8#32) z) 0#32) (chunk_word j)).trans ?_
  exact mask_cmp C ⟨j.val / 64, by omega⟩

theorem distR_at (i : Fin 64) (j : Fin 576) : distR (ix2 i j) = BitVec.ofNat 32 (min 256 (640 + i.val - j.val)) := by
  pointwise [distR]
  have e1 : id (constantI S_ 32 128#32) ix0 = (128#32 : BitVec 32) := rfl
  have e2 : id (constantI S_ 32 4294967168#32) ix0 = (4294967168#32 : BitVec 32) := rfl
  simp only [e1, e2]
  revert i j
  decide +kernel

theorem biasIdxR_word : ∀ n : Fin 257,
   (Scalar.select (IntOp.cmpi .slt (BitVec.ofNat 32 n.val) 0#32) (IntOp.addi (BitVec.ofNat 32 n.val) 257#32) (BitVec.ofNat 32 n.val)).toInt.toNat = n.val := by
  decide +kernel

theorem biasIdxR_at (i : Fin 64) (j : Fin 576) :
    (biasIdxR (ix3 i j 0)).toInt.toNat = min 256 (640 + i.val - j.val) := by
  pointwise [biasIdxR]
  rw [distR_at]
  exact biasIdxR_word ⟨min 256 (640 + i.val - j.val), by omega⟩

theorem gatherR_at (t : FVec Ideal S8x257 .f32) (idx : IVec S64x576x1 32) (h : Fin 8) (i : Fin 64) (j : Fin 576) :
    Host.gather gather_S8x257_S64x576x1_S8x64x576_0_1_n_n_1_2_81 t idx (ix3 h i j)
      = t (ix2 h ⟨min (idx (ix3 i j 0)).toInt.toNat 256, by omega⟩) := by
  unfold Host.gather
  congr 1
  funext a
  refine Fin.ext ?_
  generalize hd : gather_S8x257_S64x576x1_S8x64x576_0_1_n_n_1_2_81 = d
  show d.start (ix3 h i j) idx a + d.batchCoord (ix3 h i j) a + d.offCoord (ix3 h i j) a = _
  subst hd
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (by decide)]
    simp only [Nat.zero_add]
    rfl
  · rw [GatherDims.batchCoord_eq_zero _ _ _ List.not_mem_nil,
      GatherDims.offCoord_eq_zero _ _ _ (by decide)]
    unfold GatherDims.start
    rw [dif_pos (by decide)]
    simp only [Nat.add_zero]
    have hsi : gather_S8x257_S64x576x1_S8x64x576_0_1_n_n_1_2_81.siIdx (ix3 h i j) ⟨0, by decide⟩ = ix3 i j 0 := by
      funext b; refine Fin.ext ?_
      match b with
      | ⟨0, _⟩ => rfl
      | ⟨1, _⟩ => rfl
      | ⟨2, _⟩ => rfl
    refine (congrArg (fun z => min (idx z).toInt.toNat 256) hsi)

theorem scoreR_at (q k : FVec Ideal S2x8192x8x64 .f32) (t : FVec Ideal S8x257 .f32)
    (b : Fin 2) (C : Fin 128) (h : Fin 8) (i : Fin 64) (j : Fin 576) :
    scoreR q k t (ix5 b C h i j) = Scalar.select (maskR (ix5 b C h i j))
      ((∑ x : Fin 64, q (ix4 b ⟨C.val * 64 + i.val, by omega⟩ h x) * winR k (ix5 b C j h x))
        * Ideal.ofBits FTy.f32 1040187392#32 + biasR t (ix3 h i j)) (Ideal.ofBits FTy.f32 4286578688#32) := by
  pointwise [scoreR]
  exact congrArg (Scalar.select _ _) rfl

theorem outR_at (V : FVec Ideal S2x128x576x8x64 .f32) (E : FVec Ideal S2x128x8x64x576 .f32) (r : Fin 16384) (l : Fin 512) :
    outR V E (ix2 r l) = ∑ x : Fin 576,
      V (ix5 ⟨r.val / 8192, by omega⟩ ⟨r.val / 64 % 128, by omega⟩ x ⟨l.val / 64, by omega⟩ ⟨l.val % 64, by omega⟩) *
        wgtR E (ix5 ⟨r.val / 8192, by omega⟩ ⟨r.val / 64 % 128, by omega⟩ ⟨l.val / 64, by omega⟩ ⟨r.val % 64, by omega⟩ x) := by
  pointwise [outR]

theorem wgtR_at (E : FVec Ideal S2x128x8x64x576 .f32) (b : Fin 2) (C : Fin 128) (h : Fin 8) (i : Fin 64) (j : Fin 576) :
    wgtR E (ix5 b C h i j) = Ideal.div (E (ix5 b C h i j)) (∑ j' : Fin 576, E (ix5 b C h i j')) := by
  pointwise [wgtR]
  rw [colR_at]
  pointwise [sumR]

/-- The bias of a query and a window position: the table's column of their clipped distance. -/
theorem biasR_at (t : FVec Ideal S8x257 .f32) (h : Fin 8) (i : Fin 64) (j : Fin 576) :
    biasR t (ix3 h i j) = t (ix2 h ⟨min 256 (640 + i.val - j.val), by omega⟩) := by
  unfold biasR
  refine (gatherR_at t biasIdxR h i j).trans (congrArg (fun z => t (ix2 h z)) (Fin.ext ?_))
  simp only [biasIdxR_at]
  omega

/-- The reference's result at an element: the softmax average of its window. -/
theorem outR_soft (q k v : FVec Ideal S2x8192x8x64 .f32) (t : FVec Ideal S8x257 .f32) (r : Fin 16384) (l : Fin 512) :
    outR (winR v) (expR (scoreR q k t)) (ix2 r l)
      = softFirst (fun j : Fin 576 => scoreR q k t (ix5 ⟨r.val / 8192, by omega⟩ ⟨r.val / 64 % 128, by omega⟩ ⟨l.val / 64, by omega⟩ ⟨r.val % 64, by omega⟩ j))
          (fun j : Fin 576 => winR v (ix5 ⟨r.val / 8192, by omega⟩ ⟨r.val / 64 % 128, by omega⟩ j ⟨l.val / 64, by omega⟩ ⟨l.val % 64, by omega⟩)) := by
  rw [outR_at]
  generalize scoreR q k t = s
  generalize winR v = V
  unfold softFirst
  refine Finset.sum_congr rfl fun x _ => ?_
  rw [wgtR_at]
  simp only [expR_at]

end Cert.Attn

end
-- ==== Proof.Attn.Same.lean ====
/- The kernel's result array is the reference's, index by index. -/
module

public import proofs.«01_k».proof.Proof.Attn.Host
public import proofs.«01_k».proof.Proof.Attn.Ref

@[expose] public section

set_option maxRecDepth 16384

noncomputable section

open Idealize.ShloMosaic Idealize.ShloMosaic.TcCoe Idealize.SL.Sem Idealize.ShloMosaic.StableHlo

namespace Cert.Attn

open Cert.KernelIdeal

/-- Where the window position `j` of row `r`'s query lies in the kernel's window. -/
def slot (r : Fin 16384) (j : Fin 576) : Fin 640 := ⟨64 * (r.val / 64 % 2) + j.val, by omega⟩

theorem slot_inj (r : Fin 16384) : Function.Injective (slot r) := by
  intro a b h
  have := congrArg Fin.val h
  simp only [slot] at this
  exact Fin.ext (by omega)

theorem col_slot (r : Fin 16384) (j : Fin 576) :
    (col ⟨r.val % 256, by omega⟩ (slot r j)).val = 64 * (r.val % 256 / 64) + j.val := by
  simp only [col, slot]
  omega

/-- The key row of an unmasked window position. -/
theorem keyRow_slot (r : Fin 16384) (j : Fin 576) (hm : 8 ≤ r.val / 64 % 128 + j.val / 64) :
    (keyRow ⟨r.val / 256, by omega⟩ (col ⟨r.val % 256, by omega⟩ (slot r j))).val
      = r.val / 8192 * 8192 + ((r.val / 64 % 128 + j.val / 64 - 8) * 64 + j.val % 64) := by
  have hc := col_slot r j
  generalize col ⟨r.val % 256, by omega⟩ (slot r j) = c at hc
  simp only [keyRow]
  obtain ⟨j, hj⟩ := j
  obtain ⟨r, hr⟩ := r
  obtain ⟨c, hcl⟩ := c
  simp only at *
  subst hc
  obtain ⟨s, u, w, i, hs, hu, hw, hi, rfl⟩ : ∃ s u w i, s < 2 ∧ u < 32 ∧ w < 4 ∧ i < 64 ∧ r = 8192 * s + 256 * u + 64 * w + i :=
    ⟨r / 8192, r / 256 % 32, r / 64 % 4, r % 64, by omega, by omega, by omega, by omega, by omega⟩
  have e1 : (8192 * s + 256 * u + 64 * w + i) / 64 % 128 = 4 * u + w := by omega
  have e2 : (8192 * s + 256 * u + 64 * w + i) % 256 / 64 = w := by omega
  have e3 : (8192 * s + 256 * u + 64 * w + i) / 256 = 32 * s + u := by omega
  have e4 : (8192 * s + 256 * u + 64 * w + i) / 8192 = s := by omega
  rw [e1] at hm
  rw [e1, e2, e3, e4]
  omega

/-- A key or value row of the kernel's window, at an unmasked position, is the reference's. -/
theorem key_at (x : FVec Ideal S2x8192x8x64 .f32) (r : Fin 16384) (l : Fin 512) (j : Fin 576) (d : Fin 64)
    (hm : 8 ≤ r.val / 64 % 128 + j.val / 64) :
    kBlk (padRows x) ⟨r.val / 256, by omega⟩ (ix2 (col ⟨r.val % 256, by omega⟩ (slot r j)) (hlane l d))
      = winR x (ix5 ⟨r.val / 8192, by omega⟩ ⟨r.val / 64 % 128, by omega⟩ j ⟨l.val / 64, by omega⟩ d) := by
  have hk := keyRow_slot r j hm
  show padRows x (ix2 (keyRow ⟨r.val / 256, by omega⟩ (col ⟨r.val % 256, by omega⟩ (slot r j))) (hlane l d)) = _
  generalize keyRow ⟨r.val / 256, by omega⟩ (col ⟨r.val % 256, by omega⟩ (slot r j)) = K at hk
  have hj : j.val < 576 := j.isLt
  have hr : r.val < 16384 := r.isLt
  have hd : d.val < 64 := d.isLt
  rw [padRows_at x K _ (by omega), winR_at, padR_at, dif_neg (by simp only; omega)]
  have a0 : (⟨K.val / 8192, by omega⟩ : Fin 2) = ⟨r.val / 8192, by omega⟩ := Fin.ext (by simp only; omega)
  have a1 : (⟨K.val % 8192, by omega⟩ : Fin 8192) = ⟨(r.val / 64 % 128 + j.val / 64 - 8) * 64 + j.val % 64, by omega⟩ :=
    Fin.ext (by simp only; omega)
  have a2 : (⟨(hlane l d).val / 64, by omega⟩ : Fin 8) = ⟨l.val / 64, by omega⟩ := Fin.ext (by simp only [hlane]; omega)
  have a3 : (⟨(hlane l d).val % 64, by omega⟩ : Fin 64) = d := Fin.ext (by simp only [hlane]; omega)
  rw [a0, a1, a2, a3]

/-- A query of the kernel's block is the reference's, scaled. -/
theorem query_at (q : FVec Ideal S2x8192x8x64 .f32) (r : Fin 16384) (l : Fin 512) (d : Fin 64) :
    qBlk (scaledRows q) ⟨r.val / 256, by omega⟩ (ix2 ⟨r.val % 256, by omega⟩ (hlane l d))
      = q (ix4 ⟨r.val / 8192, by omega⟩ ⟨r.val / 64 % 128 * 64 + r.val % 64, by omega⟩ ⟨l.val / 64, by omega⟩ d)
        * ((0.125 : ℝ) : EReal) := by
  have hr : r.val < 16384 := r.isLt
  show scaledRows q (ix2 ⟨r.val / 256 * 256 + r.val % 256, by omega⟩ (hlane l d)) = _
  rw [scaledRows_at, eighth, padRows_at _ _ _ (by simp only; omega)]
  have a0 : (⟨(r.val / 256 * 256 + r.val % 256) / 8192, by omega⟩ : Fin 2) = ⟨r.val / 8192, by omega⟩ := Fin.ext (by simp only; omega)
  have a1 : (⟨(r.val / 256 * 256 + r.val % 256) % 8192, by omega⟩ : Fin 8192) = ⟨r.val / 64 % 128 * 64 + r.val % 64, by omega⟩ :=
    Fin.ext (by simp only; omega)
  have a2 : (⟨(hlane l d).val / 64, by omega⟩ : Fin 8) = ⟨l.val / 64, by omega⟩ := Fin.ext (by simp only [hlane]; omega)
  have a3 : (⟨(hlane l d).val % 64, by omega⟩ : Fin 64) = d := Fin.ext (by simp only [hlane]; omega)
  rw [a0, a1, a2, a3]

/-- The band at a window position is the reference's bias. -/
theorem bias_at (t : FVec Ideal S8x257 .f32) (r : Fin 16384) (l : Fin 512) (j : Fin 576) :
    banded (lineOf t) (head l) ⟨r.val % 256, by omega⟩ (col ⟨r.val % 256, by omega⟩ (slot r j))
      = biasR t (ix3 ⟨l.val / 64, by omega⟩ ⟨r.val % 64, by omega⟩ j) := by
  have hc := col_slot r j
  generalize col ⟨r.val % 256, by omega⟩ (slot r j) = c at hc
  have hj : j.val < 576 := j.isLt
  unfold banded
  rw [if_pos (by simp only; omega), lineOf_at, biasR_at]
  refine congrArg (fun z => t (ix2 _ z)) (Fin.ext ?_)
  simp only
  omega

/-- The key mask at a window position. -/
theorem mask_at (r : Fin 16384) (j : Fin 576) :
    mBlk ⟨r.val / 256, by omega⟩ (ix2 0 (col ⟨r.val % 256, by omega⟩ (slot r j)))
      = if 8 ≤ r.val / 64 % 128 + j.val / 64 then 0 else ⊥ := by
  have hc := col_slot r j
  show (if 512 ≤ r.val / 256 % 32 * 256 + (col ⟨r.val % 256, by omega⟩ (slot r j)).val then (0 : EReal) else ⊥) = _
  rw [hc]
  exact if_congr (by omega) rfl rfl

/-- The reference's score at an index: masked before the stream's start. -/
theorem score_at (q k : FVec Ideal S2x8192x8x64 .f32) (t : FVec Ideal S8x257 .f32)
    (b : Fin 2) (C : Fin 128) (h : Fin 8) (i : Fin 64) (j : Fin 576) :
    scoreR q k t (ix5 b C h i j) = if 8 ≤ C.val + j.val / 64 then
      (∑ x : Fin 64, q (ix4 b ⟨C.val * 64 + i.val, by omega⟩ h x) * winR k (ix5 b C j h x))
        * ((0.125 : ℝ) : EReal) + biasR t (ix3 h i j) else ⊥ := by
  rw [scoreR_at, maskR_at, lowest, eighth]
  by_cases hm : 8 ≤ C.val + j.val / 64
  · rw [if_pos hm, if_pos hm]; rfl
  · rw [if_neg hm, if_neg hm]; rfl

/-- An array of reals. -/
def Reals {s : Shape} {φ : FTy} (x : FVec Ideal s φ) : Prop := ∀ y, ∃ a : ℝ, x y = (a : EReal)

theorem winR_real (k : FVec Ideal S2x8192x8x64 .f32) (hk : Reals k) (b : Fin 2) (C : Fin 128) (j : Fin 576) (h : Fin 8) (d : Fin 64) :
    ∃ a : ℝ, winR k (ix5 b C j h d) = (a : EReal) := by
  rw [winR_at, padR_at]
  split
  · exact ⟨0, rfl⟩
  · exact hk _

/-- An unmasked score of real arrays is real. -/
theorem score_real (q k : FVec Ideal S2x8192x8x64 .f32) (t : FVec Ideal S8x257 .f32) (hq : Reals q) (hk : Reals k) (ht : Reals t)
    (b : Fin 2) (C : Fin 128) (h : Fin 8) (i : Fin 64) (j : Fin 576) (hm : 8 ≤ C.val + j.val / 64) :
    ∃ a : ℝ, scoreR q k t (ix5 b C h i j) = (a : EReal) := by
  choose f hf using fun x : Fin 64 => hq (ix4 b ⟨C.val * 64 + i.val, by omega⟩ h x)
  choose g hg using fun x : Fin 64 => winR_real k hk b C j h x
  obtain ⟨z, hz⟩ := ht (ix2 h ⟨min 256 (640 + i.val - j.val), by omega⟩)
  refine ⟨(∑ x, f x * g x) * 0.125 + z, ?_⟩
  rw [score_at, if_pos hm, biasR_at, hz, EReal.coe_add, EReal.coe_mul, ← coe_sum]
  refine congrArg (fun y => y * _ + _) (Finset.sum_congr rfl fun x _ => ?_)
  rw [hf, hg, EReal.coe_mul]

/-- The result of the kernel at an element is the reference's, of real queries, keys and table. -/
theorem att_eq (q k v : FVec Ideal S2x8192x8x64 .f32) (t : FVec Ideal S8x257 .f32) (hq : Reals q) (hk : Reals k) (ht : Reals t)
    (r : Fin 16384) (l : Fin 512) :
    attArr (scaledRows q) (padRows k) (padRows v) (fun y => banded (lineOf t) (y 0) (y 1) (y 2)) r l
      = outR (winR v) (expR (scoreR q k t)) (ix2 r l) := by
  have hr : r.val < 16384 := r.isLt
  rw [outR_soft]
  unfold attArr attBlk
  refine softLast_eq (slot r) (slot_inj r) _ _ _ _ (fun j => ?_) (fun j hj => ?_) (fun i hi => ?_) (fun j => ?_) ?_
  · simp only
    rw [score_at, mask_at]
    by_cases hm : 8 ≤ r.val / 64 % 128 + j.val / 64
    · rw [if_pos hm, if_pos (by simpa using hm), add_zero]
      refine congrArg₂ (· + ·) ?_ (bias_at t r l j)
      rw [mul_comm, coe_mul_sum _ _ _ (by norm_num)]
      refine Finset.sum_congr rfl fun d _ => ?_
      rw [query_at, key_at k r l j d hm]
      exact (congrArg (· * _) (mul_comm _ _)).trans (mul_assoc _ _ _)
    · rw [if_neg hm, if_neg (by simpa using hm), EReal.add_bot]
  · have hm : 8 ≤ r.val / 64 % 128 + j.val / 64 := by
      by_contra hm
      exact hj (by rw [score_at, if_neg (by simpa using hm)])
    have hl : hlane l ⟨l.val % 64, by omega⟩ = l := Fin.ext (by simp only [hlane]; omega)
    have h := key_at v r l j ⟨l.val % 64, by omega⟩ hm
    rw [hl] at h
    exact h
  · have hb : banded (lineOf t) (head l) ⟨r.val % 256, by omega⟩ (col ⟨r.val % 256, by omega⟩ i) = ⊥ := by
      unfold banded
      refine if_neg ?_
      intro hh
      have hi' : i.val < 640 := i.isLt
      simp only [col] at hh
      refine hi ⟨i.val - 64 * (r.val / 64 % 2), by omega⟩ (Fin.ext ?_)
      simp only [slot]
      omega
    show _ + banded (lineOf t) (head l) ⟨r.val % 256, by omega⟩ (col ⟨r.val % 256, by omega⟩ i) + _ = ⊥
    rw [hb, EReal.add_bot, EReal.bot_add]
  · by_cases hm : 8 ≤ r.val / 64 % 128 + j.val / 64
    · obtain ⟨a, ha⟩ := score_real q k t hq hk ht ⟨r.val / 8192, by omega⟩ ⟨r.val / 64 % 128, by omega⟩ ⟨l.val / 64, by omega⟩ ⟨r.val % 64, by omega⟩ j hm
      rw [ha]; exact EReal.coe_ne_top a
    · rw [score_at, if_neg (by simpa using hm)]; exact bot_ne_top
  · obtain ⟨a, ha⟩ := score_real q k t hq hk ht ⟨r.val / 8192, by omega⟩ ⟨r.val / 64 % 128, by omega⟩ ⟨l.val / 64, by omega⟩ ⟨r.val % 64, by omega⟩ ⟨575, by omega⟩ (by simp only; omega)
    exact ⟨_, by rw [ha]; exact EReal.coe_ne_bot a⟩

end Cert.Attn

end
-- ==== Proof.Attn.Claims.lean ====
/- The attention's claims: the frames, and that kernel and reference compute one function. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Attn.Run
public import proofs.«01_k».proof.Proof.Attn.Same
public import Idealize.ShloMosaic.Adequacy
public import Idealize.ShloMosaic.Init

@[expose] public section

noncomputable section

namespace Cert.Attn

open Idealize.ShloMosaic Idealize.ShloMosaic.TcCoe Idealize.SL.Sem

theorem preFacts : Cert.Pre_finite_scores.Facts where
  bcast_S_S2x8192x8x64 := by decide
  bcast_S_S8x257 := by decide

attribute [local instance] Cert.Kernel.Gen.facts Cert.KernelIdeal.Gen.facts Cert.ReferenceIdeal.Gen.facts preFacts

/-- The word of `+∞`. -/
theorem infinity : Ideal.ofBits FTy.f32 2139095040#32 = ⊤ := by
  simp [Ideal.ofBits, Ideal.ieee]

/-- An extended real whose absolute value is below `+∞` is a real. -/
theorem real_of_abs (x : EReal) (h : Ideal.cmp .olt (max x (-x)) ⊤ = 1#1) : ∃ a : ℝ, x = (a : EReal) := by
  induction x using EReal.rec with
  | bot => simp [Ideal.cmp] at h
  | top => simp [Ideal.cmp] at h
  | coe r => exact ⟨r, rfl⟩

theorem reals_of_test {s : Shape} (hb : Cert.Pre_finite_scores.S_.BroadcastsInDim s (![] : Fin 0 → Fin s.rank)) (x : FVec Ideal s .f32)
    (h : cmpf .olt (Host.absf x) (broadcastInDim s ![] hb (constant Cert.Pre_finite_scores.S_ .f32 0x7F800000#32)) = fun _ => 1#1) :
    Reals x := by
  intro y
  have h' := congrFun h y
  refine real_of_abs (x y) ?_
  rw [← infinity]
  exact h'

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_scores := fun m ρ _ => Cert.KernelIdeal.Gen.frame m ρ

/-- The reference declares no semaphore. -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ref_pre : Cert.quiescent_ReferenceIdeal_pre_finite_scores := fun m ρ _ => frame_ref m ρ trivial

/-- The mask constant is named `−∞`. -/
theorem mask_named : Cert.preserves_Kernel_KernelIdeal :=
  IdealRules.named_const.statement Cert.KernelIdeal.κ "mask" .f32 0xF149F2CA#32 ⊥ rfl

/-- Kernel and reference compute the same array, of finite queries, keys and biases. -/
theorem same : Cert.algebraic_KernelIdeal_ReferenceIdeal_pre_finite_scores := by
  intro m g m' g' hpre hagree
  refine ⟨fun c => Cert.KernelIdeal.Gen.W6 m g c Cert.KernelIdeal.main_v26, ?_, ?_⟩
  · exact (θ_run Cert.KernelIdeal.defs _ _).mono (fun r h c => h.1 c) (run (F := Ideal) m g)
  · refine (θ_run Cert.ReferenceIdeal.defs _ _).mono (fun r h c => ⟨(h c).1.trans ?_, (h c).2⟩)
      (Cert.ReferenceIdeal.Value.run (F := Ideal) m' g')
    obtain ⟨h0, h1, h2, h3⟩ := hagree c
    obtain ⟨p0, p1, p3⟩ := hpre c
    refine (res_eq m' c).trans ?_
    rw [h0, h1, h2, h3]
    refine Eq.trans ?_ (W6_res m g c).symm
    funext y
    obtain ⟨r, hr⟩ : ∃ r : Fin 16384, y 0 = r := ⟨_, rfl⟩
    obtain ⟨l, hl⟩ : ∃ l : Fin 512, y 1 = l := ⟨_, rfl⟩
    have hy : y = ix2 r l := by
      funext a; fin_cases a
      · exact hr
      · exact hl
    rw [hy]
    exact (att_eq _ _ _ _ (reals_of_test _ _ p0) (reals_of_test _ _ p1) (reals_of_test _ _ p3) r l).symm

end Cert.Attn

end
-- ==== Proof.Merge.Rows.lean ====
/- One token's row through the merge: its mixing norm, its three gates, its hidden row, the norm of that, and its scores. -/
module

public import Idealize.ShloMosaic.Lib.Pointwise

@[expose] public section

noncomputable section

open Idealize.ShloMosaic

namespace Cert.Merge

/-- The norm of a row: each element by the reciprocal root of the row's mean square, by its gain. -/
def normR (x g : Fin 1024 → EReal) (j : Fin 1024) : EReal :=
  x j * Ideal.rsqrt (Ideal.div (∑ k : Fin 1024, x k * x k) (Ideal.ofBits FTy.f32 1149239296#32) + Ideal.ofBits FTy.f32 897988541#32) * g j

/-- The weights of the merge, by row and column. -/
structure Weights where
  gmix : Fin 1024 → EReal
  wg : Fin 1024 → Fin 3072 → EReal
  bg : Fin 3072 → EReal
  wa : Fin 256 → Fin 1024 → EReal
  wb : Fin 256 → Fin 1024 → EReal
  wc : Fin 512 → Fin 1024 → EReal
  wo : Fin 1024 → Fin 1024 → EReal
  gffn : Fin 1024 → EReal
  wq : Fin 1024 → Fin 2048 → EReal
  sk : Fin 2 → Fin 128 → Fin 128 → EReal

/-- The token's row and its three branches' rows. -/
structure Token where
  x : Fin 1024 → EReal
  ya : Fin 256 → EReal
  yb : Fin 256 → EReal
  yc : Fin 512 → EReal

variable (w : Weights) (t : Token)

/-- Column `j` of gate `e`. -/
def gcol (e : Fin 3) (j : Fin 1024) : Fin 3072 := ⟨1024 * e.val + j.val, by omega⟩

/-- A gate: the logistic function of the normed row's product with the gate's columns and their offsets. -/
def gateR (e : Fin 3) (j : Fin 1024) : EReal :=
  Ideal.logistic (∑ k : Fin 1024, normR t.x w.gmix k * w.wg k (gcol e j) + w.bg (gcol e j))

/-- The gated branches' sum. -/
def mixR (j : Fin 1024) : EReal :=
  gateR w t 0 j * (∑ k : Fin 256, t.ya k * w.wa k j) + gateR w t 1 j * (∑ k : Fin 256, t.yb k * w.wb k j)
    + gateR w t 2 j * (∑ k : Fin 512, t.yc k * w.wc k j)

/-- The hidden row. -/
def hidR (j : Fin 1024) : EReal := t.x j + ∑ k : Fin 1024, mixR w t k * w.wo k j

/-- The hidden row, normed. -/
def hnR (j : Fin 1024) : EReal := normR (hidR w t) w.gffn j

/-- The query of half-head `p`, at lane `c`. -/
def qR (l : Fin 2048) : EReal := ∑ k : Fin 1024, hnR w t k * w.wq k l

/-- The score of sub-key `k` for half-head `p`. -/
def scoreR (p : Fin 16) (k : Fin 128) : EReal :=
  ∑ c : Fin 128, w.sk ⟨p.val % 2, by omega⟩ k c * qR w t ⟨128 * p.val + c.val, by omega⟩

end Cert.Merge

end
-- ==== Proof.Merge.Pays.lean ====
/- The merge region's payloads at an index. -/
module

public import proofs.«01_k».proof.Proof.Gen.Kernel2Ideal.Frame
public import proofs.«01_k».proof.Proof.Merge.Rows
public import Idealize.ShloMosaic.Lib.Pipeline.ValueKit

@[expose] public section

set_option maxRecDepth 16384

noncomputable section

open Idealize.ShloMosaic Idealize.ShloMosaic.TcCoe Idealize.SL.Sem

namespace Cert.Merge

open Cert.Kernel2Ideal Cert.Kernel2Ideal.Gen Cert.Kernel2Ideal.Facts₀

/-- The normed rows. -/
theorem norm_at (i : grid0.Coords) (a b : Vec Ideal S256x1024 .f32) (g : Vec Ideal S1x1024 .f32) (r : Fin 256) (j : Fin 1024) :
    k0_pay5 i a b g (ix2 r j) = normR (fun k => k0_pay4 i a b (ix2 r k)) (fun k => g (ix2 0 k)) j := by
  unfold k0_pay5
  generalize k0_pay4 i a b = v5
  pointwise [normR]

/-- The first gate's product. -/
theorem gate0_at (i : grid0.Coords) (a b : Vec Ideal S256x1024 .f32) (g : Vec Ideal S1x1024 .f32) (w : Vec Ideal S1024x1024 .bf16) (r : Fin 256) (j : Fin 1024) :
    k0_pay9 i a b g w (ix2 r j) = ∑ k : Fin 1024, k0_pay5 i a b g (ix2 r k) * w (ix2 k j) := by
  unfold k0_pay9
  generalize k0_pay5 i a b g = v20
  pointwise

/-- The gated branches' sum. -/
theorem mix_at (v20 : FVec Ideal S256x1024 .bf16) (v25 : FVec Ideal S256x256 .bf16) (v30 : FVec Ideal S256x512 .bf16) (v32 : FVec Ideal S256x256 .bf16) (v35 : FVec Ideal S256x1024 .f32) (v36 : Vec Ideal S1024x1024 .bf16) (v39 : Vec Ideal S1024x1024 .bf16) (v42 : Vec Ideal S256x1024 .bf16) (v45 : Vec Ideal S256x1024 .bf16) (v48 : Vec Ideal S512x1024 .bf16) (v51 : Vec Ideal S1x1024 .f32) (v57 : Vec Ideal S1x1024 .f32) (v64 : Vec Ideal S1x1024 .f32) (r : Fin 256) (j : Fin 1024) :
    k0_pay10 v20 v25 v30 v32 v35 v36 v39 v42 v45 v48 v51 v57 v64 (ix2 r j) =
      Ideal.logistic (v35 (ix2 r j) + v51 (ix2 0 j)) * (∑ k : Fin 256, v25 (ix2 r k) * v42 (ix2 k j))
      + Ideal.logistic ((∑ k : Fin 1024, v20 (ix2 r k) * v36 (ix2 k j)) + v57 (ix2 0 j)) * (∑ k : Fin 256, v32 (ix2 r k) * v45 (ix2 k j))
      + Ideal.logistic ((∑ k : Fin 1024, v20 (ix2 r k) * v39 (ix2 k j)) + v64 (ix2 0 j)) * (∑ k : Fin 512, v30 (ix2 r k) * v48 (ix2 k j)) := by
  pointwise [k0_pay10]

/-- The hidden rows. -/
theorem hid_at (v5 : FVec Ideal S256x1024 .f32) (v71 : FVec Ideal S256x1024 .bf16) (v72 : Vec Ideal S1024x1024 .bf16) (r : Fin 256) (j : Fin 1024) :
    k0_pay11 v5 v71 v72 (ix2 r j) = v5 (ix2 r j) + ∑ k : Fin 1024, v71 (ix2 r k) * v72 (ix2 k j) := by
  pointwise [k0_pay11]

/-- The hidden rows, normed. -/
theorem hn_at (v5 : FVec Ideal S256x1024 .f32) (v71 : FVec Ideal S256x1024 .bf16) (v72 : Vec Ideal S1024x1024 .bf16) (g : Vec Ideal S1x1024 .f32) (r : Fin 256) (j : Fin 1024) :
    k0_pay12 v5 v71 v72 g (ix2 r j) = normR (fun k => k0_pay11 v5 v71 v72 (ix2 r k)) (fun k => g (ix2 0 k)) j := by
  unfold k0_pay12
  generalize k0_pay11 v5 v71 v72 = h
  pointwise [normR]

/-- The queries. -/
theorem q_at (v5 : FVec Ideal S256x1024 .f32) (v71 : FVec Ideal S256x1024 .bf16) (v72 : Vec Ideal S1024x1024 .bf16) (g : Vec Ideal S1x1024 .f32) (w : Vec Ideal S1024x2048 .bf16) (r : Fin 256) (j : Fin 2048) :
    k0_pay13 v5 v71 v72 g w (ix2 r j) = ∑ k : Fin 1024, k0_pay12 v5 v71 v72 g (ix2 r k) * w (ix2 k j) := by
  unfold k0_pay13
  generalize k0_pay12 v5 v71 v72 g = h
  pointwise

/-- The scores of one half-head, of the queries' rows and the stored sub-keys: what each of the sixteen stores writes. -/
def scorePay (p : Fin 16) (q : FVec Ideal S256x2048 .bf16) (s : Vec Ideal S1x128x128 .bf16) : FVec Ideal S1x128x256 .f32 :=
  fun y => ∑ c : Fin 128, s (ix3 0 (y 1) c) * q (ix2 (y 2) ⟨128 * p.val + c.val, by omega⟩)

theorem score_0 (v5 : FVec Ideal S256x1024 .f32) (v71 : FVec Ideal S256x1024 .bf16) (v72 : Vec Ideal S1024x1024 .bf16) (g : Vec Ideal S1x1024 .f32) (w : Vec Ideal S1024x2048 .bf16) (s : Vec Ideal S1x128x128 .bf16) : k0_pay14 v5 v71 v72 g w s = scorePay 0 (k0_pay13 v5 v71 v72 g w) s := by
  unfold k0_pay14
  generalize k0_pay13 v5 v71 v72 g w = q
  funext y
  pointwise [scorePay]

theorem score_1 (v5 : FVec Ideal S256x1024 .f32) (v71 : FVec Ideal S256x1024 .bf16) (v72 : Vec Ideal S1024x1024 .bf16) (g : Vec Ideal S1x1024 .f32) (w : Vec Ideal S1024x2048 .bf16) (s : Vec Ideal S1x128x128 .bf16) : k0_pay17 (k0_pay15 s) (k0_pay16 v5 v71 v72 g w) = scorePay 1 (k0_pay13 v5 v71 v72 g w) s := by
  unfold k0_pay16
  generalize k0_pay13 v5 v71 v72 g w = q
  funext y
  pointwise [k0_pay17, k0_pay15, scorePay]

theorem score_2 (q : FVec Ideal S256x2048 .bf16) (s : Vec Ideal S1x128x128 .bf16) : k0_pay18 q s = scorePay 2 q s := by
  funext y
  pointwise [k0_pay18, scorePay]

theorem score_3 (q : FVec Ideal S256x2048 .bf16) (s : Vec Ideal S1x128x128 .bf16) : k0_pay19 q s = scorePay 3 q s := by
  funext y
  pointwise [k0_pay19, scorePay]

theorem score_4 (q : FVec Ideal S256x2048 .bf16) (s : Vec Ideal S1x128x128 .bf16) : k0_pay20 q s = scorePay 4 q s := by
  funext y
  pointwise [k0_pay20, scorePay]

theorem score_5 (q : FVec Ideal S256x2048 .bf16) (s : Vec Ideal S1x128x128 .bf16) : k0_pay23 (k0_pay21 s) (k0_pay22 q) = scorePay 5 q s := by
  funext y
  pointwise [k0_pay23, k0_pay21, k0_pay22, scorePay]

theorem score_6 (q : FVec Ideal S256x2048 .bf16) (s : Vec Ideal S1x128x128 .bf16) : k0_pay24 q s = scorePay 6 q s := by
  funext y
  pointwise [k0_pay24, scorePay]

theorem score_7 (q : FVec Ideal S256x2048 .bf16) (s : Vec Ideal S1x128x128 .bf16) : k0_pay25 q s = scorePay 7 q s := by
  funext y
  pointwise [k0_pay25, scorePay]

theorem score_8 (q : FVec Ideal S256x2048 .bf16) (s : Vec Ideal S1x128x128 .bf16) : k0_pay26 q s = scorePay 8 q s := by
  funext y
  pointwise [k0_pay26, scorePay]

theorem score_9 (q : FVec Ideal S256x2048 .bf16) (s : Vec Ideal S1x128x128 .bf16) : k0_pay29 (k0_pay27 s) (k0_pay28 q) = scorePay 9 q s := by
  funext y
  pointwise [k0_pay29, k0_pay27, k0_pay28, scorePay]

theorem score_10 (q : FVec Ideal S256x2048 .bf16) (s : Vec Ideal S1x128x128 .bf16) : k0_pay30 q s = scorePay 10 q s := by
  funext y
  pointwise [k0_pay30, scorePay]

theorem score_11 (q : FVec Ideal S256x2048 .bf16) (s : Vec Ideal S1x128x128 .bf16) : k0_pay31 q s = scorePay 11 q s := by
  funext y
  pointwise [k0_pay31, scorePay]

theorem score_12 (q : FVec Ideal S256x2048 .bf16) (s : Vec Ideal S1x128x128 .bf16) : k0_pay32 q s = scorePay 12 q s := by
  funext y
  pointwise [k0_pay32, scorePay]

theorem score_13 (q : FVec Ideal S256x2048 .bf16) (s : Vec Ideal S1x128x128 .bf16) : k0_pay1 (k0_pay33 s) (k0_pay34 q) = scorePay 13 q s := by
  funext y
  pointwise [k0_pay1, k0_pay33, k0_pay34, scorePay]

theorem score_14 (q : FVec Ideal S256x2048 .bf16) (s : Vec Ideal S1x128x128 .bf16) : k0_pay2 q s = scorePay 14 q s := by
  funext y
  pointwise [k0_pay2, scorePay]

theorem score_15 (q : FVec Ideal S256x2048 .bf16) (s : Vec Ideal S1x128x128 .bf16) : k0_pay3 q s = scorePay 15 q s := by
  funext y
  pointwise [k0_pay3, scorePay]

end Cert.Merge

end
-- ==== Proof.Merge.Block.lean ====
/- The merge region's blocks: each row of a tile's blocks is its token's. -/
module

public import proofs.«01_k».proof.Proof.Merge.Pays

@[expose] public section

set_option maxRecDepth 16384

noncomputable section

open Idealize.ShloMosaic Idealize.ShloMosaic.TcCoe Idealize.SL.Sem

namespace Cert.Merge

open Cert.Kernel2Ideal Cert.Kernel2Ideal.Gen Cert.Kernel2Ideal.Facts₀

/-- The weights in the arrays that hold them. -/
def weights (x7 : FVec Ideal S1x1024 .f32) (x8 : FVec Ideal S1024x3072 .bf16) (x9 : FVec Ideal S1x3072 .f32)
    (x10 x11 : FVec Ideal S256x1024 .bf16) (x12 : FVec Ideal S512x1024 .bf16) (x13 : FVec Ideal S1024x1024 .bf16)
    (x14 : FVec Ideal S1x1024 .f32) (x15 : FVec Ideal S1024x2048 .bf16) (x16 : FVec Ideal S2x128x128 .bf16) : Weights where
  gmix k := x7 (ix2 0 k)
  wg k l := x8 (ix2 k l)
  bg l := x9 (ix2 0 l)
  wa k j := x10 (ix2 k j)
  wb k j := x11 (ix2 k j)
  wc k j := x12 (ix2 k j)
  wo k j := x13 (ix2 k j)
  gffn k := x14 (ix2 0 k)
  wq k l := x15 (ix2 k l)
  sk p k c := x16 (ix3 p k c)

/-- Row `r` of a tile: of the prompt's blocks in the first 64 tiles, of the sample's after them. -/
def tok (i : grid0.Coords) (x0 x1 : FVec Ideal S256x1024 .f32) (x2 x3 x4 : FVec Ideal S256x256 .bf16)
    (x5 x6 : FVec Ideal S256x512 .bf16) (r : Fin 256) : Token where
  x k := if (i 0).val < 64 then x0 (ix2 r k) else x1 (ix2 r k)
  ya k := if (i 0).val < 64 then x2 (ix2 r k) else x3 (ix2 r k)
  yb k := x4 (ix2 r k)
  yc k := if (i 0).val < 64 then x5 (ix2 r k) else x6 (ix2 r k)

/-- The tile test's word. -/
theorem tile_word : ∀ a : Fin 66, IntOp.cmpi CmpIPredicate.slt (BitVec.ofNat 32 a.val) 64#32
    = if a.val < 64 then 1#1 else 0#1 := by
  decide +kernel

/-- A row chosen by the tile test. -/
theorem select_tile {α : Type} (i : grid0.Coords) (a b : α) :
    Scalar.select (Scalar.cmpi .slt (BitVec.ofNat 32 (i 0).val) 64#32) a b = if (i 0).val < 64 then a else b := by
  rw [show Scalar.cmpi .slt (BitVec.ofNat 32 (i 0).val) 64#32 = IntOp.cmpi CmpIPredicate.slt (BitVec.ofNat 32 (i 0).val) 64#32 from rfl,
    tile_word (i 0)]
  by_cases h : (i 0).val < 64
  · rw [if_pos h, if_pos h]; rfl
  · rw [if_neg h, if_neg h]; rfl

section

variable (i : grid0.Coords) (x0 x1 : Vec Ideal S256x1024 .f32) (x2 x3 x4 : Vec Ideal S256x256 .bf16)
  (x5 x6 : Vec Ideal S256x512 .bf16) (x7 : Vec Ideal S1x1024 .f32) (x8 : Vec Ideal S1024x3072 .bf16)
  (x9 : Vec Ideal S1x3072 .f32) (x10 x11 : Vec Ideal S256x1024 .bf16) (x12 : Vec Ideal S512x1024 .bf16)
  (x13 : Vec Ideal S1024x1024 .bf16) (x14 : Vec Ideal S1x1024 .f32) (x15 : Vec Ideal S1024x2048 .bf16)
  (x16 : Vec Ideal S2x128x128 .bf16)

theorem tok_x (r : Fin 256) (k : Fin 1024) :
    k0_pay4 i (View.ld x0 r0_0) (View.ld x1 r0_0) (ix2 r k) = (tok i x0 x1 x2 x3 x4 x5 x6 r).x k := by
  unfold k0_pay4
  rw [select_tile]
  unfold tok
  by_cases h : (i 0).val < 64
  · simp only [if_pos h]
    pointwise
  · simp only [if_neg h]
    pointwise

theorem tok_ya (r : Fin 256) (k : Fin 256) :
    k0_pay6 i (View.ld x2 r0_2) (View.ld x3 r0_2) (ix2 r k) = (tok i x0 x1 x2 x3 x4 x5 x6 r).ya k := by
  unfold k0_pay6
  rw [select_tile]
  unfold tok
  by_cases h : (i 0).val < 64
  · simp only [if_pos h]
    pointwise
  · simp only [if_neg h]
    pointwise

theorem tok_yc (r : Fin 256) (k : Fin 512) :
    k0_pay7 i (View.ld x5 r0_3) (View.ld x6 r0_3) (ix2 r k) = (tok i x0 x1 x2 x3 x4 x5 x6 r).yc k := by
  unfold k0_pay7
  rw [select_tile]
  unfold tok
  by_cases h : (i 0).val < 64
  · simp only [if_pos h]
    pointwise
  · simp only [if_neg h]
    pointwise

theorem tok_yb (r : Fin 256) (k : Fin 256) :
    k0_pay8 (View.ld x4 r0_2) (ix2 r k) = (tok i x0 x1 x2 x3 x4 x5 x6 r).yb k := by
  unfold tok
  pointwise [k0_pay8]

theorem tok_norm (r : Fin 256) (k : Fin 1024) :
    k0_pay5 i (View.ld x0 r0_0) (View.ld x1 r0_0) (View.ld x7 r0_1) (ix2 r k)
      = normR (tok i x0 x1 x2 x3 x4 x5 x6 r).x (weights x7 x8 x9 x10 x11 x12 x13 x14 x15 x16).gmix k := by
  rw [norm_at]
  congr 1
  · funext k'; exact tok_x i x0 x1 x2 x3 x4 x5 x6 r k'
  · funext k'; unfold weights; pointwise

theorem pay35_at (r : Fin 256) (k : Fin 1024) :
    k0_pay35 i x0 x1 x2 x3 x4 x5 x6 x7 x8 x9 x10 x11 x12 x13 x14 x15 x16 (ix2 r k) = (tok i x0 x1 x2 x3 x4 x5 x6 r).x k :=
  tok_x i x0 x1 x2 x3 x4 x5 x6 r k

theorem pay36_at (r : Fin 256) (j : Fin 1024) :
    k0_pay36 i x0 x1 x2 x3 x4 x5 x6 x7 x8 x9 x10 x11 x12 x13 x14 x15 x16 (ix2 r j)
      = mixR (weights x7 x8 x9 x10 x11 x12 x13 x14 x15 x16) (tok i x0 x1 x2 x3 x4 x5 x6 r) j := by
  unfold k0_pay36
  rw [mix_at, gate0_at]
  simp only [tok_norm i x0 x1 x2 x3 x4 x5 x6 x7 x8 x9 x10 x11 x12 x13 x14 x15 x16, tok_ya i x0 x1 x2 x3 x4 x5 x6,
    tok_yb i x0 x1 x2 x3 x4 x5 x6, tok_yc i x0 x1 x2 x3 x4 x5 x6]
  have g0 : ∀ k : Fin 1024, View.ld x8 r0_4 (ix2 k j) = x8 (ix2 k (gcol 0 j)) := fun k => by pointwise [gcol]
  have g1 : ∀ k : Fin 1024, View.ld x8 r0_5 (ix2 k j) = x8 (ix2 k (gcol 1 j)) := fun k => by pointwise [gcol]
  have g2 : ∀ k : Fin 1024, View.ld x8 r0_6 (ix2 k j) = x8 (ix2 k (gcol 2 j)) := fun k => by pointwise [gcol]
  have b0 : View.ld x9 r0_8 (ix2 0 j) = x9 (ix2 0 (gcol 0 j)) := by pointwise [gcol]
  have b1 : View.ld x9 r0_9 (ix2 0 j) = x9 (ix2 0 (gcol 1 j)) := by pointwise [gcol]
  have b2 : View.ld x9 r0_10 (ix2 0 j) = x9 (ix2 0 (gcol 2 j)) := by pointwise [gcol]
  have a0 : ∀ k : Fin 256, View.ld x10 r0_0 (ix2 k j) = x10 (ix2 k j) := fun k => by pointwise
  have a1 : ∀ k : Fin 256, View.ld x11 r0_0 (ix2 k j) = x11 (ix2 k j) := fun k => by pointwise
  have a2 : ∀ k : Fin 512, View.ld x12 r0_7 (ix2 k j) = x12 (ix2 k j) := fun k => by pointwise
  simp only [g0, g1, g2, b0, b1, b2, a0, a1, a2]
  rfl

theorem pay11_at (r : Fin 256) (j : Fin 1024) :
    k0_pay11 (k0_pay35 i x0 x1 x2 x3 x4 x5 x6 x7 x8 x9 x10 x11 x12 x13 x14 x15 x16) (k0_pay36 i x0 x1 x2 x3 x4 x5 x6 x7 x8 x9 x10 x11 x12 x13 x14 x15 x16)
        (View.ld x13 r0_11) (ix2 r j)
      = hidR (weights x7 x8 x9 x10 x11 x12 x13 x14 x15 x16) (tok i x0 x1 x2 x3 x4 x5 x6 r) j := by
  rw [hid_at, pay35_at]
  simp only [pay36_at]
  have a : ∀ k : Fin 1024, View.ld x13 r0_11 (ix2 k j) = x13 (ix2 k j) := fun k => by pointwise
  simp only [a]
  rfl

theorem pay12_at (r : Fin 256) (j : Fin 1024) :
    k0_pay12 (k0_pay35 i x0 x1 x2 x3 x4 x5 x6 x7 x8 x9 x10 x11 x12 x13 x14 x15 x16) (k0_pay36 i x0 x1 x2 x3 x4 x5 x6 x7 x8 x9 x10 x11 x12 x13 x14 x15 x16)
        (View.ld x13 r0_11) (View.ld x14 r0_1) (ix2 r j)
      = hnR (weights x7 x8 x9 x10 x11 x12 x13 x14 x15 x16) (tok i x0 x1 x2 x3 x4 x5 x6 r) j := by
  rw [hn_at]
  simp only [pay11_at]
  have a : ∀ k : Fin 1024, View.ld x14 r0_1 (ix2 0 k) = x14 (ix2 0 k) := fun k => by pointwise
  simp only [a]
  rfl

theorem pay37_at (r : Fin 256) (l : Fin 2048) :
    k0_pay37 i x0 x1 x2 x3 x4 x5 x6 x7 x8 x9 x10 x11 x12 x13 x14 x15 x16 (ix2 r l)
      = qR (weights x7 x8 x9 x10 x11 x12 x13 x14 x15 x16) (tok i x0 x1 x2 x3 x4 x5 x6 r) l := by
  unfold k0_pay37
  rw [q_at]
  simp only [pay12_at]
  have a : ∀ k : Fin 1024, View.ld x15 r0_12 (ix2 k l) = x15 (ix2 k l) := fun k => by pointwise
  simp only [a]
  rfl

theorem out17_at (y : S256x1024.Idx) : out0_17 i x0 x1 x2 x3 x4 x5 x6 x7 x8 x9 x10 x11 x12 x13 x14 x15 x16 y
      = hidR (weights x7 x8 x9 x10 x11 x12 x13 x14 x15 x16) (tok i x0 x1 x2 x3 x4 x5 x6 (y 0)) (y 1) := by
  unfold out0_17
  canon_tiles x h
  obtain rfl : x = y := by
    funext a; fin_cases a
    · exact Fin.ext h0.symm
    · exact Fin.ext h1.symm
  rw [eq_ix2 x]
  exact pay11_at i x0 x1 x2 x3 x4 x5 x6 x7 x8 x9 x10 x11 x12 x13 x14 x15 x16 (x 0) (x 1)

theorem out18_at (y : S256x1024.Idx) : out0_18 i x0 x1 x2 x3 x4 x5 x6 x7 x8 x9 x10 x11 x12 x13 x14 x15 x16 y
      = hnR (weights x7 x8 x9 x10 x11 x12 x13 x14 x15 x16) (tok i x0 x1 x2 x3 x4 x5 x6 (y 0)) (y 1) := by
  unfold out0_18
  canon_tiles x h
  obtain rfl : x = y := by
    funext a; fin_cases a
    · exact Fin.ext h0.symm
    · exact Fin.ext h1.symm
  rw [eq_ix2 x]
  exact pay12_at i x0 x1 x2 x3 x4 x5 x6 x7 x8 x9 x10 x11 x12 x13 x14 x15 x16 (x 0) (x 1)

/-- One store of the scores, read where it lands. -/
theorem score_store (p : Fin 16) (s : Vec Ideal S1x128x128 .bf16)
    (hs : ∀ k c : Fin 128, s (ix3 0 k c) = x16 (ix3 (⟨p.val % 2, by omega⟩ : Fin 2) k c))
    (x : S1x128x256.Idx) (y : S16x128x256.Idx) (h0 : (y 0).val = p.val) (h1 : (y 1).val = (x 1).val)
    (h2 : (y 2).val = (x 2).val) :
    scorePay p (k0_pay37 i x0 x1 x2 x3 x4 x5 x6 x7 x8 x9 x10 x11 x12 x13 x14 x15 x16) s x
      = scoreR (weights x7 x8 x9 x10 x11 x12 x13 x14 x15 x16) (tok i x0 x1 x2 x3 x4 x5 x6 (y 2)) (y 0) (y 1) := by
  have e0 : y 0 = p := Fin.ext h0
  have e1 : x 1 = y 1 := Fin.ext h1.symm
  have e2 : x 2 = y 2 := Fin.ext h2.symm
  rw [e0, ← e1, ← e2]
  obtain ⟨k, hk⟩ : ∃ k : Fin 128, x 1 = k := ⟨_, rfl⟩
  obtain ⟨r, hr⟩ : ∃ r : Fin 256, x 2 = r := ⟨_, rfl⟩
  rw [hk, hr]
  have e : scorePay p (k0_pay37 i x0 x1 x2 x3 x4 x5 x6 x7 x8 x9 x10 x11 x12 x13 x14 x15 x16) s x
      = ∑ c : Fin 128, s (ix3 0 k c) * k0_pay37 i x0 x1 x2 x3 x4 x5 x6 x7 x8 x9 x10 x11 x12 x13 x14 x15 x16 (ix2 r ⟨128 * p.val + c.val, by omega⟩) := by
    rw [← hk, ← hr]; rfl
  rw [e]
  simp only [pay37_at, hs]
  rfl

theorem out19_at (y : S16x128x256.Idx) : out0_19 i x0 x1 x2 x3 x4 x5 x6 x7 x8 x9 x10 x11 x12 x13 x14 x15 x16 y
      = scoreR (weights x7 x8 x9 x10 x11 x12 x13 x14 x15 x16) (tok i x0 x1 x2 x3 x4 x5 x6 (y 2)) (y 0) (y 1) := by
  have store : ∀ (p : Fin 16) (s : Vec Ideal S1x128x128 .bf16) (v : FVec Ideal S1x128x256 .f32) (x : S1x128x256.Idx)
      (hv : v = scorePay p (k0_pay37 i x0 x1 x2 x3 x4 x5 x6 x7 x8 x9 x10 x11 x12 x13 x14 x15 x16) s)
      (hs : ∀ k c : Fin 128, s (ix3 0 k c) = x16 (ix3 (⟨p.val % 2, by omega⟩ : Fin 2) k c))
      (h0 : (y 0).val = p.val) (h1 : (y 1).val = (x 1).val) (h2 : (y 2).val = (x 2).val),
      v x = scoreR (weights x7 x8 x9 x10 x11 x12 x13 x14 x15 x16) (tok i x0 x1 x2 x3 x4 x5 x6 (y 2)) (y 0) (y 1) :=
    fun p s v x hv hs h0 h1 h2 => by
      rw [hv]
      exact score_store i x0 x1 x2 x3 x4 x5 x6 x7 x8 x9 x10 x11 x12 x13 x14 x15 x16 p s hs x y h0 h1 h2
  have even : ∀ k c : Fin 128, View.ld x16 r0_13 (ix3 0 k c) = x16 (ix3 0 k c) := fun k c => by pointwise
  have odd : ∀ k c : Fin 128, View.ld x16 r0_15 (ix3 0 k c) = x16 (ix3 1 k c) := fun k c => by pointwise
  unfold out0_19
  canon_tiles x h
  case piece0 => exact store 15 _ _ x (score_15 ..) odd (by omega) h1 h2
  case piece1 => exact store 14 _ _ x (score_14 ..) even (by omega) h1 h2
  case piece2 => exact store 13 _ _ x (score_13 ..) odd (by omega) h1 h2
  case piece3 => exact store 12 _ _ x (score_12 ..) even (by omega) h1 h2
  case piece4 => exact store 11 _ _ x (score_11 ..) odd (by omega) h1 h2
  case piece5 => exact store 10 _ _ x (score_10 ..) even (by omega) h1 h2
  case piece6 => exact store 9 _ _ x (score_9 ..) odd (by omega) h1 h2
  case piece7 => exact store 8 _ _ x (score_8 ..) even (by omega) h1 h2
  case piece8 => exact store 7 _ _ x (score_7 ..) odd (by omega) h1 h2
  case piece9 => exact store 6 _ _ x (score_6 ..) even (by omega) h1 h2
  case piece10 => exact store 5 _ _ x (score_5 ..) odd (by omega) h1 h2
  case piece11 => exact store 4 _ _ x (score_4 ..) even (by omega) h1 h2
  case piece12 => exact store 3 _ _ x (score_3 ..) odd (by omega) h1 h2
  case piece13 => exact store 2 _ _ x (score_2 ..) even (by omega) h1 h2
  case piece14 => exact store 1 _ _ x (score_1 ..) odd (by omega) h1 h2
  case piece15 => exact store 0 _ _ x (score_0 ..) even (by omega) h1 h2

end

end Cert.Merge

end
-- ==== Proof.Merge.Arrays.lean ====
/- The merge region's result arrays, element by element, of the arrays the region finds. -/
module

public import proofs.«01_k».proof.Proof.Merge.Block
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Merge

open Cert.Kernel2Ideal Cert.Kernel2Ideal.Gen Cert.Kernel2Ideal.Facts₀

/-- The grid's points are its coordinates. -/
theorem coord : ∀ t : Fin cfg0.N, (grid0.coords t 0).val = t.val :=
  (by decide +kernel : ∀ t : Fin grid0.N, _)

theorem points : ∀ t : Fin cfg0.N, t.val < 66 :=
  (by decide +kernel : ∀ t : Fin grid0.N, t.val < 66)

/-- The row blocks' indices: the prompt's, held at its last; the sample's single block; every tile's. -/
theorem idxRow : ∀ t : Fin cfg0.N, win0_0.index t = ![min t.val 63, 0] ∧ win0_1.index t = ![0, 0]
    ∧ win0_2.index t = ![min t.val 63, 0] ∧ win0_3.index t = ![0, 0] ∧ win0_4.index t = ![t.val, 0]
    ∧ win0_5.index t = ![min t.val 63, 0] ∧ win0_6.index t = ![0, 0] :=
  (by decide +kernel : ∀ t : Fin grid0.N, _)

/-- The weights' blocks are whole. -/
theorem idxWeight : ∀ t : Fin cfg0.N, win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0, 0] :=
  (by decide +kernel : ∀ t : Fin grid0.N, _)

/-- The results' blocks: every tile's. -/
theorem idxOut : ∀ t : Fin cfg0.N, win0_17.index t = ![t.val, 0] ∧ win0_18.index t = ![t.val, 0]
    ∧ win0_19.index t = ![0, 0, t.val] :=
  (by decide +kernel : ∀ t : Fin grid0.N, _)

/-- Token `n` of the tiles' rows: the prompt's rows, then the sample's. -/
def tokArr (x0 : FVec Ideal S16384x1024 .f32) (x1 : FVec Ideal S256x1024 .f32) (x2 : FVec Ideal S16384x256 .bf16)
    (x3 : FVec Ideal S256x256 .bf16) (x4 : FVec Ideal S16896x256 .bf16) (x5 : FVec Ideal S16384x512 .bf16)
    (x6 : FVec Ideal S256x512 .bf16) (n : Fin 16896) : Token where
  x k := if h : n.val < 16384 then x0 (ix2 ⟨n.val, h⟩ k) else x1 (ix2 ⟨n.val % 256, by omega⟩ k)
  ya k := if h : n.val < 16384 then x2 (ix2 ⟨n.val, h⟩ k) else x3 (ix2 ⟨n.val % 256, by omega⟩ k)
  yb k := x4 (ix2 n k)
  yc k := if h : n.val < 16384 then x5 (ix2 ⟨n.val, h⟩ k) else x6 (ix2 ⟨n.val % 256, by omega⟩ k)

variable (m : (ℓ : Loc nD τ sig) → Buf (Elt Ideal) ℓ) (c : Dev nD)

theorem rd0 (t : Fin cfg0.N) (h : t.val < 64) (r : Fin 256) (l : Fin 1024) :
    (iblk m c 0 t : Vec Ideal S256x1024 .f32) (ix2 r l) = (V m c main_v4 : FVec Ideal S16384x1024 .f32)
      (ix2 ⟨t.val * 256 + r.val, by omega⟩ l) := by
  have e : min t.val 63 = t.val := by omega
  blk_ext [iblk, (idxRow t).1, e]

theorem rd2 (t : Fin cfg0.N) (h : t.val < 64) (r : Fin 256) (l : Fin 256) :
    (iblk m c 2 t : Vec Ideal S256x256 .bf16) (ix2 r l) = (V m c main_v7 : FVec Ideal S16384x256 .bf16)
      (ix2 ⟨t.val * 256 + r.val, by omega⟩ l) := by
  have e : min t.val 63 = t.val := by omega
  blk_ext [iblk, (idxRow t).2.2.1, e]

theorem rd5 (t : Fin cfg0.N) (h : t.val < 64) (r : Fin 256) (l : Fin 512) :
    (iblk m c 5 t : Vec Ideal S256x512 .bf16) (ix2 r l) = (V m c main_v12 : FVec Ideal S16384x512 .bf16)
      (ix2 ⟨t.val * 256 + r.val, by omega⟩ l) := by
  have e : min t.val 63 = t.val := by omega
  blk_ext [iblk, (idxRow t).2.2.2.2.2.1, e]

theorem rd4 (t : Fin cfg0.N) (r : Fin 256) (l : Fin 256) :
    (iblk m c 4 t : Vec Ideal S256x256 .bf16) (ix2 r l) = (V m c main_v10 : FVec Ideal S16896x256 .bf16)
      (ix2 ⟨t.val * 256 + r.val, by have := points t; omega⟩ l) := by
  blk_ext [iblk, (idxRow t).2.2.2.2.1]

theorem rd1 (t : Fin cfg0.N) : (iblk m c 1 t : Vec Ideal S256x1024 .f32) = (V m c main_v5 : FVec Ideal S256x1024 .f32) := by
  blk_ext! [iblk, (idxRow t).2.1]

theorem rd3 (t : Fin cfg0.N) : (iblk m c 3 t : Vec Ideal S256x256 .bf16) = (V m c main_v9 : FVec Ideal S256x256 .bf16) := by
  blk_ext! [iblk, (idxRow t).2.2.2.1]

theorem rd6 (t : Fin cfg0.N) : (iblk m c 6 t : Vec Ideal S256x512 .bf16) = (V m c main_v14 : FVec Ideal S256x512 .bf16) := by
  blk_ext! [iblk, (idxRow t).2.2.2.2.2.2]

theorem rd7 (t : Fin cfg0.N) : (iblk m c 7 t : Vec Ideal S1x1024 .f32) = (V m c main_v15 : FVec Ideal S1x1024 .f32) := by
  blk_ext! [iblk, (idxWeight t).1]

theorem rd8 (t : Fin cfg0.N) : (iblk m c 8 t : Vec Ideal S1024x3072 .bf16) = (V m c main_v16 : FVec Ideal S1024x3072 .bf16) := by
  blk_ext! [iblk, (idxWeight t).2.1]

theorem rd9 (t : Fin cfg0.N) : (iblk m c 9 t : Vec Ideal S1x3072 .f32) = (V m c main_v17 : FVec Ideal S1x3072 .f32) := by
  blk_ext! [iblk, (idxWeight t).2.2.1]

theorem rd10 (t : Fin cfg0.N) : (iblk m c 10 t : Vec Ideal S256x1024 .bf16) = (V m c main_v18 : FVec Ideal S256x1024 .bf16) := by
  blk_ext! [iblk, (idxWeight t).2.2.2.1]

theorem rd11 (t : Fin cfg0.N) : (iblk m c 11 t : Vec Ideal S256x1024 .bf16) = (V m c main_v19 : FVec Ideal S256x1024 .bf16) := by
  blk_ext! [iblk, (idxWeight t).2.2.2.2.1]

theorem rd12 (t : Fin cfg0.N) : (iblk m c 12 t : Vec Ideal S512x1024 .bf16) = (V m c main_v20 : FVec Ideal S512x1024 .bf16) := by
  blk_ext! [iblk, (idxWeight t).2.2.2.2.2.1]

theorem rd13 (t : Fin cfg0.N) : (iblk m c 13 t : Vec Ideal S1024x1024 .bf16) = (V m c main_v21 : FVec Ideal S1024x1024 .bf16) := by
  blk_ext! [iblk, (idxWeight t).2.2.2.2.2.2.1]

theorem rd14 (t : Fin cfg0.N) : (iblk m c 14 t : Vec Ideal S1x1024 .f32) = (V m c main_v22 : FVec Ideal S1x1024 .f32) := by
  blk_ext! [iblk, (idxWeight t).2.2.2.2.2.2.2.1]

theorem rd15 (t : Fin cfg0.N) : (iblk m c 15 t : Vec Ideal S1024x2048 .bf16) = (V m c main_v23 : FVec Ideal S1024x2048 .bf16) := by
  blk_ext! [iblk, (idxWeight t).2.2.2.2.2.2.2.2.1]

theorem rd16 (t : Fin cfg0.N) : (iblk m c 16 t : Vec Ideal S2x128x128 .bf16) = (V m c main_v24 : FVec Ideal S2x128x128 .bf16) := by
  blk_ext! [iblk, (idxWeight t).2.2.2.2.2.2.2.2.2]

end Cert.Merge

end
-- ==== Proof.Merge.Results.lean ====
/- The merge region's three results as functions of the arrays it finds. -/
module

public import proofs.«01_k».proof.Proof.Merge.Arrays

@[expose] public section

set_option maxRecDepth 16384

noncomputable section

open Idealize.ShloMosaic Idealize.ShloMosaic.TcCoe Idealize.SL.Sem
open Idealize.ShloMosaic.Pipeline (Dat)

namespace Cert.Merge

open Cert.Kernel2Ideal Cert.Kernel2Ideal.Gen Cert.Kernel2Ideal.Facts₀

/-- A row of a tile's blocks is its token, of what the blocks are in the arrays. -/
theorem tok_of (i : grid0.Coords) (T : Fin 66) (hi : (i 0).val = T.val)
    (x0 x1 : FVec Ideal S256x1024 .f32) (x2 x3 x4 : FVec Ideal S256x256 .bf16) (x5 x6 : FVec Ideal S256x512 .bf16)
    (A0 : FVec Ideal S16384x1024 .f32) (A1 : FVec Ideal S256x1024 .f32) (A2 : FVec Ideal S16384x256 .bf16)
    (A3 : FVec Ideal S256x256 .bf16) (A4 : FVec Ideal S16896x256 .bf16) (A5 : FVec Ideal S16384x512 .bf16)
    (A6 : FVec Ideal S256x512 .bf16)
    (h0 : ∀ (h : T.val < 64) (r : Fin 256) (l : Fin 1024), x0 (ix2 r l) = A0 (ix2 ⟨T.val * 256 + r.val, by omega⟩ l)) (h1 : x1 = A1)
    (h2 : ∀ (h : T.val < 64) (r : Fin 256) (l : Fin 256), x2 (ix2 r l) = A2 (ix2 ⟨T.val * 256 + r.val, by omega⟩ l)) (h3 : x3 = A3)
    (h4 : ∀ (r : Fin 256) (l : Fin 256), x4 (ix2 r l) = A4 (ix2 ⟨T.val * 256 + r.val, by omega⟩ l))
    (h5 : ∀ (h : T.val < 64) (r : Fin 256) (l : Fin 512), x5 (ix2 r l) = A5 (ix2 ⟨T.val * 256 + r.val, by omega⟩ l)) (h6 : x6 = A6)
    (r : Fin 256) (n : Fin 16896) (hn : n.val = T.val * 256 + r.val) :
    tok i x0 x1 x2 x3 x4 x5 x6 r = tokArr A0 A1 A2 A3 A4 A5 A6 n := by
  subst h1 h3 h6
  obtain rfl : n = ⟨T.val * 256 + r.val, by clear hn n; omega⟩ := Fin.ext hn
  unfold tok tokArr
  rw [hi]
  by_cases h : T.val < 64
  · have hr : T.val * 256 + r.val < 16384 := by omega
    simp only [if_pos h, dif_pos hr, h0 h, h2 h, h4, h5 h]
  · have hr : ¬ T.val * 256 + r.val < 16384 := by omega
    have hm : (⟨(T.val * 256 + r.val) % 256, by omega⟩ : Fin 256) = r := Fin.ext (by simp only; omega)
    simp only [if_neg h, dif_neg hr, h4, hm]

variable (m : (ℓ : Loc nD τ sig) → Buf (Elt Ideal) ℓ) (c : Dev nD)

/-- The weights as the region finds them. -/
def wts : Weights :=
  weights (V m c main_v15)
    (V m c main_v16)
    (V m c main_v17)
    (V m c main_v18)
    (V m c main_v19)
    (V m c main_v20)
    (V m c main_v21)
    (V m c main_v22)
    (V m c main_v23)
    (V m c main_v24)

/-- The tokens as the region finds them. -/
def toks (n : Fin 16896) : Token :=
  tokArr (V m c main_v4)
    (V m c main_v5)
    (V m c main_v7)
    (V m c main_v9)
    (V m c main_v10)
    (V m c main_v12)
    (V m c main_v14) n

theorem wts_eq (t : Fin cfg0.N) : weights (iblk m c 7 t) (iblk m c 8 t) (iblk m c 9 t) (iblk m c 10 t) (iblk m c 11 t) (iblk m c 12 t) (iblk m c 13 t) (iblk m c 14 t) (iblk m c 15 t) (iblk m c 16 t) = wts m c := by
  rw [wts, ← rd7 m c t, ← rd8 m c t, ← rd9 m c t, ← rd10 m c t, ← rd11 m c t, ← rd12 m c t, ← rd13 m c t, ← rd14 m c t,
    ← rd15 m c t, ← rd16 m c t]

theorem toks_eq (t : Fin cfg0.N) (r : Fin 256) (n : Fin 16896) (hn : n.val = t.val * 256 + r.val) :
    tok (grid0.coords t) (iblk m c 0 t) (iblk m c 1 t) (iblk m c 2 t) (iblk m c 3 t) (iblk m c 4 t) (iblk m c 5 t) (iblk m c 6 t) r = toks m c n :=
  tok_of (grid0.coords t) ⟨t.val, points t⟩ (coord t) _ _ _ _ _ _ _ _ _ _ _ _ _ _
    (fun h r l => rd0 m c t h r l) (rd1 m c t) (fun h r l => rd2 m c t h r l) (rd3 m c t) (fun r l => rd4 m c t r l)
    (fun h r l => rd5 m c t h r l) (rd6 m c t) r n hn

theorem row17 (t : Fin cfg0.N) (y : S256x1024.Idx) :
    ((win0_17.blk t).view.emb y 0).val = t.val * 256 + (y 0).val := by
  blk_simp [(idxOut t).1]

theorem col17 (t : Fin cfg0.N) (y : S256x1024.Idx) :
    ((win0_17.blk t).view.emb y 1).val = (y 1).val := by
  blk_simp [(idxOut t).1]

theorem hid_arr : (dats m 0 c).arrAt 17 cfg0.N
    = (fun y => hidR (wts m c) (toks m c (y 0)) (y 1) : FVec Ideal S16896x1024 .f32) := by
  refine (dats m 0 c).arrAt_eq_of_covers 17 _ (by decide +kernel) fun t _ y => ?_
  blk_simp
  rw [after0_17]
  refine (out17_at (grid0.coords t) _ _ _ _ _ _ _ _ _ _ _ _ _ _ _ _ _ y).trans ?_
  rw [wts_eq, toks_eq m c t _ _ (row17 t y)]
  exact congrArg (hidR (wts m c) _) (Fin.ext (col17 t y).symm)

theorem row18 (t : Fin cfg0.N) (y : S256x1024.Idx) :
    ((win0_18.blk t).view.emb y 0).val = t.val * 256 + (y 0).val := by
  blk_simp [(idxOut t).2.1]

theorem col18 (t : Fin cfg0.N) (y : S256x1024.Idx) :
    ((win0_18.blk t).view.emb y 1).val = (y 1).val := by
  blk_simp [(idxOut t).2.1]

theorem hn_arr : (dats m 0 c).arrAt 18 cfg0.N
    = (fun y => hnR (wts m c) (toks m c (y 0)) (y 1) : FVec Ideal S16896x1024 .bf16) := by
  refine (dats m 0 c).arrAt_eq_of_covers 18 _ (by decide +kernel) fun t _ y => ?_
  blk_simp
  rw [after0_18]
  refine (out18_at (grid0.coords t) _ _ _ _ _ _ _ _ _ _ _ _ _ _ _ _ _ y).trans ?_
  rw [wts_eq, toks_eq m c t _ _ (row18 t y)]
  exact congrArg (hnR (wts m c) _) (Fin.ext (col18 t y).symm)

theorem half19 (t : Fin cfg0.N) (y : S16x128x256.Idx) : ((win0_19.blk t).view.emb y 0).val = (y 0).val := by
  blk_simp [(idxOut t).2.2]

theorem key19 (t : Fin cfg0.N) (y : S16x128x256.Idx) : ((win0_19.blk t).view.emb y 1).val = (y 1).val := by
  blk_simp [(idxOut t).2.2]

theorem row19 (t : Fin cfg0.N) (y : S16x128x256.Idx) :
    ((win0_19.blk t).view.emb y 2).val = t.val * 256 + (y 2).val := by
  blk_simp [(idxOut t).2.2]

theorem score_arr : (dats m 0 c).arrAt 19 cfg0.N
    = (fun y => scoreR (wts m c) (toks m c (y 2)) (y 0) (y 1) : FVec Ideal S16x128x16896 .f32) := by
  refine (dats m 0 c).arrAt_eq_of_covers 19 _ (by decide +kernel) fun t _ y => ?_
  blk_simp
  rw [after0_19]
  refine (out19_at (grid0.coords t) _ _ _ _ _ _ _ _ _ _ _ _ _ _ _ _ _ y).trans ?_
  rw [wts_eq, toks_eq m c t _ _ (row19 t y)]
  exact congrArg₂ (scoreR (wts m c) _) (Fin.ext (half19 t y).symm) (Fin.ext (key19 t y).symm)

end Cert.Merge

end
-- ==== Proof.Merge.RefDef.lean ====
/- The reference's results, stage by stage, and each stage at an index. -/
module

public import proofs.«01_k».proof.Proof.Gen.Reference2Ideal.Run
public import proofs.«01_k».proof.Proof.Merge.Rows
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Merge.Ref

open Cert.Reference2Ideal Cert.Reference2Ideal.Gen Cert.Reference2Ideal.Facts₀

variable {F : FTy → Type} [FloatOps F] [Named F]

/-- The prompt's rows, then the sample's. -/
def rowsX (a : FVec F S2x8192x1024 .f32) (b : FVec F S8x32x1024 .f32) : FVec F S16640x1024 .f32 :=
  concatenate S16640x1024 0 [⟨S16384x1024, (shapeCast _ a Facts₀.shapeCasts_S2x8192x1024_S16384x1024)⟩, ⟨S256x1024, (shapeCast _ b Facts₀.shapeCasts_S8x32x1024_S256x1024)⟩] Facts₀.concatenates_S16384x1024_S256x1024_S16640x1024_d0

/-- The prompt's rows, then the sample's. -/
def rowsY (a : FVec F S2x8192x256 .f32) (b : FVec F S8x32x256 .f32) : FVec F S16640x256 .f32 :=
  concatenate S16640x256 0 [⟨S16384x256, (shapeCast _ a Facts₀.shapeCasts_S2x8192x256_S16384x256)⟩, ⟨S256x256, (shapeCast _ b Facts₀.shapeCasts_S8x32x256_S256x256)⟩] Facts₀.concatenates_S16384x256_S256x256_S16640x256_d0

/-- The prompt's rows, then the sample's. -/
def rowsC (a : FVec F S2x8192x512 .f32) (b : FVec F S8x32x512 .f32) : FVec F S16640x512 .f32 :=
  concatenate S16640x512 0 [⟨S16384x512, (shapeCast _ a Facts₀.shapeCasts_S2x8192x512_S16384x512)⟩, ⟨S256x512, (shapeCast _ b Facts₀.shapeCasts_S8x32x512_S256x512)⟩] Facts₀.concatenates_S16384x512_S256x512_S16640x512_d0

/-- The norm of every row. -/
def normV (x : FVec F S16640x1024 .f32) (g : FVec F S1024 .f32) : FVec F S16640x1024 .f32 :=
  mulf (mulf x (broadcastInDim S16640x1024 ![0, 1] Facts₀.bcast_S16640x1_S16640x1024_0_1 (Host.rsqrt (addf (Host.divf (broadcastInDim S16640x1 ![0] Facts₀.bcast_S16640_S16640x1_0 (Host.reduceAdd (mulf x x) (constant S_ .f32 0x00000000#32) Facts₀.reducesTo_S16640x1024_S16640_d1 Facts₀.h_S_)) (broadcastInDim S16640x1 ![] Facts₀.bcast_S_S16640x1 (constant S_ .f32 0x44800000#32))) (broadcastInDim S16640x1 ![] Facts₀.bcast_S_S16640x1 (constant S_ .f32 0x358637BD#32)))))) (broadcastInDim S16640x1024 ![0, 1] Facts₀.bcast_S1x1024_S16640x1024_0_1 (broadcastInDim S1x1024 ![1] Facts₀.bcast_S1024_S1x1024_1 g))

/-- The three gates of every row. -/
def gatesV (xn : FVec F S16640x1024 .f32) (w : FVec F S1024x3072 .f32) (b : FVec F S3072 .f32) : FVec F S16640x3x1024 .f32 :=
  shapeCast S16640x3x1024 (Host.divf (broadcastInDim S16640x3072 ![] Facts₀.bcast_S_S16640x3072 (constant S_ .f32 0x3F800000#32)) (addf (broadcastInDim S16640x3072 ![] Facts₀.bcast_S_S16640x3072 (constant S_ .f32 0x3F800000#32)) (Host.exp (Host.negf (addf (Host.dotGeneral dot_S16640x1024_S1024x3072_S16640x3072_1_0_0_1_n_n none xn w) (broadcastInDim S16640x3072 ![0, 1] Facts₀.bcast_S1x3072_S16640x3072_0_1 (broadcastInDim S1x3072 ![1] Facts₀.bcast_S3072_S1x3072_1 b))))))) Facts₀.shapeCasts_S16640x3072_S16640x3x1024

/-- One gate. -/
def gateV (g : FVec F S16640x3x1024 .f32) (e : Nat) (hs : S16640x3x1024.Slices ![0, e, 0] S16640x1x1024) : FVec F S16640x1024 .f32 :=
  shapeCast S16640x1024 (extractStridedSlice S16640x1x1024 ![0, e, 0] g hs) Facts₀.shapeCasts_S16640x1x1024_S16640x1024

/-- The gated branches' sum. -/
def mixV (G : FVec F S16640x3x1024 .f32) (ya yb : FVec F S16640x256 .f32) (yc : FVec F S16640x512 .f32)
    (wa wb : FVec F S256x1024 .f32) (wc : FVec F S512x1024 .f32) : FVec F S16640x1024 .f32 :=
  addf (addf (mulf (gateV G 0 Facts₀.slices_S16640x3x1024_S16640x1x1024_0_0_0) (Host.dotGeneral dot_S16640x256_S256x1024_S16640x1024_1_0_0_1_n_n none ya wa)) (mulf (gateV G 1 Facts₀.slices_S16640x3x1024_S16640x1x1024_0_1_0) (Host.dotGeneral dot_S16640x256_S256x1024_S16640x1024_1_0_0_1_n_n none yb wb))) (mulf (gateV G 2 Facts₀.slices_S16640x3x1024_S16640x1x1024_0_2_0) (Host.dotGeneral dot_S16640x512_S512x1024_S16640x1024_1_0_0_1_n_n none yc wc))

/-- The hidden rows. -/
def hidV (x mx : FVec F S16640x1024 .f32) (w : FVec F S1024x1024 .f32) : FVec F S16640x1024 .f32 :=
  addf x (Host.dotGeneral dot_S16640x1024_S1024x1024_S16640x1024_1_0_0_1_n_n none mx w)

/-- The queries, by half-head. -/
def queryV (hn : FVec F S16640x1024 .f32) (w : FVec F S1024x2048 .f32) : FVec F S16640x8x2x128 .f32 :=
  shapeCast S16640x8x2x128 (Host.dotGeneral dot_S16640x1024_S1024x2048_S16640x2048_1_0_0_1_n_n none hn w) Facts₀.shapeCasts_S16640x2048_S16640x8x2x128

/-- The scores of every half-head and sub-key. -/
def scoreV (q : FVec F S16640x8x2x128 .f32) (s : FVec F S2x128x128 .f32) : FVec F S16x128x16640 .f32 :=
  shapeCast S16x128x16640 (transpose S8x2x128x16640 [1, 2, 3, 0] (transpose S16640x8x2x128 [2, 3, 0, 1] (Host.dotGeneral dot_S2x128x128_S16640x8x2x128_S2x128x16640x8_2_3_1_01_0_2 none s q) Facts₀.transposes_S2x128x16640x8_S16640x8x2x128_2_3_0_1) Facts₀.transposes_S16640x8x2x128_S8x2x128x16640_1_2_3_0) Facts₀.shapeCasts_S8x2x128x16640_S16x128x16640

variable (a0 : FVec F S2x8192x1024 .f32) (a1 : FVec F S8x32x1024 .f32) (a2 : FVec F S2x8192x256 .f32) (a3 : FVec F S8x32x256 .f32) (a4 : FVec F S2x8192x256 .f32) (a5 : FVec F S8x32x256 .f32) (a6 : FVec F S2x8192x512 .f32) (a7 : FVec F S8x32x512 .f32) (a8 : FVec F S1024 .f32) (a9 : FVec F S1024x3072 .f32) (a10 : FVec F S3072 .f32) (a11 : FVec F S256x1024 .f32) (a12 : FVec F S256x1024 .f32) (a13 : FVec F S512x1024 .f32) (a14 : FVec F S1024x1024 .f32) (a15 : FVec F S1024 .f32) (a16 : FVec F S1024x2048 .f32) (a17 : FVec F S2x128x128 .f32)

/-- The hidden rows, of the arguments. -/
def hid : FVec F S16640x1024 .f32 :=
  hidV (rowsX a0 a1) (mixV (gatesV (normV (rowsX a0 a1) a8) a9 a10) (rowsY a2 a3) (rowsY a4 a5) (rowsC a6 a7) a11 a12 a13) a14

variable (m : (ℓ : Loc nD τ sig) → Buf (Elt F) ℓ) (c : Dev nD)

/-- The hidden rows, of what the reference finds. -/
def hidM : FVec F S16640x1024 .f32 :=
  hid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))

theorem res0_eq : Cert.Reference2Ideal.Value.res_main_v51 m c = hidM m c := rfl

theorem res1_eq : Cert.Reference2Ideal.Value.res_main_v69 m c
    = truncf .bf16 (normV (hidM m c) (m ((c.tc : Thread nD τ).loc main_arg15))) Facts₀.bitsLt_bf16_f32 := rfl

theorem res2_eq : Cert.Reference2Ideal.Value.res_main_v71 m c
    = scoreV (queryV (normV (hidM m c) (m ((c.tc : Thread nD τ).loc main_arg15))) (m ((c.tc : Thread nD τ).loc main_arg16)))
        (m ((c.tc : Thread nD τ).loc main_arg17)) := rfl

end Cert.Merge.Ref

end
-- ==== Proof.Merge.Ref.lean ====
/- The reference's stages at an index, and its results as the tokens' rows. -/
module

public import proofs.«01_k».proof.Proof.Merge.RefDef

@[expose] public section

set_option maxRecDepth 16384

noncomputable section

open Idealize.ShloMosaic Idealize.ShloMosaic.TcCoe Idealize.SL.Sem Idealize.ShloMosaic.StableHlo

namespace Cert.Merge.Ref

open Cert.Reference2Ideal Cert.Reference2Ideal.Gen Cert.Reference2Ideal.Facts₀

theorem rowsX_at (a : FVec Ideal S2x8192x1024 .f32) (b : FVec Ideal S8x32x1024 .f32) (n : Fin 16640) (k : Fin 1024) :
    rowsX a b (ix2 n k) = if h : n.val < 16384 then a (ix3 ⟨n.val / 8192, by omega⟩ ⟨n.val % 8192, by omega⟩ k)
      else b (ix3 ⟨(n.val - 16384) / 32, by omega⟩ ⟨(n.val - 16384) % 32, by omega⟩ k) := by
  pointwise [rowsX]

theorem rowsY_at (a : FVec Ideal S2x8192x256 .f32) (b : FVec Ideal S8x32x256 .f32) (n : Fin 16640) (k : Fin 256) :
    rowsY a b (ix2 n k) = if h : n.val < 16384 then a (ix3 ⟨n.val / 8192, by omega⟩ ⟨n.val % 8192, by omega⟩ k)
      else b (ix3 ⟨(n.val - 16384) / 32, by omega⟩ ⟨(n.val - 16384) % 32, by omega⟩ k) := by
  pointwise [rowsY]

theorem rowsC_at (a : FVec Ideal S2x8192x512 .f32) (b : FVec Ideal S8x32x512 .f32) (n : Fin 16640) (k : Fin 512) :
    rowsC a b (ix2 n k) = if h : n.val < 16384 then a (ix3 ⟨n.val / 8192, by omega⟩ ⟨n.val % 8192, by omega⟩ k)
      else b (ix3 ⟨(n.val - 16384) / 32, by omega⟩ ⟨(n.val - 16384) % 32, by omega⟩ k) := by
  pointwise [rowsC]

theorem normV_at (x : FVec Ideal S16640x1024 .f32) (g : FVec Ideal S1024 .f32) (n : Fin 16640) (j : Fin 1024) :
    normV x g (ix2 n j) = normR (fun k => x (ix2 n k)) (fun k => g (ix1 k)) j := by
  pointwise [normV, normR]

theorem gatesV_at (xn : FVec Ideal S16640x1024 .f32) (w : FVec Ideal S1024x3072 .f32) (b : FVec Ideal S3072 .f32)
    (n : Fin 16640) (e : Fin 3) (j : Fin 1024) :
    gatesV xn w b (ix3 n e j)
      = Ideal.logistic (∑ k : Fin 1024, xn (ix2 n k) * w (ix2 k (gcol e j)) + b (ix1 (gcol e j))) := by
  have e' : (⟨e.val * 1024 + j.val, by omega⟩ : Fin 3072) = gcol e j := Fin.ext (by simp only [gcol]; omega)
  rw [← e']
  unfold Ideal.logistic
  pointwise [gatesV]

theorem gateV_at (g : FVec Ideal S16640x3x1024 .f32) (e : Fin 3) (hs : S16640x3x1024.Slices ![0, e.val, 0] S16640x1x1024)
    (n : Fin 16640) (j : Fin 1024) : gateV g e.val hs (ix2 n j) = g (ix3 n e j) := by
  pointwise [gateV]

theorem mixV_at (G : FVec Ideal S16640x3x1024 .f32) (ya yb : FVec Ideal S16640x256 .f32) (yc : FVec Ideal S16640x512 .f32)
    (wa wb : FVec Ideal S256x1024 .f32) (wc : FVec Ideal S512x1024 .f32) (n : Fin 16640) (j : Fin 1024) :
    mixV G ya yb yc wa wb wc (ix2 n j)
      = G (ix3 n 0 j) * (∑ k : Fin 256, ya (ix2 n k) * wa (ix2 k j)) + G (ix3 n 1 j) * (∑ k : Fin 256, yb (ix2 n k) * wb (ix2 k j))
        + G (ix3 n 2 j) * (∑ k : Fin 512, yc (ix2 n k) * wc (ix2 k j)) := by
  have e0 := gateV_at G 0 Facts₀.slices_S16640x3x1024_S16640x1x1024_0_0_0 n j
  have e1 := gateV_at G 1 Facts₀.slices_S16640x3x1024_S16640x1x1024_0_1_0 n j
  have e2 := gateV_at G 2 Facts₀.slices_S16640x3x1024_S16640x1x1024_0_2_0 n j
  pointwise [mixV]
  rw [show gateV G 0 _ (ix2 n j) = _ from e0, show gateV G 1 _ (ix2 n j) = _ from e1, show gateV G 2 _ (ix2 n j) = _ from e2]

theorem hidV_at (x mx : FVec Ideal S16640x1024 .f32) (w : FVec Ideal S1024x1024 .f32) (n : Fin 16640) (j : Fin 1024) :
    hidV x mx w (ix2 n j) = x (ix2 n j) + ∑ k : Fin 1024, mx (ix2 n k) * w (ix2 k j) := by
  pointwise [hidV]

theorem queryV_at (hn : FVec Ideal S16640x1024 .f32) (w : FVec Ideal S1024x2048 .f32) (n : Fin 16640) (h : Fin 8) (p : Fin 2)
    (c : Fin 128) :
    queryV hn w (ix4 n h p c) = ∑ k : Fin 1024, hn (ix2 n k) * w (ix2 k ⟨h.val * 256 + p.val * 128 + c.val, by omega⟩) := by
  pointwise [queryV]

theorem scoreV_at (q : FVec Ideal S16640x8x2x128 .f32) (s : FVec Ideal S2x128x128 .f32) (p : Fin 16) (k : Fin 128) (n : Fin 16640) :
    scoreV q s (ix3 p k n) = ∑ c : Fin 128, s (ix3 ⟨p.val % 2, by omega⟩ k c)
      * q (ix4 n ⟨p.val / 2, by omega⟩ ⟨p.val % 2, by omega⟩ c) := by
  pointwise [scoreV]

/-- The weights, of the arguments. -/
def weights (a8 : FVec Ideal S1024 .f32) (a9 : FVec Ideal S1024x3072 .f32) (a10 : FVec Ideal S3072 .f32) (a11 : FVec Ideal S256x1024 .f32) (a12 : FVec Ideal S256x1024 .f32) (a13 : FVec Ideal S512x1024 .f32) (a14 : FVec Ideal S1024x1024 .f32) (a15 : FVec Ideal S1024 .f32) (a16 : FVec Ideal S1024x2048 .f32) (a17 : FVec Ideal S2x128x128 .f32) : Weights where
  gmix k := a8 (ix1 k)
  wg k l := a9 (ix2 k l)
  bg l := a10 (ix1 l)
  wa k j := a11 (ix2 k j)
  wb k j := a12 (ix2 k j)
  wc k j := a13 (ix2 k j)
  wo k j := a14 (ix2 k j)
  gffn k := a15 (ix1 k)
  wq k l := a16 (ix2 k l)
  sk p k c := a17 (ix3 p k c)

/-- Token `n`, of the arguments: the prompt's tokens, then the sample's. -/
def token (a0 : FVec Ideal S2x8192x1024 .f32) (a1 : FVec Ideal S8x32x1024 .f32) (a2 : FVec Ideal S2x8192x256 .f32) (a3 : FVec Ideal S8x32x256 .f32) (a4 : FVec Ideal S2x8192x256 .f32) (a5 : FVec Ideal S8x32x256 .f32) (a6 : FVec Ideal S2x8192x512 .f32) (a7 : FVec Ideal S8x32x512 .f32) (n : Fin 16640) : Token where
  x k := rowsX a0 a1 (ix2 n k)
  ya k := rowsY a2 a3 (ix2 n k)
  yb k := rowsY a4 a5 (ix2 n k)
  yc k := rowsC a6 a7 (ix2 n k)

section

variable (a0 : FVec Ideal S2x8192x1024 .f32) (a1 : FVec Ideal S8x32x1024 .f32) (a2 : FVec Ideal S2x8192x256 .f32) (a3 : FVec Ideal S8x32x256 .f32) (a4 : FVec Ideal S2x8192x256 .f32) (a5 : FVec Ideal S8x32x256 .f32) (a6 : FVec Ideal S2x8192x512 .f32) (a7 : FVec Ideal S8x32x512 .f32) (a8 : FVec Ideal S1024 .f32) (a9 : FVec Ideal S1024x3072 .f32) (a10 : FVec Ideal S3072 .f32) (a11 : FVec Ideal S256x1024 .f32) (a12 : FVec Ideal S256x1024 .f32) (a13 : FVec Ideal S512x1024 .f32) (a14 : FVec Ideal S1024x1024 .f32) (a15 : FVec Ideal S1024 .f32) (a16 : FVec Ideal S1024x2048 .f32) (a17 : FVec Ideal S2x128x128 .f32)

theorem hid_at (n : Fin 16640) (j : Fin 1024) :
    hid a0 a1 a2 a3 a4 a5 a6 a7 a8 a9 a10 a11 a12 a13 a14 (ix2 n j) = hidR (weights a8 a9 a10 a11 a12 a13 a14 a15 a16 a17) (token a0 a1 a2 a3 a4 a5 a6 a7 n) j := by
  unfold hid
  rw [hidV_at]
  simp only [mixV_at, gatesV_at, normV_at]
  rfl

theorem hn_at (n : Fin 16640) (j : Fin 1024) :
    normV (hid a0 a1 a2 a3 a4 a5 a6 a7 a8 a9 a10 a11 a12 a13 a14) a15 (ix2 n j) = hnR (weights a8 a9 a10 a11 a12 a13 a14 a15 a16 a17) (token a0 a1 a2 a3 a4 a5 a6 a7 n) j := by
  rw [normV_at]
  simp only [hid_at a0 a1 a2 a3 a4 a5 a6 a7 a8 a9 a10 a11 a12 a13 a14 a15 a16 a17]
  rfl

theorem query_at (n : Fin 16640) (h : Fin 8) (p : Fin 2) (c : Fin 128) :
    queryV (normV (hid a0 a1 a2 a3 a4 a5 a6 a7 a8 a9 a10 a11 a12 a13 a14) a15) a16 (ix4 n h p c)
      = qR (weights a8 a9 a10 a11 a12 a13 a14 a15 a16 a17) (token a0 a1 a2 a3 a4 a5 a6 a7 n) ⟨h.val * 256 + p.val * 128 + c.val, by omega⟩ := by
  rw [queryV_at]
  simp only [hn_at a0 a1 a2 a3 a4 a5 a6 a7 a8 a9 a10 a11 a12 a13 a14 a15 a16 a17]
  rfl

theorem score_at (p : Fin 16) (k : Fin 128) (n : Fin 16640) :
    scoreV (queryV (normV (hid a0 a1 a2 a3 a4 a5 a6 a7 a8 a9 a10 a11 a12 a13 a14) a15) a16) a17 (ix3 p k n)
      = scoreR (weights a8 a9 a10 a11 a12 a13 a14 a15 a16 a17) (token a0 a1 a2 a3 a4 a5 a6 a7 n) p k := by
  rw [scoreV_at]
  simp only [query_at a0 a1 a2 a3 a4 a5 a6 a7 a8 a9 a10 a11 a12 a13 a14 a15 a16 a17]
  refine Finset.sum_congr rfl fun c _ => congrArg (a17 _ * ·) (congrArg (qR _ _) (Fin.ext ?_))
  show p.val / 2 * 256 + p.val % 2 * 128 + c.val = 128 * p.val + c.val
  omega

end

end Cert.Merge.Ref

end
-- ==== Proof.Merge.Host.lean ====
/- What the host code leaves in the merge region's operand arrays, and its results of the region's. -/
module

public import proofs.«01_k».proof.Proof.Merge.Results
public import proofs.«01_k».proof.Proof.Merge.Ref

@[expose] public section

set_option maxRecDepth 16384

noncomputable section

open Idealize.ShloMosaic Idealize.ShloMosaic.TcCoe Idealize.SL.Sem Idealize.ShloMosaic.StableHlo
open Idealize.ShloMosaic.Pipeline (Dat)

namespace Cert.Merge

open Cert.Kernel2Ideal Cert.Kernel2Ideal.Gen Cert.Kernel2Ideal.Facts₀

/-- The pooled branch as the region finds it: the prompt's rows, the sample's, zero rows. -/
def pooled (a : FVec Ideal S2x8192x256 .f32) (b : FVec Ideal S8x32x256 .f32) : FVec Ideal S16896x256 .bf16 :=
  truncf .bf16 (concatenate S16896x256 0 [⟨S16384x256, shapeCast S16384x256 a Facts₀.shapeCasts_S2x8192x256_S16384x256⟩,
    ⟨S256x256, shapeCast S256x256 b Facts₀.shapeCasts_S8x32x256_S256x256⟩,
    ⟨S256x256, broadcastInDim S256x256 ![] Facts₀.bcast_S_S256x256 (constant S_ .f32 0x00000000#32)⟩]
    Facts₀.concatenates_S16384x256_S256x256_S256x256_S16896x256_d0) Facts₀.bitsLt_bf16_f32

/-- The rows' arrays, of the arguments. -/
theorem after_rows (σ : Valuation τ sig (Elt Ideal)) :
    after hostOps0 σ main_v4 = shapeCast S16384x1024 (σ main_arg0 : FVec Ideal S2x8192x1024 .f32) Facts₀.shapeCasts_S2x8192x1024_S16384x1024
    ∧ after hostOps0 σ main_v5 = shapeCast S256x1024 (σ main_arg1 : FVec Ideal S8x32x1024 .f32) Facts₀.shapeCasts_S8x32x1024_S256x1024
    ∧ after hostOps0 σ main_v7 = (truncf .bf16 (shapeCast S16384x256 (σ main_arg2 : FVec Ideal S2x8192x256 .f32) Facts₀.shapeCasts_S2x8192x256_S16384x256) Facts₀.bitsLt_bf16_f32 : FVec Ideal S16384x256 .bf16)
    ∧ after hostOps0 σ main_v9 = (truncf .bf16 (shapeCast S256x256 (σ main_arg3 : FVec Ideal S8x32x256 .f32) Facts₀.shapeCasts_S8x32x256_S256x256) Facts₀.bitsLt_bf16_f32 : FVec Ideal S256x256 .bf16)
    ∧ after hostOps0 σ main_v10 = pooled (σ main_arg4) (σ main_arg5)
    ∧ after hostOps0 σ main_v12 = (truncf .bf16 (shapeCast S16384x512 (σ main_arg6 : FVec Ideal S2x8192x512 .f32) Facts₀.shapeCasts_S2x8192x512_S16384x512) Facts₀.bitsLt_bf16_f32 : FVec Ideal S16384x512 .bf16)
    ∧ after hostOps0 σ main_v14 = (truncf .bf16 (shapeCast S256x512 (σ main_arg7 : FVec Ideal S8x32x512 .f32) Facts₀.shapeCasts_S8x32x512_S256x512) Facts₀.bitsLt_bf16_f32 : FVec Ideal S256x512 .bf16) := by
  refine ⟨?_, ?_, ?_, ?_, ?_, ?_, ?_⟩ <;>
    (simp only [hostOps0, TRef.binary, TRef.nullary, TRef.ternary, TRef.unary, TRef.toBuf, TRef.ofBuf, cast_eq]
     after_results_simp
     rfl)

/-- The weights' arrays, of the arguments. -/
theorem after_weights (σ : Valuation τ sig (Elt Ideal)) :
    after hostOps0 σ main_v15 = shapeCast S1x1024 (σ main_arg8 : FVec Ideal S1024 .f32) Facts₀.shapeCasts_S1024_S1x1024
    ∧ after hostOps0 σ main_v16 = (truncf .bf16 (σ main_arg9 : FVec Ideal S1024x3072 .f32) Facts₀.bitsLt_bf16_f32 : FVec Ideal S1024x3072 .bf16)
    ∧ after hostOps0 σ main_v17 = shapeCast S1x3072 (σ main_arg10 : FVec Ideal S3072 .f32) Facts₀.shapeCasts_S3072_S1x3072
    ∧ after hostOps0 σ main_v18 = (truncf .bf16 (σ main_arg11 : FVec Ideal S256x1024 .f32) Facts₀.bitsLt_bf16_f32 : FVec Ideal S256x1024 .bf16)
    ∧ after hostOps0 σ main_v19 = (truncf .bf16 (σ main_arg12 : FVec Ideal S256x1024 .f32) Facts₀.bitsLt_bf16_f32 : FVec Ideal S256x1024 .bf16)
    ∧ after hostOps0 σ main_v20 = (truncf .bf16 (σ main_arg13 : FVec Ideal S512x1024 .f32) Facts₀.bitsLt_bf16_f32 : FVec Ideal S512x1024 .bf16)
    ∧ after hostOps0 σ main_v21 = (truncf .bf16 (σ main_arg14 : FVec Ideal S1024x1024 .f32) Facts₀.bitsLt_bf16_f32 : FVec Ideal S1024x1024 .bf16)
    ∧ after hostOps0 σ main_v22 = shapeCast S1x1024 (σ main_arg15 : FVec Ideal S1024 .f32) Facts₀.shapeCasts_S1024_S1x1024
    ∧ after hostOps0 σ main_v23 = (truncf .bf16 (σ main_arg16 : FVec Ideal S1024x2048 .f32) Facts₀.bitsLt_bf16_f32 : FVec Ideal S1024x2048 .bf16)
    ∧ after hostOps0 σ main_v24 = (truncf .bf16 (σ main_arg17 : FVec Ideal S2x128x128 .f32) Facts₀.bitsLt_bf16_f32 : FVec Ideal S2x128x128 .bf16) := by
  refine ⟨?_, ?_, ?_, ?_, ?_, ?_, ?_, ?_, ?_, ?_⟩ <;>
    (simp only [hostOps0, TRef.binary, TRef.nullary, TRef.ternary, TRef.unary, TRef.toBuf, TRef.ofBuf, cast_eq]
     after_results_simp
     try rfl)

/-- The results, of the region's arrays. -/
theorem after_results (σ : Valuation τ sig (Elt Ideal)) :
    after hostOps1 σ main_v26 = extractStridedSlice S16640x1024 ![0, 0] (σ main_v25_0 : FVec Ideal S16896x1024 .f32) Facts₀.slices_S16896x1024_S16640x1024_0_0
    ∧ after hostOps1 σ main_v27 = extractStridedSlice S16640x1024 ![0, 0] (σ main_v25_1 : FVec Ideal S16896x1024 .bf16) Facts₀.slices_S16896x1024_S16640x1024_0_0
    ∧ after hostOps1 σ main_v28 = extractStridedSlice S16x128x16640 ![0, 0, 0] (σ main_v25_2 : FVec Ideal S16x128x16896 .f32) Facts₀.slices_S16x128x16896_S16x128x16640_0_0_0 := by
  refine ⟨?_, ?_, ?_⟩ <;>
    (simp only [hostOps1, TRef.binary, TRef.nullary, TRef.ternary, TRef.unary, TRef.toBuf, TRef.ofBuf, cast_eq]
     after_results_simp)

/-- The prompt's row `n`, the sample's row `r`. -/
theorem prompt1024_at (x : FVec Ideal S2x8192x1024 .f32) (n : Fin 16384) (k : Fin 1024) :
    shapeCast S16384x1024 x Facts₀.shapeCasts_S2x8192x1024_S16384x1024 (ix2 n k) = x (ix3 ⟨n.val / 8192, by omega⟩ ⟨n.val % 8192, by omega⟩ k) := by
  pointwise

theorem sample1024_at (x : FVec Ideal S8x32x1024 .f32) (r : Fin 256) (k : Fin 1024) :
    shapeCast S256x1024 x Facts₀.shapeCasts_S8x32x1024_S256x1024 (ix2 r k) = x (ix3 ⟨r.val / 32, by omega⟩ ⟨r.val % 32, by omega⟩ k) := by
  pointwise

/-- The prompt's row `n`, the sample's row `r`. -/
theorem prompt256_at (x : FVec Ideal S2x8192x256 .f32) (n : Fin 16384) (k : Fin 256) :
    shapeCast S16384x256 x Facts₀.shapeCasts_S2x8192x256_S16384x256 (ix2 n k) = x (ix3 ⟨n.val / 8192, by omega⟩ ⟨n.val % 8192, by omega⟩ k) := by
  pointwise

theorem sample256_at (x : FVec Ideal S8x32x256 .f32) (r : Fin 256) (k : Fin 256) :
    shapeCast S256x256 x Facts₀.shapeCasts_S8x32x256_S256x256 (ix2 r k) = x (ix3 ⟨r.val / 32, by omega⟩ ⟨r.val % 32, by omega⟩ k) := by
  pointwise

/-- The prompt's row `n`, the sample's row `r`. -/
theorem prompt512_at (x : FVec Ideal S2x8192x512 .f32) (n : Fin 16384) (k : Fin 512) :
    shapeCast S16384x512 x Facts₀.shapeCasts_S2x8192x512_S16384x512 (ix2 n k) = x (ix3 ⟨n.val / 8192, by omega⟩ ⟨n.val % 8192, by omega⟩ k) := by
  pointwise

theorem sample512_at (x : FVec Ideal S8x32x512 .f32) (r : Fin 256) (k : Fin 512) :
    shapeCast S256x512 x Facts₀.shapeCasts_S8x32x512_S256x512 (ix2 r k) = x (ix3 ⟨r.val / 32, by omega⟩ ⟨r.val % 32, by omega⟩ k) := by
  pointwise

theorem pooled_at (x : FVec Ideal S2x8192x256 .f32) (y : FVec Ideal S8x32x256 .f32) (n : Fin 16896) (h : n.val < 16640) (k : Fin 256) :
    pooled x y (ix2 n k) = Ref.rowsY x y (ix2 ⟨n.val, h⟩ k) := by
  rw [Ref.rowsY_at]
  pointwise [pooled]
  rw [dif_pos (show n.val - 16384 < 256 by omega)]

theorem vec_at (x : FVec Ideal S1024 .f32) (k : Fin 1024) :
    shapeCast S1x1024 x Facts₀.shapeCasts_S1024_S1x1024 (ix2 0 k) = x (ix1 k) := by
  pointwise

theorem bias_at (x : FVec Ideal S3072 .f32) (k : Fin 3072) :
    shapeCast S1x3072 x Facts₀.shapeCasts_S3072_S1x3072 (ix2 0 k) = x (ix1 k) := by
  pointwise

end Cert.Merge

end
-- ==== Proof.Merge.Same.lean ====
/- The kernel's results are the reference's. -/
module

public import proofs.«01_k».proof.Proof.Merge.Host

@[expose] public section

set_option maxRecDepth 16384

noncomputable section

open Idealize.ShloMosaic Idealize.ShloMosaic.TcCoe Idealize.SL.Sem Idealize.ShloMosaic.StableHlo
open Idealize.ShloMosaic.Pipeline (Dat)

namespace Cert.Merge

open Cert.Kernel2Ideal Cert.Kernel2Ideal.Gen Cert.Kernel2Ideal.Facts₀

variable (m : (ℓ : Loc nD τ sig) → Buf (Elt Ideal) ℓ) (c : Dev nD)

/-- What the kernel finds in an argument. -/
abbrev arg (b : Ref sig .tc) : Buf (Elt Ideal) ((c.tc : Thread nD τ).loc b) := m ((c.tc : Thread nD τ).loc b)

theorem wts_args : wts m c = Ref.weights (arg m c main_arg8) (arg m c main_arg9) (arg m c main_arg10) (arg m c main_arg11) (arg m c main_arg12) (arg m c main_arg13) (arg m c main_arg14) (arg m c main_arg15) (arg m c main_arg16) (arg m c main_arg17) := by
  obtain ⟨e15, e16, e17, e18, e19, e20, e21, e22, e23, e24⟩ := after_weights (fun b => m (c, b))
  unfold wts weights Ref.weights
  congr 1
  · exact funext fun k => (congrFun e15 (ix2 0 k)).trans (vec_at _ k)
  · exact funext fun k => (congrFun e17 (ix2 0 k)).trans (bias_at _ k)
  · exact funext fun k => (congrFun e22 (ix2 0 k)).trans (vec_at _ k)

/-- A row of two arrays, chosen by the prompt's end, against the same choice among the arguments. -/
theorem choose {α : Type} (n : Nat) (hn : n < 16640) (p : n < 16384 → α) (q : α) (p' : n < 16384 → α) (q' : ¬ n < 16384 → α)
    (hp : ∀ h, p h = p' h) (hq : ∀ h, q = q' h) : (if h : n < 16384 then p h else q) = if h : n < 16384 then p' h else q' h := by
  by_cases h : n < 16384
  · rw [dif_pos h, dif_pos h, hp]
  · rw [dif_neg h, dif_neg h, hq h]

theorem toks_args (n : Fin 16896) (hn : n.val < 16640) : toks m c n = Ref.token (arg m c main_arg0) (arg m c main_arg1) (arg m c main_arg2) (arg m c main_arg3) (arg m c main_arg4) (arg m c main_arg5) (arg m c main_arg6) (arg m c main_arg7) ⟨n.val, hn⟩ := by
  obtain ⟨e4, e5, e7, e9, e10, e12, e14⟩ := after_rows (fun b => m (c, b))
  unfold toks tokArr Ref.token
  have hs : ¬ n.val < 16384 → n.val % 256 = n.val - 16384 := by omega
  congr 1
  · refine funext fun k => Eq.trans ?_ (Ref.rowsX_at _ _ ⟨n.val, hn⟩ k).symm
    refine choose n.val hn _ _ _ _ (fun h => (congrFun e4 _).trans (prompt1024_at _ _ k)) fun h => ?_
    refine (congrFun e5 _).trans ((sample1024_at _ _ k).trans ?_)
    simp only [hs h]
  · refine funext fun k => Eq.trans ?_ (Ref.rowsY_at _ _ ⟨n.val, hn⟩ k).symm
    refine choose n.val hn _ _ _ _ (fun h => (congrFun e7 _).trans (prompt256_at _ _ k)) fun h => ?_
    refine (congrFun e9 _).trans ((sample256_at _ _ k).trans ?_)
    simp only [hs h]
  · exact funext fun k => (congrFun e10 _).trans (pooled_at _ _ n hn k)
  · refine funext fun k => Eq.trans ?_ (Ref.rowsC_at _ _ ⟨n.val, hn⟩ k).symm
    refine choose n.val hn _ _ _ _ (fun h => (congrFun e12 _).trans (prompt512_at _ _ k)) fun h => ?_
    refine (congrFun e14 _).trans ((sample512_at _ _ k).trans ?_)
    simp only [hs h]

/-- The hidden rows of the arguments. -/
abbrev hidK : FVec Ideal S16640x1024 .f32 :=
  Ref.hid (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)

/-- Their norm. -/
abbrev normK : FVec Ideal S16640x1024 .f32 := Ref.normV (hidK m c) (arg m c main_arg15)

/-- The norm, narrowed. -/
abbrev narrowK : FVec Ideal S16640x1024 .bf16 := truncf .bf16 (normK m c) Facts₀.bitsLt_bf16_f32

/-- The scores of the norm's queries. -/
abbrev scoreK : FVec Ideal S16x128x16640 .f32 :=
  Ref.scoreV (Ref.queryV (normK m c) (arg m c main_arg16)) (arg m c main_arg17)

/-- A token of the results among the tiles' rows. -/
abbrev wide (n : Fin 16640) : Fin 16896 := ⟨n.val, by omega⟩

theorem hid_slice : extractStridedSlice S16640x1024 ![0, 0]
      (fun y => hidR (wts m c) (toks m c (y 0)) (y 1) : FVec Ideal S16896x1024 .f32) Facts₀.slices_S16896x1024_S16640x1024_0_0
    = hidK m c := by
  funext x
  obtain ⟨n, j, rfl⟩ : ∃ (n : Fin 16640) (j : Fin 1024), x = ix2 n j := ⟨x 0, x 1, eq_ix2 x⟩
  refine Eq.trans ?_ (Ref.hid_at (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) n j).symm
  rw [← wts_args, ← toks_args m c (wide n) n.isLt]
  pointwise

theorem norm_slice : extractStridedSlice S16640x1024 ![0, 0]
      (fun y => hnR (wts m c) (toks m c (y 0)) (y 1) : FVec Ideal S16896x1024 .bf16) Facts₀.slices_S16896x1024_S16640x1024_0_0
    = narrowK m c := by
  funext x
  obtain ⟨n, j, rfl⟩ : ∃ (n : Fin 16640) (j : Fin 1024), x = ix2 n j := ⟨x 0, x 1, eq_ix2 x⟩
  refine Eq.trans ?_ (Ref.hn_at (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) n j).symm
  rw [← wts_args, ← toks_args m c (wide n) n.isLt]
  pointwise

theorem score_slice : extractStridedSlice S16x128x16640 ![0, 0, 0]
      (fun y => scoreR (wts m c) (toks m c (y 2)) (y 0) (y 1) : FVec Ideal S16x128x16896 .f32) Facts₀.slices_S16x128x16896_S16x128x16640_0_0_0
    = scoreK m c := by
  funext x
  obtain ⟨p, k, n, rfl⟩ : ∃ (p : Fin 16) (k : Fin 128) (n : Fin 16640), x = ix3 p k n := ⟨x 0, x 1, x 2, eq_ix3 x⟩
  refine Eq.trans ?_ (Ref.score_at (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) p k n).symm
  rw [← wts_args, ← toks_args m c (wide n) n.isLt]
  pointwise

theorem arrays_injective : Function.Injective (Pipeline.arrRef spec0) := by decide

/-- The arrays the region leaves. -/
abbrev left : Valuation τ sig (Elt Ideal) := Pipeline.withArrays spec0 c (V0 m c) fun w => (dats m 0 c).arrAt w cfg0.N

theorem left_hid : left m c main_v25_0 = (fun y => hidR (wts m c) (toks m c (y 0)) (y 1) : FVec Ideal S16896x1024 .f32) :=
  (Pipeline.withArrays_arr spec0 arrays_injective c (V0 m c) (fun w => (dats m 0 c).arrAt w cfg0.N) 17).trans (hid_arr m c)

theorem left_norm : left m c main_v25_1 = (fun y => hnR (wts m c) (toks m c (y 0)) (y 1) : FVec Ideal S16896x1024 .bf16) :=
  (Pipeline.withArrays_arr spec0 arrays_injective c (V0 m c) (fun w => (dats m 0 c).arrAt w cfg0.N) 18).trans (hn_arr m c)

theorem left_score : left m c main_v25_2 = (fun y => scoreR (wts m c) (toks m c (y 2)) (y 0) (y 1) : FVec Ideal S16x128x16896 .f32) :=
  (Pipeline.withArrays_arr spec0 arrays_injective c (V0 m c) (fun w => (dats m 0 c).arrAt w cfg0.N) 19).trans (score_arr m c)

/-- What the host code after the region leaves in the results. -/
theorem tail_hid : Pipeline.afterTail₀ cfgs (dats m) 0 (V0 m) [hostOps1] c main_v26 = hidK m c :=
  (after_results (left m c)).1.trans (by rw [left_hid]; exact hid_slice m c)

theorem tail_norm : Pipeline.afterTail₀ cfgs (dats m) 0 (V0 m) [hostOps1] c main_v27 = narrowK m c :=
  (after_results (left m c)).2.1.trans (by rw [left_norm]; exact norm_slice m c)

theorem tail_score : Pipeline.afterTail₀ cfgs (dats m) 0 (V0 m) [hostOps1] c main_v28 = scoreK m c :=
  (after_results (left m c)).2.2.trans (by rw [left_score]; exact score_slice m c)

end Cert.Merge

end
-- ==== Proof.Merge.Claims.lean ====
/- The merge's claims: the frames, and that kernel and reference compute one function. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Merge.Same
public import Idealize.ShloMosaic.Adequacy
public import Idealize.ShloMosaic.Init

@[expose] public section

noncomputable section

namespace Cert.Merge

open Idealize.ShloMosaic Idealize.ShloMosaic.TcCoe Idealize.SL.Sem

attribute [local instance] Cert.Kernel2.Gen.facts Cert.Kernel2Ideal.Gen.facts Cert.Reference2Ideal.Gen.facts

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_ref : Cert.quiescent_Reference2Ideal := fun m ρ _ =>
  (θ_run Cert.Reference2Ideal.defs _ _).mono (fun r h => ⟨fun c => (h c).2.2.2,
      Idealize.ShloMosaic.sem_eq_zero_of_no_sems (by decide) r.2⟩) (Cert.Reference2Ideal.Value.run (F := Ideal) m ρ)

set_option maxHeartbeats 1000000 in
theorem same : Cert.algebraic_Kernel2Ideal_Reference2Ideal := by
  intro m g m' g' hpre hagree
  refine ⟨fun c => hidK m c, fun c => narrowK m c, fun c => scoreK m c, ?_, ?_⟩
  · exact (θ_run Cert.Kernel2Ideal.defs _ _).mono (fun r h c =>
        ⟨((h.2 c).2 Cert.Kernel2Ideal.main_v26 (by decide)).trans (tail_hid m c),
          ((h.2 c).2 Cert.Kernel2Ideal.main_v27 (by decide)).trans (tail_norm m c),
          ((h.2 c).2 Cert.Kernel2Ideal.main_v28 (by decide)).trans (tail_score m c), h.1 c⟩)
      (θ_run_and (Cert.Kernel2Ideal.Gen.unchanged m g) (Cert.Kernel2Ideal.Gen.run_main m g))
  have hh : ∀ c, Ref.hidM m' c = hidK m c := fun c => by
    obtain ⟨h0, h1, h2, h3, h4, h5, h6, h7, h8, h9, h10, h11, h12, h13, h14, _⟩ := hagree c
    unfold Ref.hidM
    rw [h0, h1, h2, h3, h4, h5, h6, h7, h8, h9, h10, h11, h12, h13, h14]
  refine (θ_run Cert.Reference2Ideal.defs _ _).mono (fun r h c => ⟨(h c).1.trans (hh c), (h c).2.1.trans ?_, (h c).2.2.1.trans ?_, (h c).2.2.2⟩)
    (Cert.Reference2Ideal.Value.run (F := Ideal) m' g')
  all_goals obtain ⟨-, -, -, -, -, -, -, -, -, -, -, -, -, -, -, h15, h16, h17⟩ := hagree c
  · rw [Ref.res1_eq, hh c, h15]
  · rw [Ref.res2_eq, hh c, h15, h16, h17]

end Cert.Merge

end
-- ==== Proof.Proj.Rows.lean ====
/- One token through the input projection: the products, the norms, the spatial gate. -/
module

public import proofs.«01_k».proof.Proof.Merge.Rows

@[expose] public section

noncomputable section

open Idealize.ShloMosaic

namespace Cert.Proj

/-- The projection's column `l` of a normed row. -/
def projR (g : Fin 1024 → EReal) (w : Fin 1024 → Fin 2304 → EReal) (x : Fin 1024 → EReal) (l : Fin 2304) : EReal :=
  ∑ k : Fin 1024, Cert.Merge.normR x g k * w k l

/-- The norm of the gate's row. -/
def gateNormR (t g : Fin 256 → EReal) (j : Fin 256) : EReal :=
  t j * Ideal.rsqrt (Ideal.div (∑ k : Fin 256, t k * t k) (Ideal.ofBits FTy.f32 1132462080#32) + Ideal.ofBits FTy.f32 897988541#32) * g j

/-- The heads' norms by a table of means. -/
def headR (t : Fin 512 → EReal) (h : Fin 512 → Fin 512 → EReal) (g : Fin 512 → EReal) (j : Fin 512) : EReal :=
  t j * Ideal.rsqrt (∑ k : Fin 512, t k * t k * h k j + Ideal.ofBits FTy.f32 897988541#32) * g j

/-- The columns of the projection. -/
def colA (j : Fin 256) : Fin 2304 := ⟨j.val, by omega⟩
def colU (j : Fin 256) : Fin 2304 := ⟨256 + j.val, by omega⟩
def colG (j : Fin 256) : Fin 2304 := ⟨512 + j.val, by omega⟩
def colQ (j : Fin 512) : Fin 2304 := ⟨768 + j.val, by omega⟩
def colK (j : Fin 512) : Fin 2304 := ⟨1280 + j.val, by omega⟩
def colV (j : Fin 512) : Fin 2304 := ⟨1792 + j.val, by omega⟩

/-- The lane's group. -/
def lane (j : Fin 256) : Fin 4 := ⟨j.val / 64, by omega⟩

/-- The spatial gate: a lane mixed along its chunk by its group's matrix, with a bias. -/
def spatR (u : EReal) (M : Fin 4 → Fin 128 → EReal) (v : Fin 128 → EReal) (b : EReal) (j : Fin 256) : EReal :=
  u * (∑ i : Fin 128, M (lane j) i * v i + b)

end Cert.Proj

end
-- ==== Proof.Proj.Pays.lean ====
/- The projection region's payloads at an index. -/
module

public import proofs.«01_k».proof.Proof.Gen.Kernel3Ideal.Frame
public import proofs.«01_k».proof.Proof.Proj.Rows
public import Idealize.ShloMosaic.Lib.Pipeline.ValueKit

@[expose] public section

set_option maxRecDepth 16384

noncomputable section

open Idealize.ShloMosaic Idealize.ShloMosaic.TcCoe Idealize.SL.Sem
open Cert.Merge (normR)

namespace Cert.Proj

open Cert.Kernel3Ideal Cert.Kernel3Ideal.Gen Cert.Kernel3Ideal.Facts₀

/-- Row `r` of a tile: of the prompt's block in the first 64 tiles, of the sample's after them. -/
def row (i : grid0.Coords) (x0 x1 : FVec Ideal S256x1024 .f32) (r : Fin 256) (k : Fin 1024) : EReal :=
  if (i 0).val < 64 then x0 (ix2 r k) else x1 (ix2 r k)

/-- The tile test's word. -/
theorem tile_word : ∀ a : Fin 66, IntOp.cmpi CmpIPredicate.slt (BitVec.ofNat 32 a.val) 64#32
    = if a.val < 64 then 1#1 else 0#1 := by
  decide +kernel

/-- A row chosen by the tile test. -/
theorem select_tile {α : Type} (i : grid0.Coords) (a b : α) :
    Scalar.select (Scalar.cmpi .slt (BitVec.ofNat 32 (i 0).val) 64#32) a b = if (i 0).val < 64 then a else b := by
  rw [show Scalar.cmpi .slt (BitVec.ofNat 32 (i 0).val) 64#32 = IntOp.cmpi CmpIPredicate.slt (BitVec.ofNat 32 (i 0).val) 64#32 from rfl,
    tile_word (i 0)]
  by_cases h : (i 0).val < 64
  · rw [if_pos h, if_pos h]; rfl
  · rw [if_neg h, if_neg h]; rfl

/-- The normed rows. -/
theorem norm_at (i : grid0.Coords) (a b : Vec Ideal S256x1024 .f32) (g : Vec Ideal S1x1024 .f32) (r : Fin 256) (j : Fin 1024) :
    k0_pay3 i a b g (ix2 r j) = normR (row i a b r) (fun k => g (ix2 0 k)) j := by
  unfold k0_pay3 row
  simp only [select_tile]
  by_cases h : (i 0).val < 64
  · simp only [if_pos h]
    pointwise [normR]
  · simp only [if_neg h]
    pointwise [normR]

section

variable (i : grid0.Coords) (a b : Vec Ideal S256x1024 .f32) (g : Vec Ideal S1x1024 .f32) (r : Fin 256)

theorem sgu_at (w : Vec Ideal S1024x512 .bf16) (j : Fin 512) :
    k0_pay4 i a b g w (ix2 r j) = ∑ k : Fin 1024, k0_pay3 i a b g (ix2 r k) * w (ix2 k j) := by
  unfold k0_pay4
  generalize k0_pay3 i a b g = v
  pointwise

theorem qk_at (w : Vec Ideal S1024x1024 .bf16) (j : Fin 1024) :
    k0_pay5 i a b g w (ix2 r j) = ∑ k : Fin 1024, k0_pay3 i a b g (ix2 r k) * w (ix2 k j) := by
  unfold k0_pay5
  generalize k0_pay3 i a b g = v
  pointwise

theorem a_at (w : Vec Ideal S1024x256 .bf16) (j : Fin 256) :
    k0_pay6 i a b g w (ix2 r j) = ∑ k : Fin 1024, k0_pay3 i a b g (ix2 r k) * w (ix2 k j) := by
  unfold k0_pay6
  generalize k0_pay3 i a b g = v
  pointwise

theorem v_at (w : Vec Ideal S1024x512 .bf16) (j : Fin 512) :
    k0_pay7 i a b g w (ix2 r j) = ∑ k : Fin 1024, k0_pay3 i a b g (ix2 r k) * w (ix2 k j) := by
  unfold k0_pay7
  generalize k0_pay3 i a b g = v
  pointwise

theorem u_at (z : FVec Ideal S256x512 .f32) (j : Fin 256) : k0_pay8 z (ix2 r j) = z (ix2 r ⟨j.val, by omega⟩) := by
  pointwise [k0_pay8]

/-- The gate's normed rows. -/
theorem vn_at (z : FVec Ideal S256x512 .f32) (s : Vec Ideal S1x256 .f32) (j : Fin 256) :
    k0_pay9 z s (ix2 r j) = gateNormR (fun k => z (ix2 r ⟨256 + k.val, by omega⟩)) (fun k => s (ix2 0 k)) j := by
  pointwise [k0_pay9, gateNormR]

theorem vnb_at (z : FVec Ideal S256x512 .f32) (s : Vec Ideal S1x256 .f32) (j : Fin 256) :
    k0_pay10 z s (ix2 r j) = k0_pay9 z s (ix2 r j) := by
  unfold k0_pay10
  generalize k0_pay9 z s = v
  pointwise

theorem q_at (z : FVec Ideal S256x1024 .f32) (j : Fin 512) : k0_pay17 z (ix2 r j) = z (ix2 r ⟨j.val, by omega⟩) := by
  pointwise [k0_pay17]

theorem k_at (z : FVec Ideal S256x1024 .f32) (j : Fin 512) : k0_pay18 z (ix2 r j) = z (ix2 r ⟨512 + j.val, by omega⟩) := by
  pointwise [k0_pay18]

/-- The heads' normed queries, scaled. -/
theorem qn_at (t : FVec Ideal S256x512 .f32) (h : Vec Ideal S512x512 .bf16) (n : Vec Ideal S1x512 .f32) (j : Fin 512) :
    k0_pay1 t h n (ix2 r j) = headR (fun k => t (ix2 r k)) (fun k l => h (ix2 k l)) (fun k => n (ix2 0 k)) j
      * Ideal.ofBits FTy.f32 1040187392#32 := by
  pointwise [k0_pay1, headR]

theorem kn_at (t : FVec Ideal S256x512 .f32) (h : Vec Ideal S512x512 .bf16) (n : Vec Ideal S1x512 .f32) (j : Fin 512) :
    k0_pay2 t h n (ix2 r j) = headR (fun k => t (ix2 r k)) (fun k l => h (ix2 k l)) (fun k => n (ix2 0 k)) j := by
  pointwise [k0_pay2, headR]

end

/-- The lane's group, as the kernel reckons it. -/
theorem group_at (x : Fin 128) (y : Fin 256) : k0_pay14 k0_pay11 k0_pay12 k0_pay13 (ix2 x y) = BitVec.ofNat 32 (y.val / 64) := by
  pointwise [k0_pay14, k0_pay11, k0_pay12, k0_pay13]
  revert y
  decide +kernel

/-- A lane's choice among the groups' products. -/
theorem choose_group (y : Fin 256) (a : Fin 4 → EReal) :
    Scalar.select (IntOp.cmpi CmpIPredicate.eq (BitVec.ofNat 32 (y.val / 64)) 3#32) (a 3)
      (Scalar.select (IntOp.cmpi CmpIPredicate.eq (BitVec.ofNat 32 (y.val / 64)) 2#32) (a 2)
        (Scalar.select (IntOp.cmpi CmpIPredicate.eq (BitVec.ofNat 32 (y.val / 64)) 1#32) (a 1) (a 0))) = a (lane y) := by
  have h : ∀ y : Fin 256, Scalar.select (IntOp.cmpi CmpIPredicate.eq (BitVec.ofNat 32 (y.val / 64)) 3#32) (3 : Fin 4)
      (Scalar.select (IntOp.cmpi CmpIPredicate.eq (BitVec.ofNat 32 (y.val / 64)) 2#32) 2
        (Scalar.select (IntOp.cmpi CmpIPredicate.eq (BitVec.ofNat 32 (y.val / 64)) 1#32) 1 0)) = lane y := by
    decide +kernel
  rw [← h y]
  simp only [Scalar.select]
  split_ifs <;> rfl

section

variable (u : FVec Ideal S256x256 .f32) (v : FVec Ideal S256x256 .bf16) (m0 m1 m2 m3 : Vec Ideal S1x1x128x128 .bf16)
  (b : Vec Ideal S1x128x256 .f32) (G : IVec S128x256 32) (x : Fin 128) (y : Fin 256)

/-- The gated rows of the tile's second chunk. -/
theorem spat1_at (hg : G (ix2 x y) = BitVec.ofNat 32 (y.val / 64)) :
    k0_pay16 u v G m0 m1 m2 m3 b (ix2 x y)
      = spatR (u (ix2 ⟨128 + x.val, by omega⟩ y)) (fun e i => (![m0, m1, m2, m3] e) (ix4 0 0 x i)) (fun i => v (ix2 ⟨128 + i.val, by omega⟩ y)) (b (ix3 0 x y)) y := by
  pointwise [k0_pay16]
  rw [hg]
  exact congrArg (fun t => u (ix2 ⟨128 + x.val, by omega⟩ y) * (t + b (ix3 0 x y)))
    (choose_group y fun e => ∑ i : Fin 128, (![m0, m1, m2, m3] e) (ix4 0 0 x i) * v (ix2 ⟨128 + i.val, by omega⟩ y))

/-- The gated rows of the tile's first chunk. -/
theorem spat0_at :
    k0_pay15 u v k0_pay11 k0_pay12 k0_pay13 m0 m1 m2 m3 b (ix2 x y)
      = spatR (u (ix2 ⟨x.val, by omega⟩ y)) (fun e i => (![m0, m1, m2, m3] e) (ix4 0 0 x i)) (fun i => v (ix2 ⟨i.val, by omega⟩ y)) (b (ix3 0 x y)) y := by
  have hg := group_at x y
  unfold k0_pay15
  revert hg
  generalize k0_pay14 k0_pay11 k0_pay12 k0_pay13 = H
  intro hg
  pointwise
  rw [hg]
  exact congrArg (fun t => u (ix2 ⟨x.val, by omega⟩ y) * (t + b (ix3 0 x y)))
    (choose_group y fun e => ∑ i : Fin 128, (![m0, m1, m2, m3] e) (ix4 0 0 x i) * v (ix2 ⟨i.val, by omega⟩ y))

end

end Cert.Proj

end
-- ==== Proof.Proj.Block.lean ====
/- The projection region's output blocks at an index. -/
module

public import proofs.«01_k».proof.Proof.Proj.Pays

@[expose] public section

set_option maxRecDepth 16384

noncomputable section

open Idealize.ShloMosaic Idealize.ShloMosaic.TcCoe Idealize.SL.Sem

namespace Cert.Proj

open Cert.Kernel3Ideal Cert.Kernel3Ideal.Gen Cert.Kernel3Ideal.Facts₀

variable (i : grid0.Coords) (x0 x1 : Vec Ideal S256x1024 .f32) (x2 : Vec Ideal S1x1024 .f32) (x3 : Vec Ideal S1024x2304 .bf16)
  (x4 : Vec Ideal S1x256 .f32) (x5 x6 : Vec Ideal S1x512 .f32) (x7 : Vec Ideal S512x512 .bf16) (x8 : Vec Ideal S1x4x128x128 .bf16)
  (x9 : Vec Ideal S1x128x256 .f32)

/-- The projection's column of a tile's row. -/
def zB (r : Fin 256) (l : Fin 2304) : EReal :=
  projR (fun k => x2 (ix2 0 k)) (fun k l => x3 (ix2 k l)) (row i x0 x1 r) l

/-- The gate's normed row of a tile. -/
def vnB (r : Fin 256) (j : Fin 256) : EReal :=
  gateNormR (fun k => zB i x0 x1 x2 x3 r (colG k)) (fun k => x4 (ix2 0 k)) j

theorem normed (r : Fin 256) (k : Fin 1024) :
    k0_pay3 i (View.ld x0 r0_0) (View.ld x1 r0_0) (View.ld x2 r0_1) (ix2 r k)
      = Cert.Merge.normR (row i x0 x1 r) (fun k => x2 (ix2 0 k)) k := by
  rw [norm_at]
  have a : ∀ k : Fin 1024, View.ld x0 r0_0 (ix2 r k) = x0 (ix2 r k) := fun k => by pointwise
  have b : ∀ k : Fin 1024, View.ld x1 r0_0 (ix2 r k) = x1 (ix2 r k) := fun k => by pointwise
  have c : ∀ k : Fin 1024, View.ld x2 r0_1 (ix2 0 k) = x2 (ix2 0 k) := fun k => by pointwise
  have e : row i (View.ld x0 r0_0) (View.ld x1 r0_0) r = row i x0 x1 r := by
    funext k; simp only [row, a, b]
  rw [e]
  simp only [c]

theorem pay19_at (r : Fin 256) (j : Fin 512) :
    k0_pay19 i x0 x1 x2 x3 x4 x5 x6 x7 x8 x9 (ix2 r j) = zB i x0 x1 x2 x3 r ⟨256 + j.val, by omega⟩ := by
  unfold k0_pay19
  rw [sgu_at]
  have a : ∀ k : Fin 1024, View.ld x3 r0_2 (ix2 k j) = x3 (ix2 k ⟨256 + j.val, by omega⟩) := fun k => by pointwise
  simp only [a, normed]
  rfl

theorem pay20_at (r : Fin 256) (j : Fin 1024) :
    k0_pay20 i x0 x1 x2 x3 x4 x5 x6 x7 x8 x9 (ix2 r j) = zB i x0 x1 x2 x3 r ⟨768 + j.val, by omega⟩ := by
  unfold k0_pay20
  rw [qk_at]
  have a : ∀ k : Fin 1024, View.ld x3 r0_3 (ix2 k j) = x3 (ix2 k ⟨768 + j.val, by omega⟩) := fun k => by pointwise
  simp only [a, normed]
  rfl

theorem pay21_at (r : Fin 256) (j : Fin 256) :
    k0_pay21 i x0 x1 x2 x3 x4 x5 x6 x7 x8 x9 (ix2 r j) = zB i x0 x1 x2 x3 r (colU j) := by
  unfold k0_pay21
  rw [u_at, pay19_at]
  rfl

theorem gate_at (r : Fin 256) (j : Fin 256) :
    k0_pay9 (k0_pay19 i x0 x1 x2 x3 x4 x5 x6 x7 x8 x9) (View.ld x4 r0_8) (ix2 r j) = vnB i x0 x1 x2 x3 x4 r j := by
  rw [vn_at]
  have a : ∀ k : Fin 256, View.ld x4 r0_8 (ix2 0 k) = x4 (ix2 0 k) := fun k => by pointwise
  have c : ∀ k : Fin 256, (⟨256 + (256 + k.val), by omega⟩ : Fin 2304) = colG k := fun k => Fin.ext (by show 256 + (256 + k.val) = 512 + k.val; omega)
  simp only [a, pay19_at, c]
  rfl

theorem pay22_at (r : Fin 256) (j : Fin 256) :
    k0_pay22 i x0 x1 x2 x3 x4 x5 x6 x7 x8 x9 (ix2 r j) = vnB i x0 x1 x2 x3 x4 r j := by
  unfold k0_pay22
  rw [vnb_at, gate_at]

theorem out10_at (y : S256x256.Idx) : out0_10 i x0 x1 x2 x3 x4 x5 x6 x7 x8 x9 y = zB i x0 x1 x2 x3 (y 0) (colA (y 1)) := by
  unfold out0_10
  canon_tiles x h
  obtain rfl : x = y := by
    funext a; fin_cases a
    · exact Fin.ext h0.symm
    · exact Fin.ext h1.symm
  rw [eq_ix2 x]
  refine (a_at ..).trans ?_
  obtain ⟨j, hj⟩ : ∃ j : Fin 256, x 1 = j := ⟨_, rfl⟩
  obtain ⟨r, hr⟩ : ∃ r : Fin 256, x 0 = r := ⟨_, rfl⟩
  have a : ∀ k : Fin 1024, View.ld x3 r0_4 (ix2 k j) = x3 (ix2 k (colA j)) := fun k => by pointwise [colA]
  rw [hj, hr]
  simp only [a, normed]
  rfl

theorem out12_at (y : S256x256.Idx) : out0_12 i x0 x1 x2 x3 x4 x5 x6 x7 x8 x9 y = vnB i x0 x1 x2 x3 x4 (y 0) (y 1) := by
  unfold out0_12
  canon_tiles x h
  obtain rfl : x = y := by
    funext a; fin_cases a
    · exact Fin.ext h0.symm
    · exact Fin.ext h1.symm
  rw [eq_ix2 x]
  exact gate_at ..

theorem out15_at (y : S256x512.Idx) : out0_15 i x0 x1 x2 x3 x4 x5 x6 x7 x8 x9 y = zB i x0 x1 x2 x3 (y 0) (colV (y 1)) := by
  unfold out0_15
  canon_tiles x h
  obtain rfl : x = y := by
    funext a; fin_cases a
    · exact Fin.ext h0.symm
    · exact Fin.ext h1.symm
  rw [eq_ix2 x]
  refine (v_at ..).trans ?_
  obtain ⟨j, hj⟩ : ∃ j : Fin 512, x 1 = j := ⟨_, rfl⟩
  obtain ⟨r, hr⟩ : ∃ r : Fin 256, x 0 = r := ⟨_, rfl⟩
  have a : ∀ k : Fin 1024, View.ld x3 r0_6 (ix2 k j) = x3 (ix2 k (colV j)) := fun k => by pointwise [colV]
  rw [hj, hr]
  simp only [a, normed]
  rfl

/-- The heads' normed queries of a tile, before the scale. -/
def qB (r : Fin 256) (j : Fin 512) : EReal :=
  headR (fun k => zB i x0 x1 x2 x3 r (colQ k)) (fun k l => x7 (ix2 k l)) (fun k => x5 (ix2 0 k)) j

def kB (r : Fin 256) (j : Fin 512) : EReal :=
  headR (fun k => zB i x0 x1 x2 x3 r (colK k)) (fun k l => x7 (ix2 k l)) (fun k => x6 (ix2 0 k)) j

theorem out13_at (y : S256x512.Idx) : out0_13 i x0 x1 x2 x3 x4 x5 x6 x7 x8 x9 y
    = qB i x0 x1 x2 x3 x5 x7 (y 0) (y 1) * Ideal.ofBits FTy.f32 1040187392#32 := by
  unfold out0_13
  canon_tiles x h
  obtain rfl : x = y := by
    funext a; fin_cases a
    · exact Fin.ext h0.symm
    · exact Fin.ext h1.symm
  rw [eq_ix2 x]
  refine (qn_at ..).trans ?_
  obtain ⟨j, hj⟩ : ∃ j : Fin 512, x 1 = j := ⟨_, rfl⟩
  obtain ⟨r, hr⟩ : ∃ r : Fin 256, x 0 = r := ⟨_, rfl⟩
  rw [hj, hr]
  have a : ∀ k l : Fin 512, View.ld x7 r0_16 (ix2 k l) = x7 (ix2 k l) := fun k l => by pointwise
  have b : ∀ l : Fin 512, View.ld x5 r0_17 (ix2 0 l) = x5 (ix2 0 l) := fun l => by pointwise
  simp only [a, b, q_at, pay20_at]
  rfl

theorem out14_at (y : S256x512.Idx) : out0_14 i x0 x1 x2 x3 x4 x5 x6 x7 x8 x9 y
    = kB i x0 x1 x2 x3 x6 x7 (y 0) (y 1) := by
  unfold out0_14
  canon_tiles x h
  obtain rfl : x = y := by
    funext a; fin_cases a
    · exact Fin.ext h0.symm
    · exact Fin.ext h1.symm
  rw [eq_ix2 x]
  refine (kn_at ..).trans ?_
  obtain ⟨j, hj⟩ : ∃ j : Fin 512, x 1 = j := ⟨_, rfl⟩
  obtain ⟨r, hr⟩ : ∃ r : Fin 256, x 0 = r := ⟨_, rfl⟩
  rw [hj, hr]
  have a : ∀ k l : Fin 512, View.ld x7 r0_16 (ix2 k l) = x7 (ix2 k l) := fun k l => by pointwise
  have b : ∀ l : Fin 512, View.ld x6 r0_17 (ix2 0 l) = x6 (ix2 0 l) := fun l => by pointwise
  have c : ∀ k : Fin 512, (⟨768 + (512 + k.val), by omega⟩ : Fin 2304) = colK k := fun k => Fin.ext (by show 768 + (512 + k.val) = 1280 + k.val; omega)
  simp only [a, b, k_at, pay20_at, c]
  rfl

/-- Row `i` of row `r`'s chunk in a tile. -/
def mate (r : Fin 256) (i : Fin 128) : Fin 256 := ⟨128 * (r.val / 128) + i.val, by omega⟩

/-- The gated rows of a tile. -/
def ybB (r : Fin 256) (j : Fin 256) : EReal :=
  spatR (zB i x0 x1 x2 x3 r (colU j)) (fun e k => x8 (ix4 0 e (⟨r.val % 128, by omega⟩ : Fin 128) k))
    (fun k => vnB i x0 x1 x2 x3 x4 (mate r k) j) (x9 (ix3 0 (⟨r.val % 128, by omega⟩ : Fin 128) j)) j

/-- The groups' matrices. -/
theorem mats_at (e : Fin 4) (x k : Fin 128) :
    (![View.ld x8 r0_9, View.ld x8 r0_10, View.ld x8 r0_11, View.ld x8 r0_12] e) (ix4 0 0 x k) = x8 (ix4 0 e x k) := by
  fin_cases e
  · show View.ld x8 r0_9 (ix4 0 0 x k) = _
    pointwise
  · show View.ld x8 r0_10 (ix4 0 0 x k) = _
    pointwise
  · show View.ld x8 r0_11 (ix4 0 0 x k) = _
    pointwise
  · show View.ld x8 r0_12 (ix4 0 0 x k) = _
    pointwise

theorem out11_at (y : S256x256.Idx) : out0_11 i x0 x1 x2 x3 x4 x5 x6 x7 x8 x9 y
    = ybB i x0 x1 x2 x3 x4 x8 x9 (y 0) (y 1) := by
  have b : ∀ (x : Fin 128) (j : Fin 256), View.ld x9 r0_13 (ix3 0 x j) = x9 (ix3 0 x j) := fun x j => by pointwise
  unfold out0_11
  canon_tiles x h
  case piece0 =>
    obtain ⟨j, hj⟩ : ∃ j : Fin 256, x 1 = j := ⟨_, rfl⟩
    obtain ⟨p, hp⟩ : ∃ p : Fin 128, x 0 = p := ⟨_, rfl⟩
    have e0 : y 0 = (⟨128 + p.val, by omega⟩ : Fin 256) := Fin.ext (by rw [← hp]; exact h0)
    have e1 : y 1 = j := Fin.ext (by rw [← hj]; exact h1)
    rw [eq_ix2 x, e0, e1, hj, hp]
    refine (spat1_at _ _ _ _ _ _ _ _ p j (group_at p j)).trans ?_
    have hm : (⟨(128 + p.val) % 128, by omega⟩ : Fin 128) = p := Fin.ext (by show (128 + p.val) % 128 = _; omega)
    have hi : ∀ k : Fin 128, mate ⟨128 + p.val, by omega⟩ k = ⟨128 + k.val, by omega⟩ := fun k => Fin.ext (by
      show 128 * ((128 + p.val) / 128) + k.val = 128 + k.val; omega)
    simp only [ybB, b, pay21_at, pay22_at, hm, hi]
    exact congrArg (fun M => spatR _ M _ _ j) (funext fun e => funext fun k => mats_at x8 e p k)
  case piece1 =>
    obtain ⟨j, hj⟩ : ∃ j : Fin 256, x 1 = j := ⟨_, rfl⟩
    obtain ⟨p, hp⟩ : ∃ p : Fin 128, x 0 = p := ⟨_, rfl⟩
    have e0 : y 0 = (⟨p.val, by omega⟩ : Fin 256) := Fin.ext (by rw [← hp]; exact h0)
    have e1 : y 1 = j := Fin.ext (by rw [← hj]; exact h1)
    rw [eq_ix2 x, e0, e1, hj, hp]
    refine (spat0_at _ _ _ _ _ _ _ p j).trans ?_
    have hm : (⟨p.val % 128, by omega⟩ : Fin 128) = p := Fin.ext (by show p.val % 128 = _; omega)
    have hi : ∀ k : Fin 128, mate ⟨p.val, by omega⟩ k = ⟨k.val, by omega⟩ := fun k => Fin.ext (by
      show 128 * (p.val / 128) + k.val = k.val; omega)
    simp only [ybB, b, pay21_at, pay22_at, hm, hi]
    exact congrArg (fun M => spatR _ M _ _ j) (funext fun e => funext fun k => mats_at x8 e p k)

end Cert.Proj

end
-- ==== Proof.Proj.Arrays.lean ====
/- The projection region's blocks in the arrays it finds. -/
module

public import proofs.«01_k».proof.Proof.Proj.Block
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proj

open Cert.Kernel3Ideal Cert.Kernel3Ideal.Gen Cert.Kernel3Ideal.Facts₀

/-- The grid's points are its coordinates. -/
theorem coord : ∀ t : Fin cfg0.N, (grid0.coords t 0).val = t.val :=
  (by decide +kernel : ∀ t : Fin grid0.N, _)

theorem points : ∀ t : Fin cfg0.N, t.val < 66 :=
  (by decide +kernel : ∀ t : Fin grid0.N, t.val < 66)

/-- The rows' blocks and the weights' whole ones. -/
theorem idxRow : ∀ t : Fin cfg0.N, win0_0.index t = ![min t.val 63, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

/-- Which of the gate's two tables a tile reads. -/
def half (n : ℕ) : Fin 2 := if n < 64 then 0 else 1

theorem idxTab : ∀ t : Fin cfg0.N, win0_8.index t = ![(half t.val).val, 0, 0, 0] ∧ win0_9.index t = ![(half t.val).val, 0, 0] :=
  (by decide +kernel : ∀ t : Fin grid0.N, _)

/-- The results' blocks: every tile's. -/
theorem idxOut : ∀ t : Fin cfg0.N, win0_10.index t = ![t.val, 0] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N, _)

variable (m : (ℓ : Loc nD τ sig) → Buf (Elt Ideal) ℓ) (c : Dev nD)

theorem rd0 (t : Fin cfg0.N) (h : t.val < 64) (r : Fin 256) (l : Fin 1024) :
    (iblk m c 0 t : Vec Ideal S256x1024 .f32) (ix2 r l) = (V m c main_v66 : FVec Ideal S16384x1024 .f32)
      (ix2 ⟨t.val * 256 + r.val, by omega⟩ l) := by
  have e : min t.val 63 = t.val := by omega
  blk_ext [iblk, (idxRow t).1, e]

theorem rd8 (t : Fin cfg0.N) (e : Fin 4) (x k : Fin 128) :
    (iblk m c 8 t : Vec Ideal S1x4x128x128 .bf16) (ix4 0 e x k) = (V m c main_v62 : FVec Ideal S2x4x128x128 .bf16)
      (ix4 (half t.val) e x k) := by
  blk_ext [iblk, (idxTab t).1]

theorem rd9 (t : Fin cfg0.N) (x : Fin 128) (j : Fin 256) :
    (iblk m c 9 t : Vec Ideal S1x128x256 .f32) (ix3 0 x j) = (V m c main_v65 : FVec Ideal S2x128x256 .f32)
      (ix3 (half t.val) x j) := by
  blk_ext [iblk, (idxTab t).2]

theorem rd1 (t : Fin cfg0.N) : (iblk m c 1 t : Vec Ideal S256x1024 .f32) = (V m c main_v67 : FVec Ideal S256x1024 .f32) := by
  blk_ext! [iblk, (idxRow t).2.1]

theorem rd2 (t : Fin cfg0.N) : (iblk m c 2 t : Vec Ideal S1x1024 .f32) = (V m c main_v68 : FVec Ideal S1x1024 .f32) := by
  blk_ext! [iblk, (idxRow t).2.2.1]

theorem rd3 (t : Fin cfg0.N) : (iblk m c 3 t : Vec Ideal S1024x2304 .bf16) = (V m c main_v69 : FVec Ideal S1024x2304 .bf16) := by
  blk_ext! [iblk, (idxRow t).2.2.2.1]

theorem rd4 (t : Fin cfg0.N) : (iblk m c 4 t : Vec Ideal S1x256 .f32) = (V m c main_v70 : FVec Ideal S1x256 .f32) := by
  blk_ext! [iblk, (idxRow t).2.2.2.2.1]

theorem rd5 (t : Fin cfg0.N) : (iblk m c 5 t : Vec Ideal S1x512 .f32) = (V m c main_v74 : FVec Ideal S1x512 .f32) := by
  blk_ext! [iblk, (idxRow t).2.2.2.2.2.1]

theorem rd6 (t : Fin cfg0.N) : (iblk m c 6 t : Vec Ideal S1x512 .f32) = (V m c main_v78 : FVec Ideal S1x512 .f32) := by
  blk_ext! [iblk, (idxRow t).2.2.2.2.2.2.1]

theorem rd7 (t : Fin cfg0.N) : (iblk m c 7 t : Vec Ideal S512x512 .bf16) = (V m c main_v13 : FVec Ideal S512x512 .bf16) := by
  blk_ext! [iblk, (idxRow t).2.2.2.2.2.2.2]

end Cert.Proj

end
-- ==== Proof.Proj.Results.lean ====
/- The projection region's six results as functions of the arrays it finds. -/
module

public import proofs.«01_k».proof.Proof.Proj.Arrays

@[expose] public section

set_option maxRecDepth 16384

noncomputable section

open Idealize.ShloMosaic Idealize.ShloMosaic.TcCoe Idealize.SL.Sem
open Idealize.ShloMosaic.Pipeline (Dat)

namespace Cert.Proj

open Cert.Kernel3Ideal Cert.Kernel3Ideal.Gen Cert.Kernel3Ideal.Facts₀

variable (m : (ℓ : Loc nD τ sig) → Buf (Elt Ideal) ℓ) (c : Dev nD)

/-- Token `n`: the prompt's rows, then the sample's. -/
def xT (n : Fin 16896) (k : Fin 1024) : EReal :=
  if h : n.val < 16384 then (V m c main_v66 : FVec Ideal S16384x1024 .f32) (ix2 ⟨n.val, h⟩ k)
  else (V m c main_v67 : FVec Ideal S256x1024 .f32) (ix2 ⟨n.val % 256, by omega⟩ k)

/-- Its projection. -/
def zT (n : Fin 16896) (l : Fin 2304) : EReal :=
  projR (fun k => (V m c main_v68 : FVec Ideal S1x1024 .f32) (ix2 0 k)) (fun k l => (V m c main_v69 : FVec Ideal S1024x2304 .bf16) (ix2 k l)) (xT m c n) l

/-- Its gate's normed row. -/
def vnT (n : Fin 16896) (j : Fin 256) : EReal :=
  gateNormR (fun k => zT m c n (colG k)) (fun k => (V m c main_v70 : FVec Ideal S1x256 .f32) (ix2 0 k)) j

/-- Its queries, before the scale, and its keys. -/
def qT (n : Fin 16896) (j : Fin 512) : EReal :=
  headR (fun k => zT m c n (colQ k)) (fun k l => (V m c main_v13 : FVec Ideal S512x512 .bf16) (ix2 k l))
    (fun k => (V m c main_v74 : FVec Ideal S1x512 .f32) (ix2 0 k)) j

def kT (n : Fin 16896) (j : Fin 512) : EReal :=
  headR (fun k => zT m c n (colK k)) (fun k l => (V m c main_v13 : FVec Ideal S512x512 .bf16) (ix2 k l))
    (fun k => (V m c main_v78 : FVec Ideal S1x512 .f32) (ix2 0 k)) j

/-- Token `i` of token `n`'s chunk. -/
def mateT (n : Fin 16896) (i : Fin 128) : Fin 16896 := ⟨128 * (n.val / 128) + i.val, by omega⟩

/-- Its gated row. -/
def ybT (n : Fin 16896) (j : Fin 256) : EReal :=
  spatR (zT m c n (colU j)) (fun e k => (V m c main_v62 : FVec Ideal S2x4x128x128 .bf16) (ix4 (half (n.val / 256)) e (⟨n.val % 128, by omega⟩ : Fin 128) k))
    (fun k => vnT m c (mateT n k) j) ((V m c main_v65 : FVec Ideal S2x128x256 .f32) (ix3 (half (n.val / 256)) (⟨n.val % 128, by omega⟩ : Fin 128) j)) j

theorem x_eq (t : Fin cfg0.N) (r : Fin 256) (n : Fin 16896) (hn : n.val = t.val * 256 + r.val) :
    row (grid0.coords t) (iblk m c 0 t) (iblk m c 1 t) r = xT m c n := by
  funext k
  obtain rfl : n = ⟨t.val * 256 + r.val, by have := points t; clear hn n; omega⟩ := Fin.ext hn
  unfold row xT
  rw [coord t]
  by_cases h : t.val < 64
  · have hr : t.val * 256 + r.val < 16384 := by omega
    rw [if_pos h, dif_pos hr]
    exact rd0 m c t h r k
  · have hr : ¬ t.val * 256 + r.val < 16384 := by omega
    have hm : (⟨(t.val * 256 + r.val) % 256, by omega⟩ : Fin 256) = r := Fin.ext (by simp only; omega)
    rw [if_neg h, dif_neg hr]
    simp only [hm]
    exact congrFun (rd1 m c t) (ix2 r k)

theorem z_eq (t : Fin cfg0.N) (r : Fin 256) (n : Fin 16896) (hn : n.val = t.val * 256 + r.val) (l : Fin 2304) :
    zB (grid0.coords t) (iblk m c 0 t) (iblk m c 1 t) (iblk m c 2 t) (iblk m c 3 t) r l = zT m c n l := by
  unfold zB zT
  rw [x_eq m c t r n hn, rd2 m c t, rd3 m c t]

theorem vn_eq (t : Fin cfg0.N) (r : Fin 256) (n : Fin 16896) (hn : n.val = t.val * 256 + r.val) (j : Fin 256) :
    vnB (grid0.coords t) (iblk m c 0 t) (iblk m c 1 t) (iblk m c 2 t) (iblk m c 3 t) (iblk m c 4 t) r j = vnT m c n j := by
  unfold vnB vnT
  rw [rd4 m c t]
  simp only [z_eq m c t r n hn]

theorem q_eq (t : Fin cfg0.N) (r : Fin 256) (n : Fin 16896) (hn : n.val = t.val * 256 + r.val) (j : Fin 512) :
    qB (grid0.coords t) (iblk m c 0 t) (iblk m c 1 t) (iblk m c 2 t) (iblk m c 3 t) (iblk m c 5 t) (iblk m c 7 t) r j = qT m c n j := by
  unfold qB qT
  rw [rd5 m c t, rd7 m c t]
  simp only [z_eq m c t r n hn]

theorem k_eq (t : Fin cfg0.N) (r : Fin 256) (n : Fin 16896) (hn : n.val = t.val * 256 + r.val) (j : Fin 512) :
    kB (grid0.coords t) (iblk m c 0 t) (iblk m c 1 t) (iblk m c 2 t) (iblk m c 3 t) (iblk m c 6 t) (iblk m c 7 t) r j = kT m c n j := by
  unfold kB kT
  rw [rd6 m c t, rd7 m c t]
  simp only [z_eq m c t r n hn]

theorem yb_eq (t : Fin cfg0.N) (r : Fin 256) (n : Fin 16896) (hn : n.val = t.val * 256 + r.val) (j : Fin 256) :
    ybB (grid0.coords t) (iblk m c 0 t) (iblk m c 1 t) (iblk m c 2 t) (iblk m c 3 t) (iblk m c 4 t) (iblk m c 8 t) (iblk m c 9 t) r j
      = ybT m c n j := by
  have ht : n.val / 256 = t.val := by omega
  have hr : (⟨r.val % 128, by omega⟩ : Fin 128) = ⟨n.val % 128, by omega⟩ := Fin.ext (by simp only; omega)
  have hk : ∀ k : Fin 128, vnB (grid0.coords t) (iblk m c 0 t) (iblk m c 1 t) (iblk m c 2 t) (iblk m c 3 t) (iblk m c 4 t) (mate r k) j
      = vnT m c (mateT n k) j := fun k => vn_eq m c t (mate r k) (mateT n k) (by
    show 128 * (n.val / 128) + k.val = t.val * 256 + (128 * (r.val / 128) + k.val)
    omega) j
  have h8 : ∀ (e : Fin 4) (x k : Fin 128), iblk m c 8 t (ix4 0 e x k) = _ := fun e x k => rd8 m c t e x k
  have h9 : ∀ (x : Fin 128), iblk m c 9 t (ix3 0 x j) = _ := fun x => rd9 m c t x j
  unfold ybB ybT
  simp only [z_eq m c t r n hn, hk, hr, ht]
  exact congrArg₂ (fun M b => spatR _ M _ b j) (funext fun e => funext fun k => rd8 m c t e _ k) (rd9 m c t _ j)

theorem row10 (t : Fin cfg0.N) (y : S256x256.Idx) : ((win0_10.blk t).view.emb y 0).val = t.val * 256 + (y 0).val := by
  blk_simp [(idxOut t).1]

theorem col10 (t : Fin cfg0.N) (y : S256x256.Idx) : ((win0_10.blk t).view.emb y 1).val = (y 1).val := by
  blk_simp [(idxOut t).1]

theorem a_arr : (dats m 0 c).arrAt 10 cfg0.N
    = (fun y => zT m c (y 0) (colA (y 1)) : FVec Ideal S16896x256 .f32) := by
  refine (dats m 0 c).arrAt_eq_of_covers 10 _ (by decide +kernel) fun t _ y => ?_
  blk_simp
  rw [after0_10]
  refine (out10_at (grid0.coords t) _ _ _ _ _ _ _ _ _ _ y).trans ?_
  refine (z_eq m c t (y 0) _ (row10 t y) (colA (y 1))).trans ?_
  exact congrArg (fun j : Fin 256 => zT m c _ (colA j)) (Fin.ext (col10 t y).symm)

theorem row11 (t : Fin cfg0.N) (y : S256x256.Idx) : ((win0_11.blk t).view.emb y 0).val = t.val * 256 + (y 0).val := by
  blk_simp [(idxOut t).2.1]

theorem col11 (t : Fin cfg0.N) (y : S256x256.Idx) : ((win0_11.blk t).view.emb y 1).val = (y 1).val := by
  blk_simp [(idxOut t).2.1]

theorem yb_arr : (dats m 0 c).arrAt 11 cfg0.N
    = (fun y => ybT m c (y 0) (y 1) : FVec Ideal S16896x256 .bf16) := by
  refine (dats m 0 c).arrAt_eq_of_covers 11 _ (by decide +kernel) fun t _ y => ?_
  blk_simp
  rw [after0_11]
  refine (out11_at (grid0.coords t) _ _ _ _ _ _ _ _ _ _ y).trans ?_
  refine (yb_eq m c t (y 0) _ (row11 t y) (y 1)).trans ?_
  exact congrArg (fun j : Fin 256 => ybT m c _ j) (Fin.ext (col11 t y).symm)

theorem row12 (t : Fin cfg0.N) (y : S256x256.Idx) : ((win0_12.blk t).view.emb y 0).val = t.val * 256 + (y 0).val := by
  blk_simp [(idxOut t).2.2.1]

theorem col12 (t : Fin cfg0.N) (y : S256x256.Idx) : ((win0_12.blk t).view.emb y 1).val = (y 1).val := by
  blk_simp [(idxOut t).2.2.1]

theorem vn_arr : (dats m 0 c).arrAt 12 cfg0.N
    = (fun y => vnT m c (y 0) (y 1) : FVec Ideal S16896x256 .f32) := by
  refine (dats m 0 c).arrAt_eq_of_covers 12 _ (by decide +kernel) fun t _ y => ?_
  blk_simp
  rw [after0_12]
  refine (out12_at (grid0.coords t) _ _ _ _ _ _ _ _ _ _ y).trans ?_
  refine (vn_eq m c t (y 0) _ (row12 t y) (y 1)).trans ?_
  exact congrArg (fun j : Fin 256 => vnT m c _ j) (Fin.ext (col12 t y).symm)

theorem row13 (t : Fin cfg0.N) (y : S256x512.Idx) : ((win0_13.blk t).view.emb y 0).val = t.val * 256 + (y 0).val := by
  blk_simp [(idxOut t).2.2.2.1]

theorem col13 (t : Fin cfg0.N) (y : S256x512.Idx) : ((win0_13.blk t).view.emb y 1).val = (y 1).val := by
  blk_simp [(idxOut t).2.2.2.1]

theorem q_arr : (dats m 0 c).arrAt 13 cfg0.N
    = (fun y => qT m c (y 0) (y 1) * Ideal.ofBits FTy.f32 1040187392#32 : FVec Ideal S16896x512 .bf16) := by
  refine (dats m 0 c).arrAt_eq_of_covers 13 _ (by decide +kernel) fun t _ y => ?_
  blk_simp
  rw [after0_13]
  refine (out13_at (grid0.coords t) _ _ _ _ _ _ _ _ _ _ y).trans ?_
  refine (congrArg (· * Ideal.ofBits FTy.f32 1040187392#32) (q_eq m c t (y 0) _ (row13 t y) (y 1))).trans ?_
  exact congrArg (fun j : Fin 512 => qT m c _ j * Ideal.ofBits FTy.f32 1040187392#32) (Fin.ext (col13 t y).symm)

theorem row14 (t : Fin cfg0.N) (y : S256x512.Idx) : ((win0_14.blk t).view.emb y 0).val = t.val * 256 + (y 0).val := by
  blk_simp [(idxOut t).2.2.2.2.1]

theorem col14 (t : Fin cfg0.N) (y : S256x512.Idx) : ((win0_14.blk t).view.emb y 1).val = (y 1).val := by
  blk_simp [(idxOut t).2.2.2.2.1]

theorem k_arr : (dats m 0 c).arrAt 14 cfg0.N
    = (fun y => kT m c (y 0) (y 1) : FVec Ideal S16896x512 .f32) := by
  refine (dats m 0 c).arrAt_eq_of_covers 14 _ (by decide +kernel) fun t _ y => ?_
  blk_simp
  rw [after0_14]
  refine (out14_at (grid0.coords t) _ _ _ _ _ _ _ _ _ _ y).trans ?_
  refine (k_eq m c t (y 0) _ (row14 t y) (y 1)).trans ?_
  exact congrArg (fun j : Fin 512 => kT m c _ j) (Fin.ext (col14 t y).symm)

theorem row15 (t : Fin cfg0.N) (y : S256x512.Idx) : ((win0_15.blk t).view.emb y 0).val = t.val * 256 + (y 0).val := by
  blk_simp [(idxOut t).2.2.2.2.2]

theorem col15 (t : Fin cfg0.N) (y : S256x512.Idx) : ((win0_15.blk t).view.emb y 1).val = (y 1).val := by
  blk_simp [(idxOut t).2.2.2.2.2]

theorem v_arr : (dats m 0 c).arrAt 15 cfg0.N
    = (fun y => zT m c (y 0) (colV (y 1)) : FVec Ideal S16896x512 .f32) := by
  refine (dats m 0 c).arrAt_eq_of_covers 15 _ (by decide +kernel) fun t _ y => ?_
  blk_simp
  rw [after0_15]
  refine (out15_at (grid0.coords t) _ _ _ _ _ _ _ _ _ _ y).trans ?_
  refine (z_eq m c t (y 0) _ (row15 t y) (colV (y 1))).trans ?_
  exact congrArg (fun j : Fin 512 => zT m c _ (colV j)) (Fin.ext (col15 t y).symm)

end Cert.Proj

end
-- ==== Proof.Proj.HostDef.lean ====
/- What the host code leaves in the projection region's operand arrays, and its results of the region's. -/
module

public import proofs.«01_k».proof.Proof.Proj.Results

@[expose] public section

set_option maxRecDepth 16384

noncomputable section

open Idealize.ShloMosaic Idealize.ShloMosaic.TcCoe Idealize.SL.Sem Idealize.ShloMosaic.StableHlo

namespace Cert.Proj

open Cert.Kernel3Ideal Cert.Kernel3Ideal.Gen Cert.Kernel3Ideal.Facts₀

/-- The table of the heads' means. -/
def meansA : FVec Ideal S512x512 .bf16 :=
  truncf .bf16 (shapeCast S512x512 (mulf
    (broadcastInDim S8x64x8x64 ![0, 1, 2, 3] Facts₀.bcast_S8x1x8x1_S8x64x8x64_0_1_2_3 (broadcastInDim S8x1x8x1 ![0, 2] Facts₀.bcast_S8x8_S8x1x8x1_0_2
      (uitofp .f32 (cmpi .eq (addi (iotaInDim S8x8 32 0) (broadcastInDim S8x8 ![] Facts₀.bcast_S_S8x8 (constantI S_ 32 0#32))) (iotaInDim S8x8 32 1)) : FVec Ideal S8x8 .f32)))
    (broadcastInDim S8x64x8x64 ![0, 1, 2, 3] Facts₀.bcast_S8x64x1x64_S8x64x8x64_0_1_2_3 (broadcastInDim S8x64x1x64 ![0, 1, 3] Facts₀.bcast_S8x64x64_S8x64x1x64_0_1_3
      (broadcastInDim S8x64x64 ![] Facts₀.bcast_S_S8x64x64 (constant S_ .f32 0x3C800000#32)))))
    Facts₀.shapeCasts_S8x64x8x64_S512x512) Facts₀.bitsLt_bf16_f32

/-- The prompt's matrices below the diagonal. -/
def lowerP (w : FVec Ideal S4x128x128 .f32) : FVec Ideal S4x128x128 .f32 :=
  select (broadcastInDim S4x128x128 ![0, 1, 2] Facts₀.bcast_S1x128x128_S4x128x128_0_1_2 (broadcastInDim S1x128x128 ![1, 2] Facts₀.bcast_S128x128_S1x128x128_1_2
    (select (cmpi .sge (addi (iotaInDim S128x128 32 0) (broadcastInDim S128x128 ![] Facts₀.bcast_S_S128x128 (constantI S_ 32 0#32))) (iotaInDim S128x128 32 1))
      (broadcastInDim S128x128 ![] Facts₀.bcast_S_S128x128 (constantI S_ 1 1#1)) (broadcastInDim S128x128 ![] Facts₀.bcast_S_S128x128 (constantI S_ 1 0#1)))))
    w (broadcastInDim S4x128x128 ![] Facts₀.bcast_S_S4x128x128 (constant S_ .f32 0x00000000#32))

/-- The sample's. -/
def lowerS (w : FVec Ideal S4x128x128 .f32) : FVec Ideal S4x32x32 .f32 :=
  select (broadcastInDim S4x32x32 ![0, 1, 2] Facts₀.bcast_S1x32x32_S4x32x32_0_1_2 (broadcastInDim S1x32x32 ![1, 2] Facts₀.bcast_S32x32_S1x32x32_1_2
    (select (cmpi .sge (addi (iotaInDim S32x32 32 0) (broadcastInDim S32x32 ![] Facts₀.bcast_S_S32x32 (constantI S_ 32 0#32))) (iotaInDim S32x32 32 1))
      (broadcastInDim S32x32 ![] Facts₀.bcast_S_S32x32 (constantI S_ 1 1#1)) (broadcastInDim S32x32 ![] Facts₀.bcast_S_S32x32 (constantI S_ 1 0#1)))))
    (extractStridedSlice S4x32x32 ![0, 0, 0] w Facts₀.slices_S4x128x128_S4x32x32_0_0_0) (broadcastInDim S4x32x32 ![] Facts₀.bcast_S_S4x32x32 (constant S_ .f32 0x00000000#32))

/-- The prompt's matrices, one block each. -/
def blocksP (w : FVec Ideal S4x128x128 .f32) : FVec Ideal S4x128x128 .f32 :=
  shapeCast S4x128x128 (mulf
    (broadcastInDim S4x1x128x1x128 ![0, 1, 2, 3, 4] Facts₀.bcast_S1x1x1x1x1_S4x1x128x1x128_0_1_2_3_4 (broadcastInDim S1x1x1x1x1 ![1, 3] Facts₀.bcast_S1x1_S1x1x1x1x1_1_3
      (uitofp .f32 (cmpi .eq (addi (iotaInDim S1x1 32 0) (broadcastInDim S1x1 ![] Facts₀.bcast_S_S1x1 (constantI S_ 32 0#32))) (iotaInDim S1x1 32 1)) : FVec Ideal S1x1 .f32)))
    (broadcastInDim S4x1x128x1x128 ![0, 2, 4] Facts₀.bcast_S4x128x128_S4x1x128x1x128_0_2_4 (lowerP w))) Facts₀.shapeCasts_S4x1x128x1x128_S4x128x128

/-- The sample's, four blocks each. -/
def blocksS (w : FVec Ideal S4x128x128 .f32) : FVec Ideal S4x128x128 .f32 :=
  shapeCast S4x128x128 (mulf
    (broadcastInDim S4x4x32x4x32 ![0, 1, 2, 3, 4] Facts₀.bcast_S1x4x1x4x1_S4x4x32x4x32_0_1_2_3_4 (broadcastInDim S1x4x1x4x1 ![1, 3] Facts₀.bcast_S4x4_S1x4x1x4x1_1_3
      (uitofp .f32 (cmpi .eq (addi (iotaInDim S4x4 32 0) (broadcastInDim S4x4 ![] Facts₀.bcast_S_S4x4 (constantI S_ 32 0#32))) (iotaInDim S4x4 32 1)) : FVec Ideal S4x4 .f32)))
    (broadcastInDim S4x4x32x4x32 ![0, 1, 2, 3, 4] Facts₀.bcast_S4x1x32x1x32_S4x4x32x4x32_0_1_2_3_4 (broadcastInDim S4x1x32x1x32 ![0, 2, 4] Facts₀.bcast_S4x32x32_S4x1x32x1x32_0_2_4 (lowerS w))))
    Facts₀.shapeCasts_S4x4x32x4x32_S4x128x128

/-- Both. -/
def matsA (w : FVec Ideal S4x128x128 .f32) : FVec Ideal S2x4x128x128 .bf16 :=
  truncf .bf16 (concatenate S2x4x128x128 0 [⟨S1x4x128x128, broadcastInDim S1x4x128x128 ![1, 2, 3] Facts₀.bcast_S4x128x128_S1x4x128x128_1_2_3 (blocksP w)⟩,
    ⟨S1x4x128x128, broadcastInDim S1x4x128x128 ![1, 2, 3] Facts₀.bcast_S4x128x128_S1x4x128x128_1_2_3 (blocksS w)⟩]
    Facts₀.concatenates_S1x4x128x128_S1x4x128x128_S2x4x128x128_d0) Facts₀.bitsLt_bf16_f32

/-- The prompt's biases and the sample's, by row and lane. -/
def biasP (b : FVec Ideal S4x128 .f32) : FVec Ideal S128x256 .f32 :=
  shapeCast S128x256 (broadcastInDim S128x4x64 ![0, 1] Facts₀.bcast_S128x4_S128x4x64_0_1 (transpose S128x4 [1, 0]
    (shapeCast S4x128 (broadcastInDim S1x4x1x128 ![0, 1, 2, 3] Facts₀.bcast_S1x4x1x128_S1x4x1x128_0_1_2_3 (shapeCast S1x4x1x128 b Facts₀.shapeCasts_S4x128_S1x4x1x128)) Facts₀.shapeCasts_S1x4x1x128_S4x128)
    Facts₀.transposes_S4x128_S128x4_1_0)) Facts₀.shapeCasts_S128x4x64_S128x256

def biasS (b : FVec Ideal S4x128 .f32) : FVec Ideal S128x256 .f32 :=
  shapeCast S128x256 (broadcastInDim S128x4x64 ![0, 1] Facts₀.bcast_S128x4_S128x4x64_0_1 (transpose S128x4 [1, 0]
    (shapeCast S4x128 (broadcastInDim S1x4x4x32 ![0, 1, 2, 3] Facts₀.bcast_S1x4x1x32_S1x4x4x32_0_1_2_3
      (shapeCast S1x4x1x32 (extractStridedSlice S4x32 ![0, 0] b Facts₀.slices_S4x128_S4x32_0_0) Facts₀.shapeCasts_S4x32_S1x4x1x32)) Facts₀.shapeCasts_S1x4x4x32_S4x128)
    Facts₀.transposes_S4x128_S128x4_1_0)) Facts₀.shapeCasts_S128x4x64_S128x256

/-- Both. -/
def biasA (b : FVec Ideal S4x128 .f32) : FVec Ideal S2x128x256 .f32 :=
  concatenate S2x128x256 0 [⟨S1x128x256, broadcastInDim S1x128x256 ![1, 2] Facts₀.bcast_S128x256_S1x128x256_1_2 (biasP b)⟩,
    ⟨S1x128x256, broadcastInDim S1x128x256 ![1, 2] Facts₀.bcast_S128x256_S1x128x256_1_2 (biasS b)⟩] Facts₀.concatenates_S1x128x256_S1x128x256_S2x128x256_d0

/-- A head's norm weights, repeated for every head. -/
def tiledA (g : FVec Ideal S64 .f32) : FVec Ideal S1x512 .f32 :=
  shapeCast S1x512 (shapeCast S512 (broadcastInDim S8x64 ![0, 1] Facts₀.bcast_S1x64_S8x64_0_1 (shapeCast S1x64 g Facts₀.shapeCasts_S64_S1x64)) Facts₀.shapeCasts_S8x64_S512) Facts₀.shapeCasts_S512_S1x512

/-- The host code before the region. -/
abbrev before (σ : Valuation τ sig (Elt Ideal)) : Valuation τ sig (Elt Ideal) :=
  after (List.flatten [hostOps0, hostOps0_1, hostOps0_2, hostOps0_3, hostOps0_4, hostOps0_5, hostOps0_6, hostOps0_7, hostOps0_8]) σ

theorem before_rows (σ : Valuation τ sig (Elt Ideal)) :
    before σ main_v66 = shapeCast S16384x1024 (σ main_arg0 : FVec Ideal S2x8192x1024 .f32) Facts₀.shapeCasts_S2x8192x1024_S16384x1024
    ∧ before σ main_v67 = shapeCast S256x1024 (σ main_arg1 : FVec Ideal S8x32x1024 .f32) Facts₀.shapeCasts_S8x32x1024_S256x1024
    ∧ before σ main_v68 = shapeCast S1x1024 (σ main_arg2 : FVec Ideal S1024 .f32) Facts₀.shapeCasts_S1024_S1x1024
    ∧ before σ main_v69 = (truncf .bf16 (σ main_arg3 : FVec Ideal S1024x2304 .f32) Facts₀.bitsLt_bf16_f32 : FVec Ideal S1024x2304 .bf16)
    ∧ before σ main_v70 = shapeCast S1x256 (σ main_arg4 : FVec Ideal S256 .f32) Facts₀.shapeCasts_S256_S1x256
    ∧ before σ main_v74 = tiledA (σ main_arg7)
    ∧ before σ main_v78 = tiledA (σ main_arg8) := by
  refine ⟨?_, ?_, ?_, ?_, ?_, ?_, ?_⟩ <;>
    (simp only [before, List.flatten_cons, List.flatten_nil, List.append_nil, List.cons_append, List.nil_append, hostOps0, hostOps0_1, hostOps0_2, hostOps0_3, hostOps0_4, hostOps0_5, hostOps0_6, hostOps0_7, hostOps0_8,
      TRef.binary, TRef.nullary, TRef.ternary, TRef.unary, TRef.toBuf, TRef.ofBuf, cast_eq]
     after_results_simp
     try rfl)

set_option maxHeartbeats 4000000 in
theorem before_tables (σ : Valuation τ sig (Elt Ideal)) :
    before σ main_v13 = meansA
    ∧ before σ main_v62 = matsA (σ main_arg5)
    ∧ before σ main_v65 = biasA (σ main_arg6) := by
  refine ⟨?_, ?_, ?_⟩ <;>
    (simp only [before, List.flatten_cons, List.flatten_nil, List.append_nil, List.cons_append, List.nil_append, hostOps0, hostOps0_1, hostOps0_2, hostOps0_3, hostOps0_4, hostOps0_5, hostOps0_6, hostOps0_7, hostOps0_8,
      TRef.binary, TRef.nullary, TRef.ternary, TRef.unary, TRef.toBuf, TRef.ofBuf, cast_eq]
     after_results_simp
     rfl)

/-- The results, of the region's arrays. -/
theorem after_results (σ : Valuation τ sig (Elt Ideal)) :
    after hostOps1 σ main_v80 = extractStridedSlice S16640x256 ![0, 0] (σ main_v79_0 : FVec Ideal S16896x256 .f32) Facts₀.slices_S16896x256_S16640x256_0_0
    ∧ after hostOps1 σ main_v81 = extractStridedSlice S16640x256 ![0, 0] (σ main_v79_1 : FVec Ideal S16896x256 .bf16) Facts₀.slices_S16896x256_S16640x256_0_0
    ∧ after hostOps1 σ main_v82 = extractStridedSlice S16640x256 ![0, 0] (σ main_v79_2 : FVec Ideal S16896x256 .f32) Facts₀.slices_S16896x256_S16640x256_0_0
    ∧ after hostOps1 σ main_v83 = extractStridedSlice S16640x512 ![0, 0] (σ main_v79_3 : FVec Ideal S16896x512 .bf16) Facts₀.slices_S16896x512_S16640x512_0_0
    ∧ after hostOps1 σ main_v84 = extractStridedSlice S16640x512 ![0, 0] (σ main_v79_4 : FVec Ideal S16896x512 .f32) Facts₀.slices_S16896x512_S16640x512_0_0
    ∧ after hostOps1 σ main_v85 = extractStridedSlice S16640x512 ![0, 0] (σ main_v79_5 : FVec Ideal S16896x512 .f32) Facts₀.slices_S16896x512_S16640x512_0_0 := by
  refine ⟨?_, ?_, ?_, ?_, ?_, ?_⟩ <;>
    (simp only [hostOps1, TRef.binary, TRef.nullary, TRef.ternary, TRef.unary, TRef.toBuf, TRef.ofBuf, cast_eq]
     after_results_simp)

end Cert.Proj

end
-- ==== Proof.Proj.RefDef.lean ====
/- The reference projection's results, stage by stage. -/
module

public import proofs.«01_k».proof.Proof.Gen.Reference3Ideal.Run
public import proofs.«01_k».proof.Proof.Proj.Rows
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Proj.Ref

open Cert.Reference3Ideal Cert.Reference3Ideal.Gen Cert.Reference3Ideal.Facts₀

variable {F : FTy → Type} [FloatOps F] [Named F]

/-- The prompt's rows, then the sample's. -/
def rowsX (a : FVec F S2x8192x1024 .f32) (b : FVec F S8x32x1024 .f32) : FVec F S16640x1024 .f32 :=
  concatenate S16640x1024 0 [⟨S16384x1024, (shapeCast _ a Facts₀.shapeCasts_S2x8192x1024_S16384x1024)⟩, ⟨S256x1024, (shapeCast _ b Facts₀.shapeCasts_S8x32x1024_S256x1024)⟩] Facts₀.concatenates_S16384x1024_S256x1024_S16640x1024_d0

/-- The norm of every row. -/
def normV (x : FVec F S16640x1024 .f32) (g : FVec F S1024 .f32) : FVec F S16640x1024 .f32 :=
  mulf (mulf x (broadcastInDim S16640x1024 ![0, 1] Facts₀.bcast_S16640x1_S16640x1024_0_1 (Host.rsqrt (addf (Host.divf (broadcastInDim S16640x1 ![0] Facts₀.bcast_S16640_S16640x1_0 (Host.reduceAdd (mulf x x) (constant S_ .f32 0x00000000#32) Facts₀.reducesTo_S16640x1024_S16640_d1 Facts₀.h_S_)) (broadcastInDim S16640x1 ![] Facts₀.bcast_S_S16640x1 (constant S_ .f32 0x44800000#32))) (broadcastInDim S16640x1 ![] Facts₀.bcast_S_S16640x1 (constant S_ .f32 0x358637BD#32)))))) (broadcastInDim S16640x1024 ![0, 1] Facts₀.bcast_S1x1024_S16640x1024_0_1 (broadcastInDim S1x1024 ![1] Facts₀.bcast_S1024_S1x1024_1 g))

/-- The projection. -/
def projV (x : FVec F S16640x1024 .f32) (g : FVec F S1024 .f32) (w : FVec F S1024x2304 .f32) : FVec F S16640x2304 .f32 :=
  Host.dotGeneral dot_S16640x1024_S1024x2304_S16640x2304_1_0_0_1_n_n none (normV x g) w

/-- The norm of the gate's rows. -/
def gateNormV (x : FVec F S16640x256 .f32) (g : FVec F S256 .f32) : FVec F S16640x256 .f32 :=
  mulf (mulf x (broadcastInDim S16640x256 ![0, 1] Facts₀.bcast_S16640x1_S16640x256_0_1 (Host.rsqrt (addf (Host.divf (broadcastInDim S16640x1 ![0] Facts₀.bcast_S16640_S16640x1_0 (Host.reduceAdd (mulf x x) (constant S_ .f32 0x00000000#32) Facts₀.reducesTo_S16640x256_S16640_d1 Facts₀.h_S_)) (broadcastInDim S16640x1 ![] Facts₀.bcast_S_S16640x1 (constant S_ .f32 0x43800000#32))) (broadcastInDim S16640x1 ![] Facts₀.bcast_S_S16640x1 (constant S_ .f32 0x358637BD#32)))))) (broadcastInDim S16640x256 ![0, 1] Facts₀.bcast_S1x256_S16640x256_0_1 (broadcastInDim S1x256 ![1] Facts₀.bcast_S256_S1x256_1 g))

/-- The norm of every head, of rows of heads. -/
def headNormV (x : FVec F S16640x8x64 .f32) (g : FVec F S64 .f32) : FVec F S16640x8x64 .f32 :=
  mulf (mulf x (broadcastInDim S16640x8x64 ![0, 1, 2] Facts₀.bcast_S16640x8x1_S16640x8x64_0_1_2 (Host.rsqrt (addf (Host.divf (broadcastInDim S16640x8x1 ![0, 1] Facts₀.bcast_S16640x8_S16640x8x1_0_1 (Host.reduceAdd (mulf x x) (constant S_ .f32 0x00000000#32) Facts₀.reducesTo_S16640x8x64_S16640x8_d2 Facts₀.h_S_)) (broadcastInDim S16640x8x1 ![] Facts₀.bcast_S_S16640x8x1 (constant S_ .f32 0x42800000#32))) (broadcastInDim S16640x8x1 ![] Facts₀.bcast_S_S16640x8x1 (constant S_ .f32 0x358637BD#32)))))) (broadcastInDim S16640x8x64 ![0, 1, 2] Facts₀.bcast_S1x1x64_S16640x8x64_0_1_2 (broadcastInDim S1x1x64 ![2] Facts₀.bcast_S64_S1x1x64_2 g))

def headsV (x : FVec F S16640x512 .f32) (g : FVec F S64 .f32) : FVec F S16640x512 .f32 :=
  shapeCast S16640x512 (headNormV (shapeCast S16640x8x64 x Facts₀.shapeCasts_S16640x512_S16640x8x64) g) Facts₀.shapeCasts_S16640x8x64_S16640x512

/-- The prompt's matrices: below the diagonal. -/
def matsP (w : FVec F S4x128x128 .f32) : FVec F S4x128x128 .f32 :=
  select (broadcastInDim S4x128x128 ![0, 1, 2] Facts₀.bcast_S1x128x128_S4x128x128_0_1_2 (broadcastInDim S1x128x128 ![1, 2] Facts₀.bcast_S128x128_S1x128x128_1_2
    (select (cmpi .sge (addi (iotaInDim S128x128 32 0) (broadcastInDim S128x128 ![] Facts₀.bcast_S_S128x128 (constantI S_ 32 0#32))) (iotaInDim S128x128 32 1))
      (broadcastInDim S128x128 ![] Facts₀.bcast_S_S128x128 (constantI S_ 1 1#1)) (broadcastInDim S128x128 ![] Facts₀.bcast_S_S128x128 (constantI S_ 1 0#1)))))
    w (broadcastInDim S4x128x128 ![] Facts₀.bcast_S_S4x128x128 (constant S_ .f32 0x00000000#32))

/-- The sample's. -/
def matsS (w : FVec F S4x128x128 .f32) : FVec F S4x32x32 .f32 :=
  select (broadcastInDim S4x32x32 ![0, 1, 2] Facts₀.bcast_S1x32x32_S4x32x32_0_1_2 (broadcastInDim S1x32x32 ![1, 2] Facts₀.bcast_S32x32_S1x32x32_1_2
    (select (cmpi .sge (addi (iotaInDim S32x32 32 0) (broadcastInDim S32x32 ![] Facts₀.bcast_S_S32x32 (constantI S_ 32 0#32))) (iotaInDim S32x32 32 1))
      (broadcastInDim S32x32 ![] Facts₀.bcast_S_S32x32 (constantI S_ 1 1#1)) (broadcastInDim S32x32 ![] Facts₀.bcast_S_S32x32 (constantI S_ 1 0#1)))))
    (extractStridedSlice S4x32x32 ![0, 0, 0] w Facts₀.slices_S4x128x128_S4x32x32_0_0_0) (broadcastInDim S4x32x32 ![] Facts₀.bcast_S_S4x32x32 (constant S_ .f32 0x00000000#32))

/-- The prompt's mixed rows, by chunk and group. -/
def mixP (v : FVec F S2x64x128x4x64 .f32) (w : FVec F S4x128x128 .f32) (b : FVec F S4x128 .f32) : FVec F S2x64x128x4x64 .f32 :=
  addf (transpose S2x64x128x4x64 [1, 2, 4, 0, 3] (Host.dotGeneral dot_S2x64x128x4x64_S4x128x128_S4x2x64x64x128_2_2_014_1_3_0 none v w) Facts₀.transposes_S4x2x64x64x128_S2x64x128x4x64_1_2_4_0_3)
    (broadcastInDim S2x64x128x4x64 ![0, 1, 2, 3, 4] Facts₀.bcast_S1x1x128x4x1_S2x64x128x4x64_0_1_2_3_4 (broadcastInDim S1x1x128x4x1 ![2, 3] Facts₀.bcast_S128x4_S1x1x128x4x1_2_3 (transpose S128x4 [1, 0] b Facts₀.transposes_S4x128_S128x4_1_0)))

/-- The sample's. -/
def mixS (v : FVec F S8x1x32x4x64 .f32) (w : FVec F S4x32x32 .f32) (b : FVec F S4x128 .f32) : FVec F S8x1x32x4x64 .f32 :=
  addf (transpose S8x1x32x4x64 [1, 2, 4, 0, 3] (Host.dotGeneral dot_S8x1x32x4x64_S4x32x32_S4x8x1x64x32_2_2_014_1_3_0 none v w) Facts₀.transposes_S4x8x1x64x32_S8x1x32x4x64_1_2_4_0_3)
    (broadcastInDim S8x1x32x4x64 ![0, 1, 2, 3, 4] Facts₀.bcast_S1x1x32x4x1_S8x1x32x4x64_0_1_2_3_4 (broadcastInDim S1x1x32x4x1 ![2, 3] Facts₀.bcast_S32x4_S1x1x32x4x1_2_3 (transpose S32x4 [1, 0] (extractStridedSlice S4x32 ![0, 0] b Facts₀.slices_S4x128_S4x32_0_0) Facts₀.transposes_S4x32_S32x4_1_0)))

/-- The prompt's rows of an array of all the tokens', and the sample's. -/
def promptV (x : FVec F S16640x256 .f32) : FVec F S2x8192x256 .f32 :=
  shapeCast S2x8192x256 (extractStridedSlice S16384x256 ![0, 0] x Facts₀.slices_S16640x256_S16384x256_0_0) Facts₀.shapeCasts_S16384x256_S2x8192x256

def sampleV (x : FVec F S16640x256 .f32) : FVec F S8x32x256 .f32 :=
  shapeCast S8x32x256 (extractStridedSlice S256x256 ![16384, 0] x Facts₀.slices_S16640x256_S256x256_16384_0) Facts₀.shapeCasts_S256x256_S8x32x256

/-- The gated rows. -/
def spatV (u v : FVec F S16640x256 .f32) (w : FVec F S4x128x128 .f32) (b : FVec F S4x128 .f32) : FVec F S16640x256 .f32 :=
  concatenate S16640x256 0 [⟨S16384x256, shapeCast S16384x256 (mulf (promptV u) (shapeCast S2x8192x256 (mixP (shapeCast S2x64x128x4x64 (promptV v) Facts₀.shapeCasts_S2x8192x256_S2x64x128x4x64) (matsP w) b) Facts₀.shapeCasts_S2x64x128x4x64_S2x8192x256)) Facts₀.shapeCasts_S2x8192x256_S16384x256⟩,
    ⟨S256x256, shapeCast S256x256 (mulf (sampleV u) (shapeCast S8x32x256 (mixS (shapeCast S8x1x32x4x64 (sampleV v) Facts₀.shapeCasts_S8x32x256_S8x1x32x4x64) (matsS w) b) Facts₀.shapeCasts_S8x1x32x4x64_S8x32x256)) Facts₀.shapeCasts_S8x32x256_S256x256⟩] Facts₀.concatenates_S16384x256_S256x256_S16640x256_d0

/-- The columns. -/
def aV (z : FVec F S16640x2304 .f32) : FVec F S16640x256 .f32 := extractStridedSlice S16640x256 ![0, 0] z Facts₀.slices_S16640x2304_S16640x256_0_0
def uV (z : FVec F S16640x2304 .f32) : FVec F S16640x256 .f32 := extractStridedSlice S16640x256 ![0, 256] z Facts₀.slices_S16640x2304_S16640x256_0_256
def gV (z : FVec F S16640x2304 .f32) : FVec F S16640x256 .f32 := extractStridedSlice S16640x256 ![0, 512] z Facts₀.slices_S16640x2304_S16640x256_0_512
def qV (z : FVec F S16640x2304 .f32) : FVec F S16640x512 .f32 := extractStridedSlice S16640x512 ![0, 768] z Facts₀.slices_S16640x2304_S16640x512_0_768
def kV (z : FVec F S16640x2304 .f32) : FVec F S16640x512 .f32 := extractStridedSlice S16640x512 ![0, 1280] z Facts₀.slices_S16640x2304_S16640x512_0_1280
def vV (z : FVec F S16640x2304 .f32) : FVec F S16640x512 .f32 := extractStridedSlice S16640x512 ![0, 1792] z Facts₀.slices_S16640x2304_S16640x512_0_1792

/-- The scaled queries. -/
def scaleV (x : FVec F S16640x512 .f32) : FVec F S16640x512 .f32 :=
  mulf x (broadcastInDim S16640x512 ![] Facts₀.bcast_S_S16640x512 (constant S_ .f32 0x3E000000#32))

variable (m : (ℓ : Loc nD τ sig) → Buf (Elt F) ℓ) (c : Dev nD)

/-- The projection, of what the reference finds. -/
def projM : FVec F S16640x2304 .f32 :=
  projV (rowsX (m ((c.tc : Thread nD τ).loc main_arg0)) (m ((c.tc : Thread nD τ).loc main_arg1))) (m ((c.tc : Thread nD τ).loc main_arg2)) (m ((c.tc : Thread nD τ).loc main_arg3))

theorem res_gate : Cert.Reference3Ideal.Value.res_main_v35 m c = gateNormV (gV (projM m c)) (m ((c.tc : Thread nD τ).loc main_arg4)) := rfl

theorem res_q : Cert.Reference3Ideal.Value.res_main_v93 m c
    = truncf .bf16 (scaleV (headsV (qV (projM m c)) (m ((c.tc : Thread nD τ).loc main_arg7)))) Facts₀.bitsLt_bf16_f32 := rfl

theorem res_k : Cert.Reference3Ideal.Value.res_main_v108 m c
    = headsV (kV (projM m c)) (m ((c.tc : Thread nD τ).loc main_arg8)) := rfl

theorem res_spat : Cert.Reference3Ideal.Value.res_main_v75 m c
    = truncf .bf16 (spatV (uV (projM m c)) (gateNormV (gV (projM m c)) (m ((c.tc : Thread nD τ).loc main_arg4)))
        (m ((c.tc : Thread nD τ).loc main_arg5)) (m ((c.tc : Thread nD τ).loc main_arg6))) Facts₀.bitsLt_bf16_f32 := rfl

end Cert.Proj.Ref

end
-- ==== Proof.Proj.Ref.lean ====
/- The reference projection's stages at an index. -/
module

public import proofs.«01_k».proof.Proof.Proj.RefDef

@[expose] public section

set_option maxRecDepth 16384

noncomputable section

open Idealize.ShloMosaic Idealize.ShloMosaic.TcCoe Idealize.SL.Sem Idealize.ShloMosaic.StableHlo
open Cert.Merge (normR)

namespace Cert.Proj

/-- An entry kept on and below the diagonal. -/
def tril (i j : ℕ) (a : EReal) : EReal :=
  Scalar.select (Scalar.select (IntOp.cmpi CmpIPredicate.sge (IntOp.addi (BitVec.ofNat 32 i) 0#32) (BitVec.ofNat 32 j)) 1#1 0#1) a
    (Ideal.ofBits FTy.f32 0#32)

namespace Ref

open Cert.Reference3Ideal Cert.Reference3Ideal.Gen Cert.Reference3Ideal.Facts₀

theorem rowsX_at (a : FVec Ideal S2x8192x1024 .f32) (b : FVec Ideal S8x32x1024 .f32) (n : Fin 16640) (k : Fin 1024) :
    rowsX a b (ix2 n k) = if h : n.val < 16384 then a (ix3 ⟨n.val / 8192, by omega⟩ ⟨n.val % 8192, by omega⟩ k)
      else b (ix3 ⟨(n.val - 16384) / 32, by omega⟩ ⟨(n.val - 16384) % 32, by omega⟩ k) := by
  pointwise [rowsX]

theorem normV_at (x : FVec Ideal S16640x1024 .f32) (g : FVec Ideal S1024 .f32) (n : Fin 16640) (j : Fin 1024) :
    normV x g (ix2 n j) = normR (fun k => x (ix2 n k)) (fun k => g (ix1 k)) j := by
  pointwise [normV, normR]

theorem projV_at (x : FVec Ideal S16640x1024 .f32) (g : FVec Ideal S1024 .f32) (w : FVec Ideal S1024x2304 .f32) (n : Fin 16640) (l : Fin 2304) :
    projV x g w (ix2 n l) = projR (fun k => g (ix1 k)) (fun k l => w (ix2 k l)) (fun k => x (ix2 n k)) l := by
  have e : projV x g w (ix2 n l) = ∑ k : Fin 1024, normV x g (ix2 n k) * w (ix2 k l) := by
    unfold projV
    generalize normV x g = y
    pointwise
  rw [e]
  simp only [normV_at]
  rfl

theorem gateNormV_at (x : FVec Ideal S16640x256 .f32) (g : FVec Ideal S256 .f32) (n : Fin 16640) (j : Fin 256) :
    gateNormV x g (ix2 n j) = gateNormR (fun k => x (ix2 n k)) (fun k => g (ix1 k)) j := by
  pointwise [gateNormV, gateNormR]

theorem headNormV_at (x : FVec Ideal S16640x8x64 .f32) (g : FVec Ideal S64 .f32) (n : Fin 16640) (h : Fin 8) (d : Fin 64) :
    headNormV x g (ix3 n h d) = x (ix3 n h d) * Ideal.rsqrt (Ideal.div (∑ k : Fin 64, x (ix3 n h k) * x (ix3 n h k)) (Ideal.ofBits FTy.f32 1115684864#32)
      + Ideal.ofBits FTy.f32 897988541#32) * g (ix1 d) := by
  pointwise [headNormV]

theorem heads_at (x : FVec Ideal S16640x512 .f32) (n : Fin 16640) (h : Fin 8) (d : Fin 64) :
    shapeCast S16640x8x64 x Facts₀.shapeCasts_S16640x512_S16640x8x64 (ix3 n h d) = x (ix2 n ⟨h.val * 64 + d.val, by omega⟩) := by
  pointwise

/-- A head's norm, on the rows. -/
theorem headsV_at (x : FVec Ideal S16640x512 .f32) (g : FVec Ideal S64 .f32) (n : Fin 16640) (j : Fin 512) :
    headsV x g (ix2 n j) = x (ix2 n j) * Ideal.rsqrt (Ideal.div (∑ k : Fin 64, x (ix2 n ⟨j.val / 64 * 64 + k.val, by omega⟩) * x (ix2 n ⟨j.val / 64 * 64 + k.val, by omega⟩))
      (Ideal.ofBits FTy.f32 1115684864#32) + Ideal.ofBits FTy.f32 897988541#32) * g (ix1 ⟨j.val % 64, by omega⟩) := by
  have e : headsV x g (ix2 n j) = headNormV (shapeCast S16640x8x64 x Facts₀.shapeCasts_S16640x512_S16640x8x64) g
      (ix3 n (⟨j.val / 64, by omega⟩ : Fin 8) (⟨j.val % 64, by omega⟩ : Fin 64)) := by
    unfold headsV
    generalize headNormV _ g = y
    pointwise
  have hj : (⟨j.val / 64 * 64 + j.val % 64, by omega⟩ : Fin 512) = j := Fin.ext (by show j.val / 64 * 64 + j.val % 64 = j.val; omega)
  rw [e, headNormV_at]
  simp only [heads_at, hj]

theorem matsP_at (w : FVec Ideal S4x128x128 .f32) (e : Fin 4) (i j : Fin 128) : matsP w (ix3 e i j) = tril i.val j.val (w (ix3 e i j)) := by
  pointwise [matsP, tril]

theorem matsS_at (w : FVec Ideal S4x128x128 .f32) (e : Fin 4) (i j : Fin 32) :
    matsS w (ix3 e i j) = tril i.val j.val (w (ix3 e ⟨i.val, by omega⟩ ⟨j.val, by omega⟩)) := by
  pointwise [matsS, tril]

theorem promptV_at (x : FVec Ideal S16640x256 .f32) (b : Fin 2) (t : Fin 8192) (j : Fin 256) :
    promptV x (ix3 b t j) = x (ix2 ⟨b.val * 8192 + t.val, by omega⟩ j) := by
  pointwise [promptV]

/-- Token `t` of sample `b`. -/
def srow (b : Fin 8) (t : Fin 32) : Fin 16640 := ⟨16384 + (b.val * 32 + t.val), by omega⟩

theorem sampleV_at (x : FVec Ideal S16640x256 .f32) (b : Fin 8) (t : Fin 32) (j : Fin 256) :
    sampleV x (ix3 b t j) = x (ix2 (srow b t) j) := by
  pointwise [sampleV, srow]

theorem chunksP_at (v : FVec Ideal S2x8192x256 .f32) (b : Fin 2) (k : Fin 64) (i : Fin 128) (e : Fin 4) (d : Fin 64) :
    shapeCast S2x64x128x4x64 v Facts₀.shapeCasts_S2x8192x256_S2x64x128x4x64 (ix5 b k i e d) = v (ix3 b ⟨k.val * 128 + i.val, by omega⟩ ⟨e.val * 64 + d.val, by omega⟩) := by
  pointwise

theorem chunksS_at (v : FVec Ideal S8x32x256 .f32) (b : Fin 8) (i : Fin 32) (e : Fin 4) (d : Fin 64) :
    shapeCast S8x1x32x4x64 v Facts₀.shapeCasts_S8x32x256_S8x1x32x4x64 (ix5 b 0 i e d) = v (ix3 b i ⟨e.val * 64 + d.val, by omega⟩) := by
  pointwise

theorem mixP_at (v : FVec Ideal S2x64x128x4x64 .f32) (w : FVec Ideal S4x128x128 .f32) (b : FVec Ideal S4x128 .f32)
    (s : Fin 2) (k : Fin 64) (i : Fin 128) (e : Fin 4) (d : Fin 64) :
    mixP v w b (ix5 s k i e d) = ∑ i' : Fin 128, v (ix5 s k i' e d) * w (ix3 e i i') + b (ix2 e i) := by
  pointwise [mixP]

theorem mixS_at (v : FVec Ideal S8x1x32x4x64 .f32) (w : FVec Ideal S4x32x32 .f32) (b : FVec Ideal S4x128 .f32)
    (s : Fin 8) (i : Fin 32) (e : Fin 4) (d : Fin 64) :
    mixS v w b (ix5 s 0 i e d) = ∑ i' : Fin 32, v (ix5 s 0 i' e d) * w (ix3 e i i') + b (ix2 e ⟨i.val, by omega⟩) := by
  pointwise [mixS]

section

variable (u v : FVec Ideal S16640x256 .f32) (w : FVec Ideal S4x128x128 .f32) (b : FVec Ideal S4x128 .f32) (n : Fin 16640) (j : Fin 256)

/-- A prompt's gated row: mixed along its chunk. -/
theorem spatV_prompt (h : n.val < 16384) : spatV u v w b (ix2 n j)
    = u (ix2 n j) * (∑ i : Fin 128, v (ix2 ⟨n.val / 128 * 128 + i.val, by omega⟩ j) * tril (n.val % 128) i.val (w (ix3 (lane j) ⟨n.val % 128, by omega⟩ i))
      + b (ix2 (lane j) ⟨n.val % 128, by omega⟩)) := by
  have e : spatV u v w b (ix2 n j) = promptV u (ix3 ⟨n.val / 8192, by omega⟩ ⟨n.val % 8192, by omega⟩ j)
      * mixP (shapeCast S2x64x128x4x64 (promptV v) Facts₀.shapeCasts_S2x8192x256_S2x64x128x4x64) (matsP w) b
          (ix5 (⟨n.val / 8192, by omega⟩ : Fin 2) (⟨n.val % 8192 / 128, by omega⟩ : Fin 64) (⟨n.val % 8192 % 128, by omega⟩ : Fin 128) (lane j) (⟨j.val % 64, by omega⟩ : Fin 64)) := by
    unfold spatV
    generalize mixP (F := Ideal) _ _ _ = P
    generalize mixS (F := Ideal) _ _ _ = Q
    generalize promptV u = p
    generalize sampleV u = q
    pointwise
    rw [dif_pos h]
    rfl
  have h1 : (⟨n.val / 8192 * 8192 + n.val % 8192, by omega⟩ : Fin 16640) = n := Fin.ext (by simp only; omega)
  have h2 : ∀ i : Fin 128, (⟨n.val / 8192 * 8192 + (n.val % 8192 / 128 * 128 + i.val), by omega⟩ : Fin 16640) = ⟨n.val / 128 * 128 + i.val, by omega⟩ :=
    fun i => Fin.ext (by simp only; omega)
  have h3 : (⟨(lane j).val * 64 + j.val % 64, by have := (lane j).isLt; omega⟩ : Fin 256) = j := Fin.ext (by simp only [lane]; omega)
  have h4 : n.val % 8192 % 128 = n.val % 128 := by omega
  rw [e, promptV_at, mixP_at]
  simp only [chunksP_at, promptV_at, matsP_at, h1, h2, h3, h4]

/-- A sample's gated row, of its mixed row. -/
theorem spatV_mixed (h : ¬ n.val < 16384) : spatV u v w b (ix2 n j)
    = sampleV u (ix3 ⟨(n.val - 16384) / 32, by omega⟩ ⟨(n.val - 16384) % 32, by omega⟩ j)
      * mixS (shapeCast S8x1x32x4x64 (sampleV v) Facts₀.shapeCasts_S8x32x256_S8x1x32x4x64) (matsS w) b
          (ix5 (⟨(n.val - 16384) / 32, by omega⟩ : Fin 8) 0 (⟨(n.val - 16384) % 32, by omega⟩ : Fin 32) (lane j) (⟨j.val % 64, by omega⟩ : Fin 64)) := by
  unfold spatV
  generalize mixP (F := Ideal) _ _ _ = P
  generalize mixS (F := Ideal) _ _ _ = Q
  generalize promptV u = p
  generalize sampleV u = q
  pointwise
  rw [dif_neg h]
  rfl

/-- It is mixed along the sample. -/
theorem spatV_sample (s : Fin 8) (t : Fin 32) : spatV u v w b (ix2 (srow s t) j)
    = u (ix2 (srow s t) j) * (∑ i : Fin 32, v (ix2 (srow s i) j) * tril t.val i.val (w (ix3 (lane j) ⟨t.val, by omega⟩ ⟨i.val, by omega⟩))
      + b (ix2 (lane j) ⟨t.val, by omega⟩)) := by
  have hn : (srow s t).val = 16384 + (s.val * 32 + t.val) := rfl
  have h1 : (⟨((srow s t).val - 16384) / 32, by omega⟩ : Fin 8) = s := Fin.ext (by show ((srow s t).val - 16384) / 32 = s.val; omega)
  have h2 : (⟨((srow s t).val - 16384) % 32, by omega⟩ : Fin 32) = t := Fin.ext (by show ((srow s t).val - 16384) % 32 = t.val; omega)
  have h3 : (⟨(lane j).val * 64 + j.val % 64, by have := (lane j).isLt; omega⟩ : Fin 256) = j := Fin.ext (by simp only [lane]; omega)
  rw [spatV_mixed u v w b (srow s t) j (by omega), h1, h2, sampleV_at, mixS_at]
  simp only [chunksS_at, sampleV_at, matsS_at, h3]

end

/-- The columns at an index. -/
theorem aV_at (z : FVec Ideal S16640x2304 .f32) (n : Fin 16640) (j : Fin 256) : aV z (ix2 n j) = z (ix2 n (colA j)) := by
  pointwise [aV, colA]
theorem uV_at (z : FVec Ideal S16640x2304 .f32) (n : Fin 16640) (j : Fin 256) : uV z (ix2 n j) = z (ix2 n (colU j)) := by
  pointwise [uV, colU]
theorem gV_at (z : FVec Ideal S16640x2304 .f32) (n : Fin 16640) (j : Fin 256) : gV z (ix2 n j) = z (ix2 n (colG j)) := by
  pointwise [gV, colG]
theorem qV_at (z : FVec Ideal S16640x2304 .f32) (n : Fin 16640) (j : Fin 512) : qV z (ix2 n j) = z (ix2 n (colQ j)) := by
  pointwise [qV, colQ]
theorem kV_at (z : FVec Ideal S16640x2304 .f32) (n : Fin 16640) (j : Fin 512) : kV z (ix2 n j) = z (ix2 n (colK j)) := by
  pointwise [kV, colK]
theorem vV_at (z : FVec Ideal S16640x2304 .f32) (n : Fin 16640) (j : Fin 512) : vV z (ix2 n j) = z (ix2 n (colV j)) := by
  pointwise [vV, colV]

theorem scaleV_at (x : FVec Ideal S16640x512 .f32) (n : Fin 16640) (j : Fin 512) :
    scaleV x (ix2 n j) = x (ix2 n j) * Ideal.ofBits FTy.f32 1040187392#32 := by
  pointwise [scaleV]

end Ref

end Cert.Proj

end
-- ==== Proof.Proj.Sums.lean ====
/- Sums against tables of blocks, among the extended reals. -/
module

public import proofs.«01_k».proof.Proof.Proj.Rows

@[expose] public section

noncomputable section

open Idealize.ShloMosaic

namespace Cert.Proj

/-- A sum over the places of a block. -/
theorem sum_block {N L : ℕ} (g : Fin N → EReal) (p : Fin N → Prop) [DecidablePred p] (ι : Fin L → Fin N) (hι : Function.Injective ι)
    (hp : ∀ d, p (ι d)) (hq : ∀ k, p k → ∃ d, ι d = k) : ∑ k, (if p k then g k else 0) = ∑ d, g (ι d) := by
  symm
  apply Finset.sum_of_injOn ι hι.injOn
  · exact fun _ _ => Finset.mem_coe.mpr (Finset.mem_univ _)
  rotate_left
  · exact fun d _ => (if_pos (hp d)).symm
  intro k _ hk
  refine if_neg fun h => ?_
  obtain ⟨d, hd⟩ := hq k h
  exact hk ⟨d, Finset.mem_coe.mpr (Finset.mem_univ d), hd⟩

/-- A sum of nonnegative terms, each times one number. -/
theorem sum_mul_nonneg {L : ℕ} (f : Fin L → EReal) (hf : ∀ d, 0 ≤ f d) (c : EReal) : ∑ d, f d * c = (∑ d, f d) * c := by
  have h : ∀ s : Finset (Fin L), ∑ d ∈ s, f d * c = (∑ d ∈ s, f d) * c := fun s => ?_
  · exact h _
  refine Finset.induction_on s (by rw [Finset.sum_empty, Finset.sum_empty, zero_mul]) fun d s hd ih => ?_
  rw [Finset.sum_insert hd, Finset.sum_insert hd, ih, EReal.right_distrib_of_nonneg (hf d) (Finset.sum_nonneg fun d _ => hf d)]

theorem sq_nonneg' (t : EReal) : 0 ≤ t * t := by
  rcases le_total 0 t with h | h
  · exact mul_nonneg h h
  · have := mul_nonneg (EReal.neg_nonneg.mpr h) (EReal.neg_nonneg.mpr h)
    rwa [neg_mul_neg] at this

theorem sixtyFour : Ideal.ofBits FTy.f32 1115684864#32 = ((64 : ℝ) : EReal) := by
  simp [Ideal.ofBits, Ideal.ieee]
  rw [← EReal.coe_mul]
  norm_num

theorem sixtyFourth : Ideal.ofBits FTy.f32 1015021568#32 = (((64 : ℝ)⁻¹ : ℝ) : EReal) := by
  simp [Ideal.ofBits, Ideal.ieee]
  rw [← EReal.coe_mul]
  norm_num

/-- Dividing by 64 is multiplying by its inverse. -/
theorem div_sixtyFour (x : EReal) : Ideal.div x (Ideal.ofBits FTy.f32 1115684864#32) = x * Ideal.ofBits FTy.f32 1015021568#32 := by
  rw [sixtyFour, sixtyFourth]
  unfold Ideal.div
  rw [if_neg (by norm_num), EReal.coe_inv]

/-- A head's mean square by the table of means. -/
theorem mean_head (t : Fin 512 → EReal) (l : Fin 512) :
    ∑ k : Fin 512, t k * t k * ((if k.val / 64 = l.val / 64 then 1 else 0) * Ideal.ofBits FTy.f32 1015021568#32)
      = Ideal.div (∑ d : Fin 64, t ⟨l.val / 64 * 64 + d.val, by omega⟩ * t ⟨l.val / 64 * 64 + d.val, by omega⟩) (Ideal.ofBits FTy.f32 1115684864#32) := by
  have e : ∀ k : Fin 512, t k * t k * ((if k.val / 64 = l.val / 64 then 1 else 0) * Ideal.ofBits FTy.f32 1015021568#32)
      = if k.val / 64 = l.val / 64 then t k * t k * Ideal.ofBits FTy.f32 1015021568#32 else 0 := fun k => by
    by_cases h : k.val / 64 = l.val / 64
    · rw [if_pos h, if_pos h, one_mul]
    · rw [if_neg h, if_neg h, zero_mul, mul_zero]
  simp only [e]
  rw [div_sixtyFour, ← sum_mul_nonneg _ (fun d => sq_nonneg' _)]
  exact sum_block (fun k => t k * t k * Ideal.ofBits FTy.f32 1015021568#32) (fun k => k.val / 64 = l.val / 64)
    (fun d : Fin 64 => (⟨l.val / 64 * 64 + d.val, by omega⟩ : Fin 512))
    (fun a b h => Fin.ext (by have := congrArg Fin.val h; simp only at this; omega))
    (fun d => by show (l.val / 64 * 64 + d.val) / 64 = l.val / 64; omega)
    (fun k h => ⟨⟨k.val % 64, by omega⟩, Fin.ext (by show l.val / 64 * 64 + k.val % 64 = k.val; omega)⟩)

/-- A row of a table of four blocks picks its own block's terms. -/
theorem sum_quarter (i : Fin 128) (w : Fin 32 → EReal) (v : Fin 128 → EReal) :
    ∑ k : Fin 128, (if i.val / 32 = k.val / 32 then 1 else 0) * w ⟨k.val % 32, by omega⟩ * v k
      = ∑ d : Fin 32, v ⟨i.val / 32 * 32 + d.val, by omega⟩ * w d := by
  have e : ∀ k : Fin 128, (if i.val / 32 = k.val / 32 then 1 else 0) * w ⟨k.val % 32, by omega⟩ * v k
      = if i.val / 32 = k.val / 32 then v k * w ⟨k.val % 32, by omega⟩ else 0 := fun k => by
    by_cases h : i.val / 32 = k.val / 32
    · rw [if_pos h, if_pos h, one_mul, mul_comm]
    · rw [if_neg h, if_neg h, zero_mul, zero_mul]
  simp only [e]
  refine (sum_block (fun k : Fin 128 => v k * w ⟨k.val % 32, by omega⟩) (fun k => i.val / 32 = k.val / 32)
    (fun d : Fin 32 => (⟨i.val / 32 * 32 + d.val, by omega⟩ : Fin 128))
    (fun a b h => Fin.ext (by have := congrArg Fin.val h; simp only at this; omega))
    (fun d => by show i.val / 32 = (i.val / 32 * 32 + d.val) / 32; omega)
    (fun k h => ⟨⟨k.val % 32, by omega⟩, Fin.ext (by show i.val / 32 * 32 + k.val % 32 = k.val; omega)⟩)).trans ?_
  refine Finset.sum_congr rfl fun d _ => congrArg (v _ * ·) (congrArg w (Fin.ext ?_))
  show (i.val / 32 * 32 + d.val) % 32 = d.val
  omega

end Cert.Proj

end
-- ==== Proof.Proj.Host.lean ====
/- The projection region's tables at an index. -/
module

public import proofs.«01_k».proof.Proof.Proj.HostDef
public import proofs.«01_k».proof.Proof.Proj.Ref
public import proofs.«01_k».proof.Proof.Proj.Sums

@[expose] public section

set_option maxRecDepth 16384

noncomputable section

open Idealize.ShloMosaic Idealize.ShloMosaic.TcCoe Idealize.SL.Sem Idealize.ShloMosaic.StableHlo

namespace Cert.Proj

open Cert.Kernel3Ideal Cert.Kernel3Ideal.Gen Cert.Kernel3Ideal.Facts₀

/-- The test of two blocks, as a number. -/
theorem same_block (a b : Fin 8) :
    FloatOps.uitofp (F := Ideal) FTy.f32 (IntOp.cmpi CmpIPredicate.eq (IntOp.addi (BitVec.ofNat 32 a.val) 0#32) (BitVec.ofNat 32 b.val))
      = (if a.val = b.val then 1 else 0 : EReal) := by
  have h : ∀ a b : Fin 8, IntOp.cmpi CmpIPredicate.eq (IntOp.addi (BitVec.ofNat 32 a.val) 0#32) (BitVec.ofNat 32 b.val)
      = if a.val = b.val then 1#1 else 0#1 := by
    decide +kernel
  rw [h a b]
  by_cases e : a.val = b.val
  · rw [if_pos e, if_pos e]
    show (((1#1 : BitVec 1).toNat : ℝ) : EReal) = 1
    simp
  · rw [if_neg e, if_neg e]
    show (((0#1 : BitVec 1).toNat : ℝ) : EReal) = 0
    simp

theorem meansA_at (k l : Fin 512) :
    meansA (ix2 k l) = (if k.val / 64 = l.val / 64 then 1 else 0) * Ideal.ofBits FTy.f32 1015021568#32 := by
  pointwise [meansA]
  exact congrArg (· * Ideal.ofBits FTy.f32 1015021568#32) (same_block ⟨k.val / 64, by omega⟩ ⟨l.val / 64, by omega⟩)

theorem lowerP_at (w : FVec Ideal S4x128x128 .f32) (e : Fin 4) (i j : Fin 128) : lowerP w (ix3 e i j) = tril i.val j.val (w (ix3 e i j)) := by
  pointwise [lowerP, tril]

theorem lowerS_at (w : FVec Ideal S4x128x128 .f32) (e : Fin 4) (i j : Fin 32) :
    lowerS w (ix3 e i j) = tril i.val j.val (w (ix3 e ⟨i.val, by omega⟩ ⟨j.val, by omega⟩)) := by
  pointwise [lowerS, tril]

theorem blocksP_at (w : FVec Ideal S4x128x128 .f32) (e : Fin 4) (i j : Fin 128) : blocksP w (ix3 e i j) = lowerP w (ix3 e i j) := by
  unfold blocksP
  generalize lowerP w = y
  pointwise
  exact (congrArg (· * y (ix3 e i j)) (same_block 0 0)).trans (one_mul _)

theorem blocksS_at (w : FVec Ideal S4x128x128 .f32) (e : Fin 4) (i j : Fin 128) : blocksS w (ix3 e i j)
    = (if i.val / 32 = j.val / 32 then 1 else 0) * lowerS w (ix3 e ⟨i.val % 32, by omega⟩ ⟨j.val % 32, by omega⟩) := by
  unfold blocksS
  generalize lowerS w = y
  pointwise
  exact congrArg (· * y (ix3 e ⟨i.val % 32, _⟩ ⟨j.val % 32, _⟩)) (same_block ⟨i.val / 32, by omega⟩ ⟨j.val / 32, by omega⟩)

theorem matsA_at (w : FVec Ideal S4x128x128 .f32) (s : Fin 2) (e : Fin 4) (i j : Fin 128) : matsA w (ix4 s e i j)
    = if s.val < 1 then blocksP w (ix3 e i j) else blocksS w (ix3 e i j) := by
  unfold matsA
  generalize blocksP w = y
  generalize blocksS w = z
  pointwise
  rfl

theorem biasP_at (b : FVec Ideal S4x128 .f32) (i : Fin 128) (j : Fin 256) : biasP b (ix2 i j) = b (ix2 (lane j) i) := by
  pointwise [biasP]
  rfl

theorem biasS_at (b : FVec Ideal S4x128 .f32) (i : Fin 128) (j : Fin 256) : biasS b (ix2 i j) = b (ix2 (lane j) ⟨i.val % 32, by omega⟩) := by
  pointwise [biasS]
  rfl

theorem biasA_at (b : FVec Ideal S4x128 .f32) (s : Fin 2) (i : Fin 128) (j : Fin 256) : biasA b (ix3 s i j)
    = if s.val < 1 then biasP b (ix2 i j) else biasS b (ix2 i j) := by
  unfold biasA
  generalize biasP b = y
  generalize biasS b = z
  pointwise
  rfl

theorem tiledA_at (g : FVec Ideal S64 .f32) (j : Fin 512) : tiledA g (ix2 0 j) = g (ix1 ⟨j.val % 64, by omega⟩) := by
  pointwise [tiledA]

end Cert.Proj

end
-- ==== Proof.Proj.Args.lean ====
/- The region's rows are the reference's, of the arguments. -/
module

public import proofs.«01_k».proof.Proof.Proj.Host

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proj

open Cert.Kernel3Ideal Cert.Kernel3Ideal.Gen Cert.Kernel3Ideal.Facts₀

variable (m : (ℓ : Loc nD τ sig) → Buf (Elt Ideal) ℓ) (c : Dev nD)

/-- What the kernel finds in an argument. -/
abbrev arg (b : Ref sig .tc) : Buf (Elt Ideal) ((c.tc : Thread nD τ).loc b) := m ((c.tc : Thread nD τ).loc b)

/-- The reference's projection of the arguments, its gate and its gate's norm. -/
abbrev projK : FVec Ideal Cert.Reference3Ideal.S16640x2304 .f32 := Ref.projV (Ref.rowsX (arg m c main_arg0) (arg m c main_arg1)) (arg m c main_arg2) (arg m c main_arg3)
abbrev gateK : FVec Ideal S16640x256 .f32 := Ref.gateNormV (Ref.gV (projK m c)) (arg m c main_arg4)

/-- A token of the results among the tiles' rows. -/
abbrev wide (n : Fin 16640) : Fin 16896 := ⟨n.val, by omega⟩

theorem prompt_at (x : FVec Ideal S2x8192x1024 .f32) (n : Fin 16384) (k : Fin 1024) :
    shapeCast S16384x1024 x Facts₀.shapeCasts_S2x8192x1024_S16384x1024 (ix2 n k) = x (ix3 ⟨n.val / 8192, by omega⟩ ⟨n.val % 8192, by omega⟩ k) := by
  pointwise

theorem sample_at (x : FVec Ideal S8x32x1024 .f32) (r : Fin 256) (k : Fin 1024) :
    shapeCast S256x1024 x Facts₀.shapeCasts_S8x32x1024_S256x1024 (ix2 r k) = x (ix3 ⟨r.val / 32, by omega⟩ ⟨r.val % 32, by omega⟩ k) := by
  pointwise

theorem row1024_at (x : FVec Ideal S1024 .f32) (k : Fin 1024) : shapeCast S1x1024 x Facts₀.shapeCasts_S1024_S1x1024 (ix2 0 k) = x (ix1 k) := by
  pointwise

theorem row256_at (x : FVec Ideal S256 .f32) (k : Fin 256) : shapeCast S1x256 x Facts₀.shapeCasts_S256_S1x256 (ix2 0 k) = x (ix1 k) := by
  pointwise

theorem x_args (n : Fin 16640) (k : Fin 1024) : xT m c (wide n) k = Ref.rowsX (F := Ideal) (arg m c main_arg0) (arg m c main_arg1) (ix2 n k) := by
  obtain ⟨e66, e67, -⟩ := before_rows (fun b => m (c, b))
  refine Eq.trans ?_ (Ref.rowsX_at _ _ n k).symm
  unfold xT
  by_cases h : n.val < 16384
  · rw [dif_pos h, dif_pos h]
    exact (congrFun e66 _).trans (prompt_at _ _ k)
  · have hs : n.val % 256 = n.val - 16384 := by omega
    rw [dif_neg h, dif_neg h]
    refine (congrFun e67 _).trans ((sample_at _ _ k).trans ?_)
    simp only [hs]

theorem z_args (n : Fin 16640) (l : Fin 2304) : zT m c (wide n) l = projK m c (ix2 n l) := by
  obtain ⟨-, -, e68, e69, -⟩ := before_rows (fun b => m (c, b))
  refine Eq.trans ?_ (Ref.projV_at _ _ _ n l).symm
  unfold zT
  have hg : (fun k => (V m c main_v68 : FVec Ideal S1x1024 .f32) (ix2 0 k)) = fun k => (arg m c main_arg2 : FVec Ideal S1024 .f32) (ix1 k) :=
    funext fun k => (congrFun e68 _).trans (row1024_at _ k)
  have hw : (fun k l => (V m c main_v69 : FVec Ideal S1024x2304 .bf16) (ix2 k l)) = fun k l => (arg m c main_arg3 : FVec Ideal S1024x2304 .f32) (ix2 k l) :=
    funext fun k => funext fun l => congrFun e69 _
  rw [hg, hw, funext (x_args m c n)]

theorem vn_args (n : Fin 16640) (j : Fin 256) : vnT m c (wide n) j = gateK m c (ix2 n j) := by
  obtain ⟨-, -, -, -, e70, -⟩ := before_rows (fun b => m (c, b))
  refine Eq.trans ?_ (Ref.gateNormV_at _ _ n j).symm
  unfold vnT
  have hg : (fun k => (V m c main_v70 : FVec Ideal S1x256 .f32) (ix2 0 k)) = fun k => (arg m c main_arg4 : FVec Ideal S256 .f32) (ix1 k) :=
    funext fun k => (congrFun e70 _).trans (row256_at _ k)
  rw [hg]
  simp only [z_args, Ref.gV_at]

/-- A head's norm by the tables, of a row of the reference's. -/
theorem head_args (t : FVec Ideal S16640x512 .f32) (g : FVec Ideal S64 .f32) (n : Fin 16640) (j : Fin 512) :
    headR (fun k => t (ix2 n k)) (fun k l => meansA (ix2 k l)) (fun k => tiledA g (ix2 0 k)) j = Ref.headsV t g (ix2 n j) := by
  refine Eq.trans ?_ (Ref.headsV_at t g n j).symm
  unfold headR
  simp only [meansA_at, tiledA_at]
  rw [mean_head (fun k => t (ix2 n k)) j]

theorem means_args : (fun k l => (V m c main_v13 : FVec Ideal S512x512 .bf16) (ix2 k l)) = fun k l => meansA (ix2 k l) :=
  funext fun k => funext fun l => congrFun (before_tables (fun b => m (c, b))).1 _

theorem q_args (n : Fin 16640) (j : Fin 512) : qT m c (wide n) j = Ref.headsV (Ref.qV (projK m c)) (arg m c main_arg7) (ix2 n j) := by
  obtain ⟨-, -, -, -, -, e74, -⟩ := before_rows (fun b => m (c, b))
  refine Eq.trans ?_ (head_args _ _ n j)
  unfold qT
  have hg : (fun k => (V m c main_v74 : FVec Ideal S1x512 .f32) (ix2 0 k)) = fun k => tiledA (arg m c main_arg7) (ix2 0 k) :=
    funext fun k => congrFun e74 _
  rw [means_args, hg]
  simp only [z_args, Ref.qV_at]

theorem k_args (n : Fin 16640) (j : Fin 512) : kT m c (wide n) j = Ref.headsV (Ref.kV (projK m c)) (arg m c main_arg8) (ix2 n j) := by
  obtain ⟨-, -, -, -, -, -, e78⟩ := before_rows (fun b => m (c, b))
  refine Eq.trans ?_ (head_args _ _ n j)
  unfold kT
  have hg : (fun k => (V m c main_v78 : FVec Ideal S1x512 .f32) (ix2 0 k)) = fun k => tiledA (arg m c main_arg8) (ix2 0 k) :=
    funext fun k => congrFun e78 _
  rw [means_args, hg]
  simp only [z_args, Ref.kV_at]

/-- A gated row, of the reference's rows. -/
theorem yb_rows (n : Fin 16640) (j : Fin 256) (s : Fin 2) (hs : half (n.val / 256) = s) : ybT m c (wide n) j
    = Ref.uV (projK m c) (ix2 n j) * (∑ k : Fin 128, matsA (arg m c main_arg5) (ix4 s (lane j) (⟨n.val % 128, by omega⟩ : Fin 128) k) * vnT m c (mateT (wide n) k) j
      + biasA (arg m c main_arg6) (ix3 s (⟨n.val % 128, by omega⟩ : Fin 128) j)) := by
  obtain ⟨-, e62, e65⟩ := before_tables (fun b => m (c, b))
  unfold ybT spatR
  rw [z_args, Ref.uV_at, hs]
  exact congrArg (projK m c (ix2 n (colU j)) * ·) (congrArg₂ (· + ·) (Finset.sum_congr rfl fun k _ => congrArg (· * vnT m c (mateT (wide n) k) j) (congrFun e62 _)) (congrFun e65 _))

/-- The prompt's gated rows. -/
theorem yb_prompt (n : Fin 16640) (j : Fin 256) (h : n.val < 16384) : ybT m c (wide n) j
    = Ref.spatV (Ref.uV (projK m c)) (gateK m c) (arg m c main_arg5) (arg m c main_arg6) (ix2 n j) := by
  have h0 : (0 : Fin 2).val < 1 := by decide
  rw [Ref.spatV_prompt _ _ _ _ n j h, yb_rows m c n j 0 (if_pos (by omega)), biasA_at, if_pos h0, biasP_at]
  refine congrArg (Ref.uV (projK m c) (ix2 n j) * ·) (congrArg (· + _) (Finset.sum_congr rfl fun i _ => ?_))
  have hm : mateT (wide n) i = wide ⟨n.val / 128 * 128 + i.val, by omega⟩ := Fin.ext (by
    show 128 * (n.val / 128) + i.val = n.val / 128 * 128 + i.val
    omega)
  rw [matsA_at, if_pos h0, blocksP_at, lowerP_at, hm, vn_args, mul_comm]

/-- The sample's. -/
theorem yb_sample (s : Fin 8) (t : Fin 32) (j : Fin 256) : ybT m c (wide (Ref.srow s t)) j
    = Ref.spatV (Ref.uV (projK m c)) (gateK m c) (arg m c main_arg5) (arg m c main_arg6) (ix2 (Ref.srow s t) j) := by
  have hn : (Ref.srow s t).val = 16384 + (s.val * 32 + t.val) := rfl
  have ht : (Ref.srow s t).val % 128 % 32 = t.val := by omega
  rw [Ref.spatV_sample, yb_rows m c (Ref.srow s t) j 1 (if_neg (by omega)), biasA_at, if_neg (by decide), biasS_at]
  simp only [ht]
  refine congrArg (Ref.uV (projK m c) (ix2 (Ref.srow s t) j) * ·) (congrArg (· + _) ?_)
  simp only [matsA_at, blocksS_at, lowerS_at, ht]
  refine (sum_quarter ⟨(Ref.srow s t).val % 128, by omega⟩ (fun d => tril t.val d.val ((arg m c main_arg5 : FVec Ideal S4x128x128 .f32) (ix3 (lane j) ⟨t.val, by omega⟩ ⟨d.val, by omega⟩)))
    fun k => vnT m c (mateT (wide (Ref.srow s t)) k) j).trans (Finset.sum_congr rfl fun d _ => ?_)
  have hm : mateT (wide (Ref.srow s t)) ⟨(Ref.srow s t).val % 128 / 32 * 32 + d.val, by omega⟩ = wide (Ref.srow s d) := Fin.ext (by
    show 128 * ((Ref.srow s t).val / 128) + ((Ref.srow s t).val % 128 / 32 * 32 + d.val) = 16384 + (s.val * 32 + d.val)
    omega)
  simp only [hm, vn_args]

theorem yb_args (n : Fin 16640) (j : Fin 256) : ybT m c (wide n) j
    = Ref.spatV (Ref.uV (projK m c)) (gateK m c) (arg m c main_arg5) (arg m c main_arg6) (ix2 n j) := by
  by_cases h : n.val < 16384
  · exact yb_prompt m c n j h
  · have e : n = Ref.srow ⟨(n.val - 16384) / 32, by omega⟩ ⟨(n.val - 16384) % 32, by omega⟩ := Fin.ext (by
      show n.val = 16384 + ((n.val - 16384) / 32 * 32 + (n.val - 16384) % 32)
      omega)
    rw [e]
    exact yb_sample m c _ _ j

end Cert.Proj

end
-- ==== Proof.Proj.Same.lean ====
/- The kernel's results are the reference's. -/
module

public import proofs.«01_k».proof.Proof.Proj.Args

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proj

open Cert.Kernel3Ideal Cert.Kernel3Ideal.Gen Cert.Kernel3Ideal.Facts₀

variable (m : (ℓ : Loc nD τ sig) → Buf (Elt Ideal) ℓ) (c : Dev nD)

/-- The gated rows of the arguments, narrowed. -/
abbrev spatK : FVec Ideal S16640x256 .bf16 :=
  truncf .bf16 (Ref.spatV (Ref.uV (projK m c)) (gateK m c) (arg m c main_arg5) (arg m c main_arg6)) Facts₀.bitsLt_bf16_f32

/-- The scaled queries, narrowed, and the keys. -/
abbrev queryK : FVec Ideal S16640x512 .bf16 :=
  truncf .bf16 (Ref.scaleV (Ref.headsV (Ref.qV (projK m c)) (arg m c main_arg7))) Facts₀.bitsLt_bf16_f32
abbrev keyK : FVec Ideal S16640x512 .f32 := Ref.headsV (Ref.kV (projK m c)) (arg m c main_arg8)

/-- The tokens' rows of an array of the tiles' rows. -/
theorem slice256_at {φ : FTy} (x : FVec Ideal S16896x256 φ) (n : Fin 16640) (j : Fin 256) :
    extractStridedSlice S16640x256 ![0, 0] x Facts₀.slices_S16896x256_S16640x256_0_0 (ix2 n j) = x (ix2 (wide n) j) := by
  pointwise

theorem slice512_at {φ : FTy} (x : FVec Ideal S16896x512 φ) (n : Fin 16640) (j : Fin 512) :
    extractStridedSlice S16640x512 ![0, 0] x Facts₀.slices_S16896x512_S16640x512_0_0 (ix2 n j) = x (ix2 (wide n) j) := by
  pointwise

theorem slice256 {φ : FTy} (x : FVec Ideal S16896x256 φ) (y : FVec Ideal S16640x256 φ) (h : ∀ n j, x (ix2 (wide n) j) = y (ix2 n j)) :
    extractStridedSlice S16640x256 ![0, 0] x Facts₀.slices_S16896x256_S16640x256_0_0 = y := by
  funext i
  obtain ⟨n, j, rfl⟩ : ∃ (n : Fin 16640) (j : Fin 256), i = ix2 n j := ⟨i 0, i 1, eq_ix2 i⟩
  exact (slice256_at x n j).trans (h n j)

theorem slice512 {φ : FTy} (x : FVec Ideal S16896x512 φ) (y : FVec Ideal S16640x512 φ) (h : ∀ n j, x (ix2 (wide n) j) = y (ix2 n j)) :
    extractStridedSlice S16640x512 ![0, 0] x Facts₀.slices_S16896x512_S16640x512_0_0 = y := by
  funext i
  obtain ⟨n, j, rfl⟩ : ∃ (n : Fin 16640) (j : Fin 512), i = ix2 n j := ⟨i 0, i 1, eq_ix2 i⟩
  exact (slice512_at x n j).trans (h n j)

theorem arrays_injective : Function.Injective (Pipeline.arrRef spec0) := by decide

/-- The arrays the region leaves. -/
abbrev left : Valuation τ sig (Elt Ideal) := Pipeline.withArrays spec0 c (V0 m c) fun w => (dats m 0 c).arrAt w cfg0.N

/-- A result's array. -/
theorem left_arr (w : Fin 16) : left m c (Pipeline.arrRef spec0 w) = (dats m 0 c).arrAt w cfg0.N :=
  Pipeline.withArrays_arr spec0 arrays_injective c (V0 m c) (fun w => (dats m 0 c).arrAt w cfg0.N) w

/-- What the host code after the region leaves in the results. -/
theorem tail_a : Pipeline.afterTail₀ cfgs (dats m) 0 (V0 m) [hostOps1] c main_v80 = Ref.aV (projK m c) :=
  (after_results (left m c)).1.trans (slice256 _ _ fun n j =>
    (congrFun ((left_arr m c 10).trans (a_arr m c)) _).trans ((z_args m c n (colA j)).trans (Ref.aV_at _ n j).symm))

theorem tail_yb : Pipeline.afterTail₀ cfgs (dats m) 0 (V0 m) [hostOps1] c main_v81 = spatK m c :=
  (after_results (left m c)).2.1.trans (slice256 _ _ fun n j =>
    (congrFun ((left_arr m c 11).trans (yb_arr m c)) _).trans (yb_args m c n j))

theorem tail_vn : Pipeline.afterTail₀ cfgs (dats m) 0 (V0 m) [hostOps1] c main_v82 = gateK m c :=
  (after_results (left m c)).2.2.1.trans (slice256 _ _ fun n j =>
    (congrFun ((left_arr m c 12).trans (vn_arr m c)) _).trans (vn_args m c n j))

theorem tail_q : Pipeline.afterTail₀ cfgs (dats m) 0 (V0 m) [hostOps1] c main_v83 = queryK m c :=
  (after_results (left m c)).2.2.2.1.trans (slice512 _ _ fun n j =>
    (congrFun ((left_arr m c 13).trans (q_arr m c)) _).trans
      ((congrArg (· * Ideal.ofBits FTy.f32 1040187392#32) (q_args m c n j)).trans (Ref.scaleV_at _ n j).symm))

theorem tail_k : Pipeline.afterTail₀ cfgs (dats m) 0 (V0 m) [hostOps1] c main_v84 = keyK m c :=
  (after_results (left m c)).2.2.2.2.1.trans (slice512 _ _ fun n j =>
    (congrFun ((left_arr m c 14).trans (k_arr m c)) _).trans (k_args m c n j))

theorem tail_v : Pipeline.afterTail₀ cfgs (dats m) 0 (V0 m) [hostOps1] c main_v85 = Ref.vV (projK m c) :=
  (after_results (left m c)).2.2.2.2.2.trans (slice512 _ _ fun n j =>
    (congrFun ((left_arr m c 15).trans (v_arr m c)) _).trans ((z_args m c n (colV j)).trans (Ref.vV_at _ n j).symm))

end Cert.Proj

end
-- ==== Proof.Proj.Claims.lean ====
/- The projection's claims: the frames, and that kernel and reference compute one function. -/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Proj.Same
public import Idealize.ShloMosaic.Adequacy
public import Idealize.ShloMosaic.Init

@[expose] public section

noncomputable section

namespace Cert.Proj

open Idealize.ShloMosaic Idealize.ShloMosaic.TcCoe Idealize.SL.Sem

attribute [local instance] Cert.Kernel3.Gen.facts Cert.Kernel3Ideal.Gen.facts Cert.Reference3Ideal.Gen.facts

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_ref : Cert.quiescent_Reference3Ideal := fun m ρ _ =>
  (θ_run Cert.Reference3Ideal.defs _ _).mono (fun r h => ⟨fun c => (h c).2.2.2.2.2.2,
      Idealize.ShloMosaic.sem_eq_zero_of_no_sems (by decide) r.2⟩) (Cert.Reference3Ideal.Value.run (F := Ideal) m ρ)

set_option maxHeartbeats 1000000 in
theorem same : Cert.algebraic_Kernel3Ideal_Reference3Ideal := by
  intro m g m' g' hpre hagree
  refine ⟨fun c => Ref.aV (projK m c), fun c => spatK m c, fun c => gateK m c, fun c => queryK m c, fun c => keyK m c, fun c => Ref.vV (projK m c), ?_, ?_⟩
  · exact (θ_run Cert.Kernel3Ideal.defs _ _).mono (fun r h c =>
        ⟨((h.2 c).2 Cert.Kernel3Ideal.main_v80 (by decide)).trans (tail_a m c),
          ((h.2 c).2 Cert.Kernel3Ideal.main_v81 (by decide)).trans (tail_yb m c),
          ((h.2 c).2 Cert.Kernel3Ideal.main_v82 (by decide)).trans (tail_vn m c),
          ((h.2 c).2 Cert.Kernel3Ideal.main_v83 (by decide)).trans (tail_q m c),
          ((h.2 c).2 Cert.Kernel3Ideal.main_v84 (by decide)).trans (tail_k m c),
          ((h.2 c).2 Cert.Kernel3Ideal.main_v85 (by decide)).trans (tail_v m c), h.1 c⟩)
      (θ_run_and (Cert.Kernel3Ideal.Gen.unchanged m g) (Cert.Kernel3Ideal.Gen.run_main m g))
  have hz : ∀ c, Ref.projM m' c = projK m c := fun c => by
    obtain ⟨h0, h1, h2, h3, _⟩ := hagree c
    unfold Ref.projM
    rw [h0, h1, h2, h3]
  refine (θ_run Cert.Reference3Ideal.defs _ _).mono (fun r h c => ⟨(h c).1.trans (congrArg Ref.aV (hz c)), (h c).2.1.trans ?_, (h c).2.2.1.trans ?_,
      (h c).2.2.2.1.trans ?_, (h c).2.2.2.2.1.trans ?_, (h c).2.2.2.2.2.1.trans (congrArg Ref.vV (hz c)), (h c).2.2.2.2.2.2⟩)
    (Cert.Reference3Ideal.Value.run (F := Ideal) m' g')
  all_goals obtain ⟨-, -, -, -, h4, h5, h6, h7, h8⟩ := hagree c
  · rw [Ref.res_spat, hz c, h4, h5, h6]
  · rw [Ref.res_gate, hz c, h4]
  · rw [Ref.res_q, hz c, h7]
  · rw [Ref.res_k, hz c, h8]

end Cert.Proj

end
-- ==== Proof.Pool.Window.lean ====
/- Sums of consecutive rows: by doubling, and as differences of running sums. -/
module

public import proofs.«01_k».proof.Proof.Proj.Sums
public import Idealize.ShloMosaic.Lib.Routing.OpsOne
public import Idealize.ShloMosaic.Lib.Pipeline.FrameBody

@[expose] public section

noncomputable section

open Idealize.ShloMosaic

namespace Cert.Pool

/-- A load of a whole block is the block. -/
theorem ld_all {S : Shape} {e : EltTy} {Val : EltTy → Type} (X : S.Idx → Val e) (off : Fin S.rank → ℕ) (h : ∀ a, off a = 0)
    (inb : ∀ a, off a + S.size a ≤ S.size a) : View.ld X (Rect.unit off S.size inb) = X := by
  obtain rfl : off = fun _ => 0 := funext h
  funext y
  exact congrArg X (Rect.emb_whole_apply _ y)

/-- The sum of `w` rows from row `k` on. -/
def run (e : ℕ → EReal) (w k : ℕ) : EReal := ∑ j ∈ Finset.range w, e (k + j)

theorem run_one (e : ℕ → EReal) (k : ℕ) : run e 1 k = e k := by
  simp [run]

/-- Twice as many rows: two sums. -/
theorem run_add (e : ℕ → EReal) (v w k : ℕ) : run e (v + w) k = run e w (k + v) + run e v k := by
  unfold run
  rw [Finset.sum_range_add, add_comm]
  exact congrArg (· + _) (Finset.sum_congr rfl fun j _ => congrArg e (by omega))

/-- Rows of one stream, counted from a later row. -/
theorem run_shift (e f : ℕ → EReal) (d w k : ℕ) (h : ∀ j, j < w → e (k + j) = f (d + (k + j))) : run e w k = run f w (d + k) := by
  unfold run
  exact Finset.sum_congr rfl fun j hj => (h j (Finset.mem_range.mp hj)).trans (congrArg f (by omega))

/-- The width of a group's window. -/
def width (g : ℕ) : ℕ := 2 ^ (g + 1)

/-- A lane's mean over its group's window, which ends at row `r` of a tile under 16 earlier rows. -/
def mean (e : ℕ → EReal) (g r : ℕ) : EReal := run e (width g) (r + 17 - width g) * ((((width g : ℕ) : ℝ)⁻¹ : ℝ) : EReal)

/-- The same mean, of a stream the tile's rows are a part of. -/
theorem mean_shift (e f : ℕ → EReal) (d g r : ℕ) (hg : g < 4) (h : ∀ n, n ≤ r + 16 → e n = f (d + n)) : mean e g r = mean f g (d + r) := by
  have hw : 2 ≤ width g ∧ width g ≤ 16 := by
    unfold width
    interval_cases g <;> decide
  unfold mean
  rw [run_shift e f d (width g) (r + 17 - width g) fun j hj => h _ (by omega), show d + (r + 17 - width g) = d + r + 17 - width g by omega]

/-- Sums of `w` rows, added to themselves `w` rows on. -/
theorem double_at {N M w : ℕ} (x : FVec Ideal (⟨2, ![N, 256]⟩ : Shape) .f32) (e : Fin 256 → ℕ → EReal)
    (hx : ∀ (n : Fin N) (k : Fin 256), x (ix2 n k) = run (e k) w n.val) (hM : w + M = N)
    (h1 : (⟨2, ![N, 256]⟩ : Shape).Slices ![w, 0] ⟨2, ![M, 256]⟩) (h0 : (⟨2, ![N, 256]⟩ : Shape).Slices ![0, 0] ⟨2, ![M, 256]⟩)
    (n : Fin M) (k : Fin 256) :
    addf (extractStridedSlice (⟨2, ![M, 256]⟩ : Shape) ![w, 0] x h1) (extractStridedSlice (⟨2, ![M, 256]⟩ : Shape) ![0, 0] x h0) (ix2 n k)
      = run (e k) (w + w) n.val := by
  show extractStridedSlice _ _ x h1 (ix2 n k) + extractStridedSlice _ _ x h0 (ix2 n k) = _
  rw [extractStridedSlice_apply _ x h1 (ix2 n k) (ix2 ⟨w + n.val, by omega⟩ k) (by intro a; fin_cases a <;> simp [ix2]),
    extractStridedSlice_apply _ x h0 (ix2 n k) (ix2 ⟨n.val, by omega⟩ k) (by intro a; fin_cases a <;> simp [ix2]), hx, hx, run_add,
    Nat.add_comm n.val]

/-- Rows under 16 earlier ones. -/
def under {T : ℕ} (h : Fin 16 → EReal) (x : Fin T → EReal) (n : ℕ) : EReal :=
  if p : n < 16 then h ⟨n, p⟩ else if q : n - 16 < T then x ⟨n - 16, q⟩ else 0

/-- A row of pooled means less the row itself, through its groups' matrices, scaled. -/
def mixed {T : ℕ} (h : Fin 16 → Fin 256 → EReal) (a : Fin T → Fin 256 → EReal) (w : Fin 256 → Fin 256 → EReal) (s : Fin 256 → EReal)
    (i : Fin T) (l : Fin 256) : EReal :=
  (∑ k : Fin 256, (mean (under (fun n => h n k) fun j => a j k) (k.val / 64) i.val - a i k) * w k l) * s l

/-- A difference of running sums of reals is the sum between. -/
theorem sub_running (e : ℕ → EReal) (h : ∀ j, ∃ a : ℝ, e j = (a : EReal)) (k w : ℕ) :
    (∑ j ∈ Finset.range (k + w), e j) - ∑ j ∈ Finset.range k, e j = run e w k := by
  choose f hf using h
  have hc : ∀ s : Finset ℕ, ∀ g : ℕ → ℕ, ∑ j ∈ s, e (g j) = ((∑ j ∈ s, f (g j) : ℝ) : EReal) := fun s g => by
    classical
    induction s using Finset.induction_on with
    | empty => simp
    | insert a s ha ih => rw [Finset.sum_insert ha, Finset.sum_insert ha, ih, hf, EReal.coe_add]
  unfold run
  rw [hc _ fun j => j, hc _ fun j => j, hc _ fun j => k + j, ← EReal.coe_sub, Finset.sum_range_add]
  exact congrArg _ (add_sub_cancel_left _ _)

/-- The running sum along the middle axis, as it prints. -/
theorem cumsum_mid {B R C Q : ℕ} (hR : Q + 1 = R) (x : FVec Ideal (⟨3, ![B, R, C]⟩ : Shape) .f32)
    (init : FVec Ideal (⟨0, ![]⟩ : Shape) .f32) (hi : ∀ y, init y = 0)
    (h : (⟨3, ![B, R, C]⟩ : Shape).ReduceWindows (![1, R, 1] : Fin 3 → ℕ) ![1, 1, 1] ![0, Q, 0] ![0, 0, 0] (⟨3, ![B, R, C]⟩ : Shape))
    (hu : 0 < (⟨0, ![]⟩ : Shape).numel) (b : Fin B) (j : Fin R) (l : Fin C) (f : ℕ → EReal) (hf : ∀ i : Fin R, x (ix3 b i l) = f i.val) :
    Host.reduceWindowAdd ![1, R, 1] ![1, 1, 1] ![0, Q, 0] ![0, 0, 0] x init h hu (ix3 b j l) = ∑ i ∈ Finset.range (j.val + 1), f i := by
  subst hR
  have hj := j.isLt
  have hb := b.isLt
  have hl := l.isLt
  have g : ∀ (p : (⟨3, ![1, Q + 1, 1]⟩ : Shape).Idx)
      (hd : Decidable (∀ a : Fin 3, (![0, Q, 0] : Fin 3 → ℕ) a ≤ (ix3 b j l a).val * (![1, 1, 1] : Fin 3 → ℕ) a + (p a).val
          ∧ (ix3 b j l a).val * (![1, 1, 1] : Fin 3 → ℕ) a + (p a).val - (![0, Q, 0] : Fin 3 → ℕ) a < (⟨3, ![B, Q + 1, C]⟩ : Shape).size a)),
      (@dite EReal _ hd (fun hin => x (fun a => ⟨_, (hin a).2⟩)) fun _ => 0)
      = if Q ≤ j.val + (p 1).val then f (j.val + (p 1).val - Q) else 0 := fun p hd => by
    have p0 : (p 0).val = 0 := by have : (p 0).val < 1 := (p 0).isLt; omega
    have p1 : (p 1).val < Q + 1 := (p 1).isLt
    have p2 : (p 2).val = 0 := by have : (p 2).val < 1 := (p 2).isLt; omega
    by_cases hq : Q ≤ j.val + (p 1).val
    · rw [if_pos hq, dif_pos]
      · refine Eq.trans (congrArg x ?_) (hf ⟨j.val + (p 1).val - Q, by omega⟩)
        funext a
        match a with
        | ⟨0, _⟩ => exact Fin.ext (by show b.val * 1 + (p 0).val - 0 = b.val; omega)
        | ⟨1, _⟩ => exact Fin.ext (by show j.val * 1 + (p 1).val - Q = j.val + (p 1).val - Q; omega)
        | ⟨2, _⟩ => exact Fin.ext (by show l.val * 1 + (p 2).val - 0 = l.val; omega)
      · intro a
        match a with
        | ⟨0, _⟩ => show 0 ≤ b.val * 1 + (p 0).val ∧ b.val * 1 + (p 0).val - 0 < B; omega
        | ⟨1, _⟩ => show Q ≤ j.val * 1 + (p 1).val ∧ j.val * 1 + (p 1).val - Q < Q + 1; omega
        | ⟨2, _⟩ => show 0 ≤ l.val * 1 + (p 2).val ∧ l.val * 1 + (p 2).val - 0 < C; omega
    · rw [if_neg hq, dif_neg]
      intro hin
      have h1 : Q ≤ j.val * 1 + (p 1).val := (hin 1).1
      omega
  have hv : init (Shape.Idx.first hu) = (0 : EReal) := hi _
  show List.foldl _ (init (Shape.Idx.first hu)) (List.finRange (⟨3, ![1, Q + 1, 1]⟩ : Shape).numel) = _
  rw [hv]
  refine Eq.trans (b := ∑ p : (⟨3, ![1, Q + 1, 1]⟩ : Shape).Idx, if Q ≤ j.val + (p 1).val then f (j.val + (p 1).val - Q) else 0) ?_ ?_
  · rw [sum_idx_eq_foldl]
    refine congrArg (fun k : EReal → Fin (⟨3, ![1, Q + 1, 1]⟩ : Shape).numel → EReal => List.foldl k 0 (List.finRange _)) ?_
    funext r n
    exact congrArg (r + ·) (g _ _)
  · rw [sum_idx3]
    have e : ∀ a : Fin 1, (∑ k : Fin (Q + 1), ∑ c : Fin 1, if Q ≤ j.val + (ix3 a k c 1).val then f (j.val + (ix3 a k c 1).val - Q) else 0)
        = ∑ k ∈ Finset.range (Q + 1), if Q ≤ j.val + k then f (j.val + k - Q) else 0 := fun a =>
      (Finset.sum_congr rfl fun k _ => Fin.sum_univ_one _).trans (Fin.sum_univ_eq_sum_range (fun k : ℕ => if Q ≤ j.val + k then f (j.val + k - Q) else 0) (Q + 1))
    rw [Fin.sum_univ_one, e]
    clear g e hf
    generalize j.val = q at hj ⊢
    rw [show Q + 1 = (Q - q) + (q + 1) by omega, Finset.sum_range_add]
    refine Eq.trans (congrArg₂ (· + ·) (Finset.sum_eq_zero fun k hk => if_neg (by have := Finset.mem_range.mp hk; omega))
      (Finset.sum_congr rfl fun k _ => (if_pos (by omega)).trans (congrArg f (by omega)))) (zero_add _)

/-- The lane's group, as the kernel counts it: a division rounded down. -/
def groupWord (k : Fin 256) : BitVec 32 :=
  Scalar.select
    (IntOp.andi
      (IntOp.cmpi .ne (IntOp.subi (BitVec.setWidth 32 (IntOp.cmpi .sgt (BitVec.ofNat 32 k.val) 0#32)) (BitVec.setWidth 32 (IntOp.cmpi .slt (BitVec.ofNat 32 k.val) 0#32)))
        (Scalar.subi (Scalar.extui (Scalar.cmpi .sgt 64#32 0#32)) (Scalar.extui (Scalar.cmpi .slt 64#32 0#32))))
      (IntOp.cmpi .ne (IntOp.remsi ArithUnit.vector (BitVec.ofNat 32 k.val) 64#32) 0#32))
    (IntOp.subi (IntOp.divsi ArithUnit.vector (BitVec.ofNat 32 k.val) 64#32) 1#32)
    (IntOp.divsi ArithUnit.vector (BitVec.ofNat 32 k.val) 64#32)

theorem groupWord_eq : ∀ k : Fin 256, groupWord k = BitVec.ofNat 32 (k.val / 64) := by
  decide +kernel

/-- A lane's choice among the four windows. -/
def pick (k : Fin 256) (a b c d : EReal) : EReal :=
  Scalar.select (IntOp.cmpi .eq (groupWord k) 0#32) a
    (Scalar.select (IntOp.cmpi .eq (groupWord k) 1#32) b (Scalar.select (IntOp.cmpi .eq (groupWord k) 2#32) c d))

theorem pick_eq (k : Fin 256) (a b c d : EReal) : pick k a b c d
    = if k.val / 64 = 0 then a else if k.val / 64 = 1 then b else if k.val / 64 = 2 then c else d := by
  unfold pick
  rw [groupWord_eq]
  obtain ⟨g, hg⟩ : ∃ g : Fin 4, g.val = k.val / 64 := ⟨⟨k.val / 64, by omega⟩, rfl⟩
  rw [← hg]
  match g with
  | 0 => rfl
  | 1 => rfl
  | 2 => rfl
  | 3 => rfl

theorem real_two : Ideal.ofBits FTy.f32 1073741824#32 = ((2 : ℝ) : EReal) := by
  simp [Ideal.ofBits, Ideal.ieee]
  rw [← EReal.coe_mul]
  norm_num

theorem real_four : Ideal.ofBits FTy.f32 1082130432#32 = ((4 : ℝ) : EReal) := by
  simp [Ideal.ofBits, Ideal.ieee]
  rw [← EReal.coe_mul]
  norm_num

theorem real_eight : Ideal.ofBits FTy.f32 1090519040#32 = ((8 : ℝ) : EReal) := by
  simp [Ideal.ofBits, Ideal.ieee]
  rw [← EReal.coe_mul]
  norm_num

theorem real_sixteen : Ideal.ofBits FTy.f32 1098907648#32 = ((16 : ℝ) : EReal) := by
  simp [Ideal.ofBits, Ideal.ieee]
  rw [← EReal.coe_mul]
  norm_num

theorem real_half : Ideal.ofBits FTy.f32 1056964608#32 = (((2 : ℝ)⁻¹ : ℝ) : EReal) := by
  simp [Ideal.ofBits, Ideal.ieee]
  rw [← EReal.coe_mul]
  norm_num

theorem real_quarter : Ideal.ofBits FTy.f32 1048576000#32 = (((4 : ℝ)⁻¹ : ℝ) : EReal) := by
  simp [Ideal.ofBits, Ideal.ieee]
  rw [← EReal.coe_mul]
  norm_num

theorem real_eighth : Ideal.ofBits FTy.f32 1040187392#32 = (((8 : ℝ)⁻¹ : ℝ) : EReal) := by
  simp [Ideal.ofBits, Ideal.ieee]
  rw [← EReal.coe_mul]
  norm_num

theorem real_sixteenth : Ideal.ofBits FTy.f32 1031798784#32 = (((16 : ℝ)⁻¹ : ℝ) : EReal) := by
  simp [Ideal.ofBits, Ideal.ieee]
  rw [← EReal.coe_mul]
  norm_num

theorem div_real (x : EReal) (r : ℝ) (h : r ≠ 0) : Ideal.div x (r : EReal) = x * ((r⁻¹ : ℝ) : EReal) := by
  unfold Ideal.div
  rw [if_neg (by exact_mod_cast h), EReal.coe_inv]

/-- The window a lane takes, and its reciprocal. -/
theorem mean_cases (e : ℕ → EReal) (g r : ℕ) (h : g < 4) : mean e g r
    = if g = 0 then run e 2 (15 + r) * Ideal.ofBits FTy.f32 1056964608#32
      else if g = 1 then run e 4 (13 + r) * Ideal.ofBits FTy.f32 1048576000#32
      else if g = 2 then run e 8 (9 + r) * Ideal.ofBits FTy.f32 1040187392#32
      else run e 16 (1 + r) * Ideal.ofBits FTy.f32 1031798784#32 := by
  rw [real_half, real_quarter, real_eighth, real_sixteenth]
  obtain ⟨a, rfl⟩ : ∃ a : Fin 4, a.val = g := ⟨⟨g, h⟩, rfl⟩
  match a with
  | 0 => exact congrArg₂ (fun k (x : ℝ) => run e 2 k * (x : EReal)) (by show r + 17 - 2 = _; omega) rfl
  | 1 => exact congrArg₂ (fun k (x : ℝ) => run e 4 k * (x : EReal)) (by show r + 17 - 4 = _; omega) rfl
  | 2 => exact congrArg₂ (fun k (x : ℝ) => run e 8 k * (x : EReal)) (by show r + 17 - 8 = _; omega) rfl
  | 3 => exact congrArg₂ (fun k (x : ℝ) => run e 16 k * (x : EReal)) (by show r + 17 - 16 = _; omega) rfl

/-- The kernel's choice among its doubled sums is the lane's mean. -/
theorem pick_mean (e : ℕ → EReal) (k : Fin 256) (r : ℕ) :
    pick k (run e 2 (15 + r) * Ideal.ofBits FTy.f32 1056964608#32) (run e 4 (13 + r) * Ideal.ofBits FTy.f32 1048576000#32)
      (run e 8 (9 + r) * Ideal.ofBits FTy.f32 1040187392#32) (run e 16 (1 + r) * Ideal.ofBits FTy.f32 1031798784#32) = mean e (k.val / 64) r := by
  rw [pick_eq, mean_cases e _ r (by omega)]

/-- A table of four blocks on the diagonal picks its own block's terms. -/
theorem sum_group (l : Fin 256) (v : Fin 256 → EReal) (w : Fin 64 → EReal) :
    ∑ k : Fin 256, v k * ((if k.val / 64 = l.val / 64 then 1 else 0) * w ⟨k.val % 64, by omega⟩)
      = ∑ d : Fin 64, v ⟨l.val / 64 * 64 + d.val, by omega⟩ * w d := by
  have e : ∀ k : Fin 256, v k * ((if k.val / 64 = l.val / 64 then 1 else 0) * w ⟨k.val % 64, by omega⟩)
      = if k.val / 64 = l.val / 64 then v k * w ⟨k.val % 64, by omega⟩ else 0 := fun k => by
    by_cases h : k.val / 64 = l.val / 64
    · rw [if_pos h, if_pos h, one_mul]
    · rw [if_neg h, if_neg h, zero_mul, mul_zero]
  simp only [e]
  refine (Cert.Proj.sum_block (fun k : Fin 256 => v k * w ⟨k.val % 64, by omega⟩) (fun k => k.val / 64 = l.val / 64)
    (fun d : Fin 64 => (⟨l.val / 64 * 64 + d.val, by omega⟩ : Fin 256))
    (fun a b h => Fin.ext (by have := congrArg Fin.val h; simp only at this; omega))
    (fun d => by show (l.val / 64 * 64 + d.val) / 64 = l.val / 64; omega)
    (fun k h => ⟨⟨k.val % 64, by omega⟩, Fin.ext (by show l.val / 64 * 64 + k.val % 64 = k.val; omega)⟩)).trans ?_
  refine Finset.sum_congr rfl fun d _ => congrArg (v _ * ·) (congrArg w (Fin.ext ?_))
  show (l.val / 64 * 64 + d.val) % 64 = d.val
  omega

/-- Rows of reals under rows of reals are reals. -/
theorem under_real {T : ℕ} (h : Fin 16 → EReal) (x : Fin T → EReal) (hh : ∀ n, ∃ a : ℝ, h n = (a : EReal)) (hx : ∀ n, ∃ a : ℝ, x n = (a : EReal))
    (n : ℕ) : ∃ a : ℝ, under h x n = (a : EReal) := by
  unfold under
  by_cases p : n < 16
  · rw [dif_pos p]
    exact hh _
  · rw [dif_neg p]
    by_cases q : n - 16 < T
    · rw [dif_pos q]
      exact hx _
    · rw [dif_neg q]
      exact ⟨0, rfl⟩

/-- A mean, as the difference of two running sums over the window's width. -/
theorem mean_running (e : ℕ → EReal) (h : ∀ j, ∃ a : ℝ, e j = (a : EReal)) (g i a b : ℕ) (hg : g < 4) (ha : a = b + width g) (hb : b + 1 = i + 17 - width g)
    (W : EReal) (hW : W = (((width g : ℕ) : ℝ) : EReal)) :
    Ideal.div ((∑ j ∈ Finset.range a, e (j + 1)) - ∑ j ∈ Finset.range b, e (j + 1)) W = mean e g i := by
  subst ha hW
  have hw : ((width g : ℕ) : ℝ) ≠ 0 := by
    unfold width
    positivity
  rw [sub_running (fun j => e (j + 1)) (fun j => h _), div_real _ _ hw]
  unfold mean
  rw [← hb]
  refine congrArg (· * _) (Finset.sum_congr rfl fun j _ => congrArg e (by omega))

/-- The four groups' means, each of its lanes and window. -/
theorem mean_chain {N : ℕ} (cs : Fin N → Fin 256 → EReal) (i : ℕ) (hi : 16 + i < N) (k : Fin 256) (e : Fin 256 → ℕ → EReal)
    (hr : ∀ k j, ∃ a : ℝ, e k j = (a : EReal)) (hc : ∀ K k, cs K k = ∑ j ∈ Finset.range K.val, e k (j + 1)) :
    (if h : k.val < 64 then Ideal.div (cs ⟨16 + i, hi⟩ k - cs ⟨14 + i, by omega⟩ k) (Ideal.ofBits FTy.f32 1073741824#32)
      else if h : k.val - 64 < 64 then
        Ideal.div (cs ⟨16 + i, hi⟩ ⟨64 + (k.val - 64), by omega⟩ - cs ⟨12 + i, by omega⟩ ⟨64 + (k.val - 64), by omega⟩) (Ideal.ofBits FTy.f32 1082130432#32)
      else if h : k.val - 64 - 64 < 64 then
        Ideal.div (cs ⟨16 + i, hi⟩ ⟨128 + (k.val - 64 - 64), by omega⟩ - cs ⟨8 + i, by omega⟩ ⟨128 + (k.val - 64 - 64), by omega⟩) (Ideal.ofBits FTy.f32 1090519040#32)
      else
        Ideal.div (cs ⟨16 + i, hi⟩ ⟨192 + (k.val - 64 - 64 - 64), by omega⟩ - cs ⟨i, by omega⟩ ⟨192 + (k.val - 64 - 64 - 64), by omega⟩) (Ideal.ofBits FTy.f32 1098907648#32))
      = mean (e k) (k.val / 64) i := by
  have hk := k.isLt
  have key : ∀ (g a b : ℕ) (ha : a < N) (hb : b < N) (k' : Fin 256) (W : EReal), k' = k → k.val / 64 = g → g < 4 → a = b + width g → b + 1 = i + 17 - width g →
      W = (((width g : ℕ) : ℝ) : EReal) → Ideal.div (cs ⟨a, ha⟩ k' - cs ⟨b, hb⟩ k') W = mean (e k) (k.val / 64) i := by
    intro g a b ha hb k' W hk' hg hg4 h1 h2 hW
    subst hk' hg
    rw [hc, hc]
    exact mean_running (e k') (hr k') _ i a b hg4 h1 h2 W hW
  have w0 : width 0 = 2 ∧ width 1 = 4 ∧ width 2 = 8 ∧ width 3 = 16 := by decide
  obtain ⟨w0, w1, w2, w3⟩ := w0
  by_cases h0 : k.val < 64
  · rw [dif_pos h0]
    exact key 0 _ _ _ _ _ _ rfl (by omega) (by omega) (by omega) (by omega) (by rw [real_two, w0]; norm_num)
  rw [dif_neg h0]
  by_cases h1 : k.val - 64 < 64
  · rw [dif_pos h1]
    exact key 1 _ _ _ _ _ _ (Fin.ext (by simp only; omega)) (by omega) (by omega) (by omega) (by omega) (by rw [real_four, w1]; norm_num)
  rw [dif_neg h1]
  by_cases h2 : k.val - 64 - 64 < 64
  · rw [dif_pos h2]
    exact key 2 _ _ _ _ _ _ (Fin.ext (by simp only; omega)) (by omega) (by omega) (by omega) (by omega) (by rw [real_eight, w2]; norm_num)
  · rw [dif_neg h2]
    exact key 3 _ _ _ _ _ _ (Fin.ext (by simp only; omega)) (by omega) (by omega) (by omega) (by omega) (by rw [real_sixteen, w3]; norm_num)

end Cert.Pool

end
-- ==== Proof.Pool.PromptTile.lean ====
/- The prompt's pooling tile at an index. -/
module

public import proofs.«01_k».proof.Proof.Gen.Kernel4Ideal.Frame
public import proofs.«01_k».proof.Proof.Pool.Window
public import Idealize.ShloMosaic.Lib.Pipeline.ValueKit

@[expose] public section

set_option maxRecDepth 16384

noncomputable section

open Idealize.ShloMosaic Idealize.ShloMosaic.TcCoe Idealize.SL.Sem

namespace Cert.Pool.Prompt

open Cert.Kernel4Ideal Cert.Kernel4Ideal.Gen Cert.Kernel4Ideal.Facts₀

/-- The result, of the four sums. -/
theorem last_at (v7 : FVec Ideal S1024x256 .f32) (v11 : FVec Ideal S1039x256 .f32) (v14 : FVec Ideal S1037x256 .f32) (v17 : FVec Ideal S1033x256 .f32)
    (v20 : FVec Ideal S1025x256 .f32) (w : Vec Ideal S256x256 .bf16) (s : Vec Ideal S1x256 .f32) (r : Fin 1024) (l : Fin 256) :
    k0_pay1 v7 v11 v14 v17 v20 k0_pay7 k0_pay8 1#32 w s (ix2 r l)
      = (∑ k : Fin 256, (pick k (v11 (ix2 ⟨15 + r.val, by omega⟩ k) * Ideal.ofBits FTy.f32 1056964608#32)
          (v14 (ix2 ⟨13 + r.val, by omega⟩ k) * Ideal.ofBits FTy.f32 1048576000#32)
          (v17 (ix2 ⟨9 + r.val, by omega⟩ k) * Ideal.ofBits FTy.f32 1040187392#32)
          (v20 (ix2 ⟨1 + r.val, by omega⟩ k) * Ideal.ofBits FTy.f32 1031798784#32) - v7 (ix2 r k)) * w (ix2 k l)) * s (ix2 0 l) := by
  pointwise [k0_pay1, k0_pay7, k0_pay8]
  rfl

/-- Which tile is its entry's first. -/
theorem first_tile {α : Type} (a : Fin 8) (x y : α) :
    Scalar.select (Scalar.cmpi CmpIPredicate.eq (BitVec.ofNat 32 a.val) 0#32) x y = if a.val = 0 then x else y := by
  fin_cases a <;> rfl

/-- A lane of a tile under the 16 rows before it. -/
def rows (i : grid0.Coords) (x0 : Vec Ideal S1024x256 .f32) (x1 : Vec Ideal S16x256 .f32) (x2 : Vec Ideal S1x16x256 .f32) (k : Fin 256) : ℕ → EReal :=
  under (fun n => if (i 1).val = 0 then x2 (ix3 0 n k) else x1 (ix2 n k)) fun r : Fin 1024 => x0 (ix2 r k)

variable (i : grid0.Coords) (x0 : Vec Ideal S1024x256 .f32) (x1 : Vec Ideal S16x256 .f32) (x2 : Vec Ideal S1x16x256 .f32)

theorem sum2 (n : Fin 1039) (k : Fin 256) : k0_pay3 i x2 x1 x0 (ix2 n k) = run (rows i x0 x1 x2 k) 2 n.val := by
  unfold k0_pay3
  refine double_at _ (rows i x0 x1 x2) (fun n k => ?_) rfl _ _ n k
  rw [run_one]
  pointwise [k0_pay2, rows, under]
  rw [dif_pos (show n.val - 16 < 1024 by omega)]
  exact dite_congr rfl (fun _ => first_tile (i 1) _ _) fun _ => rfl

theorem sum4 (n : Fin 1037) (k : Fin 256) : k0_pay4 i x2 x1 x0 (ix2 n k) = run (rows i x0 x1 x2 k) 4 n.val :=
  double_at _ (rows i x0 x1 x2) (sum2 i x0 x1 x2) rfl _ _ n k

theorem sum8 (n : Fin 1033) (k : Fin 256) : k0_pay5 i x2 x1 x0 (ix2 n k) = run (rows i x0 x1 x2 k) 8 n.val :=
  double_at _ (rows i x0 x1 x2) (sum4 i x0 x1 x2) rfl _ _ n k

theorem sum16 (n : Fin 1025) (k : Fin 256) : k0_pay6 i x2 x1 x0 (ix2 n k) = run (rows i x0 x1 x2 k) 16 n.val :=
  double_at _ (rows i x0 x1 x2) (sum8 i x0 x1 x2) rfl _ _ n k

/-- The tile the body stores. -/
theorem tile_at (w : Vec Ideal S256x256 .bf16) (s : Vec Ideal S1x256 .f32) (r : Fin 1024) (l : Fin 256) :
    k0_pay1 (k0_pay2 x0) (k0_pay3 i x2 x1 x0) (k0_pay4 i x2 x1 x0) (k0_pay5 i x2 x1 x0) (k0_pay6 i x2 x1 x0) k0_pay7 k0_pay8 1#32 w s (ix2 r l)
      = (∑ k : Fin 256, (mean (rows i x0 x1 x2 k) (k.val / 64) r.val - x0 (ix2 r k)) * w (ix2 k l)) * s (ix2 0 l) := by
  rw [last_at]
  have a : ∀ k : Fin 256, k0_pay2 x0 (ix2 r k) = x0 (ix2 r k) := fun k => by pointwise [k0_pay2]
  simp only [a, sum2, sum4, sum8, sum16, pick_mean]

variable (c : Dev nD)
  (g2 : Memref sig .tc .vmem S1024x256 .f32) (q2 : g2.IsWhole) (g3 : Memref sig .tc .vmem S16x256 .f32) (q3 : g3.IsWhole)
  (g4 : Memref sig .tc .vmem S1x16x256 .f32) (q4 : g4.IsWhole) (g5 : Memref sig .tc .vmem S256x256 .bf16) (q5 : g5.IsWhole)
  (g6 : Memref sig .tc .vmem S1x256 .f32) (q6 : g6.IsWhole) (g7 : Memref sig .tc .vmem S1024x256 .bf16) (q7 : g7.IsWhole)

/-- What the body leaves in its block. -/
theorem out_at (x3 : Vec Ideal S256x256 .bf16) (x4 : Vec Ideal S1x256 .f32) (r : Fin 1024) (l : Fin 256) :
    out0_A_5 c i g2 q2 g3 q3 g4 q4 g5 q5 g6 q6 g7 q7 x0 x1 x2 x3 x4 (ix2 r l)
      = (∑ k : Fin 256, (mean (rows i x0 x1 x2 k) (k.val / 64) r.val - x0 (ix2 r k)) * x3 (ix2 k l)) * x4 (ix2 0 l) := by
  rw [← tile_at]
  unfold out0_A_5
  rw [View.read_writes_eq_canon _ _ _ (cover0_A_5 c i g2 q2 g3 q3 g4 q4 g5 q5 g6 q6 g7 q7 x0 x1 x2 x3 x4)]
  unfold kernelRun0_A
  dsimp only
  have e0 : View.readAt (Elt Ideal) g2.view (Rect.unit ![0, 0] ![1024, 256] Gen.inb_S1024x256_S1024x256_0_0).toLoadRect (q2.unread x0) = x0 :=
    (congrArg (View.ld · _) (q2.read_unread x0)).trans (ld_all x0 _ (by decide) _)
  have e1 : View.readAt (Elt Ideal) g3.view (Rect.unit ![0, 0] ![16, 256] Gen.inb_S16x256_S16x256_0_0).toLoadRect (q3.unread x1) = x1 :=
    (congrArg (View.ld · _) (q3.read_unread x1)).trans (ld_all x1 _ (by decide) _)
  have e2 : View.readAt (Elt Ideal) g4.view (Rect.unit ![0, 0, 0] ![1, 16, 256] Gen.inb_S1x16x256_S1x16x256_0_0_0).toLoadRect (q4.unread x2) = x2 :=
    (congrArg (View.ld · _) (q4.read_unread x2)).trans (ld_all x2 _ (by decide) _)
  have e3 : View.readAt (Elt Ideal) g5.view (Rect.unit ![0, 0] ![256, 256] Gen.inb_S256x256_S256x256_0_0).toLoadRect (q5.unread x3) = x3 :=
    (congrArg (View.ld · _) (q5.read_unread x3)).trans (ld_all x3 _ (by decide) _)
  have e4 : View.readAt (Elt Ideal) g6.view (Rect.unit ![0, 0] ![1, 256] Gen.inb_S1x256_S1x256_0_0).toLoadRect (q6.unread x4) = x4 :=
    (congrArg (View.ld · _) (q6.read_unread x4)).trans (ld_all x4 _ (by decide) _)
  rw [e3, e4]
  unfold kernelRun0_A.sl.r kernelRun0_A.sl.r_1 kernelRun0_A.sl.r_2 kernelRun0_A.sl.r_3 kernelRun0_A.sl.r_4
  rw [e0, e1, e2]
  canon_tiles y h
  obtain rfl : y = ix2 r l := by
    funext a; fin_cases a
    · exact Fin.ext h0.symm
    · exact Fin.ext h1.symm
  rfl

end Cert.Pool.Prompt

end
-- ==== Proof.Pool.PromptArrays.lean ====
/- The prompt's pooling region: its result array, of the arrays it finds. -/
module

public import proofs.«01_k».proof.Proof.Pool.PromptTile
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Pool.Prompt

open Cert.Kernel4Ideal Cert.Kernel4Ideal.Gen Cert.Kernel4Ideal.Facts₀

/-- The grid's points are the entries' tiles. -/
theorem coord : ∀ t : Fin cfg0.N, (grid0.coords t 0).val = t.val / 8 ∧ (grid0.coords t 1).val = t.val % 8 ∧ t.val < 16 :=
  (by decide +kernel : ∀ t : Fin grid0.N, _)

theorem idx : ∀ t : Fin cfg0.N, win0_0.index t = ![t.val, 0] ∧ win0_2.index t = ![t.val / 8, 0, 0]
    ∧ win0_3.index t = ![0, 0] ∧ win0_4.index t = ![0, 0] ∧ win0_5.index t = ![t.val, 0] ∧ win0_1.index t = ![t.val * 64 - 1, 0] :=
  (by decide +kernel : ∀ t : Fin grid0.N, _)

variable (m : (ℓ : Loc nD τ sig) → Buf (Elt Ideal) ℓ) (c : Dev nD)

theorem rd0 (t : Fin cfg0.N) (r : Fin 1024) (k : Fin 256) :
    (X0_0 m c t : Vec Ideal S1024x256 .f32) (ix2 r k) = (V m c main_v2 : FVec Ideal S16896x256 .f32)
      (ix2 ⟨t.val * 1024 + r.val, by have := (coord t).2.2; omega⟩ k) := by
  unfold X0_0 Pipeline.Window.fill
  rw [dif_pos (moved0_0 t (ix2 r k))]
  blk_ext [iblk, (idx t).1]

theorem rd1 (t : Fin cfg0.N) (h : t.val % 8 ≠ 0) (n : Fin 16) (k : Fin 256) :
    (iblk m c 1 t : Vec Ideal S16x256 .f32) (ix2 n k) = (V m c main_v2 : FVec Ideal S16896x256 .f32)
      (ix2 ⟨t.val * 1024 - 16 + n.val, by have := (coord t).2.2; omega⟩ k) := by
  have e : t.val * 1024 - 16 = (t.val * 64 - 1) * 16 := by omega
  simp only [e]
  blk_ext [iblk, (idx t).2.2.2.2.2]

theorem rd2 (t : Fin cfg0.N) (n : Fin 16) (k : Fin 256) :
    (iblk m c 2 t : Vec Ideal S1x16x256 .f32) (ix3 0 n k) = (V m c main_v3 : FVec Ideal S2x16x256 .f32)
      (ix3 ⟨t.val / 8, by have := (coord t).2.2; omega⟩ n k) := by
  blk_ext [iblk, (idx t).2.1]

theorem rd3 (t : Fin cfg0.N) : (iblk m c 3 t : Vec Ideal S256x256 .bf16) = (V m c main_v16 : FVec Ideal S256x256 .bf16) := by
  blk_ext! [iblk, (idx t).2.2.1]

theorem rd4 (t : Fin cfg0.N) : (iblk m c 4 t : Vec Ideal S1x256 .f32) = (V m c main_v17 : FVec Ideal S1x256 .f32) := by
  blk_ext! [iblk, (idx t).2.2.2.1]

/-- A row of the result. -/
def rowT (b : Fin 2) (i : Fin 8192) (l : Fin 256) : EReal :=
  mixed (fun n k => (V m c main_v3 : FVec Ideal S2x16x256 .f32) (ix3 b n k))
    (fun j k => (V m c main_v2 : FVec Ideal S16896x256 .f32) (ix2 ⟨b.val * 8192 + j.val, by omega⟩ k))
    (fun k l => (V m c main_v16 : FVec Ideal S256x256 .bf16) (ix2 k l)) (fun l => (V m c main_v17 : FVec Ideal S1x256 .f32) (ix2 0 l)) i l

/-- A tile's rows and those before them are their entry's. -/
theorem rows_eq (t : Fin cfg0.N) (k : Fin 256) (n : ℕ) (hn : n < 1024 + 16) :
    rows (grid0.coords t) (X0_0 m c t) (iblk m c 1 t) (iblk m c 2 t) k n
      = under (fun n => (V m c main_v3 : FVec Ideal S2x16x256 .f32) (ix3 ⟨t.val / 8, by have := (coord t).2.2; omega⟩ n k))
        (fun j : Fin 8192 => (V m c main_v2 : FVec Ideal S16896x256 .f32)
          (ix2 ⟨t.val / 8 * 8192 + j.val, by have := (coord t).2.2; omega⟩ k)) (t.val % 8 * 1024 + n) := by
  have hN := (coord t).2.2
  unfold rows under
  dsimp only
  by_cases p : n < 16
  · rw [dif_pos p]
    by_cases h : t.val % 8 = 0
    · rw [dif_pos (by omega), if_pos ((coord t).2.1.trans h), rd2 m c t]
      simp only [h, Nat.zero_mul, Nat.zero_add]
    · rw [if_neg fun e => h ((coord t).2.1.symm.trans e), dif_neg (by omega), dif_pos (by omega), rd1 m c t h]
      refine congrArg _ (congrArg (ix2 · k) (Fin.ext ?_))
      show t.val * 1024 - 16 + n = t.val / 8 * 8192 + (t.val % 8 * 1024 + n - 16)
      omega
  · rw [dif_neg p, dif_pos (by omega), dif_neg (by omega), dif_pos (by omega), rd0 m c t]
    refine congrArg _ (congrArg (ix2 · k) (Fin.ext ?_))
    show t.val * 1024 + (n - 16) = t.val / 8 * 8192 + (t.val % 8 * 1024 + n - 16)
    omega

theorem tile_eq (t : Fin cfg0.N) (r : Fin 1024) (l : Fin 256) :
    outsAt0 m c t (ix2 r l) = rowT m c ⟨t.val / 8, by have := (coord t).2.2; omega⟩ ⟨t.val % 8 * 1024 + r.val, by omega⟩ l := by
  unfold outsAt0
  refine (out_at _ _ _ _ _ _ _ _ _ _ _ _ _ _ _ _ _ _ _ r l).trans ?_
  unfold rowT mixed
  rw [rd3 m c t, rd4 m c t]
  refine congrArg (fun z : EReal => z * _) (Finset.sum_congr rfl fun k _ => congrArg (fun z : EReal => z * _) (congrArg₂ (fun u v : EReal => u - v) ?_ ?_))
  · exact mean_shift _ _ _ _ _ (by omega) fun n hn => rows_eq m c t k n (by omega)
  · rw [rd0 m c t]
    refine congrArg _ (congrArg (ix2 · k) (Fin.ext ?_))
    show t.val * 1024 + r.val = t.val / 8 * 8192 + (t.val % 8 * 1024 + r.val)
    omega

theorem col5 (t : Fin cfg0.N) (y : S1024x256.Idx) : ((win0_5.blk t).view.emb y 1).val = (y 1).val := by
  blk_simp [(idx t).2.2.2.2.1]

theorem arr : (dats m 0 c).arrAt 5 cfg0.N
    = (fun y => rowT m c ⟨(y 0).val / 8192, Nat.div_lt_of_lt_mul (y 0).isLt⟩ ⟨(y 0).val % 8192, Nat.mod_lt _ (by decide)⟩ (y 1) : FVec Ideal S16384x256 .bf16) := by
  refine (dats m 0 c).arrAt_eq_of_covers 5 _ (by decide +kernel) fun t _ y => ?_
  blk_simp
  rw [after0_5]
  obtain ⟨r, l, rfl⟩ : ∃ r l, y = ix2 r l := ⟨_, _, eq_ix2 y⟩
  refine (tile_eq m c t r l).trans ?_
  have e : win0_5.index t 0 = t.val := congrFun (idx t).2.2.2.2.1 0
  refine congr (congr (congrArg (rowT m c) (Fin.ext ?_)) (Fin.ext ?_)) (Fin.ext (col5 t (ix2 r l)).symm)
  · show t.val / 8 = (win0_5.index t 0 * 1024 + r.val) / 8192
    rw [e]
    omega
  · show t.val % 8 * 1024 + r.val = (win0_5.index t 0 * 1024 + r.val) % 8192
    rw [e]
    omega

end Cert.Pool.Prompt

end
-- ==== Proof.Pool.Weights.lean ====
/- The groups' matrices as one block-diagonal matrix. -/
module

public import proofs.«01_k».proof.Proof.Proj.Host
public import proofs.«01_k».proof.Proof.Pool.Window
public import proofs.«01_k».proof.Proof.Gen.Kernel5Ideal.Frame

@[expose] public section

set_option maxRecDepth 16384

noncomputable section

open Idealize.ShloMosaic Idealize.ShloMosaic.TcCoe Idealize.SL.Sem Idealize.ShloMosaic.StableHlo

namespace Cert.Pool

open Cert.Kernel5Ideal Cert.Kernel5Ideal.Gen Cert.Kernel5Ideal.Facts₀

/-- The groups' matrices down the diagonal, as the host code spreads them. -/
def weights (w : FVec Ideal S4x64x64 .f32) : FVec Ideal S256x256 .bf16 :=
  truncf .bf16 (shapeCast S256x256 (mulf
    (broadcastInDim S4x64x4x64 ![0, 1, 2, 3] Facts₀.bcast_S4x1x4x1_S4x64x4x64_0_1_2_3 (broadcastInDim S4x1x4x1 ![0, 2] Facts₀.bcast_S4x4_S4x1x4x1_0_2
      (uitofp .f32 (cmpi .eq (addi (iotaInDim S4x4 32 0) (broadcastInDim S4x4 ![] Facts₀.bcast_S_S4x4 (constantI S_ 32 0#32))) (iotaInDim S4x4 32 1)) : FVec Ideal S4x4 .f32)))
    (broadcastInDim S4x64x4x64 ![0, 1, 2, 3] Facts₀.bcast_S4x64x1x64_S4x64x4x64_0_1_2_3
      (broadcastInDim S4x64x1x64 ![0, 1, 3] Facts₀.bcast_S4x64x64_S4x64x1x64_0_1_3 w)))
    Facts₀.shapeCasts_S4x64x4x64_S256x256) Facts₀.bitsLt_bf16_f32

theorem weights_at (w : FVec Ideal S4x64x64 .f32) (k l : Fin 256) :
    weights w (ix2 k l) = (if k.val / 64 = l.val / 64 then 1 else 0)
      * w (ix3 ⟨k.val / 64, by omega⟩ ⟨k.val % 64, by omega⟩ ⟨l.val % 64, by omega⟩) := by
  pointwise [weights]
  exact congrArg (· * w (ix3 ⟨k.val / 64, _⟩ ⟨k.val % 64, _⟩ ⟨l.val % 64, _⟩))
    (Cert.Proj.same_block ⟨k.val / 64, by omega⟩ ⟨l.val / 64, by omega⟩)

/-- A row through the block-diagonal matrix: its group's lanes through its group's matrix. -/
theorem weights_sum (w : FVec Ideal S4x64x64 .f32) (v : Fin 256 → EReal) (l : Fin 256) :
    ∑ k : Fin 256, v k * weights w (ix2 k l)
      = ∑ d : Fin 64, w (ix3 ⟨l.val / 64, by omega⟩ d ⟨l.val % 64, by omega⟩) * v ⟨l.val / 64 * 64 + d.val, by omega⟩ := by
  refine (Finset.sum_congr rfl fun k _ => congrArg (v k * ·) ?_).trans
    ((sum_group l v fun d => w (ix3 ⟨l.val / 64, by omega⟩ d ⟨l.val % 64, by omega⟩)).trans (Finset.sum_congr rfl fun d _ => mul_comm _ _))
  rw [weights_at]
  by_cases h : k.val / 64 = l.val / 64
  · simp only [h]
  · rw [if_neg h, zero_mul, zero_mul]

end Cert.Pool

end
-- ==== Proof.Pool.PromptHost.lean ====
/- The prompt's pooling region: what the host code leaves in its operand arrays, and its result of the arguments. -/
module

public import proofs.«01_k».proof.Proof.Pool.PromptArrays
public import proofs.«01_k».proof.Proof.Pool.Weights

@[expose] public section

set_option maxRecDepth 16384

noncomputable section

open Idealize.ShloMosaic Idealize.ShloMosaic.TcCoe Idealize.SL.Sem Idealize.ShloMosaic.StableHlo

namespace Cert.Pool.Prompt

open Cert.Kernel4Ideal Cert.Kernel4Ideal.Gen Cert.Kernel4Ideal.Facts₀

/-- The prompt's rows, above the sample's place. -/
def stackA (a : FVec Ideal S2x8192x256 .f32) : FVec Ideal S16896x256 .f32 :=
  concatenate S16896x256 0 [⟨S16384x256, shapeCast S16384x256 a Facts₀.shapeCasts_S2x8192x256_S16384x256⟩,
    ⟨S512x256, broadcastInDim S512x256 ![] Facts₀.bcast_S_S512x256 (constant S_ .f32 0x00000000#32)⟩]
    Facts₀.concatenates_S16384x256_S512x256_S16896x256_d0

/-- The rows before the prompt's: zeros. -/
def beforeA : FVec Ideal S2x16x256 .f32 :=
  broadcastInDim S2x16x256 ![] Facts₀.bcast_S_S2x16x256 (constant S_ .f32 0x00000000#32)

variable (m : (ℓ : Loc nD τ sig) → Buf (Elt Ideal) ℓ) (c : Dev nD)

theorem operands :
    V m c main_v2 = stackA (m ((c : Thread nD τ).loc main_arg0))
    ∧ V m c main_v3 = beforeA
    ∧ V m c main_v16 = weights (m ((c : Thread nD τ).loc main_arg1))
    ∧ V m c main_v17 = shapeCast S1x256 (m ((c : Thread nD τ).loc main_arg2) : FVec Ideal S256 .f32) Facts₀.shapeCasts_S256_S1x256 := by
  refine ⟨?_, ?_, ?_, ?_⟩ <;>
    (simp only [V, hostOps0, TRef.binary, TRef.nullary, TRef.ternary, TRef.unary, TRef.toBuf, TRef.ofBuf, cast_eq]
     after_results_simp
     rfl)

theorem stackA_at (a : FVec Ideal S2x8192x256 .f32) (b : Fin 2) (j : Fin 8192) (k : Fin 256) :
    stackA a (ix2 ⟨b.val * 8192 + j.val, by omega⟩ k) = a (ix3 b j k) := by
  pointwise [stackA]
  rw [dif_pos (by omega)]

theorem beforeA_at (b : Fin 2) (n : Fin 16) (k : Fin 256) : beforeA (ix3 b n k) = 0 := by
  pointwise [beforeA]

/-- A row of the result, of the arguments. -/
theorem rowT_eq (b : Fin 2) (i : Fin 8192) (l : Fin 256) :
    rowT m c b i l = mixed (fun n k => 0)
      (fun j k => (m ((c : Thread nD τ).loc main_arg0) : FVec Ideal S2x8192x256 .f32) (ix3 b j k))
      (fun k l => weights (m ((c : Thread nD τ).loc main_arg1)) (ix2 k l))
      (fun l => (m ((c : Thread nD τ).loc main_arg2) : FVec Ideal S256 .f32) (ix1 l)) i l := by
  obtain ⟨h2, h3, h16, h17⟩ := operands m c
  unfold rowT
  rw [h2, h3, h16, h17]
  simp only [stackA_at, beforeA_at]
  congr 1
  funext l
  pointwise

end Cert.Pool.Prompt

end
-- ==== Proof.Pool.PromptRef.lean ====
/- The prompt's reference at an index. -/
module

public import proofs.«01_k».proof.Proof.Gen.Reference4Ideal.Run
public import proofs.«01_k».proof.Proof.Pool.Weights
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Pool.Prompt.Ref

open Cert.Reference4Ideal Cert.Reference4Ideal.Gen Cert.Reference4Ideal.Facts₀

/-- The rows under the 15 before them. -/
def rowsR (p : FVec Ideal S2x15x256 .f32) (a : FVec Ideal S2x8192x256 .f32) : FVec Ideal S2x8207x256 .f32 :=
  concatenate S2x8207x256 1 [⟨S2x15x256, p⟩, ⟨S2x8192x256, a⟩] Facts₀.concatenates_S2x15x256_S2x8192x256_S2x8207x256_d1

/-- Their running sums, from nothing on. -/
def sumsR (x : FVec Ideal S2x8207x256 .f32) : FVec Ideal S2x8208x256 .f32 :=
  concatenate S2x8208x256 1 [⟨S2x1x256, broadcastInDim S2x1x256 ![] Facts₀.bcast_S_S2x1x256 (constant S_ .f32 0x00000000#32)⟩,
    ⟨S2x8207x256, Host.reduceWindowAdd ![1, 8207, 1] ![1, 1, 1] ![0, 8206, 0] ![0, 0, 0] x (broadcastInDim S_ ![] Facts₀.bcast_S_S_ (constant S_ .f32 0x00000000#32)) Facts₀.reduceWindows_S2x8207x256_S2x8207x256_w1s1p0_0_w8207s1p8206_0_w1s1p0_0 Facts₀.h_S_⟩]
    Facts₀.concatenates_S2x1x256_S2x8207x256_S2x8208x256_d1

/-- One group's means. -/
def groupR (cs : FVec Ideal S2x8208x256 .f32) (o l : ℕ) (v : BitVec 32) (h : S2x8208x256.Slices ![0, o, 0] S2x8192x256)
    (h' : S2x8192x256.Slices ![0, 0, l] S2x8192x64) : FVec Ideal S2x8192x64 .f32 :=
  Host.divf (subf (extractStridedSlice S2x8192x64 ![0, 0, l] (extractStridedSlice S2x8192x256 ![0, 16, 0] cs Facts₀.slices_S2x8208x256_S2x8192x256_0_16_0) h')
    (extractStridedSlice S2x8192x64 ![0, 0, l] (extractStridedSlice S2x8192x256 ![0, o, 0] cs h) h'))
    (broadcastInDim S2x8192x64 ![] Facts₀.bcast_S_S2x8192x64 (constant S_ .f32 v))

/-- The four groups'. -/
def meansR (cs : FVec Ideal S2x8208x256 .f32) : FVec Ideal S2x8192x256 .f32 :=
  concatenate S2x8192x256 2 [⟨S2x8192x64, groupR cs 14 0 0x40000000#32 Facts₀.slices_S2x8208x256_S2x8192x256_0_14_0 Facts₀.slices_S2x8192x256_S2x8192x64_0_0_0⟩, ⟨S2x8192x64, groupR cs 12 64 0x40800000#32 Facts₀.slices_S2x8208x256_S2x8192x256_0_12_0 Facts₀.slices_S2x8192x256_S2x8192x64_0_0_64⟩, ⟨S2x8192x64, groupR cs 8 128 0x41000000#32 Facts₀.slices_S2x8208x256_S2x8192x256_0_8_0 Facts₀.slices_S2x8192x256_S2x8192x64_0_0_128⟩, ⟨S2x8192x64, groupR cs 0 192 0x41800000#32 Facts₀.slices_S2x8208x256_S2x8192x256_0_0_0 Facts₀.slices_S2x8192x256_S2x8192x64_0_0_192⟩]
    Facts₀.concatenates_S2x8192x64_S2x8192x64_S2x8192x64_S2x8192x64_S2x8192x256_d2

/-- The groups' matrices and the scale. -/
def mixR (w : FVec Ideal S4x64x64 .f32) (d : FVec Ideal S2x8192x256 .f32) (s : FVec Ideal S256 .f32) : FVec Ideal S16384x256 .bf16 :=
  truncf .bf16 (mulf (shapeCast S16384x256 (transpose S2x8192x4x64 [2, 3, 0, 1] (Host.dotGeneral dot_S4x64x64_S2x8192x4x64_S4x64x2x8192_1_3_2_01_0_2 none w (shapeCast S2x8192x4x64 d Facts₀.shapeCasts_S2x8192x256_S2x8192x4x64)) Facts₀.transposes_S4x64x2x8192_S2x8192x4x64_2_3_0_1) Facts₀.shapeCasts_S2x8192x4x64_S16384x256)
    (broadcastInDim S16384x256 ![0, 1] Facts₀.bcast_S1x256_S16384x256_0_1 (broadcastInDim S1x256 ![1] Facts₀.bcast_S256_S1x256_1 s))) Facts₀.bitsLt_bf16_f32

theorem sumsR_at (x : FVec Ideal S2x8207x256 .f32) (f : ℕ → EReal) (b : Fin 2) (k : Fin 256) (h : ∀ j : Fin 8207, x (ix3 b j k) = f j.val)
    (K : Fin 8208) : sumsR x (ix3 b K k) = ∑ j ∈ Finset.range K.val, f j := by
  unfold sumsR
  generalize hy : (Host.reduceWindowAdd _ _ _ _ x _ _ _ : FVec Ideal S2x8207x256 .f32) = y
  pointwise
  by_cases p : K.val < 1
  · rw [dif_pos p, show K.val = 0 by omega]
    simp
  · rw [dif_neg p, ← hy]
    refine (cumsum_mid (by decide) x _ (fun y => by pointwise) _ _ b ⟨K.val - 1, by omega⟩ k f h).trans ?_
    rw [show K.val - 1 + 1 = K.val by omega]

theorem meansR_at (cs : FVec Ideal S2x8208x256 .f32) (b : Fin 2) (e : Fin 256 → ℕ → EReal) (hr : ∀ k j, ∃ a : ℝ, e k j = (a : EReal))
    (hc : ∀ (K : Fin 8208) (k : Fin 256), cs (ix3 b K k) = ∑ j ∈ Finset.range K.val, e k (j + 1)) (i : Fin 8192) (k : Fin 256) :
    meansR cs (ix3 b i k) = mean (e k) (k.val / 64) i.val := by
  pointwise [meansR, groupR]
  exact mean_chain (fun K k => cs (ix3 b K k)) i.val (by omega) k e hr hc

theorem mixR_at (w : FVec Ideal S4x64x64 .f32) (d : FVec Ideal S2x8192x256 .f32) (s : FVec Ideal S256 .f32) (b : Fin 2) (i : Fin 8192) (l : Fin 256) :
    mixR w d s (ix2 ⟨b.val * 8192 + i.val, by omega⟩ l)
      = (∑ k : Fin 64, w (ix3 ⟨l.val / 64, by omega⟩ k ⟨l.val % 64, by omega⟩) * d (ix3 b i ⟨l.val / 64 * 64 + k.val, by omega⟩)) * s (ix1 l) := by
  pointwise [mixR]

theorem rowsR_at (p : FVec Ideal S2x15x256 .f32) (a : FVec Ideal S2x8192x256 .f32) (b : Fin 2) (j : Fin 8207) (k : Fin 256) :
    rowsR p a (ix3 b j k)
      = under (fun n => if h : n.val = 0 then 0 else p (ix3 b ⟨n.val - 1, by omega⟩ k)) (fun i : Fin 8192 => a (ix3 b i k)) (j.val + 1) := by
  pointwise [rowsR]
  unfold under
  by_cases h : j.val < 15
  · rw [dif_pos h, dif_pos (by omega)]
    show _ = if h : j.val + 1 = 0 then 0 else p (ix3 b ⟨j.val + 1 - 1, by omega⟩ k)
    symm
    exact dif_neg (Nat.succ_ne_zero j.val)
  · rw [dif_neg h, dif_neg (by omega), dif_pos (by omega)]
    exact congrArg (fun x => a (ix3 b x k)) (Fin.ext (by simp only; omega))

/-- The reference of rows of reals. -/
theorem ref_at (p : FVec Ideal S2x15x256 .f32) (a : FVec Ideal S2x8192x256 .f32) (w : FVec Ideal S4x64x64 .f32) (s : FVec Ideal S256 .f32)
    (hp : ∀ y, ∃ r : ℝ, p y = (r : EReal)) (ha : ∀ y, ∃ r : ℝ, a y = (r : EReal)) (b : Fin 2) (i : Fin 8192) (l : Fin 256) :
    mixR w (subf (meansR (sumsR (rowsR p a))) a) s (ix2 ⟨b.val * 8192 + i.val, by omega⟩ l)
      = mixed (fun n k => if h : n.val = 0 then 0 else p (ix3 b ⟨n.val - 1, by omega⟩ k)) (fun j k => a (ix3 b j k))
          (fun k l => weights w (ix2 k l)) (fun l => s (ix1 l)) i l := by
  have hs := fun (K : Fin 8208) (k : Fin 256) => sumsR_at (rowsR p a) (fun j => under (fun n => if h : n.val = 0 then 0 else p (ix3 b ⟨n.val - 1, by omega⟩ k))
    (fun i : Fin 8192 => a (ix3 b i k)) (j + 1)) b k (fun j => rowsR_at p a b j k) K
  generalize sumsR (rowsR p a) = cs at hs ⊢
  have hm := fun k : Fin 256 => meansR_at cs b (fun k => under (fun n => if h : n.val = 0 then 0 else p (ix3 b ⟨n.val - 1, by omega⟩ k))
    (fun i : Fin 8192 => a (ix3 b i k))) (fun k => under_real _ _ (fun n => by
      by_cases h : n.val = 0
      · exact ⟨0, dif_pos h⟩
      · obtain ⟨r, hr⟩ := hp (ix3 b ⟨n.val - 1, by omega⟩ k)
        exact ⟨r, (dif_neg h).trans hr⟩) fun n => ha _) hs i k
  generalize meansR cs = y at hm ⊢
  refine (mixR_at w _ s b i l).trans ?_
  unfold mixed
  rw [weights_sum]
  refine congrArg (· * s (ix1 l)) (Finset.sum_congr rfl fun d _ => congrArg (fun z : EReal => _ * z) ?_)
  show y (ix3 b i _) - a (ix3 b i _) = _
  rw [hm]

/-- … with nothing before them. -/
theorem ref_first (a : FVec Ideal S2x8192x256 .f32) (w : FVec Ideal S4x64x64 .f32) (s : FVec Ideal S256 .f32)
    (ha : ∀ y, ∃ r : ℝ, a y = (r : EReal)) (b : Fin 2) (i : Fin 8192) (l : Fin 256) :
    mixR w (subf (meansR (sumsR (rowsR (broadcastInDim S2x15x256 ![] Facts₀.bcast_S_S2x15x256 (constant S_ .f32 0x00000000#32)) a))) a) s
        (ix2 ⟨b.val * 8192 + i.val, by omega⟩ l)
      = mixed (fun n k => 0) (fun j k => a (ix3 b j k)) (fun k l => weights w (ix2 k l)) (fun l => s (ix1 l)) i l := by
  have z : ∀ y, (broadcastInDim S2x15x256 ![] Facts₀.bcast_S_S2x15x256 (constant S_ .f32 0x00000000#32) : FVec Ideal S2x15x256 .f32) y = 0 := fun y => by
    pointwise
  rw [ref_at _ a w s (fun y => ⟨0, z y⟩) ha b i l]
  simp only [z, dite_eq_ite, ite_self]

theorem res_eq (m : (ℓ : Loc nD τ sig) → Buf (Elt Ideal) ℓ) (c : Dev nD) :
    Cert.Reference4Ideal.Value.res_main_v39 m c = mixR (m ((c.tc : Thread nD τ).loc main_arg1)) (subf (meansR (sumsR (rowsR (broadcastInDim S2x15x256 ![] Facts₀.bcast_S_S2x15x256 (constant S_ .f32 0x00000000#32)) (m ((c.tc : Thread nD τ).loc main_arg0))))) (m ((c.tc : Thread nD τ).loc main_arg0))) (m ((c.tc : Thread nD τ).loc main_arg2)) := by
  unfold Cert.Reference4Ideal.Value.res_main_v39
  rfl

end Cert.Pool.Prompt.Ref

end
-- ==== Proof.Pool.PromptClaims.lean ====
/- The prompt's pooling: the frames, and that kernel and reference compute one function. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Attn.Claims
public import proofs.«01_k».proof.Proof.Pool.PromptHost
public import proofs.«01_k».proof.Proof.Pool.PromptRef
public import Idealize.ShloMosaic.Adequacy
public import Idealize.ShloMosaic.Init

@[expose] public section

noncomputable section

namespace Cert.Pool.Prompt

open Idealize.ShloMosaic Idealize.ShloMosaic.TcCoe Idealize.SL.Sem

theorem preFacts : Cert.Pre_finite_prompt.Facts where
  bcast_S_S2x8192x256 := by decide

attribute [local instance] Cert.Kernel4.Gen.facts Cert.Kernel4Ideal.Gen.facts Cert.Reference4Ideal.Gen.facts preFacts

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_ideal_pre : Cert.quiescent_Kernel4Ideal_pre_finite_prompt := fun m ρ _ => Cert.Kernel4Ideal.Gen.frame m ρ

/-- The reference declares no semaphore. -/
theorem frame_ref : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem frame_ref_pre : Cert.quiescent_Reference4Ideal_pre_finite_prompt := fun m ρ _ => frame_ref m ρ trivial

/-- Kernel and reference compute the same array, of finite rows. -/
theorem same : Cert.algebraic_Kernel4Ideal_Reference4Ideal_pre_finite_prompt := by
  intro m g m' g' hpre hagree
  refine ⟨fun c => (Cert.Kernel4Ideal.Gen.dats m 0 c).arrAt 5 Cert.Kernel4Ideal.cfg0.N, ?_, ?_⟩
  · exact Cert.Kernel4Ideal.Value.run_blocks (F := Ideal) m g
  · refine (θ_run Cert.Reference4Ideal.defs _ _).mono (fun r h c => ⟨(h c).1.trans ?_, (h c).2⟩)
      (Cert.Reference4Ideal.Value.run (F := Ideal) m' g')
    obtain ⟨h0, h1, h2⟩ := hagree c
    have p0 := hpre c
    refine (Ref.res_eq m' c).trans ?_
    rw [h0, h1, h2]
    refine Eq.trans ?_ (arr m c).symm
    funext y
    obtain ⟨r, l, rfl⟩ : ∃ (r : Fin 16384) (l : Fin 256), y = ix2 r l := ⟨y 0, y 1, eq_ix2 y⟩
    obtain ⟨b, i, rfl⟩ : ∃ (b : Fin 2) (i : Fin 8192), r = ⟨b.val * 8192 + i.val, by omega⟩ :=
      ⟨⟨r.val / 8192, by omega⟩, ⟨r.val % 8192, by omega⟩, Fin.ext (by simp only; omega)⟩
    refine (Ref.ref_first _ _ _ (Cert.Attn.reals_of_test _ _ p0) b i l).trans ((rowT_eq m c b i l).symm.trans ?_)
    refine congr (congr (congrArg (rowT m c) (Fin.ext ?_)) (Fin.ext ?_)) rfl
    · show b.val = (b.val * 8192 + i.val) / 8192
      omega
    · show i.val = (b.val * 8192 + i.val) % 8192
      omega

end Cert.Pool.Prompt

end
-- ==== Proof.Pool.SampleTile.lean ====
/- The sample's pooling tile at an index. -/
module

public import proofs.«01_k».proof.Proof.Gen.Kernel5Ideal.Frame
public import proofs.«01_k».proof.Proof.Pool.Window
public import Idealize.ShloMosaic.Lib.Pipeline.ValueKit

@[expose] public section

set_option maxRecDepth 16384

noncomputable section

open Idealize.ShloMosaic Idealize.ShloMosaic.TcCoe Idealize.SL.Sem

namespace Cert.Pool.Sample

open Cert.Kernel5Ideal Cert.Kernel5Ideal.Gen Cert.Kernel5Ideal.Facts₀

/-- The result, of the four sums. -/
theorem last_at (v7 : FVec Ideal S32x256 .f32) (v11 : FVec Ideal S47x256 .f32) (v14 : FVec Ideal S45x256 .f32) (v17 : FVec Ideal S41x256 .f32)
    (v20 : FVec Ideal S33x256 .f32) (w : Vec Ideal S256x256 .bf16) (s : Vec Ideal S1x256 .f32) (r : Fin 32) (l : Fin 256) :
    k0_pay1 v7 v11 v14 v17 v20 k0_pay7 k0_pay8 1#32 w s (ix2 r l)
      = (∑ k : Fin 256, (pick k (v11 (ix2 ⟨15 + r.val, by omega⟩ k) * Ideal.ofBits FTy.f32 1056964608#32)
          (v14 (ix2 ⟨13 + r.val, by omega⟩ k) * Ideal.ofBits FTy.f32 1048576000#32)
          (v17 (ix2 ⟨9 + r.val, by omega⟩ k) * Ideal.ofBits FTy.f32 1040187392#32)
          (v20 (ix2 ⟨1 + r.val, by omega⟩ k) * Ideal.ofBits FTy.f32 1031798784#32) - v7 (ix2 r k)) * w (ix2 k l)) * s (ix2 0 l) := by
  pointwise [k0_pay1, k0_pay7, k0_pay8]
  rfl

/-- A lane of a tile under the 16 rows before it. -/
def rows (i : grid0.Coords) (x0 : Vec Ideal S32x256 .f32) (x1 : Vec Ideal S16x256 .f32) (x2 : Vec Ideal S1x16x256 .f32) (k : Fin 256) : ℕ → EReal :=
  under (fun n => if (i 1).val = 0 then x2 (ix3 0 n k) else x1 (ix2 n k)) fun r : Fin 32 => x0 (ix2 r k)

variable (i : grid0.Coords) (x0 : Vec Ideal S32x256 .f32) (x1 : Vec Ideal S16x256 .f32) (x2 : Vec Ideal S1x16x256 .f32)

theorem sum2 (n : Fin 47) (k : Fin 256) : k0_pay3 i x2 x1 x0 (ix2 n k) = run (rows i x0 x1 x2 k) 2 n.val := by
  unfold k0_pay3
  refine double_at _ (rows i x0 x1 x2) (fun n k => ?_) rfl _ _ n k
  rw [run_one]
  pointwise [k0_pay2, rows, under]
  rw [dif_pos (show n.val - 16 < 32 by omega)]

theorem sum4 (n : Fin 45) (k : Fin 256) : k0_pay4 i x2 x1 x0 (ix2 n k) = run (rows i x0 x1 x2 k) 4 n.val :=
  double_at _ (rows i x0 x1 x2) (sum2 i x0 x1 x2) rfl _ _ n k

theorem sum8 (n : Fin 41) (k : Fin 256) : k0_pay5 i x2 x1 x0 (ix2 n k) = run (rows i x0 x1 x2 k) 8 n.val :=
  double_at _ (rows i x0 x1 x2) (sum4 i x0 x1 x2) rfl _ _ n k

theorem sum16 (n : Fin 33) (k : Fin 256) : k0_pay6 i x2 x1 x0 (ix2 n k) = run (rows i x0 x1 x2 k) 16 n.val :=
  double_at _ (rows i x0 x1 x2) (sum8 i x0 x1 x2) rfl _ _ n k

/-- The tile the body stores. -/
theorem tile_at (w : Vec Ideal S256x256 .bf16) (s : Vec Ideal S1x256 .f32) (r : Fin 32) (l : Fin 256) :
    k0_pay1 (k0_pay2 x0) (k0_pay3 i x2 x1 x0) (k0_pay4 i x2 x1 x0) (k0_pay5 i x2 x1 x0) (k0_pay6 i x2 x1 x0) k0_pay7 k0_pay8 1#32 w s (ix2 r l)
      = (∑ k : Fin 256, (mean (rows i x0 x1 x2 k) (k.val / 64) r.val - x0 (ix2 r k)) * w (ix2 k l)) * s (ix2 0 l) := by
  rw [last_at]
  have a : ∀ k : Fin 256, k0_pay2 x0 (ix2 r k) = x0 (ix2 r k) := fun k => by pointwise [k0_pay2]
  simp only [a, sum2, sum4, sum8, sum16, pick_mean]

/-- What the body leaves in its block. -/
theorem out_at (x3 : Vec Ideal S256x256 .bf16) (x4 : Vec Ideal S1x256 .f32) (r : Fin 32) (l : Fin 256) :
    out0_5 i x0 x1 x2 x3 x4 (ix2 r l) = (∑ k : Fin 256, (mean (rows i x0 x1 x2 k) (k.val / 64) r.val - x0 (ix2 r k)) * x3 (ix2 k l)) * x4 (ix2 0 l) := by
  rw [← tile_at]
  unfold out0_5
  have e0 : View.ld x0 r0_2 = x0 := ld_all _ _ (by decide) _
  have e1 : View.ld x1 r0_1 = x1 := ld_all _ _ (by decide) _
  have e2 : View.ld x2 r0_0 = x2 := ld_all _ _ (by decide) _
  have e3 : View.ld x3 r0_3 = x3 := ld_all _ _ (by decide) _
  have e4 : View.ld x4 r0_4 = x4 := ld_all _ _ (by decide) _
  rw [e0, e1, e2, e3, e4]
  canon_tiles y h
  obtain rfl : y = ix2 r l := by
    funext a; fin_cases a
    · exact Fin.ext h0.symm
    · exact Fin.ext h1.symm
  rfl

end Cert.Pool.Sample

end
-- ==== Proof.Pool.SampleArrays.lean ====
/- The sample's pooling region: its result array, of the arrays it finds. -/
module

public import proofs.«01_k».proof.Proof.Pool.SampleTile
public import proofs.«01_k».proof.Proof.Gen.Kernel5Ideal.Value

@[expose] public section

set_option maxRecDepth 16384

noncomputable section

open Idealize.ShloMosaic Idealize.ShloMosaic.TcCoe Idealize.SL.Sem
open Idealize.ShloMosaic.Pipeline (Dat)

namespace Cert.Pool.Sample

open Cert.Kernel5Ideal Cert.Kernel5Ideal.Gen Cert.Kernel5Ideal.Facts₀

/-- The grid's points are the entries. -/
theorem coord : ∀ t : Fin cfg0.N, (grid0.coords t 0).val = t.val ∧ (grid0.coords t 1).val = 0 ∧ t.val < 8 :=
  (by decide +kernel : ∀ t : Fin grid0.N, _)

theorem idx : ∀ t : Fin cfg0.N, win0_0.index t = ![512 + t.val, 0] ∧ win0_2.index t = ![t.val, 0, 0]
    ∧ win0_3.index t = ![0, 0] ∧ win0_4.index t = ![0, 0] ∧ win0_5.index t = ![t.val, 0] :=
  (by decide +kernel : ∀ t : Fin grid0.N, _)

variable (m : (ℓ : Loc nD τ sig) → Buf (Elt Ideal) ℓ) (c : Dev nD)

theorem rd0 (t : Fin cfg0.N) (r : Fin 32) (k : Fin 256) :
    (iblk m c 0 t : Vec Ideal S32x256 .f32) (ix2 r k) = (V m c main_v3 : FVec Ideal S16896x256 .f32)
      (ix2 ⟨16384 + t.val * 32 + r.val, by have := (coord t).2.2; omega⟩ k) := by
  blk_ext [iblk, (idx t).1]

theorem rd2 (t : Fin cfg0.N) (n : Fin 16) (k : Fin 256) :
    (iblk m c 2 t : Vec Ideal S1x16x256 .f32) (ix3 0 n k) = (V m c main_v17 : FVec Ideal S8x16x256 .f32)
      (ix3 ⟨t.val, (coord t).2.2⟩ n k) := by
  blk_ext [iblk, (idx t).2.1]

theorem rd3 (t : Fin cfg0.N) : (iblk m c 3 t : Vec Ideal S256x256 .bf16) = (V m c main_v16 : FVec Ideal S256x256 .bf16) := by
  blk_ext! [iblk, (idx t).2.2.1]

theorem rd4 (t : Fin cfg0.N) : (iblk m c 4 t : Vec Ideal S1x256 .f32) = (V m c main_v18 : FVec Ideal S1x256 .f32) := by
  blk_ext! [iblk, (idx t).2.2.2.1]

/-- A row of the result. -/
def rowT (b : Fin 8) (i : Fin 32) (l : Fin 256) : EReal :=
  mixed (fun n k => (V m c main_v17 : FVec Ideal S8x16x256 .f32) (ix3 b n k))
    (fun j k => (V m c main_v3 : FVec Ideal S16896x256 .f32) (ix2 ⟨16384 + b.val * 32 + j.val, by omega⟩ k))
    (fun k l => (V m c main_v16 : FVec Ideal S256x256 .bf16) (ix2 k l)) (fun l => (V m c main_v18 : FVec Ideal S1x256 .f32) (ix2 0 l)) i l

theorem tile_eq (t : Fin cfg0.N) (r : Fin 32) (l : Fin 256) :
    out0_5 (grid0.coords t) (iblk m c 0 t) (iblk m c 1 t) (iblk m c 2 t) (iblk m c 3 t) (iblk m c 4 t) (ix2 r l)
      = rowT m c ⟨t.val, (coord t).2.2⟩ r l := by
  refine (out_at _ _ _ _ _ _ r l).trans ?_
  unfold rowT mixed rows
  rw [rd3 m c t, rd4 m c t]
  simp only [(coord t).2.1, if_true, rd0 m c t, rd2 m c t]

theorem col5 (t : Fin cfg0.N) (y : S32x256.Idx) : ((win0_5.blk t).view.emb y 1).val = (y 1).val := by
  blk_simp [(idx t).2.2.2.2]

theorem arr : (dats m 0 c).arrAt 5 cfg0.N
    = (fun y => rowT m c ⟨(y 0).val / 32, Nat.div_lt_of_lt_mul (y 0).isLt⟩ ⟨(y 0).val % 32, Nat.mod_lt _ (by decide)⟩ (y 1) : FVec Ideal S256x256 .bf16) := by
  refine (dats m 0 c).arrAt_eq_of_covers 5 _ (by decide +kernel) fun t _ y => ?_
  blk_simp
  rw [after0_5]
  obtain ⟨r, l, rfl⟩ : ∃ r l, y = ix2 r l := ⟨_, _, eq_ix2 y⟩
  refine (tile_eq m c t r l).trans ?_
  have e : win0_5.index t 0 = t.val := congrFun (idx t).2.2.2.2 0
  refine congr (congr (congrArg (rowT m c) (Fin.ext ?_)) (Fin.ext ?_)) (Fin.ext (col5 t (ix2 r l)).symm)
  · show t.val = (win0_5.index t 0 * 32 + r.val) / 32
    rw [e]
    omega
  · show r.val = (win0_5.index t 0 * 32 + r.val) % 32
    rw [e]
    omega

end Cert.Pool.Sample

end
-- ==== Proof.Pool.SampleHost.lean ====
/- The sample's pooling region: what the host code leaves in its operand arrays, and its result of the arguments. -/
module

public import proofs.«01_k».proof.Proof.Pool.SampleArrays
public import proofs.«01_k».proof.Proof.Pool.Weights

@[expose] public section

set_option maxRecDepth 16384

noncomputable section

open Idealize.ShloMosaic Idealize.ShloMosaic.TcCoe Idealize.SL.Sem Idealize.ShloMosaic.StableHlo

namespace Cert.Pool.Sample

open Cert.Kernel5Ideal Cert.Kernel5Ideal.Gen Cert.Kernel5Ideal.Facts₀

/-- The sample's rows below the prompt's place. -/
def stackA (a : FVec Ideal S8x32x256 .f32) : FVec Ideal S16896x256 .f32 :=
  concatenate S16896x256 0 [⟨S16384x256, broadcastInDim S16384x256 ![] Facts₀.bcast_S_S16384x256 (constant S_ .f32 0x00000000#32)⟩,
    ⟨S256x256, shapeCast S256x256 a Facts₀.shapeCasts_S8x32x256_S256x256⟩,
    ⟨S256x256, broadcastInDim S256x256 ![] Facts₀.bcast_S_S256x256 (constant S_ .f32 0x00000000#32)⟩]
    Facts₀.concatenates_S16384x256_S256x256_S256x256_S16896x256_d0

/-- The rows before the sample's, one of zeros first. -/
def beforeA (p : FVec Ideal S8x15x256 .f32) : FVec Ideal S8x16x256 .f32 :=
  pad S8x16x256 ![0, 1, 0] ![0, 0, 0] ![0, 0, 0] p (sitofp .f32 (constantI S_ 32 0#32) : FVec Ideal S_ .f32)
    Facts₀.pads_S8x15x256_S8x16x256_000_100_000 Facts₀.h_S_

variable (m : (ℓ : Loc nD τ sig) → Buf (Elt Ideal) ℓ) (c : Dev nD)

theorem operands :
    V m c main_v3 = stackA (m ((c : Thread nD τ).loc main_arg0))
    ∧ V m c main_v17 = beforeA (m ((c : Thread nD τ).loc main_arg1))
    ∧ V m c main_v16 = weights (m ((c : Thread nD τ).loc main_arg2))
    ∧ V m c main_v18 = shapeCast S1x256 (m ((c : Thread nD τ).loc main_arg3) : FVec Ideal S256 .f32) Facts₀.shapeCasts_S256_S1x256 := by
  refine ⟨?_, ?_, ?_, ?_⟩ <;>
    (simp only [V, List.flatten_cons, List.flatten_nil, List.append_nil, List.cons_append, List.nil_append, hostOps0, hostOps0_1, hostOps0_2,
      TRef.binary, TRef.nullary, TRef.ternary, TRef.unary, TRef.toBuf, TRef.ofBuf, cast_eq]
     after_results_simp
     rfl)

theorem stackA_at (a : FVec Ideal S8x32x256 .f32) (b : Fin 8) (j : Fin 32) (k : Fin 256) :
    stackA a (ix2 ⟨16384 + b.val * 32 + j.val, by omega⟩ k) = a (ix3 b j k) := by
  pointwise [stackA]
  rw [dif_neg (by omega), dif_pos (by omega)]
  exact congrArg₂ (fun x y => a (ix3 x y k)) (Fin.ext (by simp only; omega)) (Fin.ext (by simp only; omega))

theorem beforeA_at (p : FVec Ideal S8x15x256 .f32) (b : Fin 8) (n : Fin 16) (k : Fin 256) :
    beforeA p (ix3 b n k) = if h : n.val = 0 then 0 else p (ix3 b ⟨n.val - 1, by omega⟩ k) := by
  pointwise [beforeA]
  by_cases h : n.val = 0
  · rw [dif_pos h, dif_neg (by omega)]
    show (((0#32 : BitVec 32).toInt : ℝ) : EReal) = 0
    simp
  · rw [dif_neg h, dif_pos (by omega)]

/-- A row of the result, of the arguments. -/
theorem rowT_eq (b : Fin 8) (i : Fin 32) (l : Fin 256) :
    rowT m c b i l = mixed
      (fun n k => if h : n.val = 0 then 0 else (m ((c : Thread nD τ).loc main_arg1) : FVec Ideal S8x15x256 .f32) (ix3 b ⟨n.val - 1, by omega⟩ k))
      (fun j k => (m ((c : Thread nD τ).loc main_arg0) : FVec Ideal S8x32x256 .f32) (ix3 b j k))
      (fun k l => weights (m ((c : Thread nD τ).loc main_arg2)) (ix2 k l))
      (fun l => (m ((c : Thread nD τ).loc main_arg3) : FVec Ideal S256 .f32) (ix1 l)) i l := by
  obtain ⟨h3, h17, h16, h18⟩ := operands m c
  unfold rowT
  rw [h3, h17, h16, h18]
  simp only [stackA_at, beforeA_at]
  congr 1
  funext l
  pointwise

end Cert.Pool.Sample

end
-- ==== Proof.Pool.SampleRef.lean ====
/- The sample's reference at an index. -/
module

public import proofs.«01_k».proof.Proof.Gen.Reference5Ideal.Run
public import proofs.«01_k».proof.Proof.Pool.Weights
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Pool.Sample.Ref

open Cert.Reference5Ideal Cert.Reference5Ideal.Gen Cert.Reference5Ideal.Facts₀

/-- The rows under the 15 before them. -/
def rowsR (p : FVec Ideal S8x15x256 .f32) (a : FVec Ideal S8x32x256 .f32) : FVec Ideal S8x47x256 .f32 :=
  concatenate S8x47x256 1 [⟨S8x15x256, p⟩, ⟨S8x32x256, a⟩] Facts₀.concatenates_S8x15x256_S8x32x256_S8x47x256_d1

/-- Their running sums, from nothing on. -/
def sumsR (x : FVec Ideal S8x47x256 .f32) : FVec Ideal S8x48x256 .f32 :=
  concatenate S8x48x256 1 [⟨S8x1x256, broadcastInDim S8x1x256 ![] Facts₀.bcast_S_S8x1x256 (constant S_ .f32 0x00000000#32)⟩,
    ⟨S8x47x256, Host.reduceWindowAdd ![1, 47, 1] ![1, 1, 1] ![0, 46, 0] ![0, 0, 0] x (broadcastInDim S_ ![] Facts₀.bcast_S_S_ (constant S_ .f32 0x00000000#32)) Facts₀.reduceWindows_S8x47x256_S8x47x256_w1s1p0_0_w47s1p46_0_w1s1p0_0 Facts₀.h_S_⟩]
    Facts₀.concatenates_S8x1x256_S8x47x256_S8x48x256_d1

/-- One group's means. -/
def groupR (cs : FVec Ideal S8x48x256 .f32) (o l : ℕ) (v : BitVec 32) (h : S8x48x256.Slices ![0, o, 0] S8x32x256)
    (h' : S8x32x256.Slices ![0, 0, l] S8x32x64) : FVec Ideal S8x32x64 .f32 :=
  Host.divf (subf (extractStridedSlice S8x32x64 ![0, 0, l] (extractStridedSlice S8x32x256 ![0, 16, 0] cs Facts₀.slices_S8x48x256_S8x32x256_0_16_0) h')
    (extractStridedSlice S8x32x64 ![0, 0, l] (extractStridedSlice S8x32x256 ![0, o, 0] cs h) h'))
    (broadcastInDim S8x32x64 ![] Facts₀.bcast_S_S8x32x64 (constant S_ .f32 v))

/-- The four groups'. -/
def meansR (cs : FVec Ideal S8x48x256 .f32) : FVec Ideal S8x32x256 .f32 :=
  concatenate S8x32x256 2 [⟨S8x32x64, groupR cs 14 0 0x40000000#32 Facts₀.slices_S8x48x256_S8x32x256_0_14_0 Facts₀.slices_S8x32x256_S8x32x64_0_0_0⟩, ⟨S8x32x64, groupR cs 12 64 0x40800000#32 Facts₀.slices_S8x48x256_S8x32x256_0_12_0 Facts₀.slices_S8x32x256_S8x32x64_0_0_64⟩, ⟨S8x32x64, groupR cs 8 128 0x41000000#32 Facts₀.slices_S8x48x256_S8x32x256_0_8_0 Facts₀.slices_S8x32x256_S8x32x64_0_0_128⟩, ⟨S8x32x64, groupR cs 0 192 0x41800000#32 Facts₀.slices_S8x48x256_S8x32x256_0_0_0 Facts₀.slices_S8x32x256_S8x32x64_0_0_192⟩]
    Facts₀.concatenates_S8x32x64_S8x32x64_S8x32x64_S8x32x64_S8x32x256_d2

/-- The groups' matrices and the scale. -/
def mixR (w : FVec Ideal S4x64x64 .f32) (d : FVec Ideal S8x32x256 .f32) (s : FVec Ideal S256 .f32) : FVec Ideal S256x256 .bf16 :=
  truncf .bf16 (mulf (shapeCast S256x256 (transpose S8x32x4x64 [2, 3, 0, 1] (Host.dotGeneral dot_S4x64x64_S8x32x4x64_S4x64x8x32_1_3_2_01_0_2 none w (shapeCast S8x32x4x64 d Facts₀.shapeCasts_S8x32x256_S8x32x4x64)) Facts₀.transposes_S4x64x8x32_S8x32x4x64_2_3_0_1) Facts₀.shapeCasts_S8x32x4x64_S256x256)
    (broadcastInDim S256x256 ![0, 1] Facts₀.bcast_S1x256_S256x256_0_1 (broadcastInDim S1x256 ![1] Facts₀.bcast_S256_S1x256_1 s))) Facts₀.bitsLt_bf16_f32

theorem sumsR_at (x : FVec Ideal S8x47x256 .f32) (f : ℕ → EReal) (b : Fin 8) (k : Fin 256) (h : ∀ j : Fin 47, x (ix3 b j k) = f j.val)
    (K : Fin 48) : sumsR x (ix3 b K k) = ∑ j ∈ Finset.range K.val, f j := by
  unfold sumsR
  generalize hy : (Host.reduceWindowAdd _ _ _ _ x _ _ _ : FVec Ideal S8x47x256 .f32) = y
  pointwise
  by_cases p : K.val < 1
  · rw [dif_pos p, show K.val = 0 by omega]
    simp
  · rw [dif_neg p, ← hy]
    refine (cumsum_mid (by decide) x _ (fun y => by pointwise) _ _ b ⟨K.val - 1, by omega⟩ k f h).trans ?_
    rw [show K.val - 1 + 1 = K.val by omega]

theorem meansR_at (cs : FVec Ideal S8x48x256 .f32) (b : Fin 8) (e : Fin 256 → ℕ → EReal) (hr : ∀ k j, ∃ a : ℝ, e k j = (a : EReal))
    (hc : ∀ (K : Fin 48) (k : Fin 256), cs (ix3 b K k) = ∑ j ∈ Finset.range K.val, e k (j + 1)) (i : Fin 32) (k : Fin 256) :
    meansR cs (ix3 b i k) = mean (e k) (k.val / 64) i.val := by
  pointwise [meansR, groupR]
  exact mean_chain (fun K k => cs (ix3 b K k)) i.val (by omega) k e hr hc

theorem mixR_at (w : FVec Ideal S4x64x64 .f32) (d : FVec Ideal S8x32x256 .f32) (s : FVec Ideal S256 .f32) (b : Fin 8) (i : Fin 32) (l : Fin 256) :
    mixR w d s (ix2 ⟨b.val * 32 + i.val, by omega⟩ l)
      = (∑ k : Fin 64, w (ix3 ⟨l.val / 64, by omega⟩ k ⟨l.val % 64, by omega⟩) * d (ix3 b i ⟨l.val / 64 * 64 + k.val, by omega⟩)) * s (ix1 l) := by
  pointwise [mixR]

theorem rowsR_at (p : FVec Ideal S8x15x256 .f32) (a : FVec Ideal S8x32x256 .f32) (b : Fin 8) (j : Fin 47) (k : Fin 256) :
    rowsR p a (ix3 b j k)
      = under (fun n => if h : n.val = 0 then 0 else p (ix3 b ⟨n.val - 1, by omega⟩ k)) (fun i : Fin 32 => a (ix3 b i k)) (j.val + 1) := by
  pointwise [rowsR]
  unfold under
  by_cases h : j.val < 15
  · rw [dif_pos h, dif_pos (by omega)]
    show _ = if h : j.val + 1 = 0 then 0 else p (ix3 b ⟨j.val + 1 - 1, by omega⟩ k)
    symm
    exact dif_neg (Nat.succ_ne_zero j.val)
  · rw [dif_neg h, dif_neg (by omega), dif_pos (by omega)]
    exact congrArg (fun x => a (ix3 b x k)) (Fin.ext (by simp only; omega))

/-- The reference of rows of reals. -/
theorem ref_at (p : FVec Ideal S8x15x256 .f32) (a : FVec Ideal S8x32x256 .f32) (w : FVec Ideal S4x64x64 .f32) (s : FVec Ideal S256 .f32)
    (hp : ∀ y, ∃ r : ℝ, p y = (r : EReal)) (ha : ∀ y, ∃ r : ℝ, a y = (r : EReal)) (b : Fin 8) (i : Fin 32) (l : Fin 256) :
    mixR w (subf (meansR (sumsR (rowsR p a))) a) s (ix2 ⟨b.val * 32 + i.val, by omega⟩ l)
      = mixed (fun n k => if h : n.val = 0 then 0 else p (ix3 b ⟨n.val - 1, by omega⟩ k)) (fun j k => a (ix3 b j k))
          (fun k l => weights w (ix2 k l)) (fun l => s (ix1 l)) i l := by
  have hs := fun (K : Fin 48) (k : Fin 256) => sumsR_at (rowsR p a) (fun j => under (fun n => if h : n.val = 0 then 0 else p (ix3 b ⟨n.val - 1, by omega⟩ k))
    (fun i : Fin 32 => a (ix3 b i k)) (j + 1)) b k (fun j => rowsR_at p a b j k) K
  generalize sumsR (rowsR p a) = cs at hs ⊢
  have hm := fun k : Fin 256 => meansR_at cs b (fun k => under (fun n => if h : n.val = 0 then 0 else p (ix3 b ⟨n.val - 1, by omega⟩ k))
    (fun i : Fin 32 => a (ix3 b i k))) (fun k => under_real _ _ (fun n => by
      by_cases h : n.val = 0
      · exact ⟨0, dif_pos h⟩
      · obtain ⟨r, hr⟩ := hp (ix3 b ⟨n.val - 1, by omega⟩ k)
        exact ⟨r, (dif_neg h).trans hr⟩) fun n => ha _) hs i k
  generalize meansR cs = y at hm ⊢
  refine (mixR_at w _ s b i l).trans ?_
  unfold mixed
  rw [weights_sum]
  refine congrArg (· * s (ix1 l)) (Finset.sum_congr rfl fun d _ => congrArg (fun z : EReal => _ * z) ?_)
  show y (ix3 b i _) - a (ix3 b i _) = _
  rw [hm]

theorem res_eq (m : (ℓ : Loc nD τ sig) → Buf (Elt Ideal) ℓ) (c : Dev nD) :
    Cert.Reference5Ideal.Value.res_main_v38 m c = mixR (m ((c.tc : Thread nD τ).loc main_arg2)) (subf (meansR (sumsR (rowsR (m ((c.tc : Thread nD τ).loc main_arg1)) (m ((c.tc : Thread nD τ).loc main_arg0))))) (m ((c.tc : Thread nD τ).loc main_arg0))) (m ((c.tc : Thread nD τ).loc main_arg3)) := by
  unfold Cert.Reference5Ideal.Value.res_main_v38
  rfl

end Cert.Pool.Sample.Ref

end
-- ==== Proof.Pool.SampleClaims.lean ====
/- The sample's pooling: the frames, and that kernel and reference compute one function. -/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.Attn.Claims
public import proofs.«01_k».proof.Proof.Pool.SampleHost
public import proofs.«01_k».proof.Proof.Pool.SampleRef
public import Idealize.ShloMosaic.Adequacy
public import Idealize.ShloMosaic.Init

@[expose] public section

noncomputable section

namespace Cert.Pool.Sample

open Idealize.ShloMosaic Idealize.ShloMosaic.TcCoe Idealize.SL.Sem

theorem preFacts : Cert.Pre_finite_sample.Facts where
  bcast_S_S8x32x256 := by decide
  bcast_S_S8x15x256 := by decide

attribute [local instance] Cert.Kernel5.Gen.facts Cert.Kernel5Ideal.Gen.facts Cert.Reference5Ideal.Gen.facts preFacts

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_ideal_pre : Cert.quiescent_Kernel5Ideal_pre_finite_sample := fun m ρ _ => Cert.Kernel5Ideal.Gen.frame m ρ

/-- The reference declares no semaphore. -/
theorem frame_ref : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem frame_ref_pre : Cert.quiescent_Reference5Ideal_pre_finite_sample := fun m ρ _ => frame_ref m ρ trivial

/-- Kernel and reference compute the same array, of finite rows. -/
theorem same : Cert.algebraic_Kernel5Ideal_Reference5Ideal_pre_finite_sample := by
  intro m g m' g' hpre hagree
  refine ⟨fun c => (Cert.Kernel5Ideal.Gen.dats m 0 c).arrAt 5 Cert.Kernel5Ideal.cfg0.N, ?_, ?_⟩
  · exact Cert.Kernel5Ideal.Value.run_blocks (F := Ideal) m g
  · refine (θ_run Cert.Reference5Ideal.defs _ _).mono (fun r h c => ⟨(h c).1.trans ?_, (h c).2⟩)
      (Cert.Reference5Ideal.Value.run (F := Ideal) m' g')
    obtain ⟨h0, h1, h2, h3⟩ := hagree c
    obtain ⟨p0, p1⟩ := hpre c
    refine (Ref.res_eq m' c).trans ?_
    rw [h0, h1, h2, h3]
    refine Eq.trans ?_ (arr m c).symm
    funext y
    obtain ⟨r, l, rfl⟩ : ∃ (r : Fin 256) (l : Fin 256), y = ix2 r l := ⟨y 0, y 1, eq_ix2 y⟩
    obtain ⟨b, i, rfl⟩ : ∃ (b : Fin 8) (i : Fin 32), r = ⟨b.val * 32 + i.val, by omega⟩ :=
      ⟨⟨r.val / 32, by omega⟩, ⟨r.val % 32, by omega⟩, Fin.ext (by simp only; omega)⟩
    refine (Ref.ref_at _ _ _ _ (Cert.Attn.reals_of_test _ _ p1) (Cert.Attn.reals_of_test _ _ p0) b i l).trans ((rowT_eq m c b i l).symm.trans ?_)
    refine congr (congr (congrArg (rowT m c) (Fin.ext ?_)) (Fin.ext ?_)) rfl
    · show b.val = (b.val * 32 + i.val) / 32
      omega
    · show i.val = (b.val * 32 + i.val) % 32
      omega

end Cert.Pool.Sample

end
-- ==== Proof.Cached.Run.lean ====
/- The kernel's run, with its result array named: the frame's launch, read at one buffer more. -/
module

public import proofs.«01_k».proof.Proof.Gen.Kernel6Ideal.Frame

@[expose] public section

set_option maxRecDepth 16384

noncomputable section

namespace Cert.Cached

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every execution ends with the result array at the last boundary's contents, the arguments as launched and every
    counter at zero. -/
theorem run : θ_run defs (onTc (τ := τ) (main (F := F))) ⟨m, fun _ => 0, ρ⟩ (fun r => (∀ c : Dev nD,
      r.2.mem ((c.tc : Thread nD τ).loc main_v32) = W6 m ρ c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v32 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩), funext fun g => hz g (.inr (no_unscoped g.2))⟩)

end Cert.Cached

end
-- ==== Proof.Cached.Pair.lean ====
/- One pair of heads of the sample's attention, 32 query rows over 544 key rows, as the kernel writes it, and what it
   computes at an index; and the payload of each of the region's four stores. -/
module

public import proofs.«01_k».proof.Proof.Gen.Kernel6Ideal.Frame
public import proofs.«01_k».proof.Proof.Attn.Block
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Cached

open Cert.Kernel6Ideal Cert.Kernel6Ideal.Gen Cert.Kernel6Ideal.Facts₀
open Cert.Attn (top softLast lane lane_word)

section
variable {F : FTy → Type} [FloatOps F]

/-- The scores of head `e` of a pair: the other head's lanes of the queries are cleared first. -/
def scoreV (e : BitVec 1) (q2 : FVec F S32x128 .bf16) (k2 : FVec F S544x128 .bf16)
    (b : Vec F S1x32x544 .f32) : FVec F S32x544 .f32 :=
  addf (matmul dot_S32x128_S544x128_S32x544_1_1_0_0_n_n none
      (select (xori (xori k1_pay5 (broadcastTo S32x128 (broadcast S32x128 e) Facts₀.broadcasts_S32x128_S32x128))
        (constantI S32x128 1 1#1)) q2 (broadcast S32x128 (Scalar.ofBits .bf16 0x0000#16)))
      k2 (constant S32x544 .f32 0x00000000#32))
    (shapeCast S32x544 b Facts₀.shapeCasts_S1x32x544_S32x544)

/-- The exponentials of the scores less their row's largest. -/
def expV (s : FVec F S32x544 .f32) : FVec F S32x544 .f32 :=
  exp (subf s (broadcastTo S32x544 (shapeCast S32x1
    (multiReduction .maximumf [1] S32 s 0xFF800000#32 Facts₀.reduces_S32x544_S32 (.inl rfl) rfl)
    Facts₀.shapeCasts_S32_S32x1) Facts₀.broadcasts_S32x1_S32x544))

/-- The weighted sum of the values divided by the sum of the weights. -/
def avgV (p : FVec F S32x544 .f32) (v2 : FVec F S544x128 .bf16) : FVec F S32x128 .f32 :=
  divf (matmul dot_S32x544_S544x128_S32x128_1_0_0_1_n_n none (truncf .bf16 p Facts₀.bitsLt_bf16_f32) v2
      (constant S32x128 .f32 0x00000000#32))
    (broadcastTo S32x128 (shapeCast S32x1
      (multiReduction .add [1] S32 p 0x00000000#32 Facts₀.reduces_S32x544_S32 (.inl rfl) rfl)
      Facts₀.shapeCasts_S32_S32x1) Facts₀.broadcasts_S32x1_S32x128)

/-- Both heads of the pair, each in its half of the lanes. -/
def pairV (q2 : FVec F S32x128 .bf16) (k2 v2 : FVec F S544x128 .bf16) (b0 b1 : Vec F S1x32x544 .f32) :
    FVec F S32x128 .bf16 :=
  truncf .bf16 (select k1_pay5 (avgV (expV (scoreV 1#1 q2 k2 b1)) v2)
    (avgV (expV (scoreV 0#1 q2 k2 b0)) v2)) Facts₀.bitsLt_bf16_f32

/-- Lanes `o` to `o + 127` of the queries, and of the keys or values. -/
abbrev cutQ (o : Nat) (q : FVec F S32x512 .bf16) (h : S32x512.Slices ![0, o] S32x128) : FVec F S32x128 .bf16 :=
  extractStridedSlice S32x128 ![0, o] q h
abbrev cutK (o : Nat) (K : FVec F S544x512 .bf16) (h : S544x512.Slices ![0, o] S544x128) : FVec F S544x128 .bf16 :=
  extractStridedSlice S544x128 ![0, o] K h

theorem pay_3 (q : FVec F S32x512 .bf16) (K V : FVec F S544x512 .bf16) (b0 b1 : Vec F S1x32x544 .f32) :
    k1_pay1 k1_pay5 (k1_pay22 V) (k1_pay23 K V q k1_pay5 b0) (k1_pay24 K q k1_pay5 b1)
      = pairV (cutQ 384 q Facts₀.slices_S32x512_o0_384_S32x128) (cutK 384 K Facts₀.slices_S544x512_o0_384_S544x128)
          (cutK 384 V Facts₀.slices_S544x512_o0_384_S544x128) b0 b1 := by
  rfl

theorem pay_2 (q : FVec F S32x512 .bf16) (K V : FVec F S544x512 .bf16) (b0 b1 : Vec F S1x32x544 .f32) :
    k1_pay19 V k1_pay5 (k1_pay16 q) (k1_pay17 K) (k1_pay18 k1_pay5) (constantI S32x128 1 1#1) b0 b1
      = pairV (cutQ 256 q Facts₀.slices_S32x512_o0_256_S32x128) (cutK 256 K Facts₀.slices_S544x512_o0_256_S544x128)
          (cutK 256 V Facts₀.slices_S544x512_o0_256_S544x128) b0 b1 := by
  rfl

theorem pay_1 (q : FVec F S32x512 .bf16) (K V : FVec F S544x512 .bf16) (b0 b1 : Vec F S1x32x544 .f32) :
    k1_pay15 V k1_pay5 (k1_pay11 q) (k1_pay12 K) (k1_pay13 K q k1_pay5) (k1_pay14 b0) b1
      = pairV (cutQ 128 q Facts₀.slices_S32x512_o0_128_S32x128) (cutK 128 K Facts₀.slices_S544x512_o0_128_S544x128)
          (cutK 128 V Facts₀.slices_S544x512_o0_128_S544x128) b0 b1 := by
  rfl

theorem pay_0 (x0 : Vec F S32x512 .bf16) (x1 : Vec F S32x512 .f32) (x3 : Vec F S1x512x512 .f32) (V : FVec F S544x512 .bf16)
    (b0 b1 : Vec F S1x32x544 .f32) :
    k1_pay10 V k1_pay5 (k1_pay7 x3 x1) (k1_pay8 x3 x1 x0 b0) (k1_pay9 x0) (constant S32x544 .f32 0x00000000#32) b1
      = pairV (cutQ 0 (k1_pay4 x0) Facts₀.slices_S32x512_o0_0_S32x128)
          (cutK 0 (k1_pay2 x3 x1) Facts₀.slices_S544x512_o0_0_S544x128)
          (cutK 0 V Facts₀.slices_S544x512_o0_0_S544x128) b0 b1 := by
  rfl

end

/-- The exponentials at an index. -/
theorem expV_at (s : FVec Ideal S32x544 .f32) (r : Fin 32) (j : Fin 544) :
    expV s (ix2 r j) = Ideal.exp (s (ix2 r j) - top fun j' : Fin 544 => s (ix2 r j')) := by
  pointwise [expV]
  rw [show Ideal.ofBits FTy.f32 4286578688#32 = (⊥ : EReal) by simp [Ideal.ofBits, Ideal.ieee]]
  rfl

/-- The average at an index. -/
theorem avgV_at (p : FVec Ideal S32x544 .f32) (v2 : FVec Ideal S544x128 .bf16) (r : Fin 32) (l : Fin 128) :
    avgV p v2 (ix2 r l)
      = Ideal.div (∑ j : Fin 544, p (ix2 r j) * v2 (ix2 j l)) (∑ j : Fin 544, p (ix2 r j)) := by
  pointwise [avgV]

/-- The scores at an index: the dot product over the head's own 64 lanes, and the bias. -/
theorem scoreV_at (e : Fin 2) (q2 : FVec Ideal S32x128 .bf16) (k2 : FVec Ideal S544x128 .bf16)
    (b : Vec Ideal S1x32x544 .f32) (r : Fin 32) (j : Fin 544) :
    scoreV (BitVec.ofNat 1 e.val) q2 k2 b (ix2 r j)
      = (∑ d : Fin 64, q2 (ix2 r (lane e d)) * k2 (ix2 j (lane e d))) + b (ix3 0 r j) := by
  pointwise [scoreV, k1_pay5]
  simp only [lane_word]
  congr 1
  rw [Fin.sum_univ_two_halves 64 64 rfl]
  have h1 : ∀ k : Fin 64, (64 ≤ k.val) = False := fun k => eq_false (by omega)
  have h2 : ∀ k : Fin 64, (64 ≤ 64 + k.val) = True := fun k => eq_true (by omega)
  obtain rfl | rfl : e = 0 ∨ e = 1 := by omega
  · simp [Scalar.select, IntOp.xori, lane, h1, h2]
  · simp [Scalar.select, IntOp.xori, lane, h1, h2]

/-- The pair's block at an index: the average of the lane's own head. -/
theorem pairV_at (q2 : FVec Ideal S32x128 .bf16) (k2 v2 : FVec Ideal S544x128 .bf16)
    (b : Fin 2 → Vec Ideal S1x32x544 .f32) (r : Fin 32) (e : Fin 2) (d : Fin 64) :
    pairV q2 k2 v2 (b 0) (b 1) (ix2 r (lane e d))
      = softLast (fun j : Fin 544 => (∑ d' : Fin 64, q2 (ix2 r (lane e d')) * k2 (ix2 j (lane e d')))
          + b e (ix3 0 r j)) (fun j => v2 (ix2 j (lane e d))) := by
  have hl : ∀ (e : Fin 2) (d : Fin 64), IntOp.cmpi CmpIPredicate.sge (BitVec.ofNat 32 (lane e d).val) 64#32 = BitVec.ofNat 1 e.val := by
    decide +kernel
  generalize hx : lane e d = x
  have := hl e d
  rw [hx] at this
  pointwise [pairV, k1_pay5]
  rw [this]
  obtain rfl | rfl : e = 0 ∨ e = 1 := by omega
  · have h := scoreV_at 0 q2 k2 (b 0) r
    simp only [Scalar.select, avgV_at, expV_at]
    simp only [show (0#1 : BitVec 1) = BitVec.ofNat 1 (0 : Fin 2).val from rfl, h]
    rfl
  · have h := scoreV_at 1 q2 k2 (b 1) r
    simp only [Scalar.select, avgV_at, expV_at]
    simp only [show (1#1 : BitVec 1) = BitVec.ofNat 1 (1 : Fin 2).val from rfl, h]
    rfl

end Cert.Cached

end
-- ==== Proof.Cached.Arrays.lean ====
/- The two kernel regions' result arrays, element by element, of the arrays the regions find. -/
module

public import proofs.«01_k».proof.Proof.Cached.Pair

@[expose] public section

set_option maxRecDepth 16384

noncomputable section

open Idealize.ShloMosaic Idealize.ShloMosaic.TcCoe Idealize.SL.Sem
open Idealize.ShloMosaic.Pipeline (Dat)

namespace Cert.Cached

open Cert.Kernel6Ideal Cert.Kernel6Ideal.Gen Cert.Kernel6Ideal.Facts₀
open Cert.Attn (softLast lane hlane head)

/-- The block's value at query row `R` and lane `L`, of its queries, stacked keys and values, and biases. -/
def blk (q : FVec Ideal S32x512 .bf16) (K V : FVec Ideal S544x512 .bf16) (B : Vec Ideal S8x32x544 .f32)
    (R : Fin 32) (L : Fin 512) : EReal :=
  softLast (fun j : Fin 544 => (∑ d : Fin 64, q (ix2 R (hlane L d)) * K (ix2 j (hlane L d))) + B (ix3 (head L) R j))
    (fun j => V (ix2 j L))

/-- One store, read where it lands. -/
theorem store_at (q : FVec Ideal S32x512 .bf16) (K V : FVec Ideal S544x512 .bf16) (B : Vec Ideal S8x32x544 .f32) (p : Fin 4)
    (q2 : FVec Ideal S32x128 .bf16) (k2 v2 : FVec Ideal S544x128 .bf16) (b0 b1 : Vec Ideal S1x32x544 .f32)
    (hq : ∀ (r : Fin 32) (l : Fin 128), q2 (ix2 r l) = q (ix2 r ⟨128 * p.val + l.val, by omega⟩))
    (hk : ∀ (j : Fin 544) (l : Fin 128), k2 (ix2 j l) = K (ix2 j ⟨128 * p.val + l.val, by omega⟩))
    (hv : ∀ (j : Fin 544) (l : Fin 128), v2 (ix2 j l) = V (ix2 j ⟨128 * p.val + l.val, by omega⟩))
    (h0 : ∀ (r : Fin 32) (j : Fin 544), b0 (ix3 0 r j) = B (ix3 ⟨2 * p.val, by omega⟩ r j))
    (h1 : ∀ (r : Fin 32) (j : Fin 544), b1 (ix3 0 r j) = B (ix3 ⟨2 * p.val + 1, by omega⟩ r j))
    (x : S32x128.Idx) (y : S32x512.Idx) (e0 : (y 0).val = (x 0).val) (e1 : (y 1).val = 128 * p.val + (x 1).val) :
    pairV q2 k2 v2 b0 b1 x = blk q K V B (y 0) (y 1) := by
  have hb : ∀ (e : Fin 2) (r : Fin 32) (j : Fin 544), (![b0, b1] e : Vec Ideal S1x32x544 .f32) (ix3 0 r j)
      = B (ix3 ⟨2 * p.val + e.val, by omega⟩ r j) := by
    intro e r j
    obtain rfl | rfl : e = 0 ∨ e = 1 := by omega
    · exact h0 r j
    · exact h1 r j
  obtain ⟨r, l, rfl⟩ : ∃ (r : Fin 32) (l : Fin 128), x = ix2 r l := ⟨x 0, x 1, eq_ix2 x⟩
  obtain ⟨R, L, rfl⟩ : ∃ (R : Fin 32) (L : Fin 512), y = ix2 R L := ⟨y 0, y 1, eq_ix2 y⟩
  obtain rfl : R = r := Fin.ext e0
  replace e1 : L.val = 128 * p.val + l.val := e1
  show _ = blk q K V B R L
  have hl' : l.val < 128 := l.isLt
  have hlane' : l = lane ⟨l.val / 64, by omega⟩ ⟨l.val % 64, by omega⟩ := Fin.ext (by simp only [lane]; omega)
  obtain ⟨e, he⟩ : ∃ e : Fin 2, e = ⟨l.val / 64, by omega⟩ := ⟨_, rfl⟩
  obtain ⟨d, hd⟩ : ∃ d : Fin 64, d = ⟨l.val % 64, by omega⟩ := ⟨_, rfl⟩
  rw [← he, ← hd] at hlane'
  have hev : e.val = l.val / 64 := by rw [he]
  have hln : ∀ d' : Fin 64, (⟨128 * p.val + (lane e d').val, by omega⟩ : Fin 512) = hlane L d' := fun d' =>
    Fin.ext (by simp only [hlane, lane]; omega)
  have hL' : (⟨128 * p.val + l.val, by omega⟩ : Fin 512) = L := Fin.ext (by simp only; omega)
  have hh : (⟨2 * p.val + e.val, by omega⟩ : Fin 8) = head L := Fin.ext (by simp only [head]; omega)
  have main := pairV_at q2 k2 v2 ![b0, b1] R e d
  rw [← hlane'] at main
  refine main.trans ?_
  unfold blk
  congr 1
  · funext j
    rw [hb, hh]
    congr 1
    refine Finset.sum_congr rfl fun d' _ => ?_
    rw [hq, hk, hln]
  · funext j
    rw [hv, hL']

theorem out1_at (x0 : Vec Ideal S32x512 .bf16) (x1 x2 : Vec Ideal S32x512 .f32) (x3 x4 : Vec Ideal S1x512x512 .f32)
    (x5 : Vec Ideal S8x32x544 .f32) (y : S32x512.Idx) :
    out1_6 x0 x1 x2 x3 x4 x5 y
      = blk (k1_pay27 x0 x1 x2 x3 x4 x5) (k1_pay25 x0 x1 x2 x3 x4 x5) (k1_pay26 x0 x1 x2 x3 x4 x5) x5 (y 0) (y 1) := by
  unfold out1_6
  canon_tiles x h
  case piece0 =>
    refine (congrFun (pay_3 (k1_pay27 x0 x1 x2 x3 x4 x5) (k1_pay25 x0 x1 x2 x3 x4 x5) (k1_pay26 x0 x1 x2 x3 x4 x5)
      (View.ld x5 r1_11) (View.ld x5 r1_12)) x).trans ?_
    generalize k1_pay27 x0 x1 x2 x3 x4 x5 = q, k1_pay25 x0 x1 x2 x3 x4 x5 = K, k1_pay26 x0 x1 x2 x3 x4 x5 = V
    exact store_at q K V x5 3 _ _ _ _ _ (fun r l => by pointwise) (fun r l => by pointwise) (fun r l => by pointwise)
      (fun r l => by pointwise) (fun r l => by pointwise) x y (by simpa using h0) h1
  case piece1 =>
    refine (congrFun (pay_2 (k1_pay27 x0 x1 x2 x3 x4 x5) (k1_pay25 x0 x1 x2 x3 x4 x5) (k1_pay26 x0 x1 x2 x3 x4 x5)
      (View.ld x5 r1_8) (View.ld x5 r1_9)) x).trans ?_
    generalize k1_pay27 x0 x1 x2 x3 x4 x5 = q, k1_pay25 x0 x1 x2 x3 x4 x5 = K, k1_pay26 x0 x1 x2 x3 x4 x5 = V
    exact store_at q K V x5 2 _ _ _ _ _ (fun r l => by pointwise) (fun r l => by pointwise) (fun r l => by pointwise)
      (fun r l => by pointwise) (fun r l => by pointwise) x y (by simpa using h0) h1
  case piece2 =>
    refine (congrFun (pay_1 (k1_pay27 x0 x1 x2 x3 x4 x5) (k1_pay25 x0 x1 x2 x3 x4 x5) (k1_pay26 x0 x1 x2 x3 x4 x5)
      (View.ld x5 r1_5) (View.ld x5 r1_6)) x).trans ?_
    generalize k1_pay27 x0 x1 x2 x3 x4 x5 = q, k1_pay25 x0 x1 x2 x3 x4 x5 = K, k1_pay26 x0 x1 x2 x3 x4 x5 = V
    exact store_at q K V x5 1 _ _ _ _ _ (fun r l => by pointwise) (fun r l => by pointwise) (fun r l => by pointwise)
      (fun r l => by pointwise) (fun r l => by pointwise) x y (by simpa using h0) h1
  case piece3 =>
    refine (congrFun (pay_0 (View.ld x0 r1_1) (View.ld x1 r1_1) (View.ld x3 r1_0) (k1_pay26 x0 x1 x2 x3 x4 x5)
      (View.ld x5 r1_2) (View.ld x5 r1_3)) x).trans ?_
    show pairV (cutQ 0 (k1_pay27 x0 x1 x2 x3 x4 x5) _) (cutK 0 (k1_pay25 x0 x1 x2 x3 x4 x5) _) _ _ _ x = _
    generalize k1_pay27 x0 x1 x2 x3 x4 x5 = q, k1_pay25 x0 x1 x2 x3 x4 x5 = K, k1_pay26 x0 x1 x2 x3 x4 x5 = V
    exact store_at q K V x5 0 _ _ _ _ _ (fun r l => by pointwise) (fun r l => by pointwise) (fun r l => by pointwise)
      (fun r l => by pointwise) (fun r l => by pointwise) x y (by simpa using h0) (by simpa using h1)

/-- The rotated line at an index. -/
theorem line_at (row : Vec Ideal S1x1024 .f32) (r : Fin 256) (c : Fin 768) :
    k0_pay3 row (ix2 r c) = row (ix2 0 ⟨(c.val + 255 - r.val), by omega⟩) := by
  pointwise [k0_pay3]
  congr 2
  apply Fin.ext
  show (c.val + 1024 - (769 + r.val) % 1024) % 1024 = c.val + 255 - r.val
  omega

/-- The rotated lines of all heads. -/
def lines (x0 : Vec Ideal S8x1024 .f32) : FVec Ideal S8x256x768 .f32 :=
  fun y => x0 (ix2 (y 0) ⟨(y 2 : Fin 768).val + 255 - (y 1 : Fin 256).val,
    by have h : (y 2 : Fin 768).val < 768 := (y 2).isLt; have h' : (y 1 : Fin 256).val < 256 := (y 1).isLt; omega⟩)

/-- One head's store, read where it lands. -/
theorem piece_at (x0 : Vec Ideal S8x1024 .f32) (L : Vec Ideal S1x1024 .f32) (k : Fin 8)
    (hL : ∀ j : Fin 1024, L (ix2 0 j) = x0 (ix2 k j)) (x : S1x256x768.Idx) (y : S8x256x768.Idx)
    (h0 : (y 0).val = k.val + (x 0).val) (h1 : (y 1).val = (x 1).val) (h2 : (y 2).val = (x 2).val) :
    k0_pay4 L x = lines x0 y := by
  obtain ⟨z, r, c, rfl⟩ : ∃ (z : Fin 1) (r : Fin 256) (c : Fin 768), x = ix3 z r c := ⟨x 0, x 1, x 2, eq_ix3 x⟩
  obtain ⟨H, R, C, rfl⟩ : ∃ (H : Fin 8) (R : Fin 256) (C : Fin 768), y = ix3 H R C := ⟨y 0, y 1, y 2, eq_ix3 y⟩
  obtain rfl : R = r := Fin.ext h1
  obtain rfl : C = c := Fin.ext h2
  replace h0 : H.val = k.val + z.val := h0
  obtain rfl : H = k := Fin.ext (by omega)
  have h := line_at L R C
  have e : k0_pay4 L (ix3 z R C) = k0_pay3 L (ix2 R C) := by
    pointwise [k0_pay4, k0_pay3]
  rw [e, h, hL]
  rfl

/-- The first region's full table, every head's store in its place. -/
theorem out0_at (x0 : Vec Ideal S8x1024 .f32) (y : S8x256x768.Idx) : out0_1 x0 y = lines x0 y := by
  unfold out0_1
  canon_tiles x h
  case piece0 => exact piece_at x0 (View.ld x0 r0_14) 7 (fun j => by pointwise) x y h0 h1 h2
  case piece1 => exact piece_at x0 (View.ld x0 r0_12) 6 (fun j => by pointwise) x y h0 h1 h2
  case piece2 => exact piece_at x0 (View.ld x0 r0_10) 5 (fun j => by pointwise) x y h0 h1 h2
  case piece3 => exact piece_at x0 (View.ld x0 r0_8) 4 (fun j => by pointwise) x y h0 h1 h2
  case piece4 => exact piece_at x0 (View.ld x0 r0_6) 3 (fun j => by pointwise) x y h0 h1 h2
  case piece5 => exact piece_at x0 (View.ld x0 r0_4) 2 (fun j => by pointwise) x y h0 h1 h2
  case piece6 => exact piece_at x0 (View.ld x0 r0_2) 1 (fun j => by pointwise) x y h0 h1 h2
  case piece7 => exact piece_at x0 (View.ld x0 r0_0) 0 (fun j => by pointwise) x y (by simpa using h0) h1 h2

/-- The bias region has one grid point, whose blocks start at the origin. -/
theorem idx0 : ∀ t : Fin cfg0.N, win0_0.index t = ![0, 0] ∧ win0_1.index t = ![0, 0, 0] :=
  (by decide +kernel : ∀ t : Fin grid0.N, _)

/-- The attention region's block indices: the sample's rows come after 512 blocks of zero rows. -/
theorem idx1 : ∀ t : Fin cfg1.N, win1_0.index t = ![512 + t.val, 0]
    ∧ win1_1.index t = ![512 + t.val, 0]
    ∧ win1_2.index t = ![512 + t.val, 0]
    ∧ win1_3.index t = ![t.val, 0, 0]
    ∧ win1_4.index t = ![t.val, 0, 0]
    ∧ win1_5.index t = ![0, 0, 0]
    ∧ win1_6.index t = ![t.val, 0] :=
  (by decide +kernel : ∀ t : Fin grid1.N, _)

theorem N1 : ∀ t : Fin cfg1.N, t.val < 8 := (by decide +kernel : ∀ t : Fin grid1.N, t.val < 8)

variable (V : (c : Dev nD) → (b : Ref sig .tc) → Buf (Elt Ideal) ((c : Thread nD τ).loc b))

/-- The full table after the first region. -/
theorem table_arr (c : Dev nD) (line : Vec Ideal S8x1024 .f32) (hl : V c (Pipeline.arrRef spec0 0) = line) :
    (dat0 V c).arrAt 1 cfg0.N = lines line := by
  refine (dat0 V c).arrAt_eq_of_covers 1 _ (by decide +kernel) fun t _ y => ?_
  blk_simp
  rw [after0_1]
  have e : iblk0 V c 0 t = line := by
    rw [← hl]
    blk_ext! [iblk0, idx0 t]
  rw [e]
  refine (out0_at line y).trans ?_
  refine congrArg (fun z : S8x256x768.Idx => lines line z) (?_ : (y : S8x256x768.Idx) = (win0_1.blk t).view.emb y)
  blk_ext [idx0 t]

/-- Row `r` of stream `T` in the arrays of new rows. -/
def newRow (T : Fin 8) (r : Fin 32) : Fin 16896 := ⟨(512 + T.val) * 32 + r.val, by omega⟩

/-- The stream's queries, and its kept and new keys or values, of the arrays. -/
def qBlk (q : FVec Ideal S16896x512 .bf16) (T : Fin 8) : FVec Ideal S32x512 .bf16 :=
  fun i => q (ix2 (newRow T (i 0)) (i 1))
def kBlk (C : FVec Ideal S8x512x512 .f32) (K : FVec Ideal S16896x512 .f32) (T : Fin 8) : FVec Ideal S544x512 .bf16 :=
  fun i => if h : (i 0 : Fin 544).val < 512 then C (ix3 T ⟨(i 0 : Fin 544).val, h⟩ (i 1))
    else K (ix2 (newRow T ⟨(i 0 : Fin 544).val - 512, by have h' : (i 0 : Fin 544).val < 544 := (i 0).isLt; omega⟩) (i 1))

/-- The attention result at an element, of the region's arrays. -/
def attArr (q : FVec Ideal S16896x512 .bf16) (K W : FVec Ideal S16896x512 .f32) (C D : FVec Ideal S8x512x512 .f32)
    (B : FVec Ideal S8x32x544 .f32) : FVec Ideal S256x512 .bf16 := fun i =>
  blk (qBlk q ⟨(i 0 : Fin 256).val / 32, by have h : (i 0 : Fin 256).val < 256 := (i 0).isLt; omega⟩)
    (kBlk C K ⟨(i 0 : Fin 256).val / 32, by have h : (i 0 : Fin 256).val < 256 := (i 0).isLt; omega⟩)
    (kBlk D W ⟨(i 0 : Fin 256).val / 32, by have h : (i 0 : Fin 256).val < 256 := (i 0).isLt; omega⟩) B
    ⟨(i 0 : Fin 256).val % 32, by omega⟩ (i 1)

theorem pay2_eq (C : FVec Ideal S8x512x512 .f32) (K : FVec Ideal S16896x512 .f32) (T : Fin 8)
    (x3 : Vec Ideal S1x512x512 .f32) (x1 : Vec Ideal S32x512 .f32)
    (h3 : ∀ (r l : Fin 512), x3 (ix3 0 r l) = C (ix3 T r l))
    (h1 : ∀ (r : Fin 32) (l : Fin 512), x1 (ix2 r l) = K (ix2 (newRow T r) l)) :
    k1_pay2 (View.ld x3 r1_0) (View.ld x1 r1_1) = kBlk C K T := by
  funext y
  obtain ⟨c, l, rfl⟩ : ∃ (c : Fin 544) (l : Fin 512), y = ix2 c l := ⟨y 0, y 1, eq_ix2 y⟩
  have hc' : c.val < 544 := c.isLt
  pointwise [k1_pay2]
  show _ = if h : c.val < 512 then C (ix3 T ⟨c.val, h⟩ l) else K (ix2 (newRow T ⟨c.val - 512, by omega⟩) l)
  split
  · exact h3 _ l
  · exact h1 _ l

theorem rd0 (c : Dev nD) (t : Fin cfg1.N) :
    (iblk1 V c 0 t : Vec Ideal S32x512 .bf16) = qBlk (V c main_v20 : FVec Ideal S16896x512 .bf16) ⟨t.val, N1 t⟩ := by
  funext i
  unfold qBlk
  blk_ext [iblk1, (idx1 t).1, newRow]

theorem rd1 (c : Dev nD) (t : Fin cfg1.N) (r : Fin 32) (l : Fin 512) :
    (iblk1 V c 1 t : Vec Ideal S32x512 .f32) (ix2 r l) = (V c main_v24 : FVec Ideal S16896x512 .f32)
      (ix2 (newRow ⟨t.val, N1 t⟩ r) l) := by
  blk_ext [iblk1, (idx1 t).2.1, newRow]

theorem rd2 (c : Dev nD) (t : Fin cfg1.N) (r : Fin 32) (l : Fin 512) :
    (iblk1 V c 2 t : Vec Ideal S32x512 .f32) (ix2 r l) = (V c main_v28 : FVec Ideal S16896x512 .f32)
      (ix2 (newRow ⟨t.val, N1 t⟩ r) l) := by
  blk_ext [iblk1, (idx1 t).2.2.1, newRow]

theorem rd3 (c : Dev nD) (t : Fin cfg1.N) (r l : Fin 512) :
    (iblk1 V c 3 t : Vec Ideal S1x512x512 .f32) (ix3 0 r l) = (V c main_v29 : FVec Ideal S8x512x512 .f32)
      (ix3 ⟨t.val, N1 t⟩ r l) := by
  blk_ext [iblk1, (idx1 t).2.2.2.1]

theorem rd4 (c : Dev nD) (t : Fin cfg1.N) (r l : Fin 512) :
    (iblk1 V c 4 t : Vec Ideal S1x512x512 .f32) (ix3 0 r l) = (V c main_v30 : FVec Ideal S8x512x512 .f32)
      (ix3 ⟨t.val, N1 t⟩ r l) := by
  blk_ext [iblk1, (idx1 t).2.2.2.2.1]

theorem rd5 (c : Dev nD) (t : Fin cfg1.N) :
    (iblk1 V c 5 t : Vec Ideal S8x32x544 .f32) = (V c main_v31 : Vec Ideal S8x32x544 .f32) := by
  blk_ext! [iblk1, (idx1 t).2.2.2.2.2.1]

theorem out_row (t : Fin cfg1.N) (y : S32x512.Idx) :
    ((win1_6.blk t).view.emb y 0).val = t.val * 32 + (y 0).val := by
  blk_simp [(idx1 t).2.2.2.2.2.2]

theorem out_col (t : Fin cfg1.N) (y : S32x512.Idx) :
    ((win1_6.blk t).view.emb y 1).val = (y 1).val := by
  blk_simp [(idx1 t).2.2.2.2.2.2]

/-- One stream's block, of what its input blocks are in the arrays. -/
theorem blk_eq (q : FVec Ideal S16896x512 .bf16) (K W : FVec Ideal S16896x512 .f32) (C D : FVec Ideal S8x512x512 .f32)
    (B : FVec Ideal S8x32x544 .f32) (x0 : Vec Ideal S32x512 .bf16) (x1 x2 : Vec Ideal S32x512 .f32)
    (x3 x4 : Vec Ideal S1x512x512 .f32) (x5 : Vec Ideal S8x32x544 .f32) (T : Fin 8) (p0 : x0 = qBlk q T)
    (p1 : ∀ (r : Fin 32) (l : Fin 512), x1 (ix2 r l) = K (ix2 (newRow T r) l))
    (p2 : ∀ (r : Fin 32) (l : Fin 512), x2 (ix2 r l) = W (ix2 (newRow T r) l))
    (p3 : ∀ (r l : Fin 512), x3 (ix3 0 r l) = C (ix3 T r l))
    (p4 : ∀ (r l : Fin 512), x4 (ix3 0 r l) = D (ix3 T r l))
    (p5 : x5 = B) (y : S32x512.Idx) (z : S256x512.Idx)
    (h0 : (z 0).val = T.val * 32 + (y 0).val) (h1 : (z 1).val = (y 1).val) :
    out1_6 x0 x1 x2 x3 x4 x5 y = attArr q K W C D B z := by
  refine (out1_at x0 x1 x2 x3 x4 x5 y).trans ?_
  have e27 : k1_pay27 x0 x1 x2 x3 x4 x5 = qBlk q T := by
    rw [← p0]
    funext j
    pointwise [k1_pay27, k1_pay4]
  have e25 : k1_pay25 x0 x1 x2 x3 x4 x5 = kBlk C K T := pay2_eq C K T x3 x1 p3 p1
  have e26 : k1_pay26 x0 x1 x2 x3 x4 x5 = kBlk D W T := pay2_eq D W T x4 x2 p4 p2
  rw [e27, e25, e26, p5]
  obtain ⟨R, L, rfl⟩ : ∃ (R : Fin 32) (L : Fin 512), y = ix2 R L := ⟨y 0, y 1, eq_ix2 y⟩
  obtain ⟨r, l, rfl⟩ : ∃ (r : Fin 256) (l : Fin 512), z = ix2 r l := ⟨z 0, z 1, eq_ix2 z⟩
  replace h0 : r.val = T.val * 32 + R.val := h0
  obtain rfl : l = L := Fin.ext h1
  have eT : (⟨r.val / 32, by omega⟩ : Fin 8) = T := Fin.ext (by simp only; omega)
  have eR : (⟨r.val % 32, by omega⟩ : Fin 32) = R := Fin.ext (by simp only; omega)
  show blk (qBlk q T) (kBlk C K T) (kBlk D W T) B R l
    = blk (qBlk q ⟨r.val / 32, by omega⟩) (kBlk C K ⟨r.val / 32, by omega⟩) (kBlk D W ⟨r.val / 32, by omega⟩) B ⟨r.val % 32, by omega⟩ l
  rw [eT, eR]

/-- The result array after the second region. -/
theorem att_arr (c : Dev nD) (q : FVec Ideal S16896x512 .bf16) (K W : FVec Ideal S16896x512 .f32)
    (C D : FVec Ideal S8x512x512 .f32) (B : FVec Ideal S8x32x544 .f32)
    (hq : V c main_v20 = q) (hk : V c main_v24 = K) (hw : V c main_v28 = W) (hc : V c main_v29 = C)
    (hd : V c main_v30 = D) (hb : V c main_v31 = B) :
    (dat1 V c).arrAt 6 cfg1.N = attArr q K W C D B := by
  refine (dat1 V c).arrAt_eq_of_covers 6 _ (by decide +kernel) fun t _ y => ?_
  blk_simp
  rw [after1_6]
  have p0 := rd0 V c t
  have p1 := rd1 V c t
  have p2 := rd2 V c t
  have p3 := rd3 V c t
  have p4 := rd4 V c t
  have p5 := rd5 V c t
  rw [hq] at p0
  rw [hk] at p1
  rw [hw] at p2
  rw [hc] at p3
  rw [hd] at p4
  rw [hb] at p5
  have h0 := out_row t y
  have h1 := out_col t y
  revert p0 p1 p2 p3 p4 p5 h0 h1
  generalize (win1_6.blk t).view.emb y = z
  generalize iblk1 V c 0 t = x0, iblk1 V c 1 t = x1, iblk1 V c 2 t = x2, iblk1 V c 3 t = x3, iblk1 V c 4 t = x4,
    iblk1 V c 5 t = x5
  intro p0 p1 p2 p3 p4 p5 h0 h1
  exact blk_eq q K W C D B x0 x1 x2 x3 x4 x5 ⟨t.val, N1 t⟩ p0 p1 p2 p3 p4 p5 y z h0 h1

end Cert.Cached

end
-- ==== Proof.Cached.Host.lean ====
/- What the host code before each kernel region leaves in the regions' operand arrays. -/
module

public import proofs.«01_k».proof.Proof.Cached.Arrays
public import proofs.«01_k».proof.Proof.Attn.Host

@[expose] public section

set_option maxRecDepth 16384

noncomputable section

open Idealize.ShloMosaic Idealize.ShloMosaic.TcCoe Idealize.SL.Sem Idealize.ShloMosaic.StableHlo
open Idealize.ShloMosaic.Pipeline (Dat)

namespace Cert.Cached

open Cert.Kernel6Ideal Cert.Kernel6Ideal.Gen Cert.Kernel6Ideal.Facts₀
open Cert.Attn (lineOf lineOf_at)

/-- The sample's rows as the second region finds them: tokens by lanes, among rows of zeros. -/
def amidZeros (x : FVec Ideal S8x32x8x64 .f32) : FVec Ideal S16896x512 .f32 :=
  concatenate S16896x512 0 [⟨S16384x512, broadcastInDim S16384x512 ![] Facts₀.bcast_S_S16384x512 (constant S_ .f32 0x00000000#32)⟩,
    ⟨S256x512, shapeCast S256x512 x Facts₀.shapeCasts_S8x32x8x64_S256x512⟩,
    ⟨S256x512, broadcastInDim S256x512 ![] Facts₀.bcast_S_S256x512 (constant S_ .f32 0x00000000#32)⟩]
    Facts₀.concatenates_S16384x512_S256x512_S256x512_S16896x512_d0

/-- The queries, scaled. -/
def scaledRows (x : FVec Ideal S8x32x8x64 .f32) : FVec Ideal S16896x512 .bf16 :=
  truncf .bf16 (mulf (amidZeros x) (broadcastInDim S16896x512 ![] Facts₀.bcast_S_S16896x512 (constant S_ .f32 0x3E000000#32)))
    Facts₀.bitsLt_bf16_f32

/-- The kept rows, heads side by side. -/
def keptRows (x : FVec Ideal S8x512x8x64 .f32) : FVec Ideal S8x512x512 .f32 :=
  shapeCast S8x512x512 x Facts₀.shapeCasts_S8x512x8x64_S8x512x512

/-- The part of the full table that the sample's queries and keys read. -/
def corner (B : FVec Ideal S8x256x768 .f32) : FVec Ideal S8x32x544 .f32 :=
  extractStridedSlice S8x32x544 ![0, 0, 0] B Facts₀.slices_S8x256x768_S8x32x544_0_0_0

variable (m : (ℓ : Loc nD τ sig) → Buf (Elt Ideal) ℓ) (ρ : Dev nD → PrngReg)

theorem after1_q (σ : Valuation τ sig (Elt Ideal)) : after hostOps1 σ main_v20 = scaledRows (σ main_arg0) := by
  simp only [hostOps1, TRef.binary, TRef.nullary, TRef.ternary, TRef.unary, TRef.toBuf, TRef.ofBuf, cast_eq]
  after_results_simp
  rfl

theorem after1_k (σ : Valuation τ sig (Elt Ideal)) : after hostOps1 σ main_v24 = amidZeros (σ main_arg1) := by
  simp only [hostOps1, TRef.binary, TRef.nullary, TRef.ternary, TRef.unary, TRef.toBuf, TRef.ofBuf, cast_eq]
  after_results_simp
  rfl

theorem after1_v (σ : Valuation τ sig (Elt Ideal)) : after hostOps1 σ main_v28 = amidZeros (σ main_arg2) := by
  simp only [hostOps1, TRef.binary, TRef.nullary, TRef.ternary, TRef.unary, TRef.toBuf, TRef.ofBuf, cast_eq]
  after_results_simp
  rfl

theorem after1_kc (σ : Valuation τ sig (Elt Ideal)) : after hostOps1 σ main_v29 = keptRows (σ main_arg3) := by
  simp only [hostOps1, TRef.binary, TRef.nullary, TRef.ternary, TRef.unary, TRef.toBuf, TRef.ofBuf, cast_eq]
  after_results_simp
  rfl

theorem after1_vc (σ : Valuation τ sig (Elt Ideal)) : after hostOps1 σ main_v30 = keptRows (σ main_arg4) := by
  simp only [hostOps1, TRef.binary, TRef.nullary, TRef.ternary, TRef.unary, TRef.toBuf, TRef.ofBuf, cast_eq]
  after_results_simp
  rfl

theorem after1_bias (σ : Valuation τ sig (Elt Ideal)) : after hostOps1 σ main_v31 = corner (σ main_v13_0) := by
  simp only [hostOps1, TRef.binary, TRef.nullary, TRef.ternary, TRef.unary, TRef.toBuf, TRef.ofBuf, cast_eq]
  after_results_simp
  rfl

theorem after0_line (σ : Valuation τ sig (Elt Ideal)) :
    after hostOps0_2 (after hostOps0_1 (after hostOps0 σ)) main_v12 = lineOf (σ main_arg5) := by
  simp only [hostOps0, hostOps0_1, hostOps0_2, TRef.binary, TRef.nullary, TRef.ternary, TRef.unary, TRef.toBuf, TRef.ofBuf, cast_eq]
  after_results_simp
  rfl

theorem W5_q (c : Dev nD) : W5 m ρ c main_v20 = scaledRows (m ((c : Thread nD τ).loc main_arg0)) := by
  rw [← W4_args m ρ c main_arg0 (by decide)]; exact after1_q (W4 m ρ c)

theorem W5_k (c : Dev nD) : W5 m ρ c main_v24 = amidZeros (m ((c : Thread nD τ).loc main_arg1)) := by
  rw [← W4_args m ρ c main_arg1 (by decide)]; exact after1_k (W4 m ρ c)

theorem W5_v (c : Dev nD) : W5 m ρ c main_v28 = amidZeros (m ((c : Thread nD τ).loc main_arg2)) := by
  rw [← W4_args m ρ c main_arg2 (by decide)]; exact after1_v (W4 m ρ c)

theorem W5_kc (c : Dev nD) : W5 m ρ c main_v29 = keptRows (m ((c : Thread nD τ).loc main_arg3)) := by
  rw [← W4_args m ρ c main_arg3 (by decide)]; exact after1_kc (W4 m ρ c)

theorem W5_vc (c : Dev nD) : W5 m ρ c main_v30 = keptRows (m ((c : Thread nD τ).loc main_arg4)) := by
  rw [← W4_args m ρ c main_arg4 (by decide)]; exact after1_vc (W4 m ρ c)

theorem W3_line (c : Dev nD) : W3 m ρ c main_v12 = lineOf (m ((c : Thread nD τ).loc main_arg5)) :=
  after0_line (W0 m ρ c)

theorem W5_bias (c : Dev nD) :
    W5 m ρ c main_v31 = corner (lines (lineOf (m ((c : Thread nD τ).loc main_arg5)))) :=
  (after1_bias (W4 m ρ c)).trans
    (congrArg corner ((W4_arr m ρ c 1).trans (table_arr (V3 m ρ) c _ (W3_line m ρ c))))

/-- The result array. -/
theorem W6_res (c : Dev nD) : W6 m ρ c main_v32
    = attArr (scaledRows (m ((c : Thread nD τ).loc main_arg0))) (amidZeros (m ((c : Thread nD τ).loc main_arg1)))
        (amidZeros (m ((c : Thread nD τ).loc main_arg2))) (keptRows (m ((c : Thread nD τ).loc main_arg3)))
        (keptRows (m ((c : Thread nD τ).loc main_arg4))) (corner (lines (lineOf (m ((c : Thread nD τ).loc main_arg5))))) :=
  (W6_arr m ρ c 6).trans (att_arr (V5 m ρ) c _ _ _ _ _ _ (W5_q m ρ c) (W5_k m ρ c) (W5_v m ρ c) (W5_kc m ρ c)
    (W5_vc m ρ c) (W5_bias m ρ c))

/-- A sample's row amid the zeros is its token's. -/
theorem amidZeros_at (x : FVec Ideal S8x32x8x64 .f32) (T : Fin 8) (r : Fin 32) (l : Fin 512) :
    amidZeros x (ix2 (newRow T r) l) = x (ix4 T r ⟨l.val / 64, by omega⟩ ⟨l.val % 64, by omega⟩) := by
  obtain ⟨n, hn⟩ : ∃ n : Fin 16896, n = newRow T r := ⟨_, rfl⟩
  have hv : n.val = (512 + T.val) * 32 + r.val := by rw [hn]; rfl
  rw [← hn]
  pointwise [amidZeros]
  rw [dif_neg (by omega), dif_pos (by omega)]
  have a0 : (⟨(n.val - 16384) / 32, by omega⟩ : Fin 8) = T := Fin.ext (by simp only; omega)
  have a1 : (⟨(n.val - 16384) % 32, by omega⟩ : Fin 32) = r := Fin.ext (by simp only; omega)
  rw [a0, a1]

theorem scaledRows_at (x : FVec Ideal S8x32x8x64 .f32) (r : Fin 16896) (l : Fin 512) :
    scaledRows x (ix2 r l) = amidZeros x (ix2 r l) * Ideal.ofBits FTy.f32 1040187392#32 := by
  pointwise [scaledRows]

theorem keptRows_at (x : FVec Ideal S8x512x8x64 .f32) (T : Fin 8) (r l : Fin 512) :
    keptRows x (ix3 T r l) = x (ix4 T r ⟨l.val / 64, by omega⟩ ⟨l.val % 64, by omega⟩) := by
  pointwise [keptRows]

theorem corner_at (B : FVec Ideal S8x256x768 .f32) (h : Fin 8) (r : Fin 32) (j : Fin 544) :
    corner B (ix3 h r j) = B (ix3 h ⟨r.val, by omega⟩ ⟨j.val, by omega⟩) := by
  pointwise [corner]

end Cert.Cached

end
-- ==== Proof.Cached.Ref.lean ====
/- The reference of the sample's attention, stage by stage, and its result at an index. -/
module

public import proofs.«01_k».proof.Proof.Gen.Reference6Ideal.Run
public import proofs.«01_k».proof.Proof.Attn.Ref

@[expose] public section

set_option maxRecDepth 16384

noncomputable section

open Idealize.ShloMosaic Idealize.ShloMosaic.TcCoe Idealize.SL.Sem Idealize.ShloMosaic.StableHlo

namespace Cert.Cached

open Cert.Reference6Ideal Cert.Reference6Ideal.Gen Cert.Reference6Ideal.Facts₀
open Cert.Attn (top softFirst lowest biasIdxR_word)

section
variable {F : FTy → Type} [FloatOps F]

/-- The kept keys or values and the new ones after them. -/
def bothR (c : FVec F S8x512x8x64 .f32) (x : FVec F S8x32x8x64 .f32) : FVec F S8x544x8x64 .f32 :=
  concatenate S8x544x8x64 1 [⟨S8x512x8x64, c⟩, ⟨S8x32x8x64, x⟩] Facts₀.concatenates_S8x512x8x64_S8x32x8x64_S8x544x8x64_d1

/-- The clipped distance of a key from a query, as a column of the table. -/
def distR : IVec S32x544 32 :=
  addi (minsi (broadcastInDim S32x544 ![] Facts₀.bcast_S_S32x544 (id (constantI S_ 32 128#32))) (maxsi (broadcastInDim S32x544 ![] Facts₀.bcast_S_S32x544 (id (constantI S_ 32 4294967168#32))) (subi (broadcastInDim S32x544 ![0, 1] Facts₀.bcast_S32x1_S32x544_0_1 (addi (broadcastInDim S32x1 ![] Facts₀.bcast_S_S32x1 (constantI S_ 32 512#32)) (broadcastInDim S32x1 ![0] Facts₀.bcast_S32_S32x1_0 (iotaInDim S32 32 0)))) (broadcastInDim S32x544 ![0, 1] Facts₀.bcast_S1x544_S32x544_0_1 (broadcastInDim S1x544 ![1] Facts₀.bcast_S544_S1x544_1 (iotaInDim S544 32 0)))))) (broadcastInDim S32x544 ![] Facts₀.bcast_S_S32x544 (constantI S_ 32 128#32))

def biasIdxR : IVec S32x544x1 32 :=
  broadcastInDim S32x544x1 ![0, 1] Facts₀.bcast_S32x544_S32x544x1_0_1 (select (cmpi .slt distR (broadcastInDim S32x544 ![] Facts₀.bcast_S_S32x544 (constantI S_ 32 0#32))) (addi distR (broadcastInDim S32x544 ![] Facts₀.bcast_S_S32x544 (constantI S_ 32 257#32))) distR)

/-- The relative biases. -/
def biasR (t : FVec F S8x257 .f32) : FVec F S8x32x544 .f32 :=
  Host.gather gather_S8x257_S32x544x1_S8x32x544_0_1_n_n_1_2_81 t biasIdxR

/-- The scores. -/
def scoreR (q : FVec F S8x32x8x64 .f32) (K : FVec F S8x544x8x64 .f32) (t : FVec F S8x257 .f32) : FVec F S8x8x32x544 .f32 :=
  addf (mulf (Host.dotGeneral dot_S8x32x8x64_S8x544x8x64_S8x8x32x544_3_3_1_1_02_02 none q K) (broadcastInDim S8x8x32x544 ![] Facts₀.bcast_S_S8x8x32x544 (constant S_ .f32 0x3E000000#32))) (broadcastInDim S8x8x32x544 ![0, 1, 2, 3] Facts₀.bcast_S1x8x32x544_S8x8x32x544_0_1_2_3 (broadcastInDim S1x8x32x544 ![1, 2, 3] Facts₀.bcast_S8x32x544_S1x8x32x544_1_2_3 (biasR t)))

/-- A value of each query, repeated along its keys. -/
def colR (M : FVec F S8x8x32 .f32) : FVec F S8x8x32x544 .f32 :=
  broadcastInDim S8x8x32x544 ![0, 1, 2, 3] Facts₀.bcast_S8x8x32x1_S8x8x32x544_0_1_2_3
    (broadcastInDim S8x8x32x1 ![0, 1, 2] Facts₀.bcast_S8x8x32_S8x8x32x1_0_1_2 M)

/-- The greatest score of each query. -/
def maxR (s : FVec F S8x8x32x544 .f32) : FVec F S8x8x32 .f32 :=
  maximumf (broadcastInDim S8x8x32 ![] Facts₀.bcast_S_S8x8x32 (constant S_ .f32 0xFF800000#32))
    (Host.reduce FloatOps.maximumf s (constant S_ .f32 0xFF800000#32) Facts₀.reducesTo_S8x8x32x544_S8x8x32_d3 Facts₀.h_S_)

/-- The exponentials of the scores less their maximum. -/
def expR (s : FVec F S8x8x32x544 .f32) : FVec F S8x8x32x544 .f32 := Host.exp (subf s (colR (maxR s)))

/-- The weights. -/
def wgtR (E : FVec F S8x8x32x544 .f32) : FVec F S8x8x32x544 .f32 :=
  Host.divf E (colR (Host.reduceAdd E (constant S_ .f32 0x00000000#32) Facts₀.reducesTo_S8x8x32x544_S8x8x32_d3 Facts₀.h_S_))

/-- The weighted values, in token order. -/
def outR (V : FVec F S8x544x8x64 .f32) (P : FVec F S8x8x32x544 .f32) : FVec F S256x512 .bf16 :=
  truncf .bf16 (shapeCast S256x512 (transpose S8x32x8x64 [0, 3, 1, 2]
    (Host.dotGeneral dot_S8x544x8x64_S8x8x32x544_S8x8x64x32_1_3_3_2_02_01 none V P)
    Facts₀.transposes_S8x8x64x32_S8x32x8x64_0_3_1_2) Facts₀.shapeCasts_S8x32x8x64_S256x512) Facts₀.bitsLt_bf16_f32

theorem res_eq (m : (ℓ : Loc nD τ sig) → Buf (Elt F) ℓ) (c : Dev nD) :
    Cert.Reference6Ideal.Value.res_main_v41 m c
      = outR (bothR (m ((c.tc : Thread nD τ).loc main_arg4)) (m ((c.tc : Thread nD τ).loc main_arg2)))
          (wgtR (expR (scoreR (m ((c.tc : Thread nD τ).loc main_arg0))
            (bothR (m ((c.tc : Thread nD τ).loc main_arg3)) (m ((c.tc : Thread nD τ).loc main_arg1)))
            (m ((c.tc : Thread nD τ).loc main_arg5))))) := by
  unfold Cert.Reference6Ideal.Value.res_main_v41
  rfl

end

theorem bothR_at (c : FVec Ideal S8x512x8x64 .f32) (x : FVec Ideal S8x32x8x64 .f32) (b : Fin 8) (j : Fin 544) (h : Fin 8) (d : Fin 64) :
    bothR c x (ix4 b j h d) = if g : j.val < 512 then c (ix4 b ⟨j.val, g⟩ h d) else x (ix4 b ⟨j.val - 512, by omega⟩ h d) := by
  pointwise [bothR]

theorem colR_at (M : FVec Ideal S8x8x32 .f32) (b h : Fin 8) (i : Fin 32) (j : Fin 544) :
    colR M (ix4 b h i j) = M (ix3 b h i) := by
  pointwise [colR]

theorem maxR_at (s : FVec Ideal S8x8x32x544 .f32) (b h : Fin 8) (i : Fin 32) :
    maxR s (ix3 b h i) = top fun j : Fin 544 => s (ix4 b h i j) := by
  have r : (Host.reduce FloatOps.maximumf s (constant S_ .f32 0xFF800000#32) Facts₀.reducesTo_S8x8x32x544_S8x8x32_d3 Facts₀.h_S_ : FVec Ideal S8x8x32 .f32) (ix3 b h i)
      = Finset.univ.fold max (Ideal.ofBits FTy.f32 4286578688#32) fun j : Fin 544 => s (ix4 b h i j) := by
    pointwise
  unfold maxR
  rw [maximumf_apply, r, lowest]
  have e : (broadcastInDim S8x8x32 ![] Facts₀.bcast_S_S8x8x32 (constant S_ .f32 0xFF800000#32) : FVec Ideal S8x8x32 .f32) (ix3 b h i) = ⊥ := lowest
  rw [e]
  exact max_eq_right bot_le

theorem expR_at (s : FVec Ideal S8x8x32x544 .f32) (b h : Fin 8) (i : Fin 32) (j : Fin 544) :
    expR s (ix4 b h i j) = Ideal.exp (s (ix4 b h i j) - top fun j' : Fin 544 => s (ix4 b h i j')) := by
  have e : ∀ y, expR s y = Ideal.exp (s y - colR (maxR s) y) := by
    unfold expR
    generalize colR (maxR s) = M
    intro y
    rfl
  rw [e, colR_at, maxR_at]

theorem wgtR_at (E : FVec Ideal S8x8x32x544 .f32) (b h : Fin 8) (i : Fin 32) (j : Fin 544) :
    wgtR E (ix4 b h i j) = Ideal.div (E (ix4 b h i j)) (∑ j' : Fin 544, E (ix4 b h i j')) := by
  pointwise [wgtR]
  rw [colR_at]
  pointwise

theorem outR_at (V : FVec Ideal S8x544x8x64 .f32) (P : FVec Ideal S8x8x32x544 .f32) (r : Fin 256) (l : Fin 512) :
    outR V P (ix2 r l) = ∑ x : Fin 544, V (ix4 ⟨r.val / 32, by omega⟩ x ⟨l.val / 64, by omega⟩ ⟨l.val % 64, by omega⟩)
      * P (ix4 ⟨r.val / 32, by omega⟩ ⟨l.val / 64, by omega⟩ ⟨r.val % 32, by omega⟩ x) := by
  pointwise [outR]

theorem distR_at (i : Fin 32) (j : Fin 544) : distR (ix2 i j) = BitVec.ofNat 32 (min 256 (640 + i.val - j.val)) := by
  pointwise [distR]
  have e1 : id (constantI S_ 32 128#32) ix0 = (128#32 : BitVec 32) := rfl
  have e2 : id (constantI S_ 32 4294967168#32) ix0 = (4294967168#32 : BitVec 32) := rfl
  simp only [e1, e2]
  revert i j
  decide +kernel

theorem biasIdxR_at (i : Fin 32) (j : Fin 544) :
    (biasIdxR (ix3 i j 0)).toInt.toNat = min 256 (640 + i.val - j.val) := by
  pointwise [biasIdxR]
  rw [distR_at]
  exact biasIdxR_word ⟨min 256 (640 + i.val - j.val), by omega⟩

theorem gatherR_at (t : FVec Ideal S8x257 .f32) (idx : IVec S32x544x1 32) (h : Fin 8) (i : Fin 32) (j : Fin 544) :
    Host.gather gather_S8x257_S32x544x1_S8x32x544_0_1_n_n_1_2_81 t idx (ix3 h i j)
      = t (ix2 h ⟨min (idx (ix3 i j 0)).toInt.toNat 256, by omega⟩) := by
  unfold Host.gather
  congr 1
  funext a
  refine Fin.ext ?_
  generalize hd : gather_S8x257_S32x544x1_S8x32x544_0_1_n_n_1_2_81 = d
  show d.start (ix3 h i j) idx a + d.batchCoord (ix3 h i j) a + d.offCoord (ix3 h i j) a = _
  subst hd
  rw [GatherDims.batchCoord_eq_zero _ _ _ List.not_mem_nil]
  unfold GatherDims.start
  obtain rfl | rfl : a = 0 ∨ a = 1 := by
    match a with
    | ⟨0, _⟩ => exact Or.inl rfl
    | ⟨1, _⟩ => exact Or.inr rfl
  · rw [dif_neg (by decide)]
    simp only [Nat.zero_add]
    rfl
  · rw [GatherDims.offCoord_eq_zero _ _ _ (by decide), dif_pos (by decide)]
    simp only [Nat.add_zero]
    have hsi : gather_S8x257_S32x544x1_S8x32x544_0_1_n_n_1_2_81.siIdx (ix3 h i j) ⟨0, by decide⟩ = ix3 i j 0 := by
      funext b; refine Fin.ext ?_
      match b with
      | ⟨0, _⟩ => rfl
      | ⟨1, _⟩ => rfl
      | ⟨2, _⟩ => rfl
    exact congrArg (fun z => min (idx z).toInt.toNat 256) hsi

/-- The bias of a query and a key: the table's column of their clipped distance. -/
theorem biasR_at (t : FVec Ideal S8x257 .f32) (h : Fin 8) (i : Fin 32) (j : Fin 544) :
    biasR t (ix3 h i j) = t (ix2 h ⟨min 256 (640 + i.val - j.val), by omega⟩) := by
  unfold biasR
  refine (gatherR_at t biasIdxR h i j).trans (congrArg (fun z => t (ix2 h z)) (Fin.ext ?_))
  simp only [biasIdxR_at]
  omega

theorem scoreR_at (q : FVec Ideal S8x32x8x64 .f32) (K : FVec Ideal S8x544x8x64 .f32) (t : FVec Ideal S8x257 .f32)
    (b h : Fin 8) (i : Fin 32) (j : Fin 544) :
    scoreR q K t (ix4 b h i j) = (∑ x : Fin 64, q (ix4 b i h x) * K (ix4 b j h x)) * Ideal.ofBits FTy.f32 1040187392#32
      + t (ix2 h ⟨min 256 (640 + i.val - j.val), by omega⟩) := by
  rw [← biasR_at t h i j]
  pointwise [scoreR]

/-- The reference's result at an element: the softmax average over the kept and the new keys. -/
theorem outR_soft (q : FVec Ideal S8x32x8x64 .f32) (K V : FVec Ideal S8x544x8x64 .f32) (t : FVec Ideal S8x257 .f32)
    (r : Fin 256) (l : Fin 512) :
    outR V (wgtR (expR (scoreR q K t))) (ix2 r l)
      = softFirst (fun j : Fin 544 => scoreR q K t (ix4 ⟨r.val / 32, by omega⟩ ⟨l.val / 64, by omega⟩ ⟨r.val % 32, by omega⟩ j))
          (fun j : Fin 544 => V (ix4 ⟨r.val / 32, by omega⟩ j ⟨l.val / 64, by omega⟩ ⟨l.val % 64, by omega⟩)) := by
  rw [outR_at]
  generalize scoreR q K t = s
  unfold softFirst
  refine Finset.sum_congr rfl fun x _ => ?_
  rw [wgtR_at]
  simp only [expR_at]

end Cert.Cached

end
-- ==== Proof.Cached.Same.lean ====
/- The sample's attention: the kernel's result array is the reference's, index by index. -/
module

public import proofs.«01_k».proof.Proof.Cached.Host
public import proofs.«01_k».proof.Proof.Cached.Ref
public import proofs.«01_k».proof.Proof.Attn.Same

@[expose] public section

set_option maxRecDepth 16384

noncomputable section

open Idealize.ShloMosaic Idealize.ShloMosaic.TcCoe Idealize.SL.Sem Idealize.ShloMosaic.StableHlo

namespace Cert.Cached

open Cert.Kernel6Ideal
open Cert.Attn (hlane head eighth lineOf lineOf_at Reals softLast_image coe_mul_sum coe_sum)

/-- A kept or new row of the kernel's block is the reference's. -/
theorem key_at (c : FVec Ideal S8x512x8x64 .f32) (x : FVec Ideal S8x32x8x64 .f32) (T : Fin 8) (j : Fin 544)
    (l : Fin 512) (h : Fin 8) (d : Fin 64) (hh : l.val / 64 = h.val) (hd : l.val % 64 = d.val) :
    kBlk (keptRows c) (amidZeros x) T (ix2 j l) = bothR c x (ix4 T j h d) := by
  have a2 : (⟨l.val / 64, by omega⟩ : Fin 8) = h := Fin.ext hh
  have a3 : (⟨l.val % 64, by omega⟩ : Fin 64) = d := Fin.ext hd
  rw [bothR_at]
  show (if g : j.val < 512 then keptRows c (ix3 T ⟨j.val, g⟩ l) else amidZeros x (ix2 (newRow T ⟨j.val - 512, by omega⟩) l)) = _
  split
  · rw [keptRows_at, a2, a3]
  · rw [amidZeros_at, a2, a3]

/-- A query of the kernel's block is the reference's, scaled. -/
theorem query_at (q : FVec Ideal S8x32x8x64 .f32) (T : Fin 8) (i : Fin 32) (l : Fin 512) (d : Fin 64) :
    qBlk (scaledRows q) T (ix2 i (hlane l d)) = q (ix4 T i ⟨l.val / 64, by omega⟩ d) * ((0.125 : ℝ) : EReal) := by
  have a2 : (⟨(hlane l d).val / 64, by omega⟩ : Fin 8) = ⟨l.val / 64, by omega⟩ := Fin.ext (by simp only [hlane]; omega)
  have a3 : (⟨(hlane l d).val % 64, by omega⟩ : Fin 64) = d := Fin.ext (by simp only [hlane]; omega)
  show scaledRows q (ix2 (newRow T i) (hlane l d)) = _
  rw [scaledRows_at, eighth, amidZeros_at, a2, a3]

/-- The full table's corner at a query and a key is the table's column of their clipped distance. -/
theorem bias_at (t : FVec Ideal S8x257 .f32) (h : Fin 8) (i : Fin 32) (j : Fin 544) :
    corner (lines (lineOf t)) (ix3 h i j) = t (ix2 h ⟨min 256 (640 + i.val - j.val), by omega⟩) := by
  rw [corner_at]
  show lineOf t (ix2 h ⟨j.val + 255 - i.val, by omega⟩) = _
  rw [lineOf_at]
  refine congrArg (fun z => t (ix2 h z)) (Fin.ext ?_)
  simp only
  omega

theorem bothR_real (c : FVec Ideal S8x512x8x64 .f32) (x : FVec Ideal S8x32x8x64 .f32) (hc : Reals c) (hx : Reals x)
    (b : Fin 8) (j : Fin 544) (h : Fin 8) (d : Fin 64) : ∃ a : ℝ, bothR c x (ix4 b j h d) = (a : EReal) := by
  rw [bothR_at]
  split
  · exact hc _
  · exact hx _

/-- A score of real arrays is real. -/
theorem score_real (q k : FVec Ideal S8x32x8x64 .f32) (c : FVec Ideal S8x512x8x64 .f32) (t : FVec Ideal S8x257 .f32)
    (hq : Reals q) (hk : Reals k) (hc : Reals c) (ht : Reals t) (b h : Fin 8) (i : Fin 32) (j : Fin 544) :
    ∃ a : ℝ, scoreR q (bothR c k) t (ix4 b h i j) = (a : EReal) := by
  choose f hf using fun x : Fin 64 => hq (ix4 b i h x)
  choose g hg using fun x : Fin 64 => bothR_real c k hc hk b j h x
  obtain ⟨z, hz⟩ := ht (ix2 h ⟨min 256 (640 + i.val - j.val), by omega⟩)
  refine ⟨(∑ x, f x * g x) * 0.125 + z, ?_⟩
  rw [scoreR_at, eighth, hz, EReal.coe_add, EReal.coe_mul, ← coe_sum]
  refine congrArg (fun y : EReal => y * _ + _) (Finset.sum_congr rfl fun x _ => ?_)
  rw [hf, hg, EReal.coe_mul]

/-- The result of the kernel at an element is the reference's, of real queries, keys and table. -/
theorem att_eq (q k v : FVec Ideal S8x32x8x64 .f32) (c d : FVec Ideal S8x512x8x64 .f32) (t : FVec Ideal S8x257 .f32)
    (hq : Reals q) (hk : Reals k) (hc : Reals c) (ht : Reals t) (r : Fin 256) (l : Fin 512) :
    attArr (scaledRows q) (amidZeros k) (amidZeros v) (keptRows c) (keptRows d) (corner (lines (lineOf t))) (ix2 r l)
      = outR (bothR d v) (wgtR (expR (scoreR q (bothR c k) t))) (ix2 r l) := by
  rw [outR_soft]
  show blk (qBlk (scaledRows q) ⟨r.val / 32, by omega⟩) (kBlk (keptRows c) (amidZeros k) ⟨r.val / 32, by omega⟩)
    (kBlk (keptRows d) (amidZeros v) ⟨r.val / 32, by omega⟩) (corner (lines (lineOf t))) ⟨r.val % 32, by omega⟩ l = _
  have real := score_real q k c t hq hk hc ht ⟨r.val / 32, by omega⟩ ⟨l.val / 64, by omega⟩ ⟨r.val % 32, by omega⟩
  unfold blk
  refine softLast_image id Function.injective_id _ _ _ _ (fun j => ?_) (fun j => ?_) (fun i hi => absurd rfl (hi i))
    (fun j => ?_) ?_
  · simp only [id]
    rw [scoreR_at, eighth, mul_comm, coe_mul_sum _ _ _ (by norm_num)]
    refine congrArg₂ (· + ·) (Finset.sum_congr rfl fun x _ => ?_) (bias_at t (head l) _ j)
    rw [query_at, key_at c k _ j (hlane l x) ⟨l.val / 64, by omega⟩ x (by simp only [hlane]; omega) (by simp only [hlane]; omega)]
    exact (congrArg (fun z : EReal => z * _) (mul_comm _ _)).trans (mul_assoc _ _ _)
  · exact key_at d v _ j l _ _ rfl rfl
  · obtain ⟨a, ha⟩ := real j
    rw [ha]; exact EReal.coe_ne_top a
  · obtain ⟨a, ha⟩ := real 0
    exact ⟨0, by rw [ha]; exact EReal.coe_ne_bot a⟩

end Cert.Cached

end
-- ==== Proof.Cached.Claims.lean ====
/- The claims of the sample's attention: the frames, and that kernel and reference compute one function. -/
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Reference6Ideal
public import proofs.«01_k».proof.Proof.Gen.Reference6Ideal.Run
public import proofs.«01_k».proof.Proof.Cached.Run
public import proofs.«01_k».proof.Proof.Cached.Same
public import proofs.«01_k».proof.Proof.Attn.Claims
public import Idealize.ShloMosaic.Adequacy
public import Idealize.ShloMosaic.Init

@[expose] public section

noncomputable section

namespace Cert.Cached

open Idealize.ShloMosaic Idealize.ShloMosaic.TcCoe Idealize.SL.Sem
open Cert.Attn (reals_of_test)

theorem preFacts : Cert.Pre_finite_cached.Facts where
  bcast_S_S8x32x8x64 := by decide
  bcast_S_S8x512x8x64 := by decide
  bcast_S_S8x257 := by decide

attribute [local instance] Cert.Kernel6.Gen.facts Cert.Kernel6Ideal.Gen.facts Cert.Reference6Ideal.Gen.facts preFacts

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_ideal_pre : Cert.quiescent_Kernel6Ideal_pre_finite_cached := fun m ρ _ => Cert.Kernel6Ideal.Gen.frame m ρ

/-- The reference declares no semaphore. -/
theorem frame_ref : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem frame_ref_pre : Cert.quiescent_Reference6Ideal_pre_finite_cached := fun m ρ _ => frame_ref m ρ trivial

/-- Kernel and reference compute the same array, of finite queries, keys, kept keys and biases. -/
theorem same : Cert.algebraic_Kernel6Ideal_Reference6Ideal_pre_finite_cached := by
  intro m g m' g' hpre hagree
  refine ⟨fun c => Cert.Kernel6Ideal.Gen.W6 m g c Cert.Kernel6Ideal.main_v32, ?_, ?_⟩
  · exact (θ_run Cert.Kernel6Ideal.defs _ _).mono (fun r h c => h.1 c) (run (F := Ideal) m g)
  · refine (θ_run Cert.Reference6Ideal.defs _ _).mono (fun r h c => ⟨(h c).1.trans ?_, (h c).2⟩)
      (Cert.Reference6Ideal.Value.run (F := Ideal) m' g')
    obtain ⟨h0, h1, h2, h3, h4, h5⟩ := hagree c
    obtain ⟨p0, p1, p3, p5⟩ := hpre c
    refine (res_eq m' c).trans ?_
    rw [h0, h1, h2, h3, h4, h5]
    refine Eq.trans ?_ (W6_res m g c).symm
    funext y
    obtain ⟨r, l, rfl⟩ : ∃ (r : Fin 256) (l : Fin 512), y = ix2 r l := ⟨y 0, y 1, eq_ix2 y⟩
    exact (att_eq _ _ _ _ _ _ (reals_of_test _ _ p0) (reals_of_test _ _ p1) (reals_of_test _ _ p3)
      (reals_of_test _ _ p5) r l).symm

end Cert.Cached

end
-- ==== Proof.lean ====
/- The claims of this certificate, put together. -/
module

public import proofs.«01_k».proof.Defs
public import proofs.«01_k».proof.Proof.Attn.Claims
public import proofs.«01_k».proof.Proof.Merge.Claims
public import proofs.«01_k».proof.Proof.Proj.Claims
public import proofs.«01_k».proof.Proof.Pool.PromptClaims
public import proofs.«01_k».proof.Proof.Pool.SampleClaims
public import proofs.«01_k».proof.Proof.Cached.Claims
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Attn.preFacts, Cert.Pool.Prompt.preFacts, Cert.Pool.Sample.preFacts, Cert.Cached.preFacts,
    Cert.Attn.frame_kernel, Cert.Attn.frame_ideal, Cert.Attn.frame_ideal_pre, Cert.Attn.frame_ref, Cert.Attn.frame_ref_pre,
    Cert.Merge.frame_kernel, Cert.Merge.frame_ideal, Cert.Merge.frame_ref,
    Cert.Proj.frame_kernel, Cert.Proj.frame_ideal, Cert.Proj.frame_ref,
    Cert.Pool.Prompt.frame_kernel, Cert.Pool.Prompt.frame_ideal, Cert.Pool.Prompt.frame_ideal_pre, Cert.Pool.Prompt.frame_ref, Cert.Pool.Prompt.frame_ref_pre,
    Cert.Pool.Sample.frame_kernel, Cert.Pool.Sample.frame_ideal, Cert.Pool.Sample.frame_ideal_pre, Cert.Pool.Sample.frame_ref, Cert.Pool.Sample.frame_ref_pre,
    Cert.Cached.frame_kernel, Cert.Cached.frame_ideal, Cert.Cached.frame_ideal_pre, Cert.Cached.frame_ref, Cert.Cached.frame_ref_pre,
    Cert.Attn.mask_named, Cert.Attn.same, trivial, Cert.Merge.same, trivial, Cert.Proj.same,
    trivial, Cert.Pool.Prompt.same, trivial, Cert.Pool.Sample.same, trivial, Cert.Cached.same⟩

end Cert.Proof

end
